-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownRefIdeal (m : (ℓ : Loc Cert.GdownRefIdeal.nD Cert.GdownRefIdeal.τ Cert.GdownRefIdeal.sig) → Buf (Elt Ideal) ℓ) : Prop :=
  True

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinRefIdeal (m : (ℓ : Loc Cert.DinRefIdeal.nD Cert.DinRefIdeal.τ Cert.DinRefIdeal.sig) → Buf (Elt Ideal) ℓ) : Prop :=
  True

def Pre_Dhf (m : (ℓ : Loc Cert.Dhf.nD Cert.Dhf.τ Cert.Dhf.sig) → Buf (Elt Bits) ℓ) : Prop :=
  True

def Pre_DhfIdeal (m : (ℓ : Loc Cert.DhfIdeal.nD Cert.DhfIdeal.τ Cert.DhfIdeal.sig) → Buf (Elt Ideal) ℓ) : Prop :=
  True

def Pre_DhfRefIdeal (m : (ℓ : Loc Cert.DhfRefIdeal.nD Cert.DhfRefIdeal.τ Cert.DhfRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1)
      ∧ r.2.mem ((c.tc : Thread Cert.Gup.nD Cert.Gup.τ).loc Cert.Gup.main_arg2) = m ((c.tc : Thread Cert.Gup.nD Cert.Gup.τ).loc Cert.Gup.main_arg2))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
      ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1)
      ∧ r.2.mem ((c.tc : Thread Cert.GupRefIdeal.nD Cert.GupRefIdeal.τ).loc Cert.GupRefIdeal.main_arg2) = m ((c.tc : Thread Cert.GupRefIdeal.nD Cert.GupRefIdeal.τ).loc Cert.GupRefIdeal.main_arg2))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ r.2.sem = fun _ => 0)

def quiescent_GdownRefIdeal [hGdownRefIdeal : Cert.GdownRefIdeal.Facts] : Prop :=
  ∀ (m : (ℓ : Loc Cert.GdownRefIdeal.nD Cert.GdownRefIdeal.τ Cert.GdownRefIdeal.sig) → Buf (Elt Ideal) ℓ) (g : Dev Cert.GdownRefIdeal.nD → PrngReg), Pre_GdownRefIdeal m →
    θ_run (Cert.GdownRefIdeal.defs (F := Ideal)) (onTc (τ := Cert.GdownRefIdeal.τ) (Cert.GdownRefIdeal.main (F := Ideal))) ⟨m, fun _ => 0, g⟩ (fun r => (∀ c : Dev Cert.GdownRefIdeal.nD,
      r.2.mem ((c.tc : Thread Cert.GdownRefIdeal.nD Cert.GdownRefIdeal.τ).loc Cert.GdownRefIdeal.main_arg0) = m ((c.tc : Thread Cert.GdownRefIdeal.nD Cert.GdownRefIdeal.τ).loc Cert.GdownRefIdeal.main_arg0)
      ∧ r.2.mem ((c.tc : Thread Cert.GdownRefIdeal.nD Cert.GdownRefIdeal.τ).loc Cert.GdownRefIdeal.main_arg1) = m ((c.tc : Thread Cert.GdownRefIdeal.nD Cert.GdownRefIdeal.τ).loc Cert.GdownRefIdeal.main_arg1))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4))
      ∧ r.2.sem = fun _ => 0)

def quiescent_Dhf [hDhf : Cert.Dhf.Facts] : Prop :=
  ∀ (m : (ℓ : Loc Cert.Dhf.nD Cert.Dhf.τ Cert.Dhf.sig) → Buf (Elt Bits) ℓ) (g : Dev Cert.Dhf.nD → PrngReg), Pre_Dhf m →
    θ_run (Cert.Dhf.defs (F := Bits)) (onTc (τ := Cert.Dhf.τ) (Cert.Dhf.main (F := Bits))) ⟨m, fun _ => 0, g⟩ (fun r => (∀ c : Dev Cert.Dhf.nD,
      r.2.mem ((c.tc : Thread Cert.Dhf.nD Cert.Dhf.τ).loc Cert.Dhf.main_arg0) = m ((c.tc : Thread Cert.Dhf.nD Cert.Dhf.τ).loc Cert.Dhf.main_arg0)
      ∧ r.2.mem ((c.tc : Thread Cert.Dhf.nD Cert.Dhf.τ).loc Cert.Dhf.main_arg1) = m ((c.tc : Thread Cert.Dhf.nD Cert.Dhf.τ).loc Cert.Dhf.main_arg1)
      ∧ r.2.mem ((c.tc : Thread Cert.Dhf.nD Cert.Dhf.τ).loc Cert.Dhf.main_arg2) = m ((c.tc : Thread Cert.Dhf.nD Cert.Dhf.τ).loc Cert.Dhf.main_arg2)
      ∧ r.2.mem ((c.tc : Thread Cert.Dhf.nD Cert.Dhf.τ).loc Cert.Dhf.main_arg3) = m ((c.tc : Thread Cert.Dhf.nD Cert.Dhf.τ).loc Cert.Dhf.main_arg3)
      ∧ r.2.mem ((c.tc : Thread Cert.Dhf.nD Cert.Dhf.τ).loc Cert.Dhf.main_arg4) = m ((c.tc : Thread Cert.Dhf.nD Cert.Dhf.τ).loc Cert.Dhf.main_arg4)
      ∧ r.2.mem ((c.tc : Thread Cert.Dhf.nD Cert.Dhf.τ).loc Cert.Dhf.main_arg5) = m ((c.tc : Thread Cert.Dhf.nD Cert.Dhf.τ).loc Cert.Dhf.main_arg5)
      ∧ r.2.mem ((c.tc : Thread Cert.Dhf.nD Cert.Dhf.τ).loc Cert.Dhf.main_arg6) = m ((c.tc : Thread Cert.Dhf.nD Cert.Dhf.τ).loc Cert.Dhf.main_arg6))
      ∧ r.2.sem = fun _ => 0)

def quiescent_DhfIdeal [hDhfIdeal : Cert.DhfIdeal.Facts] : Prop :=
  ∀ (m : (ℓ : Loc Cert.DhfIdeal.nD Cert.DhfIdeal.τ Cert.DhfIdeal.sig) → Buf (Elt Ideal) ℓ) (g : Dev Cert.DhfIdeal.nD → PrngReg), Pre_DhfIdeal m →
    θ_run (Cert.DhfIdeal.defs (F := Ideal)) (onTc (τ := Cert.DhfIdeal.τ) (Cert.DhfIdeal.main (F := Ideal))) ⟨m, fun _ => 0, g⟩ (fun r => (∀ c : Dev Cert.DhfIdeal.nD,
      r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
      ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1)
      ∧ r.2.mem ((c.tc : Thread Cert.DhfIdeal.nD Cert.DhfIdeal.τ).loc Cert.DhfIdeal.main_arg2) = m ((c.tc : Thread Cert.DhfIdeal.nD Cert.DhfIdeal.τ).loc Cert.DhfIdeal.main_arg2)
      ∧ r.2.mem ((c.tc : Thread Cert.DhfIdeal.nD Cert.DhfIdeal.τ).loc Cert.DhfIdeal.main_arg3) = m ((c.tc : Thread Cert.DhfIdeal.nD Cert.DhfIdeal.τ).loc Cert.DhfIdeal.main_arg3)
      ∧ r.2.mem ((c.tc : Thread Cert.DhfIdeal.nD Cert.DhfIdeal.τ).loc Cert.DhfIdeal.main_arg4) = m ((c.tc : Thread Cert.DhfIdeal.nD Cert.DhfIdeal.τ).loc Cert.DhfIdeal.main_arg4)
      ∧ r.2.mem ((c.tc : Thread Cert.DhfIdeal.nD Cert.DhfIdeal.τ).loc Cert.DhfIdeal.main_arg5) = m ((c.tc : Thread Cert.DhfIdeal.nD Cert.DhfIdeal.τ).loc Cert.DhfIdeal.main_arg5)
      ∧ r.2.mem ((c.tc : Thread Cert.DhfIdeal.nD Cert.DhfIdeal.τ).loc Cert.DhfIdeal.main_arg6) = m ((c.tc : Thread Cert.DhfIdeal.nD Cert.DhfIdeal.τ).loc Cert.DhfIdeal.main_arg6))
      ∧ r.2.sem = fun _ => 0)

def quiescent_DhfRefIdeal [hDhfRefIdeal : Cert.DhfRefIdeal.Facts] : Prop :=
  ∀ (m : (ℓ : Loc Cert.DhfRefIdeal.nD Cert.DhfRefIdeal.τ Cert.DhfRefIdeal.sig) → Buf (Elt Ideal) ℓ) (g : Dev Cert.DhfRefIdeal.nD → PrngReg), Pre_DhfRefIdeal m →
    θ_run (Cert.DhfRefIdeal.defs (F := Ideal)) (onTc (τ := Cert.DhfRefIdeal.τ) (Cert.DhfRefIdeal.main (F := Ideal))) ⟨m, fun _ => 0, g⟩ (fun r => (∀ c : Dev Cert.DhfRefIdeal.nD,
      r.2.mem ((c.tc : Thread Cert.DhfRefIdeal.nD Cert.DhfRefIdeal.τ).loc Cert.DhfRefIdeal.main_arg0) = m ((c.tc : Thread Cert.DhfRefIdeal.nD Cert.DhfRefIdeal.τ).loc Cert.DhfRefIdeal.main_arg0)
      ∧ r.2.mem ((c.tc : Thread Cert.DhfRefIdeal.nD Cert.DhfRefIdeal.τ).loc Cert.DhfRefIdeal.main_arg1) = m ((c.tc : Thread Cert.DhfRefIdeal.nD Cert.DhfRefIdeal.τ).loc Cert.DhfRefIdeal.main_arg1)
      ∧ r.2.mem ((c.tc : Thread Cert.DhfRefIdeal.nD Cert.DhfRefIdeal.τ).loc Cert.DhfRefIdeal.main_arg2) = m ((c.tc : Thread Cert.DhfRefIdeal.nD Cert.DhfRefIdeal.τ).loc Cert.DhfRefIdeal.main_arg2)
      ∧ r.2.mem ((c.tc : Thread Cert.DhfRefIdeal.nD Cert.DhfRefIdeal.τ).loc Cert.DhfRefIdeal.main_arg3) = m ((c.tc : Thread Cert.DhfRefIdeal.nD Cert.DhfRefIdeal.τ).loc Cert.DhfRefIdeal.main_arg3)
      ∧ r.2.mem ((c.tc : Thread Cert.DhfRefIdeal.nD Cert.DhfRefIdeal.τ).loc Cert.DhfRefIdeal.main_arg4) = m ((c.tc : Thread Cert.DhfRefIdeal.nD Cert.DhfRefIdeal.τ).loc Cert.DhfRefIdeal.main_arg4)
      ∧ r.2.mem ((c.tc : Thread Cert.DhfRefIdeal.nD Cert.DhfRefIdeal.τ).loc Cert.DhfRefIdeal.main_arg5) = m ((c.tc : Thread Cert.DhfRefIdeal.nD Cert.DhfRefIdeal.τ).loc Cert.DhfRefIdeal.main_arg5)
      ∧ r.2.mem ((c.tc : Thread Cert.DhfRefIdeal.nD Cert.DhfRefIdeal.τ).loc Cert.DhfRefIdeal.main_arg6) = m ((c.tc : Thread Cert.DhfRefIdeal.nD Cert.DhfRefIdeal.τ).loc Cert.DhfRefIdeal.main_arg6))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Attn_AttnIdeal : Prop :=
  IdealRules.named_const.Statement Cert.AttnIdeal.κ "mask" .f32 0xF149F2CA#32 ⊥
  ∧ IdealRules.named_const.Statement Cert.AttnIdeal.κ "ln2" .f32 0x3F317218#32 ((Real.log 2 : ℝ) : EReal)
  ∧ IdealRules.named_const.Statement Cert.AttnIdeal.κ "scale" .f32 0x3D93CD3A#32 (((Real.sqrt 192)⁻¹ : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v198_0)) (v1 : (c : Dev Cert.AttnIdeal.nD) → Buf (Elt Ideal) ((c.tc : Thread Cert.AttnIdeal.nD Cert.AttnIdeal.τ).loc Cert.AttnIdeal.main_v198_1)) (v2 : (c : Dev Cert.AttnIdeal.nD) → Buf (Elt Ideal) ((c.tc : Thread Cert.AttnIdeal.nD Cert.AttnIdeal.τ).loc Cert.AttnIdeal.main_v198_2)) (v3 : (c : Dev Cert.AttnIdeal.nD) → Buf (Elt Ideal) ((c.tc : Thread Cert.AttnIdeal.nD Cert.AttnIdeal.τ).loc Cert.AttnIdeal.main_v198_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v198_0) = v0 c
          ∧ r.2.mem ((c.tc : Thread Cert.AttnIdeal.nD Cert.AttnIdeal.τ).loc Cert.AttnIdeal.main_v198_1) = v1 c
          ∧ r.2.mem ((c.tc : Thread Cert.AttnIdeal.nD Cert.AttnIdeal.τ).loc Cert.AttnIdeal.main_v198_2) = v2 c
          ∧ r.2.mem ((c.tc : Thread Cert.AttnIdeal.nD Cert.AttnIdeal.τ).loc Cert.AttnIdeal.main_v198_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v132) = v0 c
          ∧ r.2.mem ((c.tc : Thread Cert.AttnRefIdeal.nD Cert.AttnRefIdeal.τ).loc Cert.AttnRefIdeal.main_v134) = v1 c
          ∧ r.2.mem ((c.tc : Thread Cert.AttnRefIdeal.nD Cert.AttnRefIdeal.τ).loc Cert.AttnRefIdeal.main_v131) = v2 c
          ∧ r.2.mem ((c.tc : Thread Cert.AttnRefIdeal.nD Cert.AttnRefIdeal.τ).loc Cert.AttnRefIdeal.main_v136) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)
      ∧ m' ((c.tc : Thread Cert.GupRefIdeal.nD Cert.GupRefIdeal.τ).loc Cert.GupRefIdeal.main_arg2) = m ((c.tc : Thread Cert.GupIdeal.nD Cert.GupIdeal.τ).loc Cert.GupIdeal.main_arg2)) →
    ∃ (v0 : (c : Dev Cert.GupIdeal.nD) → Buf (Elt Ideal) ((c.tc : Thread Cert.GupIdeal.nD Cert.GupIdeal.τ).loc Cert.GupIdeal.main_v4)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v4) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
          ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v12) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1)
          ∧ r.2.mem ((c.tc : Thread Cert.GupRefIdeal.nD Cert.GupRefIdeal.τ).loc Cert.GupRefIdeal.main_arg2) = m' ((c.tc : Thread Cert.GupRefIdeal.nD Cert.GupRefIdeal.τ).loc Cert.GupRefIdeal.main_arg2))

def preserves_Gdown_GdownIdeal : Prop :=
  True

def algebraic_GdownIdeal_GdownRefIdeal [hGdownIdeal : Cert.GdownIdeal.Facts] [hGdownRefIdeal : Cert.GdownRefIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownRefIdeal.nD Cert.GdownRefIdeal.τ Cert.GdownRefIdeal.sig) → Buf (Elt Ideal) ℓ) (g' : Dev Cert.GdownRefIdeal.nD → PrngReg), Pre_GdownIdeal m →
    (∀ c : Dev Cert.GdownIdeal.nD,
      m' ((c.tc : Thread Cert.GdownRefIdeal.nD Cert.GdownRefIdeal.τ).loc Cert.GdownRefIdeal.main_arg0) = m ((c.tc : Thread Cert.GdownIdeal.nD Cert.GdownIdeal.τ).loc Cert.GdownIdeal.main_arg0)
      ∧ m' ((c.tc : Thread Cert.GdownRefIdeal.nD Cert.GdownRefIdeal.τ).loc Cert.GdownRefIdeal.main_arg1) = m ((c.tc : Thread Cert.GdownIdeal.nD Cert.GdownIdeal.τ).loc Cert.GdownIdeal.main_arg1)) →
    ∃ (v0 : (c : Dev Cert.GdownIdeal.nD) → Buf (Elt Ideal) ((c.tc : Thread Cert.GdownIdeal.nD Cert.GdownIdeal.τ).loc Cert.GdownIdeal.main_v2)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v2) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ θ_run (Cert.GdownRefIdeal.defs (F := Ideal)) (onTc (τ := Cert.GdownRefIdeal.τ) (Cert.GdownRefIdeal.main (F := Ideal))) ⟨m', fun _ => 0, g'⟩ (fun r => ∀ c : Dev Cert.GdownRefIdeal.nD,
          r.2.mem ((c.tc : Thread Cert.GdownRefIdeal.nD Cert.GdownRefIdeal.τ).loc Cert.GdownRefIdeal.main_v6) = v0 c
          ∧ r.2.mem ((c.tc : Thread Cert.GdownRefIdeal.nD Cert.GdownRefIdeal.τ).loc Cert.GdownRefIdeal.main_arg0) = m' ((c.tc : Thread Cert.GdownRefIdeal.nD Cert.GdownRefIdeal.τ).loc Cert.GdownRefIdeal.main_arg0)
          ∧ r.2.mem ((c.tc : Thread Cert.GdownRefIdeal.nD Cert.GdownRefIdeal.τ).loc Cert.GdownRefIdeal.main_arg1) = m' ((c.tc : Thread Cert.GdownRefIdeal.nD Cert.GdownRefIdeal.τ).loc Cert.GdownRefIdeal.main_arg1))

def preserves_Din_DinIdeal : Prop :=
  True

def algebraic_DinIdeal_DinRefIdeal [hDinIdeal : Cert.DinIdeal.Facts] [hDinRefIdeal : Cert.DinRefIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)) →
    ∃ (v0 : (c : Dev Cert.DinIdeal.nD) → Buf (Elt Ideal) ((c.tc : Thread Cert.DinIdeal.nD Cert.DinIdeal.τ).loc Cert.DinIdeal.main_v2_0)) (v1 : (c : Dev Cert.DinIdeal.nD) → Buf (Elt Ideal) ((c.tc : Thread Cert.DinIdeal.nD Cert.DinIdeal.τ).loc Cert.DinIdeal.main_v2_2)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v2_0) = v0 c
          ∧ r.2.mem ((c.tc : Thread Cert.DinIdeal.nD Cert.DinIdeal.τ).loc Cert.DinIdeal.main_v2_2) = v1 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v38) = v0 c
          ∧ r.2.mem ((c.tc : Thread Cert.DinRefIdeal.nD Cert.DinRefIdeal.τ).loc Cert.DinRefIdeal.main_v21) = v1 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4))

def preserves_Dhf_DhfIdeal : Prop :=
  True

def algebraic_DhfIdeal_DhfRefIdeal [hDhfIdeal : Cert.DhfIdeal.Facts] [hDhfRefIdeal : Cert.DhfRefIdeal.Facts] : Prop :=
  ∀ (m : (ℓ : Loc Cert.DhfIdeal.nD Cert.DhfIdeal.τ Cert.DhfIdeal.sig) → Buf (Elt Ideal) ℓ) (g : Dev Cert.DhfIdeal.nD → PrngReg)
    (m' : (ℓ : Loc Cert.DhfRefIdeal.nD Cert.DhfRefIdeal.τ Cert.DhfRefIdeal.sig) → Buf (Elt Ideal) ℓ) (g' : Dev Cert.DhfRefIdeal.nD → PrngReg), Pre_DhfIdeal m →
    (∀ c : Dev Cert.DhfIdeal.nD,
      m' ((c.tc : Thread Cert.DhfRefIdeal.nD Cert.DhfRefIdeal.τ).loc Cert.DhfRefIdeal.main_arg0) = m ((c.tc : Thread Cert.DhfIdeal.nD Cert.DhfIdeal.τ).loc Cert.DhfIdeal.main_arg0)
      ∧ m' ((c.tc : Thread Cert.DhfRefIdeal.nD Cert.DhfRefIdeal.τ).loc Cert.DhfRefIdeal.main_arg1) = m ((c.tc : Thread Cert.DhfIdeal.nD Cert.DhfIdeal.τ).loc Cert.DhfIdeal.main_arg1)
      ∧ m' ((c.tc : Thread Cert.DhfRefIdeal.nD Cert.DhfRefIdeal.τ).loc Cert.DhfRefIdeal.main_arg2) = m ((c.tc : Thread Cert.DhfIdeal.nD Cert.DhfIdeal.τ).loc Cert.DhfIdeal.main_arg2)
      ∧ m' ((c.tc : Thread Cert.DhfRefIdeal.nD Cert.DhfRefIdeal.τ).loc Cert.DhfRefIdeal.main_arg3) = m ((c.tc : Thread Cert.DhfIdeal.nD Cert.DhfIdeal.τ).loc Cert.DhfIdeal.main_arg3)
      ∧ m' ((c.tc : Thread Cert.DhfRefIdeal.nD Cert.DhfRefIdeal.τ).loc Cert.DhfRefIdeal.main_arg4) = m ((c.tc : Thread Cert.DhfIdeal.nD Cert.DhfIdeal.τ).loc Cert.DhfIdeal.main_arg4)
      ∧ m' ((c.tc : Thread Cert.DhfRefIdeal.nD Cert.DhfRefIdeal.τ).loc Cert.DhfRefIdeal.main_arg5) = m ((c.tc : Thread Cert.DhfIdeal.nD Cert.DhfIdeal.τ).loc Cert.DhfIdeal.main_arg5)
      ∧ m' ((c.tc : Thread Cert.DhfRefIdeal.nD Cert.DhfRefIdeal.τ).loc Cert.DhfRefIdeal.main_arg6) = m ((c.tc : Thread Cert.DhfIdeal.nD Cert.DhfIdeal.τ).loc Cert.DhfIdeal.main_arg6)) →
    ∃ (v0 : (c : Dev Cert.DhfIdeal.nD) → Buf (Elt Ideal) ((c.tc : Thread Cert.DhfIdeal.nD Cert.DhfIdeal.τ).loc Cert.DhfIdeal.main_v6_0)) (v1 : (c : Dev Cert.DhfIdeal.nD) → Buf (Elt Ideal) ((c.tc : Thread Cert.DhfIdeal.nD Cert.DhfIdeal.τ).loc Cert.DhfIdeal.main_v6_1)) (v2 : (c : Dev Cert.DhfIdeal.nD) → Buf (Elt Ideal) ((c.tc : Thread Cert.DhfIdeal.nD Cert.DhfIdeal.τ).loc Cert.DhfIdeal.main_v6_2)) (v3 : (c : Dev Cert.DhfIdeal.nD) → Buf (Elt Ideal) ((c.tc : Thread Cert.DhfIdeal.nD Cert.DhfIdeal.τ).loc Cert.DhfIdeal.main_v6_3)),
      θ_run (Cert.DhfIdeal.defs (F := Ideal)) (onTc (τ := Cert.DhfIdeal.τ) (Cert.DhfIdeal.main (F := Ideal))) ⟨m, fun _ => 0, g⟩ (fun r => ∀ c : Dev Cert.DhfIdeal.nD,
          r.2.mem ((c.tc : Thread Cert.DhfIdeal.nD Cert.DhfIdeal.τ).loc Cert.DhfIdeal.main_v6_0) = v0 c
          ∧ r.2.mem ((c.tc : Thread Cert.DhfIdeal.nD Cert.DhfIdeal.τ).loc Cert.DhfIdeal.main_v6_1) = v1 c
          ∧ r.2.mem ((c.tc : Thread Cert.DhfIdeal.nD Cert.DhfIdeal.τ).loc Cert.DhfIdeal.main_v6_2) = v2 c
          ∧ r.2.mem ((c.tc : Thread Cert.DhfIdeal.nD Cert.DhfIdeal.τ).loc Cert.DhfIdeal.main_v6_3) = v3 c
          ∧ r.2.mem ((c.tc : Thread Cert.DhfIdeal.nD Cert.DhfIdeal.τ).loc Cert.DhfIdeal.main_arg0) = m ((c.tc : Thread Cert.DhfIdeal.nD Cert.DhfIdeal.τ).loc Cert.DhfIdeal.main_arg0)
          ∧ r.2.mem ((c.tc : Thread Cert.DhfIdeal.nD Cert.DhfIdeal.τ).loc Cert.DhfIdeal.main_arg1) = m ((c.tc : Thread Cert.DhfIdeal.nD Cert.DhfIdeal.τ).loc Cert.DhfIdeal.main_arg1)
          ∧ r.2.mem ((c.tc : Thread Cert.DhfIdeal.nD Cert.DhfIdeal.τ).loc Cert.DhfIdeal.main_arg2) = m ((c.tc : Thread Cert.DhfIdeal.nD Cert.DhfIdeal.τ).loc Cert.DhfIdeal.main_arg2)
          ∧ r.2.mem ((c.tc : Thread Cert.DhfIdeal.nD Cert.DhfIdeal.τ).loc Cert.DhfIdeal.main_arg3) = m ((c.tc : Thread Cert.DhfIdeal.nD Cert.DhfIdeal.τ).loc Cert.DhfIdeal.main_arg3)
          ∧ r.2.mem ((c.tc : Thread Cert.DhfIdeal.nD Cert.DhfIdeal.τ).loc Cert.DhfIdeal.main_arg4) = m ((c.tc : Thread Cert.DhfIdeal.nD Cert.DhfIdeal.τ).loc Cert.DhfIdeal.main_arg4)
          ∧ r.2.mem ((c.tc : Thread Cert.DhfIdeal.nD Cert.DhfIdeal.τ).loc Cert.DhfIdeal.main_arg5) = m ((c.tc : Thread Cert.DhfIdeal.nD Cert.DhfIdeal.τ).loc Cert.DhfIdeal.main_arg5)
          ∧ r.2.mem ((c.tc : Thread Cert.DhfIdeal.nD Cert.DhfIdeal.τ).loc Cert.DhfIdeal.main_arg6) = m ((c.tc : Thread Cert.DhfIdeal.nD Cert.DhfIdeal.τ).loc Cert.DhfIdeal.main_arg6))
      ∧ θ_run (Cert.DhfRefIdeal.defs (F := Ideal)) (onTc (τ := Cert.DhfRefIdeal.τ) (Cert.DhfRefIdeal.main (F := Ideal))) ⟨m', fun _ => 0, g'⟩ (fun r => ∀ c : Dev Cert.DhfRefIdeal.nD,
          r.2.mem ((c.tc : Thread Cert.DhfRefIdeal.nD Cert.DhfRefIdeal.τ).loc Cert.DhfRefIdeal.main_v42) = v0 c
          ∧ r.2.mem ((c.tc : Thread Cert.DhfRefIdeal.nD Cert.DhfRefIdeal.τ).loc Cert.DhfRefIdeal.main_v47) = v1 c
          ∧ r.2.mem ((c.tc : Thread Cert.DhfRefIdeal.nD Cert.DhfRefIdeal.τ).loc Cert.DhfRefIdeal.main_v25) = v2 c
          ∧ r.2.mem ((c.tc : Thread Cert.DhfRefIdeal.nD Cert.DhfRefIdeal.τ).loc Cert.DhfRefIdeal.main_v48) = v3 c
          ∧ r.2.mem ((c.tc : Thread Cert.DhfRefIdeal.nD Cert.DhfRefIdeal.τ).loc Cert.DhfRefIdeal.main_arg0) = m' ((c.tc : Thread Cert.DhfRefIdeal.nD Cert.DhfRefIdeal.τ).loc Cert.DhfRefIdeal.main_arg0)
          ∧ r.2.mem ((c.tc : Thread Cert.DhfRefIdeal.nD Cert.DhfRefIdeal.τ).loc Cert.DhfRefIdeal.main_arg1) = m' ((c.tc : Thread Cert.DhfRefIdeal.nD Cert.DhfRefIdeal.τ).loc Cert.DhfRefIdeal.main_arg1)
          ∧ r.2.mem ((c.tc : Thread Cert.DhfRefIdeal.nD Cert.DhfRefIdeal.τ).loc Cert.DhfRefIdeal.main_arg2) = m' ((c.tc : Thread Cert.DhfRefIdeal.nD Cert.DhfRefIdeal.τ).loc Cert.DhfRefIdeal.main_arg2)
          ∧ r.2.mem ((c.tc : Thread Cert.DhfRefIdeal.nD Cert.DhfRefIdeal.τ).loc Cert.DhfRefIdeal.main_arg3) = m' ((c.tc : Thread Cert.DhfRefIdeal.nD Cert.DhfRefIdeal.τ).loc Cert.DhfRefIdeal.main_arg3)
          ∧ r.2.mem ((c.tc : Thread Cert.DhfRefIdeal.nD Cert.DhfRefIdeal.τ).loc Cert.DhfRefIdeal.main_arg4) = m' ((c.tc : Thread Cert.DhfRefIdeal.nD Cert.DhfRefIdeal.τ).loc Cert.DhfRefIdeal.main_arg4)
          ∧ r.2.mem ((c.tc : Thread Cert.DhfRefIdeal.nD Cert.DhfRefIdeal.τ).loc Cert.DhfRefIdeal.main_arg5) = m' ((c.tc : Thread Cert.DhfRefIdeal.nD Cert.DhfRefIdeal.τ).loc Cert.DhfRefIdeal.main_arg5)
          ∧ r.2.mem ((c.tc : Thread Cert.DhfRefIdeal.nD Cert.DhfRefIdeal.τ).loc Cert.DhfRefIdeal.main_arg6) = m' ((c.tc : Thread Cert.DhfRefIdeal.nD Cert.DhfRefIdeal.τ).loc Cert.DhfRefIdeal.main_arg6))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)) →
    ∃ (v0 : (c : Dev Cert.GinIdeal.nD) → Buf (Elt Ideal) ((c.tc : Thread Cert.GinIdeal.nD Cert.GinIdeal.τ).loc Cert.GinIdeal.main_v0)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v0) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v6) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hGup : Cert.Gup.Facts) (hGupIdeal : Cert.GupIdeal.Facts) (hGupRefIdeal : Cert.GupRefIdeal.Facts) (hGdown : Cert.Gdown.Facts) (hGdownIdeal : Cert.GdownIdeal.Facts) (hGdownRefIdeal : Cert.GdownRefIdeal.Facts) (hDin : Cert.Din.Facts) (hDinIdeal : Cert.DinIdeal.Facts) (hDinRefIdeal : Cert.DinRefIdeal.Facts) (hDhf : Cert.Dhf.Facts) (hDhfIdeal : Cert.DhfIdeal.Facts) (hDhfRefIdeal : Cert.DhfRefIdeal.Facts) (hGin : Cert.Gin.Facts) (hGinIdeal : Cert.GinIdeal.Facts) (hGinRefIdeal : Cert.GinRefIdeal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Gup (hGup := hGup)
    ∧ quiescent_GupIdeal (hGupIdeal := hGupIdeal)
    ∧ quiescent_GupRefIdeal (hGupRefIdeal := hGupRefIdeal)
    ∧ quiescent_Gdown (hGdown := hGdown)
    ∧ quiescent_GdownIdeal (hGdownIdeal := hGdownIdeal)
    ∧ quiescent_GdownRefIdeal (hGdownRefIdeal := hGdownRefIdeal)
    ∧ quiescent_Din (hDin := hDin)
    ∧ quiescent_DinIdeal (hDinIdeal := hDinIdeal)
    ∧ quiescent_DinRefIdeal (hDinRefIdeal := hDinRefIdeal)
    ∧ quiescent_Dhf (hDhf := hDhf)
    ∧ quiescent_DhfIdeal (hDhfIdeal := hDhfIdeal)
    ∧ quiescent_DhfRefIdeal (hDhfRefIdeal := hDhfRefIdeal)
    ∧ quiescent_Gin (hGin := hGin)
    ∧ quiescent_GinIdeal (hGinIdeal := hGinIdeal)
    ∧ quiescent_GinRefIdeal (hGinRefIdeal := hGinRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Gup_GupIdeal
    ∧ algebraic_GupIdeal_GupRefIdeal (hGupIdeal := hGupIdeal) (hGupRefIdeal := hGupRefIdeal)
    ∧ preserves_Gdown_GdownIdeal
    ∧ algebraic_GdownIdeal_GdownRefIdeal (hGdownIdeal := hGdownIdeal) (hGdownRefIdeal := hGdownRefIdeal)
    ∧ preserves_Din_DinIdeal
    ∧ algebraic_DinIdeal_DinRefIdeal (hDinIdeal := hDinIdeal) (hDinRefIdeal := hDinRefIdeal)
    ∧ preserves_Dhf_DhfIdeal
    ∧ algebraic_DhfIdeal_DhfRefIdeal (hDhfIdeal := hDhfIdeal) (hDhfRefIdeal := hDhfRefIdeal)
    ∧ preserves_Gin_GinIdeal
    ∧ algebraic_GinIdeal_GinRefIdeal (hGinIdeal := hGinIdeal) (hGinRefIdeal := hGinRefIdeal)
-- ==== Pre_finite.lean ====
abbrev S2048x1024 : Shape := ⟨2, ![2048, 1024]⟩
abbrev S2816x1024 : Shape := ⟨2, ![2816, 1024]⟩
abbrev S2048x2816 : Shape := ⟨2, ![2048, 2816]⟩
abbrev S3x2816 : Shape := ⟨2, ![3, 2816]⟩
abbrev S2816 : Shape := ⟨1, ![2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn {F : FTy → Type} [FloatOps F] (main_arg0 : FVec F S2048x1024 .bf16) (main_arg1 : FVec F S2816x1024 .bf16) (main_arg2 : FVec F S2048x2816 .bf16) (main_arg3 : FVec F S2048x2816 .bf16) (main_arg4 : FVec F S3x2816 .f32) (main_arg5 : FVec F S2816 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2048x2816 .f32 := (extf .f32 · bitsLt_bf16_f32) main_arg3
  let main_v12 : FVec F S2048x2816 .f32 := Host.absf main_v11
  let main_cst_2 : FVec F S_ .f32 := constant S_ .f32 0x7F800000#32
  let main_v13 : FVec F S2048x2816 .f32 := broadcastInDim S2048x2816 ![] bcast_S_S2048x2816 main_cst_2
  let main_v14 : IVec S2048x2816 1 := cmpf .olt main_v12 main_v13
  let main_c_3 : IVec S_ 1 := constantI S_ 1 1#1
  let main_v15 : IVec S_ 1 := (fun x v => Host.reduce IntOp.andi x v reducesTo_S2048x2816_S_d0_1 h_S_) main_v14 main_c_3
  let main_v16 : IVec S_ 1 := andi main_v10 main_v15
  main_v16
-- ==== Pre_finite_attn.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S2048x1024 : Shape := ⟨2, ![2048, 1024]⟩
abbrev S_ : Shape := ⟨0, ![]⟩

class Facts : Prop where
  bcast_S_S2048x8x192 : S_.BroadcastsInDim S2048x8x192 (![] : Fin 0 → Fin S2048x8x192.rank)
  reducesTo_S2048x8x192_S_d0_1_2 : S2048x8x192.ReducesTo [0, 1, 2] S_
  h_S_ : 0 < S_.numel
  bcast_S_S2048x8x128 : S_.BroadcastsInDim S2048x8x128 (![] : Fin 0 → Fin S2048x8x128.rank)
  reducesTo_S2048x8x128_S_d0_1_2 : S2048x8x128.ReducesTo [0, 1, 2] S_
  bcast_S_S2048x64 : S_.BroadcastsInDim S2048x64 (![] : Fin 0 → Fin S2048x64.rank)
  reducesTo_S2048x64_S_d0_1 : S2048x64.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg5 : FVec F S2048x1024 .f32) (main_v13 : IVec S_ 1) (main_v16 : IVec S2048x8x128 1) : IVec S_ 1 :=
  let main_c_5 : IVec S_ 1 := constantI S_ 1 1#1
  let main_v17 : IVec S_ 1 := (fun x v => Host.reduce IntOp.andi x v reducesTo_S2048x8x128_S_d0_1_2 h_S_) main_v16 main_c_5
  let main_v18 : IVec S_ 1 := andi main_v13 main_v17
  let main_v19 : FVec F S2048x1024 .f32 := Host.absf main_arg5
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x8x192 .f32) (main_arg1 : FVec F S2048x8x128 .f32) (main_arg2 : FVec F S2048x64 .f32) (main_arg3 : FVec F S2048x8x128 .f32) (main_arg4 : IVec S2048 32) (main_arg5 : FVec F S2048x1024 .f32) : IVec S_ 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_c : IVec S_ 1 := constantI S_ 1 1#1
  let main_v3 : IVec S_ 1 := (fun x v => Host.reduce IntOp.andi x v reducesTo_S2048x8x192_S_d0_1_2 h_S_) main_v2 main_c
  let main_v4 : FVec F S2048x8x128 .f32 := Host.absf main_arg1
  let main_cst_0 : FVec F S_ .f32 := constant S_ .f32 0x7F800000#32
  let main_v5 : FVec F S2048x8x128 .f32 := broadcastInDim S2048x8x128 ![] bcast_S_S2048x8x128 main_cst_0
  let main_v6 : IVec S2048x8x128 1 := cmpf .olt main_v4 main_v5
  let main_c_1 : IVec S_ 1 := constantI S_ 1 1#1
  let main_v7 : IVec S_ 1 := (fun x v => Host.reduce IntOp.andi x v reducesTo_S2048x8x128_S_d0_1_2 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x8x128 .f32 := Host.absf main_arg3
  let main_cst_4 : FVec F S_ .f32 := constant S_ .f32 0x7F800000#32
  let main_v15 : FVec F S2048x8x128 .f32 := broadcastInDim S2048x8x128 ![] bcast_S_S2048x8x128 main_cst_4
  let main_v16 : IVec S2048x8x128 1 := cmpf .olt main_v14 main_v15
  fn_part1 (F := F) main_arg5 main_v13 main_v16
-- ==== Kernel.lean ====
abbrev S2048x1024 : Shape := ⟨2, ![2048, 1024]⟩
abbrev S2816x1024 : Shape := ⟨2, ![2816, 1024]⟩
abbrev S2048x2816 : Shape := ⟨2, ![2048, 2816]⟩
abbrev S3x2816 : Shape := ⟨2, ![3, 2816]⟩
abbrev S2816 : Shape := ⟨1, ![2816]⟩
abbrev S1x4x704x1024 : Shape := ⟨4, ![1, 4, 704, 1024]⟩
abbrev S2048x4x704 : Shape := ⟨3, ![2048, 4, 704]⟩
abbrev S4x2048x704 : Shape := ⟨3, ![4, 2048, 704]⟩
abbrev S3x4x704 : Shape := ⟨3, ![3, 4, 704]⟩
abbrev S4x3x704 : Shape := ⟨3, ![4, 3, 704]⟩
abbrev S4x1x704 : Shape := ⟨3, ![4, 1, 704]⟩
abbrev S512x1024 : Shape := ⟨2, ![512, 1024]⟩
abbrev S16x1024 : Shape := ⟨2, ![16, 1024]⟩
abbrev S1x1x704x1024 : Shape := ⟨4, ![1, 1, 704, 1024]⟩
abbrev S1x512x704 : Shape := ⟨3, ![1, 512, 704]⟩
abbrev S1x16x704 : Shape := ⟨3, ![1, 16, 704]⟩
abbrev S1x3x704 : Shape := ⟨3, ![1, 3, 704]⟩
abbrev S1x1x704 : Shape := ⟨3, ![1, 1, 704]⟩
abbrev S528x1024 : Shape := ⟨2, ![528, 1024]⟩
abbrev S704x1024 : Shape := ⟨2, ![704, 1024]⟩
abbrev S528x704 : Shape := ⟨2, ![528, 704]⟩
abbrev S528x1 : Shape := ⟨2, ![528, 1]⟩
abbrev S16x704 : Shape := ⟨2, ![16, 704]⟩
abbrev S512x704 : Shape := ⟨2, ![512, 704]⟩
abbrev S544x704 : Shape := ⟨2, ![544, 704]⟩
abbrev S3x704 : Shape := ⟨2, ![3, 704]⟩
abbrev S1x704 : Shape := ⟨2, ![1, 704]⟩
abbrev S704 : Shape := ⟨1, ![704]⟩

abbrev nBuf : Space → Nat
  | .hbm => 18
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S3x2816, .f32⟩
  | .hbm, ⟨5, _⟩ => ⟨S2816, .f32⟩
  | .hbm, ⟨6, _⟩ => ⟨S1x4x704x1024, .bf16⟩
  | .hbm, ⟨7, _⟩ => ⟨S2048x4x704, .bf16⟩
  | .hbm, ⟨8, _⟩ => ⟨S4x2048x704, .bf16⟩
  | .hbm, ⟨9, _⟩ => ⟨S2048x4x704, .bf16⟩
  | .hbm, ⟨10, _⟩ => ⟨S4x2048x704, .bf16⟩
  | .hbm, ⟨11, _⟩ => ⟨S3x4x704, .f32⟩
  | .hbm, ⟨12, _⟩ => ⟨S4x3x704, .f32⟩
  | .hbm, ⟨13, _⟩ => ⟨S4x1x704, .f32⟩
  | .hbm, ⟨14, _⟩ => ⟨S4x2048x704, .bf16⟩
  | .hbm, ⟨15, _⟩ => ⟨S4x2048x704, .bf16⟩
  | .hbm, ⟨16, _⟩ => ⟨S4x3x704, .f32⟩
  | .hbm, ⟨17, _⟩ => ⟨S4x1x704, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x16x704, .bf16⟩
  | .local _ .vmem, ⟨9, _⟩ => ⟨S1x16x704, .bf16⟩
  | .local _ .vmem, ⟨10, _⟩ => ⟨S1x16x704, .bf16⟩
  | .local _ .vmem, ⟨11, _⟩ => ⟨S1x16x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x16x704, .bf16⟩
  | .local _ .vmem, ⟨15, _⟩ => ⟨S1x16x704, .bf16⟩
  | .local _ .vmem, ⟨16, _⟩ => ⟨S1x3x704, .f32⟩
  | .local _ .vmem, ⟨17, _⟩ => ⟨S1x3x704, .f32⟩
  | .local _ .vmem, ⟨18, _⟩ => ⟨S1x1x704, .f32⟩
  | .local _ .vmem, ⟨19, _⟩ => ⟨S1x1x704, .f32⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x3x704, .f32⟩
  | .local _ .vmem, ⟨25, _⟩ => ⟨S1x3x704, .f32⟩
  | .local _ .vmem, ⟨26, _⟩ => ⟨S1x1x704, .f32⟩
  | .local _ .vmem, ⟨27, _⟩ => ⟨S1x1x704, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_44 : BitVec 32 := 0#32
  let v114 : BitVec 1 := Scalar.cmpi .eq arg1 c0_i32_44
  let v115 : BitVec 32 := Scalar.extui v114
  let c0_i32_45 : BitVec 32 := 0#32
  let v116 : BitVec 1 := Scalar.cmpi .ne v115 c0_i32_45
  v116

def k0_cond2 (i : grid0.Coords) : BitVec 1 :=
  let arg1 : BitVec 32 := BitVec.ofNat 32 (i 1).val
  let c0_i32_46 : BitVec 32 := 0#32
  let v117 : BitVec 1 := Scalar.cmpi .sgt arg1 c0_i32_46
  let v118 : BitVec 32 := Scalar.extui v117
  let c0_i32_47 : BitVec 32 := 0#32
  let v119 : BitVec 1 := Scalar.cmpi .ne v118 c0_i32_47
  v119

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S2048x1024 : Shape := ⟨2, ![2048, 1024]⟩
abbrev S2816x1024 : Shape := ⟨2, ![2816, 1024]⟩
abbrev S2048x2816 : Shape := ⟨2, ![2048, 2816]⟩
abbrev S3x2816 : Shape := ⟨2, ![3, 2816]⟩
abbrev S2816 : Shape := ⟨1, ![2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩
abbrev S2048x4x704 : Shape := ⟨3, ![2048, 4, 704]⟩
abbrev S4x2048x704 : Shape := ⟨3, ![4, 2048, 704]⟩
abbrev S3x4x704 : Shape := ⟨3, ![3, 4, 704]⟩
abbrev S4x3x704 : Shape := ⟨3, ![4, 3, 704]⟩
abbrev S4x1x704 : Shape := ⟨3, ![4, 1, 704]⟩

abbrev nBuf : Space → Nat
  | .hbm => 119
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .hbm, ⟨3, _⟩ => ⟨S2048x2816, .bf16⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S2048x1024, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2x2816, .f32⟩
  | .hbm, ⟨12, _⟩ => ⟨S2050x2816, .f32⟩
  | .hbm, ⟨13, _⟩ => ⟨S_, .f32⟩
  | .hbm, ⟨14, _⟩ => ⟨S2x2816, .f32⟩
  | .hbm, ⟨15, _⟩ => ⟨S2048x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S1x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S_, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x1024, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S_, .f32⟩
  | .hbm, ⟨61, _⟩ => ⟨S2816, .f32⟩
  | .hbm, ⟨62, _⟩ => ⟨S1x2816, .f32⟩
  | .hbm, ⟨63, _⟩ => ⟨S_, .f32⟩
  | .hbm, ⟨64, _⟩ => ⟨S2816, .f32⟩
  | .hbm, ⟨65, _⟩ => ⟨S2048x2816, .f32⟩
  | .hbm, ⟨66, _⟩ => ⟨S_, .f32⟩
  | .hbm, ⟨67, _⟩ => ⟨S2816, .f32⟩
  | .hbm, ⟨68, _⟩ => ⟨S1x2816, .f32⟩
  | .hbm, ⟨69, _⟩ => ⟨S2048x2816, .f32⟩
  | .hbm, ⟨70, _⟩ => ⟨S2048x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S_, .f32⟩
  | .hbm, ⟨75, _⟩ => ⟨S3x2816, .f32⟩
  | .hbm, ⟨76, _⟩ => ⟨S_, .f32⟩
  | .hbm, ⟨77, _⟩ => ⟨S2050x2816, .f32⟩
  | .hbm, ⟨78, _⟩ => ⟨S2048x2816, .f32⟩
  | .hbm, ⟨79, _⟩ => ⟨S_, .f32⟩
  | .hbm, ⟨80, _⟩ => ⟨S2816, .f32⟩
  | .hbm, ⟨81, _⟩ => ⟨S1x2816, .f32⟩
  | .hbm, ⟨82, _⟩ => ⟨S2048x2816, .f32⟩
  | .hbm, ⟨83, _⟩ => ⟨S2048x2816, .f32⟩
  | .hbm, ⟨84, _⟩ => ⟨S_, .f32⟩
  | .hbm, ⟨85, _⟩ => ⟨S2816, .f32⟩
  | .hbm, ⟨86, _⟩ => ⟨S1x2816, .f32⟩
  | .hbm, ⟨87, _⟩ => ⟨S_, .f32⟩
  | .hbm, ⟨88, _⟩ => ⟨S3x2816, .f32⟩
  | .hbm, ⟨89, _⟩ => ⟨S3x2816, .f32⟩
  | .hbm, ⟨90, _⟩ => ⟨S_, .f32⟩
  | .hbm, ⟨91, _⟩ => ⟨S2050x2816, .f32⟩
  | .hbm, ⟨92, _⟩ => ⟨S2050x2816, .f32⟩
  | .hbm, ⟨93, _⟩ => ⟨S2048x2816, .f32⟩
  | .hbm, ⟨94, _⟩ => ⟨S_, .f32⟩
  | .hbm, ⟨95, _⟩ => ⟨S2816, .f32⟩
  | .hbm, ⟨96, _⟩ => ⟨S1x2816, .f32⟩
  | .hbm, ⟨97, _⟩ => ⟨S2048x2816, .f32⟩
  | .hbm, ⟨98, _⟩ => ⟨S2048x2816, .f32⟩
  | .hbm, ⟨99, _⟩ => ⟨S_, .f32⟩
  | .hbm, ⟨100, _⟩ => ⟨S2816, .f32⟩
  | .hbm, ⟨101, _⟩ => ⟨S1x2816, .f32⟩
  | .hbm, ⟨102, _⟩ => ⟨S_, .f32⟩
  | .hbm, ⟨103, _⟩ => ⟨S3x2816, .f32⟩
  | .hbm, ⟨104, _⟩ => ⟨S3x2816, .f32⟩
  | .hbm, ⟨105, _⟩ => ⟨S_, .f32⟩
  | .hbm, ⟨106, _⟩ => ⟨S2050x2816, .f32⟩
  | .hbm, ⟨107, _⟩ => ⟨S2050x2816, .f32⟩
  | .hbm, ⟨108, _⟩ => ⟨S2x2816, .f32⟩
  | .hbm, ⟨109, _⟩ => ⟨S2048x2816, .f32⟩
  | .hbm, ⟨110, _⟩ => ⟨S2048x4x704, .f32⟩
  | .hbm, ⟨111, _⟩ => ⟨S4x2048x704, .f32⟩
  | .hbm, ⟨112, _⟩ => ⟨S4x2048x704, .bf16⟩
  | .hbm, ⟨113, _⟩ => ⟨S2048x4x704, .f32⟩
  | .hbm, ⟨114, _⟩ => ⟨S4x2048x704, .f32⟩
  | .hbm, ⟨115, _⟩ => ⟨S4x2048x704, .bf16⟩
  | .hbm, ⟨116, _⟩ => ⟨S3x4x704, .f32⟩
  | .hbm, ⟨117, _⟩ => ⟨S4x3x704, .f32⟩
  | .hbm, ⟨118, _⟩ => ⟨S4x1x704, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_cst_1 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]
-- ==== Attn.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S2048x1024 : Shape := ⟨2, ![2048, 1024]⟩
abbrev S1x2048x64 : Shape := ⟨3, ![1, 2048, 64]⟩
abbrev S8x2048x64 : Shape := ⟨3, ![8, 2048, 64]⟩
abbrev S2048x8x64 : Shape := ⟨3, ![2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x128 : Shape := ⟨2, ![2048, 128]⟩
abbrev S2048x8x256 : Shape := ⟨3, ![2048, 8, 256]⟩
abbrev S8x2048x256 : Shape := ⟨3, ![8, 2048, 256]⟩
abbrev S8x1x2048 : Shape := ⟨3, ![8, 1, 2048]⟩
abbrev S8x2048x128 : Shape := ⟨3, ![8, 2048, 128]⟩
abbrev S2x2048x256 : Shape := ⟨3, ![2, 2048, 256]⟩
abbrev S512x256 : Shape := ⟨2, ![512, 256]⟩
abbrev S512x128 : Shape := ⟨2, ![512, 128]⟩
abbrev S2048x256 : Shape := ⟨2, ![2048, 256]⟩
abbrev S2x1x2048 : Shape := ⟨3, ![2, 1, 2048]⟩
abbrev S2x512x128 : Shape := ⟨3, ![2, 512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x512 : Shape := ⟨3, ![1, 1, 512]⟩
abbrev S1x512x256 : Shape := ⟨3, ![1, 512, 256]⟩
abbrev S512x512 : Shape := ⟨2, ![512, 512]⟩
abbrev S1x512x128 : Shape := ⟨3, ![1, 512, 128]⟩
abbrev S1x2048x256 : Shape := ⟨3, ![1, 2048, 256]⟩
abbrev S1x2048x128 : Shape := ⟨3, ![1, 2048, 128]⟩

abbrev nBuf : Space → Nat
  | .hbm => 278
  | .vmem => 27
  | .smem => 0
  | _ => 0

abbrev hbmTy0_0 (i : Nat) : BufTy := match i % 128 with
  | 0 => ⟨S2048x8x192, .f32⟩
  | 1 => ⟨S2048x8x128, .f32⟩
  | 2 => ⟨S2048x64, .f32⟩
  | 3 => ⟨S2048x8x128, .f32⟩
  | 4 => ⟨S2048, .i32⟩
  | 5 => ⟨S2048x1024, .f32⟩
  | 6 => ⟨S1x2048x64, .f32⟩
  | 7 => ⟨S8x2048x64, .f32⟩
  | 8 => ⟨S2048x8x128, .f32⟩
  | 9 => ⟨S2048x8x64, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S2048x1x32, .f32⟩
  | 28 => ⟨S2048x32, .f32⟩
  | 29 => ⟨S2048x1x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x64, .f32⟩
  | 43 => ⟨S_, .f32⟩
  | 44 => ⟨S_, .f32⟩
  | 45 => ⟨S_, .f32⟩
  | 46 => ⟨S_, .f32⟩
  | 47 => ⟨S8x2048x2048, .f32⟩
  | 48 => ⟨S8x2048x2048, .f32⟩
  | 49 => ⟨S8x2048x2048, .f32⟩
  | 50 => ⟨S8x2048x2048, .f32⟩
  | 51 => ⟨S8x2048x2048, .f32⟩
  | 52 => ⟨S2048, .i32⟩
  | 53 => ⟨S_, .i32⟩
  | 54 => ⟨S_, .i32⟩
  | 55 => ⟨S2048, .i32⟩
  | 56 => ⟨S2048, .i32⟩
  | 57 => ⟨S2048, .i32⟩
  | 58 => ⟨S_, .i32⟩
  | 59 => ⟨S2048, .i32⟩
  | 60 => ⟨S2048, .i1⟩
  | 61 => ⟨S2048, .i32⟩
  | 62 => ⟨S2048, .i32⟩
  | 63 => ⟨S_, .i32⟩
  | 64 => ⟨S2048, .i32⟩
  | 65 => ⟨S2048, .i1⟩
  | 66 => ⟨S2048, .i1⟩
  | 67 => ⟨S_, .i32⟩
  | 68 => ⟨S2048, .i32⟩
  | 69 => ⟨S2048, .i32⟩
  | 70 => ⟨S2048, .i32⟩
  | 71 => ⟨S1x2048, .i32⟩
  | 72 => ⟨S2048x1, .i32⟩
  | 73 => ⟨S2048x2048, .i32⟩
  | 74 => ⟨S2048x2048, .i32⟩
  | 75 => ⟨S2048x2048, .i1⟩
  | 76 => ⟨S1x2048x2048, .i1⟩
  | 77 => ⟨S_, .f32⟩
  | 78 => ⟨S_, .f32⟩
  | 79 => ⟨S8x2048x2048, .i1⟩
  | 80 => ⟨S8x2048x2048, .f32⟩
  | 81 => ⟨S8x2048x2048, .f32⟩
  | 82 => ⟨S_, .f32⟩
  | 83 => ⟨S8x2048, .f32⟩
  | 84 => ⟨S8x2048x1, .f32⟩
  | 85 => ⟨S8x2048x2048, .f32⟩
  | 86 => ⟨S8x2048x2048, .f32⟩
  | 87 => ⟨S8x2048x2048, .f32⟩
  | 88 => ⟨S_, .f32⟩
  | 89 => ⟨S8x2048, .f32⟩
  | 90 => ⟨S8x2048x1, .f32⟩
  | 91 => ⟨S8x2048x1, .f32⟩
  | 92 => ⟨S8x2048x1, .f32⟩
  | 93 => ⟨S_, .f32⟩
  | 94 => ⟨S_, .f32⟩
  | 95 => ⟨S8x2048x1, .f32⟩
  | 96 => ⟨S8x2048x1, .f32⟩
  | 97 => ⟨S1x2048x64, .f32⟩
  | 98 => ⟨S8x2048x64, .f32⟩
  | 99 => ⟨S2048x8x128, .f32⟩
  | 100 => ⟨S2048x8x64, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S2048, .f32⟩
  | 112 => ⟨S2048x1, .f32⟩
  | 113 => ⟨S1x32, .f32⟩
  | 114 => ⟨S2048x32, .f32⟩
  | 115 => ⟨S2048x32, .f32⟩
  | 116 => ⟨S2048x32, .f32⟩
  | 117 => ⟨S2048x32, .f32⟩
  | 118 => ⟨S2048x1x32, .f32⟩
  | 119 => ⟨S2048x32, .f32⟩
  | 120 => ⟨S2048x1x32, .f32⟩
  | 121 => ⟨S2048x8x32, .f32⟩
  | 122 => ⟨S2048x8x32, .f32⟩
  | 123 => ⟨S2048x8x32, .f32⟩
  | 124 => ⟨S2048x8x32, .f32⟩
  | 125 => ⟨S2048x8x32, .f32⟩
  | 126 => ⟨S2048x8x32, .f32⟩
  | 127 => ⟨S2048x8x32, .f32⟩
  | _ => ⟨S2048x8x192, .f32⟩

abbrev hbmTy0_1 (i : Nat) : BufTy := match i % 128 with
  | 0 => ⟨S2048x8x32, .f32⟩
  | 1 => ⟨S2048x8x32, .f32⟩
  | 2 => ⟨S2048x8x32, .f32⟩
  | 3 => ⟨S2048x8x32, .f32⟩
  | 4 => ⟨S2048x8x32, .f32⟩
  | 5 => ⟨S2048x8x64, .f32⟩
  | 6 => ⟨S_, .f32⟩
  | 7 => ⟨S_, .f32⟩
  | 8 => ⟨S_, .f32⟩
  | 9 => ⟨S_, .f32⟩
  | 10 => ⟨S8x2048x2048, .f32⟩
  | 11 => ⟨S8x2048x2048, .f32⟩
  | 12 => ⟨S8x2048x2048, .f32⟩
  | 13 => ⟨S8x2048x2048, .f32⟩
  | 14 => ⟨S8x2048x2048, .f32⟩
  | 15 => ⟨S2048, .i32⟩
  | 16 => ⟨S_, .i32⟩
  | 17 => ⟨S_, .i32⟩
  | 18 => ⟨S2048, .i32⟩
  | 19 => ⟨S2048, .i32⟩
  | 20 => ⟨S2048, .i32⟩
  | 21 => ⟨S_, .i32⟩
  | 22 => ⟨S2048, .i32⟩
  | 23 => ⟨S2048, .i1⟩
  | 24 => ⟨S2048, .i32⟩
  | 25 => ⟨S2048, .i32⟩
  | 26 => ⟨S_, .i32⟩
  | 27 => ⟨S2048, .i32⟩
  | 28 => ⟨S2048, .i1⟩
  | 29 => ⟨S2048, .i1⟩
  | 30 => ⟨S_, .i32⟩
  | 31 => ⟨S2048, .i32⟩
  | 32 => ⟨S2048, .i32⟩
  | 33 => ⟨S2048, .i32⟩
  | 34 => ⟨S1x2048, .i32⟩
  | 35 => ⟨S2048x1, .i32⟩
  | 36 => ⟨S2048x2048, .i32⟩
  | 37 => ⟨S2048x2048, .i32⟩
  | 38 => ⟨S2048x2048, .i1⟩
  | 39 => ⟨S1x2048x2048, .i1⟩
  | 40 => ⟨S_, .f32⟩
  | 41 => ⟨S_, .f32⟩
  | 42 => ⟨S8x2048x2048, .i1⟩
  | 43 => ⟨S8x2048x2048, .f32⟩
  | 44 => ⟨S8x2048x2048, .f32⟩
  | 45 => ⟨S_, .f32⟩
  | 46 => ⟨S8x2048, .f32⟩
  | 47 => ⟨S_, .f32⟩
  | 48 => ⟨S8x2048, .f32⟩
  | 49 => ⟨S8x2048, .f32⟩
  | 50 => ⟨S8x2048x1, .f32⟩
  | 51 => ⟨S8x2048x2048, .f32⟩
  | 52 => ⟨S8x2048x2048, .f32⟩
  | 53 => ⟨S8x2048x2048, .f32⟩
  | 54 => ⟨S_, .f32⟩
  | 55 => ⟨S8x2048, .f32⟩
  | 56 => ⟨S8x2048x1, .f32⟩
  | 57 => ⟨S8x2048x2048, .f32⟩
  | 58 => ⟨S8x2048x2048, .f32⟩
  | 59 => ⟨S8x128x2048, .f32⟩
  | 60 => ⟨S2048x8x128, .f32⟩
  | 61 => ⟨S2048x1024, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S2048, .f32⟩
  | 73 => ⟨S2048x1, .f32⟩
  | 74 => ⟨S1x32, .f32⟩
  | 75 => ⟨S2048x32, .f32⟩
  | 76 => ⟨S2048x32, .f32⟩
  | 77 => ⟨S2048x32, .f32⟩
  | 78 => ⟨S2048x32, .f32⟩
  | 79 => ⟨S2048x32, .f32⟩
  | 80 => ⟨S_, .f32⟩
  | 81 => ⟨S2048x32, .f32⟩
  | 82 => ⟨S2048x128, .f32⟩
  | 83 => ⟨S2048x32, .f32⟩
  | 84 => ⟨S2048x128, .f32⟩
  | 85 => ⟨S2048x128, .f32⟩
  | 86 => ⟨S2048x8x128, .f32⟩
  | 87 => ⟨S2048x8x64, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S2048, .f32⟩
  | 99 => ⟨S2048x1, .f32⟩
  | 100 => ⟨S1x32, .f32⟩
  | 101 => ⟨S2048x32, .f32⟩
  | 102 => ⟨S2048x32, .f32⟩
  | 103 => ⟨S2048x32, .f32⟩
  | 104 => ⟨S2048x32, .f32⟩
  | 105 => ⟨S2048x1x32, .f32⟩
  | 106 => ⟨S2048x32, .f32⟩
  | 107 => ⟨S2048x1x32, .f32⟩
  | 108 => ⟨S2048x8x32, .f32⟩
  | 109 => ⟨S2048x8x32, .f32⟩
  | 110 => ⟨S2048x8x32, .f32⟩
  | 111 => ⟨S2048x8x32, .f32⟩
  | 112 => ⟨S2048x8x32, .f32⟩
  | 113 => ⟨S2048x8x32, .f32⟩
  | 114 => ⟨S2048x8x32, .f32⟩
  | 115 => ⟨S2048x8x32, .f32⟩
  | 116 => ⟨S2048x8x32, .f32⟩
  | 117 => ⟨S2048x8x32, .f32⟩
  | 118 => ⟨S2048x8x32, .f32⟩
  | 119 => ⟨S2048x8x32, .f32⟩
  | 120 => ⟨S2048x8x64, .f32⟩
  | 121 => ⟨S_, .f32⟩
  | 122 => ⟨S2048x8x64, .f32⟩
  | 123 => ⟨S2048x8x256, .f32⟩
  | 124 => ⟨S_, .f32⟩
  | 125 => ⟨S_, .f32⟩
  | 126 => ⟨S_, .f32⟩
  | 127 => ⟨S_, .f32⟩
  | _ => ⟨S2048x8x192, .f32⟩

abbrev hbmTy0_2 (i : Nat) : BufTy := match i % 128 with
  | 0 => ⟨S_, .f32⟩
  | 1 => ⟨S_, .f32⟩
  | 2 => ⟨S_, .f32⟩
  | 3 => ⟨S2048x8x256, .f32⟩
  | 4 => ⟨S2048x8x256, .f32⟩
  | 5 => ⟨S_, .f32⟩
  | 6 => ⟨S2048x64, .f32⟩
  | 7 => ⟨S2048x128, .f32⟩
  | 8 => ⟨S2048x8x256, .bf16⟩
  | 9 => ⟨S8x2048x256, .bf16⟩
  | 10 => ⟨S2048x8x128, .bf16⟩
  | 11 => ⟨S2048x1024, .bf16⟩
  | 12 => ⟨S2048x128, .bf16⟩
  | 13 => ⟨S2048x8x128, .bf16⟩
  | 14 => ⟨S2048x1024, .bf16⟩
  | 15 => ⟨S2048x1024, .bf16⟩
  | 16 => ⟨S2048x1024, .bf16⟩
  | 17 => ⟨S8x1x2048, .f32⟩
  | 18 => ⟨S8x2048x256, .bf16⟩
  | 19 => ⟨S2048x1024, .bf16⟩
  | 20 => ⟨S8x2048x128, .f32⟩
  | 21 => ⟨S2048x1024, .bf16⟩
  | _ => ⟨S2048x8x192, .f32⟩

abbrev hbmTy (i : Nat) : BufTy := match i / 128 with
  | 0 => hbmTy0_0 i
  | 1 => hbmTy0_1 i
  | 2 => hbmTy0_2 i
  | _ => ⟨S2048x8x192, .f32⟩

abbrev bufTy : (tb : Table) → Fin (tcTables nBuf tb) → BufTy
  | .hbm, ⟨i, _⟩ => hbmTy i
  | .local _ .vmem, ⟨0, _⟩ => ⟨S2x2048x256, .bf16⟩
  | .local _ .vmem, ⟨1, _⟩ => ⟨S2x2048x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2x1x2048, .f32⟩
  | .local _ .vmem, ⟨13, _⟩ => ⟨S2x1x2048, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2x2048x256, .bf16⟩
  | .local _ .vmem, ⟨18, _⟩ => ⟨S2x2048x256, .bf16⟩
  | .local _ .vmem, ⟨19, _⟩ => ⟨S512x256, .bf16⟩
  | .local _ .vmem, ⟨20, _⟩ => ⟨S512x256, .bf16⟩
  | .local _ .vmem, ⟨21, _⟩ => ⟨S2x512x128, .f32⟩
  | .local _ .vmem, ⟨22, _⟩ => ⟨S2x512x128, .f32⟩
  | .local _ .vmem, ⟨23, _⟩ => ⟨S512x256, .bf16⟩
  | .local _ .vmem, ⟨24, _⟩ => ⟨S512x256, .bf16⟩
  | .local _ .vmem, ⟨25, _⟩ => ⟨S2x2048x256, .f32⟩
  | .local _ .vmem, ⟨26, _⟩ => ⟨S2x1x2048, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_4 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_6 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_7 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_8 : Ref sig .tc := ⟨.hbm, 102, rfl⟩
abbrev main_v67 : Ref sig .tc := ⟨.hbm, 103, rfl⟩
abbrev main_v68 : Ref sig .tc := ⟨.hbm, 104, rfl⟩
abbrev main_cst_9 : Ref sig .tc := ⟨.hbm, 105, rfl⟩
abbrev main_v69 : Ref sig .tc := ⟨.hbm, 106, rfl⟩
abbrev main_v70 : Ref sig .tc := ⟨.hbm, 107, rfl⟩
abbrev main_cst_10 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_11 : Ref sig .tc := ⟨.hbm, 134, rfl⟩
abbrev main_v96 : Ref sig .tc := ⟨.hbm, 135, rfl⟩
abbrev main_cst_12 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_13 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_v8 : Ref sig .tc := ⟨.hbm, 153, rfl⟩
abbrev main_call2_c : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_c_0 : Ref sig .tc := ⟨.hbm, 158, rfl⟩
abbrev main_call2_v12 : Ref sig .tc := ⟨.hbm, 159, rfl⟩
abbrev main_call2_v13 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_14 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v111 : Ref sig .tc := ⟨.hbm, 172, rfl⟩
abbrev main_cst_15 : Ref sig .tc := ⟨.hbm, 173, rfl⟩
abbrev main_v112 : Ref sig .tc := ⟨.hbm, 174, rfl⟩
abbrev main_cst_16 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_17 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_18 : Ref sig .tc := ⟨.hbm, 191, rfl⟩
abbrev main_v127 : Ref sig .tc := ⟨.hbm, 192, rfl⟩
abbrev main_v128 : Ref sig .tc := ⟨.hbm, 193, rfl⟩
abbrev main_cst_19 : Ref sig .tc := ⟨.hbm, 194, rfl⟩
abbrev main_v129 : Ref sig .tc := ⟨.hbm, 195, rfl⟩
abbrev main_v130 : Ref sig .tc := ⟨.hbm, 196, rfl⟩
abbrev main_cst_20 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_21 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_22 : Ref sig .tc := ⟨.hbm, 217, rfl⟩
abbrev main_v149 : Ref sig .tc := ⟨.hbm, 218, rfl⟩
abbrev main_v150 : Ref sig .tc := ⟨.hbm, 219, rfl⟩
abbrev main_cst_23 : Ref sig .tc := ⟨.hbm, 220, rfl⟩
abbrev main_v151 : Ref sig .tc := ⟨.hbm, 221, rfl⟩
abbrev main_v152 : Ref sig .tc := ⟨.hbm, 222, rfl⟩
abbrev main_cst_24 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_cst_25 : Ref sig .tc := ⟨.hbm, 249, rfl⟩
abbrev main_v178 : Ref sig .tc := ⟨.hbm, 250, rfl⟩
abbrev main_v179 : Ref sig .tc := ⟨.hbm, 251, rfl⟩
abbrev main_cst_26 : Ref sig .tc := ⟨.hbm, 252, rfl⟩
abbrev main_v180 : Ref sig .tc := ⟨.hbm, 253, rfl⟩
abbrev main_cst_27 : Ref sig .tc := ⟨.hbm, 254, rfl⟩
abbrev main_v181 : Ref sig .tc := ⟨.hbm, 255, rfl⟩
abbrev main_cst_28 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_29 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198_0 : Ref sig .tc := ⟨.hbm, 274, rfl⟩
abbrev main_v198_1 : Ref sig .tc := ⟨.hbm, 275, rfl⟩
abbrev main_v198_2 : Ref sig .tc := ⟨.hbm, 276, rfl⟩
abbrev main_v198_3 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v17 : BitVec 32 := Scalar.muli arg1 c512_i32
  v17
def k0_off1 (i : grid0.Coords) : Fin 3 → Nat :=
  let c0_10 : Index := 0#32
  let arg1 : BitVec 32 := BitVec.ofNat 32 (i 1).val
  let c512_i32 : BitVec 32 := 512#32
  let v17 : BitVec 32 := Scalar.muli arg1 c512_i32
  let v18 : BitVec 32 := v17
  let v19 : Index := Scalar.indexCast v18
  let c0_11 : Index := 0#32
  ![0, v19.toNat, 0]
def k0_off2 (i : grid0.Coords) : Fin 3 → Nat :=
  let c1 : Index := 1#32
  let arg1 : BitVec 32 := BitVec.ofNat 32 (i 1).val
  let c512_i32 : BitVec 32 := 512#32
  let v17 : BitVec 32 := Scalar.muli arg1 c512_i32
  let v18 : BitVec 32 := v17
  let v22 : Index := Scalar.indexCast v18
  let c0_12 : Index := 0#32
  ![1, v22.toNat, 0]
def k0_off3 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v25 : Index := Scalar.indexCast v18
  let c0_13 : Index := 0#32
  ![v25.toNat, 0]
def k0_off4 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v28 : Index := Scalar.indexCast v18
  let c128_14 : Index := 128#32
  ![v28.toNat, 128]
def k0_off5 (i : grid0.Coords) : Fin 3 → Nat :=
  let c0_21 : Index := 0#32
  let c0_22 : Index := 0#32
  let arg1 : BitVec 32 := BitVec.ofNat 32 (i 1).val
  let c512_i32 : BitVec 32 := 512#32
  let v17 : BitVec 32 := Scalar.muli arg1 c512_i32
  let v18 : BitVec 32 := v17
  let v44 : Index := Scalar.indexCast v18
  ![0, 0, v44.toNat]
def k0_off6 (i : grid0.Coords) : Fin 3 → Nat :=
  let c1_35 : Index := 1#32
  let c0_36 : Index := 0#32
  let arg1 : BitVec 32 := BitVec.ofNat 32 (i 1).val
  let c512_i32 : BitVec 32 := 512#32
  let v17 : BitVec 32 := Scalar.muli arg1 c512_i32
  let v18 : BitVec 32 := v17
  let v80 : Index := Scalar.indexCast v18
  ![1, 0, v80.toNat]
@[reducible] def k0_t1_loop (i : grid0.Coords) : Scf.Loop 32 :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_47 : BitVec 32 := 1#32
  ⟨v107, v112, c1_i32_47⟩
def k0_mult2 (i : grid0.Coords) (k0_t1 : Fin (k0_t1_loop i).trips) : BitVec 32 :=
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  v140
def k0_off7 (i : grid0.Coords) (k0_t1 : Fin (k0_t1_loop i).trips) : Fin 3 → Nat :=
  let c0_67 : Index := 0#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v142 : Index := Scalar.indexCast v141
  let c0_68 : Index := 0#32
  ![0, v142.toNat, 0]
def k0_off8 (i : grid0.Coords) (k0_t1 : Fin (k0_t1_loop i).trips) : Fin 3 → Nat :=
  let c1_69 : Index := 1#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v145 : Index := Scalar.indexCast v141
  let c0_70 : Index := 0#32
  ![1, v145.toNat, 0]
def k0_off9 (i : grid0.Coords) (k0_t1 : Fin (k0_t1_loop i).trips) : Fin 2 → Nat :=
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v148 : Index := Scalar.indexCast v141
  let c0_71 : Index := 0#32
  ![v148.toNat, 0]
def k0_off10 (i : grid0.Coords) (k0_t1 : Fin (k0_t1_loop i).trips) : Fin 2 → Nat :=
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v151 : Index := Scalar.indexCast v141
  let c128_72 : Index := 128#32
  ![v151.toNat, 128]
def k0_off11 (i : grid0.Coords) (k0_t1 : Fin (k0_t1_loop i).trips) : Fin 3 → Nat :=
  let c0_77 : Index := 0#32
  let c0_78 : Index := 0#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v158 : Index := Scalar.indexCast v141
  ![0, 0, v158.toNat]
def k0_off12 (i : grid0.Coords) (k0_t1 : Fin (k0_t1_loop i).trips) : Fin 3 → Nat :=
  let c1_88 : Index := 1#32
  let c0_89 : Index := 0#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v185 : Index := Scalar.indexCast v141
  ![1, 0, v185.toNat]
@[reducible] def k0_t2_loop (i : grid0.Coords) : Scf.Loop 32 :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let v109 : BitVec 32 := Scalar.addi v107 v108
  let c1_i32_48 : BitVec 32 := 1#32
  ⟨v112, v109, c1_i32_48⟩
def k0_mult3 (i : grid0.Coords) (k0_t2 : Fin (k0_t2_loop i).trips) : BitVec 32 :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  v140
def k0_off13 (i : grid0.Coords) (k0_t2 : Fin (k0_t2_loop i).trips) : Fin 3 → Nat :=
  let c0_67 : Index := 0#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v142 : Index := Scalar.indexCast v141
  let c0_68 : Index := 0#32
  ![0, v142.toNat, 0]
def k0_off14 (i : grid0.Coords) (k0_t2 : Fin (k0_t2_loop i).trips) : Fin 3 → Nat :=
  let c1_69 : Index := 1#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v145 : Index := Scalar.indexCast v141
  let c0_70 : Index := 0#32
  ![1, v145.toNat, 0]
def k0_off15 (i : grid0.Coords) (k0_t2 : Fin (k0_t2_loop i).trips) : Fin 2 → Nat :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v148 : Index := Scalar.indexCast v141
  let c0_71 : Index := 0#32
  ![v148.toNat, 0]
def k0_off16 (i : grid0.Coords) (k0_t2 : Fin (k0_t2_loop i).trips) : Fin 2 → Nat :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v151 : Index := Scalar.indexCast v141
  let c128_72 : Index := 128#32
  ![v151.toNat, 128]
def k0_off17 (i : grid0.Coords) (k0_t2 : Fin (k0_t2_loop i).trips) : Fin 3 → Nat :=
  let c0_77 : Index := 0#32
  let c0_78 : Index := 0#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v158 : Index := Scalar.indexCast v141
  ![0, 0, v158.toNat]
def k0_off18 (i : grid0.Coords) (k0_t2 : Fin (k0_t2_loop i).trips) : Fin 3 → Nat :=
  let c1_88 : Index := 1#32
  let c0_89 : Index := 0#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v185 : Index := Scalar.indexCast v141
  ![1, 0, v185.toNat]
def k0_cond2 (i : grid0.Coords) : BitVec 1 :=
  let arg1 : BitVec 32 := BitVec.ofNat 32 (i 1).val
  let c3_i32 : BitVec 32 := 3#32
  let v137 : BitVec 1 := Scalar.cmpi .eq arg1 c3_i32
  let v138 : BitVec 32 := Scalar.extui v137
  let c0_i32_65 : BitVec 32 := 0#32
  let v139 : BitVec 1 := Scalar.cmpi .ne v138 c0_i32_65
  v139

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnIdeal.lean ====
variable {F : FTy → Type} [FloatOps F] [Named F]
def κ : String → Option EReal := fun
  | "ln2" => some ((Real.log 2 : ℝ) : EReal)
  | "mask" => some ⊥
  | "scale" => some (((Real.sqrt 192)⁻¹ : ℝ) : EReal)
  | _ => none
-- ==== AttnRefIdeal.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S2048x1024 : Shape := ⟨2, ![2048, 1024]⟩
abbrev S1x2048x64 : Shape := ⟨3, ![1, 2048, 64]⟩
abbrev S8x2048x64 : Shape := ⟨3, ![8, 2048, 64]⟩
abbrev S2048x8x64 : Shape := ⟨3, ![2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩
abbrev S2048x8x256 : Shape := ⟨3, ![2048, 8, 256]⟩
abbrev S8x2048x256 : Shape := ⟨3, ![8, 2048, 256]⟩

abbrev nBuf : Space → Nat
  | .hbm => 191
  | .vmem => 0
  | .smem => 0
  | _ => 0

abbrev hbmTy0_0 (i : Nat) : BufTy := match i % 128 with
  | 0 => ⟨S2048x8x192, .f32⟩
  | 1 => ⟨S2048x8x128, .f32⟩
  | 2 => ⟨S2048x64, .f32⟩
  | 3 => ⟨S2048x8x128, .f32⟩
  | 4 => ⟨S2048, .i32⟩
  | 5 => ⟨S2048x1024, .f32⟩
  | 6 => ⟨S1x2048x64, .f32⟩
  | 7 => ⟨S8x2048x64, .f32⟩
  | 8 => ⟨S2048x8x128, .f32⟩
  | 9 => ⟨S2048x8x64, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S2048x1x32, .f32⟩
  | 28 => ⟨S2048x32, .f32⟩
  | 29 => ⟨S2048x1x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x64, .f32⟩
  | 43 => ⟨S_, .f32⟩
  | 44 => ⟨S_, .f32⟩
  | 45 => ⟨S_, .f32⟩
  | 46 => ⟨S_, .f32⟩
  | 47 => ⟨S8x2048x2048, .f32⟩
  | 48 => ⟨S8x2048x2048, .f32⟩
  | 49 => ⟨S8x2048x2048, .f32⟩
  | 50 => ⟨S8x2048x2048, .f32⟩
  | 51 => ⟨S8x2048x2048, .f32⟩
  | 52 => ⟨S2048, .i32⟩
  | 53 => ⟨S_, .i32⟩
  | 54 => ⟨S_, .i32⟩
  | 55 => ⟨S2048, .i32⟩
  | 56 => ⟨S2048, .i32⟩
  | 57 => ⟨S2048, .i32⟩
  | 58 => ⟨S_, .i32⟩
  | 59 => ⟨S2048, .i32⟩
  | 60 => ⟨S2048, .i1⟩
  | 61 => ⟨S2048, .i32⟩
  | 62 => ⟨S2048, .i32⟩
  | 63 => ⟨S_, .i32⟩
  | 64 => ⟨S2048, .i32⟩
  | 65 => ⟨S2048, .i1⟩
  | 66 => ⟨S2048, .i1⟩
  | 67 => ⟨S_, .i32⟩
  | 68 => ⟨S2048, .i32⟩
  | 69 => ⟨S2048, .i32⟩
  | 70 => ⟨S2048, .i32⟩
  | 71 => ⟨S1x2048, .i32⟩
  | 72 => ⟨S2048x1, .i32⟩
  | 73 => ⟨S2048x2048, .i32⟩
  | 74 => ⟨S2048x2048, .i32⟩
  | 75 => ⟨S2048x2048, .i1⟩
  | 76 => ⟨S1x2048x2048, .i1⟩
  | 77 => ⟨S_, .f32⟩
  | 78 => ⟨S_, .f32⟩
  | 79 => ⟨S8x2048x2048, .i1⟩
  | 80 => ⟨S8x2048x2048, .f32⟩
  | 81 => ⟨S8x2048x2048, .f32⟩
  | 82 => ⟨S_, .f32⟩
  | 83 => ⟨S8x2048x2048, .f32⟩
  | 84 => ⟨S_, .f32⟩
  | 85 => ⟨S8x2048, .f32⟩
  | 86 => ⟨S8x2048x1, .f32⟩
  | 87 => ⟨S8x2048x2048, .f32⟩
  | 88 => ⟨S8x2048x2048, .i1⟩
  | 89 => ⟨S8x2048x2048, .f32⟩
  | 90 => ⟨S_, .f32⟩
  | 91 => ⟨S8x2048, .f32⟩
  | 92 => ⟨S_, .f32⟩
  | 93 => ⟨S8x2048, .f32⟩
  | 94 => ⟨S8x2048, .f32⟩
  | 95 => ⟨S_, .f32⟩
  | 96 => ⟨S8x2048, .f32⟩
  | 97 => ⟨S8x2048, .i1⟩
  | 98 => ⟨S_, .f32⟩
  | 99 => ⟨S8x2048, .f32⟩
  | 100 => ⟨S8x2048, .i1⟩
  | 101 => ⟨S_, .f32⟩
  | 102 => ⟨S8x2048, .f32⟩
  | 103 => ⟨S_, .f32⟩
  | 104 => ⟨S8x2048, .f32⟩
  | 105 => ⟨S_, .f32⟩
  | 106 => ⟨S8x2048, .f32⟩
  | 107 => ⟨S8x2048, .f32⟩
  | 108 => ⟨S8x2048, .f32⟩
  | 109 => ⟨S8x2048x1, .f32⟩
  | 110 => ⟨S8x2048x2048, .f32⟩
  | 111 => ⟨S8x2048x2048, .f32⟩
  | 112 => ⟨S8x2048x2048, .f32⟩
  | 113 => ⟨S_, .f32⟩
  | 114 => ⟨S8x2048, .f32⟩
  | 115 => ⟨S8x2048x1, .f32⟩
  | 116 => ⟨S8x2048x2048, .f32⟩
  | 117 => ⟨S8x2048x2048, .f32⟩
  | 118 => ⟨S8x2048x1, .f32⟩
  | 119 => ⟨S_, .f32⟩
  | 120 => ⟨S8x2048x1, .f32⟩
  | 121 => ⟨S8x2048x1, .f32⟩
  | 122 => ⟨S8x128x2048, .f32⟩
  | 123 => ⟨S2048x8x128, .f32⟩
  | 124 => ⟨S2048x1024, .f32⟩
  | 125 => ⟨S2048x8x128, .f32⟩
  | 126 => ⟨S8x128x2048, .f32⟩
  | 127 => ⟨S8x2048x2048, .f32⟩
  | _ => ⟨S2048x8x192, .f32⟩

abbrev hbmTy0_1 (i : Nat) : BufTy := match i % 128 with
  | 0 => ⟨S8x128x2048, .f32⟩
  | 1 => ⟨S2048x8x128, .f32⟩
  | 2 => ⟨S8x2048x2048, .f32⟩
  | 3 => ⟨S8x2048x2048, .f32⟩
  | 4 => ⟨S8x2048x2048, .f32⟩
  | 5 => ⟨S_, .f32⟩
  | 6 => ⟨S8x2048, .f32⟩
  | 7 => ⟨S8x2048x1, .f32⟩
  | 8 => ⟨S8x2048x1, .f32⟩
  | 9 => ⟨S8x2048x2048, .f32⟩
  | 10 => ⟨S8x2048x2048, .f32⟩
  | 11 => ⟨S_, .f32⟩
  | 12 => ⟨S8x2048, .f32⟩
  | 13 => ⟨S8x2048x2048, .f32⟩
  | 14 => ⟨S8x2048x2048, .f32⟩
  | 15 => ⟨S8x2048x2048, .f32⟩
  | 16 => ⟨S_, .f32⟩
  | 17 => ⟨S8x2048x2048, .f32⟩
  | 18 => ⟨S8x2048x2048, .f32⟩
  | 19 => ⟨S8x2048x2048, .f32⟩
  | 20 => ⟨S8x2048x2048, .f32⟩
  | 21 => ⟨S8x2048x64, .f32⟩
  | 22 => ⟨S8x2048x64, .f32⟩
  | 23 => ⟨S2048x8x64, .f32⟩
  | 24 => ⟨S8x2048x128, .f32⟩
  | 25 => ⟨S2048x8x128, .f32⟩
  | 26 => ⟨S8x2048x128, .f32⟩
  | 27 => ⟨S2048x8x128, .f32⟩
  | 28 => ⟨S2048x8x32, .f32⟩
  | 29 => ⟨S2048x8x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S_, .f32⟩
  | 42 => ⟨S2048x8x64, .f32⟩
  | 43 => ⟨S_, .f32⟩
  | 44 => ⟨S2048x8x64, .f32⟩
  | 45 => ⟨S2048x8x64, .f32⟩
  | 46 => ⟨S_, .f32⟩
  | 47 => ⟨S2048x8x192, .f32⟩
  | 48 => ⟨S_, .f32⟩
  | 49 => ⟨S2048x8x192, .f32⟩
  | 50 => ⟨S2048x8x192, .f32⟩
  | 51 => ⟨S_, .f32⟩
  | 52 => ⟨S2048x8x64, .f32⟩
  | 53 => ⟨S2048x8x256, .f32⟩
  | 54 => ⟨S8x2048x256, .f32⟩
  | 55 => ⟨S_, .f32⟩
  | 56 => ⟨S8x2048x64, .f32⟩
  | 57 => ⟨S8x2048x128, .f32⟩
  | 58 => ⟨S8x2048x256, .bf16⟩
  | 59 => ⟨S2048x1024, .f32⟩
  | 60 => ⟨S2048x1024, .bf16⟩
  | 61 => ⟨S2048x1024, .f32⟩
  | 62 => ⟨S2048x1024, .bf16⟩
  | _ => ⟨S2048x8x192, .f32⟩

abbrev hbmTy (i : Nat) : BufTy := match i / 128 with
  | 0 => hbmTy0_0 i
  | 1 => hbmTy0_1 i
  | _ => ⟨S2048x8x192, .f32⟩

abbrev bufTy : (tb : Table) → Fin (tcTables nBuf tb) → BufTy
  | .hbm, ⟨i, _⟩ => hbmTy i
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_4 : Ref sig .tc := ⟨.hbm, 77, rfl⟩
abbrev main_call1_v0 : Ref sig .tc := ⟨.hbm, 78, rfl⟩
abbrev main_v49_1 : Ref sig .tc := ⟨.hbm, 79, rfl⟩
abbrev main_call1_v2 : Ref sig .tc := ⟨.hbm, 80, rfl⟩
abbrev main_v49_0 : Ref sig .tc := ⟨.hbm, 81, rfl⟩
abbrev main_call1_cst : Ref sig .tc := ⟨.hbm, 82, rfl⟩
abbrev main_v49_2 : Ref sig .tc := ⟨.hbm, 83, rfl⟩
abbrev main_cst_5 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_6 : Ref sig .tc := ⟨.hbm, 90, rfl⟩
abbrev main_v55 : Ref sig .tc := ⟨.hbm, 91, rfl⟩
abbrev main_cst_7 : Ref sig .tc := ⟨.hbm, 92, rfl⟩
abbrev main_v56 : Ref sig .tc := ⟨.hbm, 93, rfl⟩
abbrev main_v57 : Ref sig .tc := ⟨.hbm, 94, rfl⟩
abbrev main_cst_8 : Ref sig .tc := ⟨.hbm, 95, rfl⟩
abbrev main_v58 : Ref sig .tc := ⟨.hbm, 96, rfl⟩
abbrev main_v59 : Ref sig .tc := ⟨.hbm, 97, rfl⟩
abbrev main_cst_9 : Ref sig .tc := ⟨.hbm, 98, rfl⟩
abbrev main_v60 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_cst_11 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_13 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_14 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_16 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call2_cst : Ref sig .tc := ⟨.hbm, 144, rfl⟩
abbrev main_call2_v0 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_17 : Ref sig .tc := ⟨.hbm, 169, rfl⟩
abbrev main_v121 : Ref sig .tc := ⟨.hbm, 170, rfl⟩
abbrev main_cst_18 : Ref sig .tc := ⟨.hbm, 171, rfl⟩
abbrev main_v122 : Ref sig .tc := ⟨.hbm, 172, rfl⟩
abbrev main_v123 : Ref sig .tc := ⟨.hbm, 173, rfl⟩
abbrev main_cst_19 : Ref sig .tc := ⟨.hbm, 174, rfl⟩
abbrev main_v124 : Ref sig .tc := ⟨.hbm, 175, rfl⟩
abbrev main_cst_20 : Ref sig .tc := ⟨.hbm, 176, rfl⟩
abbrev main_v125 : Ref sig .tc := ⟨.hbm, 177, rfl⟩
abbrev main_v126 : Ref sig .tc := ⟨.hbm, 178, rfl⟩
abbrev main_cst_21 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_22 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩

abbrev nD : Nat := 1
abbrev τ : Topo := Topo.v7x

variable {F : FTy → Type} [FloatOps F]
-- ==== Gup.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S2048x4x704, .bf16⟩
  | .hbm, ⟨4, _⟩ => ⟨S4x2048x704, .bf16⟩
  | .hbm, ⟨5, _⟩ => ⟨S2048x4x704, .bf16⟩
  | .hbm, ⟨6, _⟩ => ⟨S4x2048x704, .bf16⟩
  | .hbm, ⟨7, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S1x704x1024, .bf16⟩
  | .local _ .vmem, ⟨6, _⟩ => ⟨S1x704x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GupRefIdeal.lean ====
abbrev S2048x2816 : Shape := ⟨2, ![2048, 2816]⟩
abbrev S2048x1024 : Shape := ⟨2, ![2048, 1024]⟩
abbrev S_ : Shape := ⟨0, ![]⟩
abbrev S1024x5632 : Shape := ⟨2, ![1024, 5632]⟩
abbrev S2048x5632 : Shape := ⟨2, ![2048, 5632]⟩
abbrev S5632x1024 : Shape := ⟨2, ![5632, 1024]⟩
abbrev S8x704x1024 : Shape := ⟨3, ![8, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S2048x1024, .bf16⟩
  | .hbm, ⟨3, _⟩ => ⟨S_, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S8x704x1024, .f32⟩
  | .hbm, ⟨16, _⟩ => ⟨S8x704x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Gdown.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S2816x1024 : Shape := ⟨2, ![2816, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 5
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x4x704, .bf16⟩
  | .hbm, ⟨3, _⟩ => ⟨S4x2048x704, .bf16⟩
  | .hbm, ⟨4, _⟩ => ⟨S2816x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S704x1024, .bf16⟩
  | .local _ .vmem, ⟨4, _⟩ => ⟨S704x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GdownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Din.lean ====
abbrev S2048x3072 : Shape := ⟨2, ![2048, 3072]⟩
abbrev S1024x3072 : Shape := ⟨2, ![1024, 3072]⟩
abbrev S2048x1024 : Shape := ⟨2, ![2048, 1024]⟩
abbrev S1x1024 : Shape := ⟨2, ![1, 1024]⟩
abbrev S1x2048x3072 : Shape := ⟨3, ![1, 2048, 3072]⟩
abbrev S1x1024x3072 : Shape := ⟨3, ![1, 1024, 3072]⟩
abbrev S1x512x3072 : Shape := ⟨3, ![1, 512, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S2048x3072, .bf16⟩
  | .hbm, ⟨1, _⟩ => ⟨S1024x3072, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x2048x3072, .bf16⟩
  | .hbm, ⟨6, _⟩ => ⟨S1x1024x3072, .bf16⟩
  | .hbm, ⟨7, _⟩ => ⟨S2048x1024, .f32⟩
  | .hbm, ⟨8, _⟩ => ⟨S2048x1024, .bf16⟩
  | .hbm, ⟨9, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_21 : BitVec 32 := 0#32
  let v39 : BitVec 1 := Scalar.cmpi .ne v38 c0_i32_21
  v39

def k0_cond2 (i : grid0.Coords) : BitVec 1 :=
  let arg0 : BitVec 32 := BitVec.ofNat 32 (i 0).val
  let c0_i32_22 : BitVec 32 := 0#32
  let v40 : BitVec 1 := Scalar.cmpi .sgt arg0 c0_i32_22
  let v41 : BitVec 32 := Scalar.extui v40
  let c0_i32_23 : BitVec 32 := 0#32
  let v42 : BitVec 1 := Scalar.cmpi .ne v41 c0_i32_23
  v42

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DinRefIdeal.lean ====
abbrev S2048x3072 : Shape := ⟨2, ![2048, 3072]⟩
abbrev S1024x3072 : Shape := ⟨2, ![1024, 3072]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x3072, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x3072, .f32⟩
  | .hbm, ⟨25, _⟩ => ⟨S2048x3072, .f32⟩
  | .hbm, ⟨26, _⟩ => ⟨S2048x3072, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Dhf.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S1024x1024 : Shape := ⟨2, ![1024, 1024]⟩
abbrev S5632x1024 : Shape := ⟨2, ![5632, 1024]⟩
abbrev S1x8x704x1024 : Shape := ⟨4, ![1, 8, 704, 1024]⟩
abbrev S2048x4x704 : Shape := ⟨3, ![2048, 4, 704]⟩
abbrev S4x2048x704 : Shape := ⟨3, ![4, 2048, 704]⟩
abbrev S4x256x704 : Shape := ⟨3, ![4, 256, 704]⟩
abbrev S1x4x704x1024 : Shape := ⟨4, ![1, 4, 704, 1024]⟩
abbrev S256x1024 : Shape := ⟨2, ![256, 1024]⟩
abbrev S1x256x704 : Shape := ⟨3, ![1, 256, 704]⟩
abbrev S256x704 : Shape := ⟨2, ![256, 704]⟩
abbrev S1x1x704x1024 : Shape := ⟨4, ![1, 1, 704, 1024]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1024x1024, .bf16⟩
  | .hbm, ⟨7, _⟩ => ⟨S5632x1024, .bf16⟩
  | .hbm, ⟨8, _⟩ => ⟨S1x8x704x1024, .bf16⟩
  | .hbm, ⟨9, _⟩ => ⟨S2048x4x704, .bf16⟩
  | .hbm, ⟨10, _⟩ => ⟨S4x2048x704, .bf16⟩
  | .hbm, ⟨11, _⟩ => ⟨S2048x4x704, .bf16⟩
  | .hbm, ⟨12, _⟩ => ⟨S4x2048x704, .bf16⟩
  | .hbm, ⟨13, _⟩ => ⟨S2048x1024, .f32⟩
  | .hbm, ⟨14, _⟩ => ⟨S2048x1024, .bf16⟩
  | .hbm, ⟨15, _⟩ => ⟨S1x1024, .f32⟩
  | .hbm, ⟨16, _⟩ => ⟨S2048x1024, .bf16⟩
  | .local _ .vmem, ⟨0, _⟩ => ⟨S4x256x704, .bf16⟩
  | .local _ .vmem, ⟨1, _⟩ => ⟨S4x256x704, .bf16⟩
  | .local _ .vmem, ⟨2, _⟩ => ⟨S1x4x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S1x4x704x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v83 : BitVec 1 := Scalar.cmpi .eq arg0 c0_i32
  let v84 : BitVec 32 := Scalar.extui v83
  let c0_i32_80 : BitVec 32 := 0#32
  let v85 : BitVec 1 := Scalar.cmpi .ne v84 c0_i32_80
  v85

def k0_cond2 (i : grid0.Coords) : BitVec 1 :=
  let arg0 : BitVec 32 := BitVec.ofNat 32 (i 0).val
  let c0_i32_81 : BitVec 32 := 0#32
  let v86 : BitVec 1 := Scalar.cmpi .sgt arg0 c0_i32_81
  let v87 : BitVec 32 := Scalar.extui v86
  let c0_i32_82 : BitVec 32 := 0#32
  let v88 : BitVec 1 := Scalar.cmpi .ne v87 c0_i32_82
  v88

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DhfRefIdeal.lean ====
abbrev S2048x2816 : Shape := ⟨2, ![2048, 2816]⟩
abbrev S1024x5632 : Shape := ⟨2, ![1024, 5632]⟩
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1024x1024, .bf16⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1024x5632, .f32⟩
  | .hbm, ⟨27, _⟩ => ⟨S2048x5632, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x5632, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S1024x1024, .f32⟩
  | .hbm, ⟨61, _⟩ => ⟨S2048x1024, .f32⟩
  | .hbm, ⟨62, _⟩ => ⟨S2048x1024, .f32⟩
  | .hbm, ⟨63, _⟩ => ⟨S2048x1024, .bf16⟩
  | .hbm, ⟨64, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Gin.lean ====
abbrev S2048x1024 : Shape := ⟨2, ![2048, 1024]⟩
abbrev S2048x3072 : Shape := ⟨2, ![2048, 3072]⟩
abbrev S1024x3072 : Shape := ⟨2, ![1024, 3072]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x3072, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GinRefIdeal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x3072, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Dact.Finite.lean ====
/-
  The precondition read back: the arrays it tests hold real numbers.
-/
module

public import proofs.«01_k».proof.Pre_finite
public import Idealize.ShloMosaic.Lib.ReduceAll
public import Idealize.ShloMosaic.Lib.Decide
public import Idealize.ShloMosaic.Lib.Pointwise
public import Idealize.ShloMosaic.Lib.Claim

@[expose] public section

noncomputable section

namespace Cert.Pre_finite

open Idealize.ShloMosaic

/-- The relations between shapes that the predicate's operations take. -/
theorem shapes : Facts where
  bitsLt_bf16_f32 := by decide
  bcast_S_S2048x1024 := by decide
  reducesTo_S2048x1024_S_d0_1 := by decide
  h_S_ := by decide
  bcast_S_S2816x1024 := by decide
  reducesTo_S2816x1024_S_d0_1 := by decide
  bcast_S_S2048x2816 := by decide
  reducesTo_S2048x2816_S_d0_1 := by decide

/-- An extended real whose absolute value is below the infinity's pattern is real. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x with
  | bot => simp at h
  | top => simp at h
  | coe r => exact ⟨r, rfl⟩

instance : Subsingleton S_.Idx := ⟨fun a b => funext fun i => i.elim0⟩

section
variable {s : Shape} {axes : List (Fin s.rank)} (x : FVec Ideal s .bf16) (h1 : FTy.bits .bf16 < FTy.bits .f32) (h2 : S_.BroadcastsInDim s ![])
variable (h3 : s.ReducesTo axes S_) (h4 : 0 < S_.numel)

/-- Where the conjunction of all comparisons of an array's absolute values with the infinity is true, every entry is real. -/
theorem real_of_all (j : S_.Idx) (h : Host.reduce IntOp.andi (cmpf .olt (Host.absf (extf .f32 x h1)) (broadcastInDim s ![] h2 (constant S_ .f32 0x7F800000#32)))
    (constantI S_ 1 1#1) h3 h4 j = 1#1) (i : s.Idx) : ∃ r : ℝ, x i = r :=
  real_of_abs_lt (x i) (Host.reduce_andi_all _ _ _ _ j h i)
end

variable [Facts]

/-- The predicate holds of six arrays only if the first, the second and the fourth are real. -/
theorem real_of_fn (a0 : FVec Ideal S2048x1024 .bf16) (a1 : FVec Ideal S2816x1024 .bf16) (a2 a3 : FVec Ideal S2048x2816 .bf16)
    (a4 : FVec Ideal S3x2816 .f32) (a5 : FVec Ideal S2816 .f32) (h : fn a0 a1 a2 a3 a4 a5 = fun _ => 1#1) :
    (∀ i, ∃ r : ℝ, a0 i = r) ∧ (∀ i, ∃ r : ℝ, a1 i = r) ∧ ∀ i, ∃ r : ℝ, a3 i = r := by
  have h := congrFun h (fun i => i.elim0)
  unfold fn at h
  obtain ⟨h, h3⟩ := IntOp.andi_eq_one.1 h
  obtain ⟨h0, h1⟩ := IntOp.andi_eq_one.1 h
  exact ⟨real_of_all a0 _ _ _ _ _ h0, real_of_all a1 _ _ _ _ _ h1, real_of_all a3 _ _ _ _ _ h3⟩

end Cert.Pre_finite

end
-- ==== Proof.Dact.Outs.lean ====
/-
  The kernel's four output blocks at a grid point, as terms of the point's input blocks: the payloads its stores carry.
-/
module

public import proofs.«01_k».proof.Proof.Gen.KernelIdeal.Value

@[expose] public section

noncomputable section

namespace Cert.KernelIdeal.Dact

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD) (t : Fin cfg0.N)

theorem zero3 : (![0, 0, 0] : Fin 3 → Nat) = fun _ => 0 := funext fun a => by fin_cases a <;> rfl
theorem zero2 : (![0, 0] : Fin 2 → Nat) = fun _ => 0 := funext fun a => by fin_cases a <;> rfl
theorem zero4 : (![0, 0, 0, 0] : Fin 4 → Nat) = fun _ => 0 := funext fun a => by fin_cases a <;> rfl

/-- The rows of `dh · w_downᵀ` of the point's tile and of its halo. -/
def da : FVec F S528x704 .f32 := k0_pay3 (grid0.coords t) (iblk m c 0 t) (iblk m c 1 t) (iblk m c 2 t)
/-- The tile of `g` between the rows before it and the rows after it. -/
def ext : FVec F S544x704 .f32 := k0_pay4 (grid0.coords t) (iblk m c 4 t) (iblk m c 3 t) (iblk m c 5 t)
/-- `g` two rows earlier. -/
def x2 : FVec F S528x704 .f32 := k0_pay5 (grid0.coords t) (iblk m c 4 t) (iblk m c 3 t) (iblk m c 5 t)
/-- `g` one row earlier. -/
def x1 : FVec F S528x704 .f32 := k0_pay6 (grid0.coords t) (iblk m c 4 t) (iblk m c 3 t) (iblk m c 5 t)
/-- The convolved gate. -/
def gc : FVec F S528x704 .f32 := k0_pay9 (ext m c t) (x2 m c t) (x1 m c t) (iblk m c 8 t) (iblk m c 9 t)
/-- Its sigmoid. -/
def sg : FVec F S528x704 .f32 := k0_pay10 (ext m c t) (x2 m c t) (x1 m c t) (iblk m c 8 t) (iblk m c 9 t)
/-- Its silu. -/
def silu : FVec F S528x704 .f32 := k0_pay11 (ext m c t) (x2 m c t) (x1 m c t) (iblk m c 8 t) (iblk m c 9 t)
/-- The gradient of the silu's result. -/
def dav : FVec F S528x704 .f32 := k0_pay13 (da m c t) (iblk m c 6 t) (iblk m c 7 t)
/-- The point's part of the taps' gradient. -/
def partW : FVec F S3x704 .f32 := k0_pay17 (x2 m c t) (x1 m c t) (k0_pay7 (ext m c t)) (sg m c t) (silu m c t) (dav m c t)
/-- The point's part of the bias's gradient. -/
def partB : FVec F S1x704 .f32 := k0_pay18 (sg m c t) (silu m c t) (dav m c t)

/-- What the point leaves of the gate's gradient. -/
theorem outs_dg : (outsAt0 m c t.val t.isLt).1 = k0_pay16 (k0_pay8 (iblk m c 8 t)) (sg m c t) (silu m c t) (dav m c t) := by
  by_cases h : t.val % 4 = 0
  · rw [outsAt0_A m c t h (by omega)]
    dsimp only
    unfold out0_A_10
    rw [View.read_writes_eq_canon _ _ _ (fun y => cover0_A_10 (y := y) ..)]
    unfold kernelRun0_A
    dsimp only
    sl_unfold_words
    rw [View.canon_unit_zero zero3]
    simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, (hs0_12 t).read_unread, (hs0_13 t).read_unread,
        View.ld_unit_zero (S := S512x1024) zero2, View.ld_unit_zero (S := S16x1024) zero2, View.ld_unit_zero (S := S1x1x704x1024) zero4,
        View.ld_unit_zero (S := S1x512x704) zero3, View.ld_unit_zero (S := S1x16x704) zero3, View.ld_unit_zero (S := S1x3x704) zero3,
        View.ld_unit_zero (S := S1x1x704) zero3]
    rfl
  · rw [outsAt0_B m c t h (by omega)]
    dsimp only
    unfold out0_B_10
    rw [View.read_writes_eq_canon _ _ _ (fun y => cover0_B_10 (y := y) ..)]
    unfold kernelRun0_B
    dsimp only
    sl_unfold_words
    rw [View.canon_unit_zero zero3]
    simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, (hs0_12 t).read_unread, (hs0_13 t).read_unread,
        View.ld_unit_zero (S := S512x1024) zero2, View.ld_unit_zero (S := S16x1024) zero2, View.ld_unit_zero (S := S1x1x704x1024) zero4,
        View.ld_unit_zero (S := S1x512x704) zero3, View.ld_unit_zero (S := S1x16x704) zero3, View.ld_unit_zero (S := S1x3x704) zero3,
        View.ld_unit_zero (S := S1x1x704) zero3]
    rfl

/-- What the point leaves of the value branch's gradient. -/
theorem outs_dv : (outsAt0 m c t.val t.isLt).2.1 = k0_pay12 (da m c t) (ext m c t) (x2 m c t) (x1 m c t) (iblk m c 8 t) (iblk m c 9 t) := by
  by_cases h : t.val % 4 = 0
  · rw [outsAt0_A m c t h (by omega)]
    dsimp only
    unfold out0_A_11
    rw [View.read_writes_eq_canon _ _ _ (fun y => cover0_A_11 (y := y) ..)]
    unfold kernelRun0_A
    dsimp only
    sl_unfold_words
    rw [View.canon_unit_zero zero3]
    simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, (hs0_12 t).read_unread, (hs0_13 t).read_unread,
        View.ld_unit_zero (S := S512x1024) zero2, View.ld_unit_zero (S := S16x1024) zero2, View.ld_unit_zero (S := S1x1x704x1024) zero4,
        View.ld_unit_zero (S := S1x512x704) zero3, View.ld_unit_zero (S := S1x16x704) zero3, View.ld_unit_zero (S := S1x3x704) zero3,
        View.ld_unit_zero (S := S1x1x704) zero3]
    rfl
  · rw [outsAt0_B m c t h (by omega)]
    dsimp only
    unfold out0_B_11
    rw [View.read_writes_eq_canon _ _ _ (fun y => cover0_B_11 (y := y) ..)]
    unfold kernelRun0_B
    dsimp only
    sl_unfold_words
    rw [View.canon_unit_zero zero3]
    simp only [View.readAt_eq_ld, (hs0_0 t).read_unread, (hs0_1 t).read_unread, (hs0_2 t).read_unread, (hs0_3 t).read_unread, (hs0_4 t).read_unread, (hs0_5 t).read_unread,
        (hs0_6 t).read_unread, (hs0_7 t).read_unread, (hs0_8 t).read_unread, (hs0_9 t).read_unread, (hs0_12 t).read_unread, (hs0_13 t).read_unread,
        View.ld_unit_zero (S := S512x1024) zero2, View.ld_unit_zero (S := S16x1024) zero2, View.ld_unit_zero (S := S1x1x704x1024) zero4,
        View.ld_unit_zero (S := S1x512x704) zero3, View.ld_unit_zero (S := S1x16x704) zero3, View.ld_unit_zero (S := S1x3x704) zero3,
        View.ld_unit_zero (S := S1x1x704) zero3]
    rfl

/-- At a block column's first row tile the taps' gradient is the point's part. -/
theorem outs_dw_first (h : t.val % 4 = 0) : (outsAt0 m c t.val t.isLt).2.2.1 = shapeCast S1x3x704 (partW m c t) shapeCasts_S3x704_S1x3x704 := by
  rw [outsAt0_A m c t h (by omega)]
  dsimp only
  unfold out0_A_12
  rw [View.read_writes_eq_canon _ _ _ (fun y => cover0_A_12 (y := y) ..)]
  unfold kernelRun0_A
  dsimp only
  sl_unfold_words
  rw [View.canon_unit_zero zero3]
  simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_12 t).read_unread, (hs0_13 t).read_unread,
      View.ld_unit_zero (S := S512x1024) zero2, View.ld_unit_zero (S := S16x1024) zero2, View.ld_unit_zero (S := S1x1x704x1024) zero4,
      View.ld_unit_zero (S := S1x512x704) zero3, View.ld_unit_zero (S := S1x16x704) zero3, View.ld_unit_zero (S := S1x3x704) zero3,
      View.ld_unit_zero (S := S1x1x704) zero3]
  rfl

/-- At a later row tile it is what the tile before left, and the point's part. -/
theorem outs_dw_next (h : ¬t.val % 4 = 0) : (outsAt0 m c t.val t.isLt).2.2.1 = k0_pay1 (partW m c t) (outsAt0 m c (t.val - 1) (Nat.lt_of_le_of_lt (Nat.sub_le _ _) t.isLt)).2.2.1 := by
  rw [outsAt0_B m c t h (by omega)]
  dsimp only
  unfold out0_B_12
  rw [View.read_writes_eq_canon _ _ _ (fun y => cover0_B_12 (y := y) ..)]
  unfold kernelRun0_B
  dsimp only
  sl_unfold_words
  rw [View.canon_unit_zero zero3]
  simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_12 t).read_unread, (hs0_13 t).read_unread,
      View.ld_unit_zero (S := S512x1024) zero2, View.ld_unit_zero (S := S16x1024) zero2, View.ld_unit_zero (S := S1x1x704x1024) zero4,
      View.ld_unit_zero (S := S1x512x704) zero3, View.ld_unit_zero (S := S1x16x704) zero3, View.ld_unit_zero (S := S1x3x704) zero3,
      View.ld_unit_zero (S := S1x1x704) zero3]
  rfl

/-- At a block column's first row tile the bias's gradient is the point's part. -/
theorem outs_db_first (h : t.val % 4 = 0) : (outsAt0 m c t.val t.isLt).2.2.2 = shapeCast S1x1x704 (partB m c t) shapeCasts_S1x704_S1x1x704 := by
  rw [outsAt0_A m c t h (by omega)]
  dsimp only
  unfold out0_A_13
  rw [View.read_writes_eq_canon _ _ _ (fun y => cover0_A_13 (y := y) ..)]
  unfold kernelRun0_A
  dsimp only
  sl_unfold_words
  rw [View.canon_unit_zero zero3]
  simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_12 t).read_unread, (hs0_13 t).read_unread,
      View.ld_unit_zero (S := S512x1024) zero2, View.ld_unit_zero (S := S16x1024) zero2, View.ld_unit_zero (S := S1x1x704x1024) zero4,
      View.ld_unit_zero (S := S1x512x704) zero3, View.ld_unit_zero (S := S1x16x704) zero3, View.ld_unit_zero (S := S1x3x704) zero3,
      View.ld_unit_zero (S := S1x1x704) zero3]
  rfl

/-- At a later row tile it is what the tile before left, and the point's part. -/
theorem outs_db_next (h : ¬t.val % 4 = 0) : (outsAt0 m c t.val t.isLt).2.2.2 = k0_pay2 (partB m c t) (outsAt0 m c (t.val - 1) (Nat.lt_of_le_of_lt (Nat.sub_le _ _) t.isLt)).2.2.2 := by
  rw [outsAt0_B m c t h (by omega)]
  dsimp only
  unfold out0_B_13
  rw [View.read_writes_eq_canon _ _ _ (fun y => cover0_B_13 (y := y) ..)]
  unfold kernelRun0_B
  dsimp only
  sl_unfold_words
  rw [View.canon_unit_zero zero3]
  simp only [View.readAt_eq_ld, (hs0_0 t).read_unread, (hs0_1 t).read_unread, (hs0_2 t).read_unread, (hs0_3 t).read_unread, (hs0_4 t).read_unread, (hs0_5 t).read_unread,
      (hs0_6 t).read_unread, (hs0_7 t).read_unread, (hs0_8 t).read_unread, (hs0_9 t).read_unread, (hs0_12 t).read_unread, (hs0_13 t).read_unread,
      View.ld_unit_zero (S := S512x1024) zero2, View.ld_unit_zero (S := S16x1024) zero2, View.ld_unit_zero (S := S1x1x704x1024) zero4,
      View.ld_unit_zero (S := S1x512x704) zero3, View.ld_unit_zero (S := S1x16x704) zero3, View.ld_unit_zero (S := S1x3x704) zero3,
      View.ld_unit_zero (S := S1x1x704) zero3]
  rfl

end Cert.KernelIdeal.Dact

end
-- ==== Proof.Dact.Blocks.lean ====
/-
  What the blocks the kernel's windows stage hold, as entries of the launched arguments.
-/
module

public import proofs.«01_k».proof.Proof.Dact.Outs
public import Idealize.ShloMosaic.Lib.Pointwise

@[expose] public section

noncomputable section

namespace Cert.KernelIdeal.Dact

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The grid has sixteen points. -/
theorem lt16 (t : Fin cfg0.N) : t.val < 16 := Nat.lt_of_lt_of_eq t.isLt N_0

/-- Row `r` of row tile `t % 4`. -/
def row (t : Fin cfg0.N) (r : Fin 512) : Fin 2048 := ⟨512 * (t.val % 4) + r.val, by have := r.isLt; omega⟩
/-- Column `l` of column block `t / 4`. -/
def col (t : Fin cfg0.N) (l : Fin 704) : Fin 2816 := ⟨t.val / 4 * 704 + l.val, by have := lt16 t; have := l.isLt; omega⟩
/-- Row `r` of the sixteen rows before the tile (of the first sixteen rows for the first tile). -/
def prevRow (t : Fin cfg0.N) (r : Fin 16) : Fin 2048 := ⟨16 * (32 * (t.val % 4) - 1) + r.val, by have := r.isLt; omega⟩
/-- Row `r` of the sixteen rows after the tile (of the last sixteen rows for the last tile). -/
def nextRow (t : Fin cfg0.N) (r : Fin 16) : Fin 2048 := ⟨16 * min (32 * (t.val % 4 + 1)) 127 + r.val, by have := r.isLt; omega⟩

/-- The down weights, their rows cut into four blocks. -/
theorem V_main_v0 : V m c main_v0 = shapeCast S1x4x704x1024 (m ((c : Thread nD τ).loc main_arg1)) shapeCasts_S2816x1024_S1x4x704x1024 := by
  show StableHlo.after hostOps0 _ (Proc.devRef .tc main_v0) = _
  after_results
  rfl

/-- The gate, its columns cut into four blocks. -/
theorem V_main_v2 : V m c main_v2 = transpose S4x2048x704 [1, 0, 2] (shapeCast S2048x4x704 (m ((c : Thread nD τ).loc main_arg2)) shapeCasts_S2048x2816_S2048x4x704) transposes_S2048x4x704_S4x2048x704_1_0_2 := by
  show StableHlo.after hostOps0 _ (Proc.devRef .tc main_v2) = _
  after_results
  rfl

/-- The value, its columns cut into four blocks. -/
theorem V_main_v4 : V m c main_v4 = transpose S4x2048x704 [1, 0, 2] (shapeCast S2048x4x704 (m ((c : Thread nD τ).loc main_arg3)) shapeCasts_S2048x2816_S2048x4x704) transposes_S2048x4x704_S4x2048x704_1_0_2 := by
  show StableHlo.after hostOps0 _ (Proc.devRef .tc main_v4) = _
  after_results
  rfl

/-- The taps, their columns cut into four blocks. -/
theorem V_main_v6 : V m c main_v6 = transpose S4x3x704 [1, 0, 2] (shapeCast S3x4x704 (m ((c : Thread nD τ).loc main_arg4)) shapeCasts_S3x2816_S3x4x704) transposes_S3x4x704_S4x3x704_1_0_2 := by
  show StableHlo.after hostOps0 _ (Proc.devRef .tc main_v6) = _
  after_results
  rfl

/-- The bias, cut into four blocks. -/
theorem V_main_v7 : V m c main_v7 = shapeCast S4x1x704 (m ((c : Thread nD τ).loc main_arg5)) shapeCasts_S2816_S4x1x704 := by
  show StableHlo.after hostOps0 _ (Proc.devRef .tc main_v7) = _
  after_results
  rfl

/-- Where window 0 stands at a point. -/
theorem index0 : ∀ t : Fin cfg0.N, win0_0.index t 0 = t.val % 4 ∧ win0_0.index t 1 = 0 := by decide +kernel

/-- Where window 1 stands at a point. -/
theorem index1 : ∀ t : Fin cfg0.N, win0_1.index t 0 = min (32 * (t.val % 4 + 1)) 127 ∧ win0_1.index t 1 = 0 := by decide +kernel

/-- Where window 2 stands at a point. -/
theorem index2 : ∀ t : Fin cfg0.N, win0_2.index t 0 = 0 ∧ win0_2.index t 1 = t.val / 4 ∧ win0_2.index t 2 = 0 ∧ win0_2.index t 3 = 0 := by decide +kernel

/-- Where window 3 stands at a point. -/
theorem index3 : ∀ t : Fin cfg0.N, win0_3.index t 0 = t.val / 4 ∧ win0_3.index t 1 = t.val % 4 ∧ win0_3.index t 2 = 0 := by decide +kernel

/-- Where window 4 stands at a point. -/
theorem index4 : ∀ t : Fin cfg0.N, win0_4.index t 0 = t.val / 4 ∧ win0_4.index t 1 = 32 * (t.val % 4) - 1 ∧ win0_4.index t 2 = 0 := by decide +kernel

/-- Where window 5 stands at a point. -/
theorem index5 : ∀ t : Fin cfg0.N, win0_5.index t 0 = t.val / 4 ∧ win0_5.index t 1 = min (32 * (t.val % 4 + 1)) 127 ∧ win0_5.index t 2 = 0 := by decide +kernel

/-- Where window 6 stands at a point. -/
theorem index6 : ∀ t : Fin cfg0.N, win0_6.index t 0 = t.val / 4 ∧ win0_6.index t 1 = t.val % 4 ∧ win0_6.index t 2 = 0 := by decide +kernel

/-- Where window 7 stands at a point. -/
theorem index7 : ∀ t : Fin cfg0.N, win0_7.index t 0 = t.val / 4 ∧ win0_7.index t 1 = min (32 * (t.val % 4 + 1)) 127 ∧ win0_7.index t 2 = 0 := by decide +kernel

/-- Where window 8 stands at a point. -/
theorem index8 : ∀ t : Fin cfg0.N, win0_8.index t 0 = t.val / 4 ∧ win0_8.index t 1 = 0 ∧ win0_8.index t 2 = 0 := by decide +kernel

/-- Where window 9 stands at a point. -/
theorem index9 : ∀ t : Fin cfg0.N, win0_9.index t 0 = t.val / 4 ∧ win0_9.index t 1 = 0 ∧ win0_9.index t 2 = 0 := by decide +kernel

/-- Where window 10 stands at a point. -/
theorem index10 : ∀ t : Fin cfg0.N, win0_10.index t 0 = t.val / 4 ∧ win0_10.index t 1 = t.val % 4 ∧ win0_10.index t 2 = 0 := by decide +kernel

/-- Where window 11 stands at a point. -/
theorem index11 : ∀ t : Fin cfg0.N, win0_11.index t 0 = t.val / 4 ∧ win0_11.index t 1 = t.val % 4 ∧ win0_11.index t 2 = 0 := by decide +kernel

/-- Where window 12 stands at a point. -/
theorem index12 : ∀ t : Fin cfg0.N, win0_12.index t 0 = t.val / 4 ∧ win0_12.index t 1 = 0 ∧ win0_12.index t 2 = 0 := by decide +kernel

/-- Where window 13 stands at a point. -/
theorem index13 : ∀ t : Fin cfg0.N, win0_13.index t 0 = t.val / 4 ∧ win0_13.index t 1 = 0 ∧ win0_13.index t 2 = 0 := by decide +kernel

/-- What window 0 stages. -/
theorem iblk0 (t : Fin cfg0.N) (r : Fin 512) (d : Fin 1024) :
    (iblk m c 0 t : Vec F S512x1024 .bf16) (ix2 r d) = ((m ((c : Thread nD τ).loc main_arg0)) : Vec F _ .bf16) (ix2 (row t r) d) := by
  unfold iblk
  rw [View.read_apply]
  have e : ((win0_0.blk t).view.emb (ix2 r d)) = (ix2 (row t r) d) := funext fun a => Fin.ext (match a with
    | ⟨0,_⟩ => by show win0_0.index t 0 * 512 + 1 * (ix2 r d 0).val = _; simp [index0 t, row, col, prevRow, nextRow] <;> omega
    | ⟨1,_⟩ => by show win0_0.index t 1 * 1024 + 1 * (ix2 r d 1).val = _; simp [index0 t, row, col, prevRow, nextRow])
  show V m c main_arg0 ((win0_0.blk t).view.emb (ix2 r d)) = _
  rw [e, V_main_arg0]

/-- What window 1 stages. -/
theorem iblk1 (t : Fin cfg0.N) (r : Fin 16) (d : Fin 1024) :
    (iblk m c 1 t : Vec F S16x1024 .bf16) (ix2 r d) = ((m ((c : Thread nD τ).loc main_arg0)) : Vec F _ .bf16) (ix2 (nextRow t r) d) := by
  unfold iblk
  rw [View.read_apply]
  have e : ((win0_1.blk t).view.emb (ix2 r d)) = (ix2 (nextRow t r) d) := funext fun a => Fin.ext (match a with
    | ⟨0,_⟩ => by show win0_1.index t 0 * 16 + 1 * (ix2 r d 0).val = _; simp [index1 t, row, col, prevRow, nextRow] <;> omega
    | ⟨1,_⟩ => by show win0_1.index t 1 * 1024 + 1 * (ix2 r d 1).val = _; simp [index1 t, row, col, prevRow, nextRow])
  show V m c main_arg0 ((win0_1.blk t).view.emb (ix2 r d)) = _
  rw [e, V_main_arg0]

/-- What window 2 stages. -/
theorem iblk2 (t : Fin cfg0.N) (l : Fin 704) (d : Fin 1024) :
    (iblk m c 2 t : Vec F S1x1x704x1024 .bf16) (ix4 0 0 l d) = ((m ((c : Thread nD τ).loc main_arg1)) : Vec F _ .bf16) (ix2 (col t l) d) := by
  unfold iblk
  rw [View.read_apply]
  have e : ((win0_2.blk t).view.emb (ix4 0 0 l d)) = (ix4 0 ⟨t.val / 4, by have := lt16 t; omega⟩ l d) := funext fun a => Fin.ext (match a with
    | ⟨0,_⟩ => by show win0_2.index t 0 * 1 + 1 * (ix4 0 0 l d 0).val = _; simp [index2 t, row, col, prevRow, nextRow]
    | ⟨1,_⟩ => by show win0_2.index t 1 * 1 + 1 * (ix4 0 0 l d 1).val = _; simp [index2 t, row, col, prevRow, nextRow]
    | ⟨2,_⟩ => by show win0_2.index t 2 * 704 + 1 * (ix4 0 0 l d 2).val = _; simp [index2 t, row, col, prevRow, nextRow]
    | ⟨3,_⟩ => by show win0_2.index t 3 * 1024 + 1 * (ix4 0 0 l d 3).val = _; simp [index2 t, row, col, prevRow, nextRow])
  show V m c main_v0 ((win0_2.blk t).view.emb (ix4 0 0 l d)) = _
  rw [e, V_main_v0]
  exact shapeCast_apply _ _ _ _ (by
    refine (Shape.rowMajor_val_two _).trans (Eq.trans ?_ (Shape.rowMajor_val_four _).symm)
    simp [col])

/-- What window 3 stages. -/
theorem iblk3 (t : Fin cfg0.N) (r : Fin 512) (l : Fin 704) :
    (iblk m c 3 t : Vec F S1x512x704 .bf16) (ix3 0 r l) = ((m ((c : Thread nD τ).loc main_arg2)) : Vec F _ .bf16) (ix2 (row t r) (col t l)) := by
  unfold iblk
  rw [View.read_apply]
  have e : ((win0_3.blk t).view.emb (ix3 0 r l)) = (ix3 ⟨t.val / 4, by have := lt16 t; omega⟩ (row t r) l) := funext fun a => Fin.ext (match a with
    | ⟨0,_⟩ => by show win0_3.index t 0 * 1 + 1 * (ix3 0 r l 0).val = _; simp [index3 t, row, col, prevRow, nextRow]
    | ⟨1,_⟩ => by show win0_3.index t 1 * 512 + 1 * (ix3 0 r l 1).val = _; simp [index3 t, row, col, prevRow, nextRow] <;> omega
    | ⟨2,_⟩ => by show win0_3.index t 2 * 704 + 1 * (ix3 0 r l 2).val = _; simp [index3 t, row, col, prevRow, nextRow])
  show V m c main_v2 ((win0_3.blk t).view.emb (ix3 0 r l)) = _
  rw [e, V_main_v2]
  pointwise
  rfl

/-- What window 4 stages. -/
theorem iblk4 (t : Fin cfg0.N) (r : Fin 16) (l : Fin 704) :
    (iblk m c 4 t : Vec F S1x16x704 .bf16) (ix3 0 r l) = ((m ((c : Thread nD τ).loc main_arg2)) : Vec F _ .bf16) (ix2 (prevRow t r) (col t l)) := by
  unfold iblk
  rw [View.read_apply]
  have e : ((win0_4.blk t).view.emb (ix3 0 r l)) = (ix3 ⟨t.val / 4, by have := lt16 t; omega⟩ (prevRow t r) l) := funext fun a => Fin.ext (match a with
    | ⟨0,_⟩ => by show win0_4.index t 0 * 1 + 1 * (ix3 0 r l 0).val = _; simp [index4 t, row, col, prevRow, nextRow]
    | ⟨1,_⟩ => by show win0_4.index t 1 * 16 + 1 * (ix3 0 r l 1).val = _; simp [index4 t, row, col, prevRow, nextRow] <;> omega
    | ⟨2,_⟩ => by show win0_4.index t 2 * 704 + 1 * (ix3 0 r l 2).val = _; simp [index4 t, row, col, prevRow, nextRow])
  show V m c main_v2 ((win0_4.blk t).view.emb (ix3 0 r l)) = _
  rw [e, V_main_v2]
  pointwise
  rfl

/-- What window 5 stages. -/
theorem iblk5 (t : Fin cfg0.N) (r : Fin 16) (l : Fin 704) :
    (iblk m c 5 t : Vec F S1x16x704 .bf16) (ix3 0 r l) = ((m ((c : Thread nD τ).loc main_arg2)) : Vec F _ .bf16) (ix2 (nextRow t r) (col t l)) := by
  unfold iblk
  rw [View.read_apply]
  have e : ((win0_5.blk t).view.emb (ix3 0 r l)) = (ix3 ⟨t.val / 4, by have := lt16 t; omega⟩ (nextRow t r) l) := funext fun a => Fin.ext (match a with
    | ⟨0,_⟩ => by show win0_5.index t 0 * 1 + 1 * (ix3 0 r l 0).val = _; simp [index5 t, row, col, prevRow, nextRow]
    | ⟨1,_⟩ => by show win0_5.index t 1 * 16 + 1 * (ix3 0 r l 1).val = _; simp [index5 t, row, col, prevRow, nextRow] <;> omega
    | ⟨2,_⟩ => by show win0_5.index t 2 * 704 + 1 * (ix3 0 r l 2).val = _; simp [index5 t, row, col, prevRow, nextRow])
  show V m c main_v2 ((win0_5.blk t).view.emb (ix3 0 r l)) = _
  rw [e, V_main_v2]
  pointwise
  rfl

/-- What window 6 stages. -/
theorem iblk6 (t : Fin cfg0.N) (r : Fin 512) (l : Fin 704) :
    (iblk m c 6 t : Vec F S1x512x704 .bf16) (ix3 0 r l) = ((m ((c : Thread nD τ).loc main_arg3)) : Vec F _ .bf16) (ix2 (row t r) (col t l)) := by
  unfold iblk
  rw [View.read_apply]
  have e : ((win0_6.blk t).view.emb (ix3 0 r l)) = (ix3 ⟨t.val / 4, by have := lt16 t; omega⟩ (row t r) l) := funext fun a => Fin.ext (match a with
    | ⟨0,_⟩ => by show win0_6.index t 0 * 1 + 1 * (ix3 0 r l 0).val = _; simp [index6 t, row, col, prevRow, nextRow]
    | ⟨1,_⟩ => by show win0_6.index t 1 * 512 + 1 * (ix3 0 r l 1).val = _; simp [index6 t, row, col, prevRow, nextRow] <;> omega
    | ⟨2,_⟩ => by show win0_6.index t 2 * 704 + 1 * (ix3 0 r l 2).val = _; simp [index6 t, row, col, prevRow, nextRow])
  show V m c main_v4 ((win0_6.blk t).view.emb (ix3 0 r l)) = _
  rw [e, V_main_v4]
  pointwise
  rfl

/-- What window 7 stages. -/
theorem iblk7 (t : Fin cfg0.N) (r : Fin 16) (l : Fin 704) :
    (iblk m c 7 t : Vec F S1x16x704 .bf16) (ix3 0 r l) = ((m ((c : Thread nD τ).loc main_arg3)) : Vec F _ .bf16) (ix2 (nextRow t r) (col t l)) := by
  unfold iblk
  rw [View.read_apply]
  have e : ((win0_7.blk t).view.emb (ix3 0 r l)) = (ix3 ⟨t.val / 4, by have := lt16 t; omega⟩ (nextRow t r) l) := funext fun a => Fin.ext (match a with
    | ⟨0,_⟩ => by show win0_7.index t 0 * 1 + 1 * (ix3 0 r l 0).val = _; simp [index7 t, row, col, prevRow, nextRow]
    | ⟨1,_⟩ => by show win0_7.index t 1 * 16 + 1 * (ix3 0 r l 1).val = _; simp [index7 t, row, col, prevRow, nextRow] <;> omega
    | ⟨2,_⟩ => by show win0_7.index t 2 * 704 + 1 * (ix3 0 r l 2).val = _; simp [index7 t, row, col, prevRow, nextRow])
  show V m c main_v4 ((win0_7.blk t).view.emb (ix3 0 r l)) = _
  rw [e, V_main_v4]
  pointwise
  rfl

/-- What window 8 stages. -/
theorem iblk8 (t : Fin cfg0.N) (k : Fin 3) (l : Fin 704) :
    (iblk m c 8 t : Vec F S1x3x704 .f32) (ix3 0 k l) = ((m ((c : Thread nD τ).loc main_arg4)) : Vec F _ .f32) (ix2 k (col t l)) := by
  unfold iblk
  rw [View.read_apply]
  have e : ((win0_8.blk t).view.emb (ix3 0 k l)) = (ix3 ⟨t.val / 4, by have := lt16 t; omega⟩ k l) := funext fun a => Fin.ext (match a with
    | ⟨0,_⟩ => by show win0_8.index t 0 * 1 + 1 * (ix3 0 k l 0).val = _; simp [index8 t, row, col, prevRow, nextRow]
    | ⟨1,_⟩ => by show win0_8.index t 1 * 3 + 1 * (ix3 0 k l 1).val = _; simp [index8 t, row, col, prevRow, nextRow]
    | ⟨2,_⟩ => by show win0_8.index t 2 * 704 + 1 * (ix3 0 k l 2).val = _; simp [index8 t, row, col, prevRow, nextRow])
  show V m c main_v6 ((win0_8.blk t).view.emb (ix3 0 k l)) = _
  rw [e, V_main_v6]
  pointwise
  rfl

/-- What window 9 stages. -/
theorem iblk9 (t : Fin cfg0.N) (l : Fin 704) :
    (iblk m c 9 t : Vec F S1x1x704 .f32) (ix3 0 0 l) = ((m ((c : Thread nD τ).loc main_arg5)) : Vec F _ .f32) (ix1 (col t l)) := by
  unfold iblk
  rw [View.read_apply]
  have e : ((win0_9.blk t).view.emb (ix3 0 0 l)) = (ix3 ⟨t.val / 4, by have := lt16 t; omega⟩ 0 l) := funext fun a => Fin.ext (match a with
    | ⟨0,_⟩ => by show win0_9.index t 0 * 1 + 1 * (ix3 0 0 l 0).val = _; simp [index9 t, row, col, prevRow, nextRow]
    | ⟨1,_⟩ => by show win0_9.index t 1 * 1 + 1 * (ix3 0 0 l 1).val = _; simp [index9 t, row, col, prevRow, nextRow]
    | ⟨2,_⟩ => by show win0_9.index t 2 * 704 + 1 * (ix3 0 0 l 2).val = _; simp [index9 t, row, col, prevRow, nextRow])
  show V m c main_v7 ((win0_9.blk t).view.emb (ix3 0 0 l)) = _
  rw [e, V_main_v7]
  pointwise
  rfl

end Cert.KernelIdeal.Dact

end
-- ==== Proof.Dact.Spec.lean ====
/-
  The mathematics both programs are read as: the gradient of a gated, causally convolved feed-forward layer, entry by
  entry over the extended reals.
-/
module

public import Idealize.ShloMosaic.Lib.Pointwise

@[expose] public section

noncomputable section

namespace Cert.Dact

open Idealize.ShloMosaic

variable (dh : Fin 2048 → Fin 1024 → EReal) (wd : Fin 2816 → Fin 1024 → EReal) (g v : Fin 2048 → Fin 2816 → EReal)
variable (cw : Fin 3 → Fin 2816 → EReal) (cb : Fin 2816 → EReal)

/-- Row `t` of the gate below two rows of zeros. -/
def gp (t : ℕ) (c : Fin 2816) : EReal := if h : 2 ≤ t ∧ t < 2050 then g ⟨t - 2, by omega⟩ c else 0

/-- The gradient that reaches the product of silu and value: an entry of `dh · w_downᵀ`. -/
def A (t : Fin 2048) (c : Fin 2816) : EReal := ∑ d, dh t d * wd c d

/-- The gate convolved along the rows, plus its bias. -/
def X (t : ℕ) (c : Fin 2816) : EReal := ((gp g t c * cw 0 c + gp g (t + 1) c * cw 1 c) + gp g (t + 2) c * cw 2 c) + cb c

/-- The sigmoid as a hyperbolic tangent. -/
def tsig (x : EReal) : EReal := Ideal.ofBits .f32 0x3F000000#32 * Ideal.tanh (Ideal.ofBits .f32 0x3F000000#32 * x) + Ideal.ofBits .f32 0x3F000000#32

/-- The gradient of the convolved gate, for a sigmoid `σ`; zero below the last row. -/
def gradAt (σ : EReal → EReal) (t : ℕ) (c : Fin 2816) : EReal :=
  if h : t < 2048 then (A dh wd ⟨t, h⟩ c * v ⟨t, h⟩ c) * (σ (X g cw cb t c) + (X g cw cb t c * σ (X g cw cb t c)) * (1 - σ (X g cw cb t c))) else 0

/-- Column `l` of column block `j`. -/
def blockCol (j : Fin 4) (l : Fin 704) : Fin 2816 := ⟨j.val * 704 + l.val, by have := j.isLt; have := l.isLt; omega⟩

/-- The gradient of the gate: the taps' transpose applied to the gradient of the convolved gate. -/
def DG (σ : EReal → EReal) (t : ℕ) (c : Fin 2816) : EReal :=
  (gradAt dh wd g v cw cb σ t c * cw 2 c + gradAt dh wd g v cw cb σ (t + 1) c * cw 1 c) + gradAt dh wd g v cw cb σ (t + 2) c * cw 0 c

/-- The gradient of the value. -/
def DV (σ : EReal → EReal) (t : Fin 2048) (c : Fin 2816) : EReal :=
  A dh wd t c * (X g cw cb t.val c * σ (X g cw cb t.val c))

/-- The gradient of tap `k`. -/
def DW (σ : EReal → EReal) (k : Fin 3) (c : Fin 2816) : EReal :=
  ∑ t : Fin 2048, gradAt dh wd g v cw cb σ t.val c * gp g (t.val + k.val) c

/-- The gradient of the bias. -/
def DB (σ : EReal → EReal) (c : Fin 2816) : EReal := ∑ t : Fin 2048, gradAt dh wd g v cw cb σ t.val c

/-- A sum over the rows, tile by tile. -/
theorem sum_tiles (f : ℕ → EReal) : (∑ i ∈ Finset.range 4, ∑ r : Fin 512, f (512 * i + r.val)) = ∑ t : Fin 2048, f t.val := by
  rw [Finset.sum_range, ← Fintype.sum_prod_type' (f := fun (i : Fin 4) (r : Fin 512) => f (512 * i.val + r.val))]
  refine Fintype.sum_equiv (finProdFinEquiv (m := 4) (n := 512)) _ _ fun p => ?_
  refine congrArg f ?_
  show _ = p.2.val + 512 * p.1.val
  omega

end Cert.Dact

end
-- ==== Proof.Dact.Point.lean ====
/-
  The values one grid point of the kernel computes, entry by entry over the extended reals, as the mathematics of
  Spec.lean at the rows and columns the point works on.
-/
module

public import proofs.«01_k».proof.Proof.Dact.Blocks
public import proofs.«01_k».proof.Proof.Dact.Spec

@[expose] public section

noncomputable section

namespace Cert.KernelIdeal.Dact

open Cert.KernelIdeal Cert.KernelIdeal.Gen Idealize.ShloMosaic Idealize.ShloMosaic.TcCoe Idealize.SL.Sem
open Cert.Dact

variable (m : (ℓ : Loc nD τ sig) → Buf (Elt Ideal) ℓ) (c : Dev nD) (t : Fin cfg0.N)

/-- The launched arguments, entry by entry. -/
abbrev DH (r : Fin 2048) (d : Fin 1024) : EReal := (m ((c : Thread nD τ).loc main_arg0) : Vec Ideal S2048x1024 .bf16) (ix2 r d)
abbrev WD (k : Fin 2816) (d : Fin 1024) : EReal := (m ((c : Thread nD τ).loc main_arg1) : Vec Ideal S2816x1024 .bf16) (ix2 k d)
abbrev G (r : Fin 2048) (k : Fin 2816) : EReal := (m ((c : Thread nD τ).loc main_arg2) : Vec Ideal S2048x2816 .bf16) (ix2 r k)
abbrev Vv (r : Fin 2048) (k : Fin 2816) : EReal := (m ((c : Thread nD τ).loc main_arg3) : Vec Ideal S2048x2816 .bf16) (ix2 r k)
abbrev CW (a : Fin 3) (k : Fin 2816) : EReal := (m ((c : Thread nD τ).loc main_arg4) : Vec Ideal S3x2816 .f32) (ix2 a k)
abbrev CB (k : Fin 2816) : EReal := (m ((c : Thread nD τ).loc main_arg5) : Vec Ideal S2816 .f32) (ix1 k)

/-- The comparisons the body makes of the row tile's number and of a row's number. -/
theorem notLast : ∀ t : Fin cfg0.N, Scalar.cmpi .slt (BitVec.ofNat 32 ((grid0.coords t) 1).val) 3#32 = if t.val % 4 < 3 then 1#1 else 0#1 := by
  decide +kernel
theorem notFirst : ∀ t : Fin cfg0.N, Scalar.cmpi .sgt (BitVec.ofNat 32 ((grid0.coords t) 1).val) 0#32 = if 0 < t.val % 4 then 1#1 else 0#1 := by
  decide +kernel
theorem inTile : ∀ r : Fin 528, IntOp.cmpi .slt (BitVec.ofNat 32 r.val) 512#32 = if r.val < 512 then 1#1 else 0#1 := by
  decide +kernel

/-- A row of the tile and its halo, of `dh · w_downᵀ`: zero below the array's last row. -/
theorem da_apply (r : Fin 528) (l : Fin 704) :
    da m c t (ix2 r l) = if h : 512 * (t.val % 4) + r.val < 2048 then A (DH m c) (WD m c) ⟨_, h⟩ (col t l) else 0 := by
  unfold da
  pointwise [k0_pay3]
  rw [notLast, inTile]
  have hr := r.isLt
  by_cases h : 512 * (t.val % 4) + r.val < 2048
  · rw [dif_pos h, Scalar.select_of_eq_one]
    · unfold A
      refine Finset.sum_congr rfl fun d _ => congrArg₂ (· * ·) ?_ (iblk2 m c t l d)
      by_cases h' : r.val < 512
      · rw [dif_pos h']; exact (iblk0 m c t _ d)
      · rw [dif_neg h']
        refine (iblk1 m c t _ d).trans (congrArg _ (congrArg (ix2 · d) (Fin.ext ?_)))
        show 16 * min (32 * (t.val % 4 + 1)) 127 + (r.val - 512) = 512 * (t.val % 4) + r.val
        omega
    · by_cases h' : r.val < 512
      · rw [if_pos h']; split <;> rfl
      · rw [if_neg h', if_pos (by omega)]; rfl
  · rw [dif_neg h, if_neg (by omega), if_neg (by omega)]
    rfl

/-- The extended gate tile, row `e`: the gate sixteen rows before, below two rows of zeros. -/
theorem ext_apply (e : Fin 544) (l : Fin 704) (h14 : 14 ≤ e.val) (h : 512 * (t.val % 4) + e.val < 2064) :
    ext m c t (ix2 e l) = gp (G m c) (512 * (t.val % 4) + e.val - 14) (col t l) := by
  unfold ext
  pointwise [k0_pay4]
  rw [notFirst]
  have he := e.isLt
  unfold gp
  by_cases h16 : e.val < 16
  · rw [dif_pos h16]
    by_cases h0 : 0 < t.val % 4
    · rw [if_pos h0, dif_pos (by omega)]
      refine (show _ = _ from iblk4 m c t ⟨e.val, h16⟩ l).trans (congrArg _ (congrArg (ix2 · _) (Fin.ext ?_)))
      show 16 * (32 * (t.val % 4) - 1) + e.val = 512 * (t.val % 4) + e.val - 14 - 2
      omega
    · rw [if_neg h0, dif_neg (by omega)]; rfl
  · rw [dif_neg h16, dif_pos (show 2 ≤ 512 * (t.val % 4) + e.val - 14 ∧ 512 * (t.val % 4) + e.val - 14 < 2050 by omega)]
    by_cases h5 : e.val - 16 < 512
    · rw [dif_pos h5]
      refine (iblk3 m c t ⟨e.val - 16, h5⟩ l).trans (congrArg _ (congrArg (ix2 · _) (Fin.ext ?_)))
      show 512 * (t.val % 4) + (e.val - 16) = 512 * (t.val % 4) + e.val - 14 - 2
      omega
    · rw [dif_neg h5]
      refine (iblk5 m c t ⟨e.val - 16 - 512, by omega⟩ l).trans (congrArg _ (congrArg (ix2 · _) (Fin.ext ?_)))
      show 16 * min (32 * (t.val % 4 + 1)) 127 + (e.val - 16 - 512) = 512 * (t.val % 4) + e.val - 14 - 2
      omega

theorem x2_apply (r : Fin 528) (l : Fin 704) (h : 512 * (t.val % 4) + r.val < 2048) :
    x2 m c t (ix2 r l) = gp (G m c) (512 * (t.val % 4) + r.val) (col t l) := by
  unfold x2
  pointwise [k0_pay5]
  refine (ext_apply m c t _ l ?_ ?_).trans (congrArg (gp _ · _) ?_) <;> simp only [] <;> omega

theorem x1_apply (r : Fin 528) (l : Fin 704) (h : 512 * (t.val % 4) + r.val < 2048) :
    x1 m c t (ix2 r l) = gp (G m c) (512 * (t.val % 4) + r.val + 1) (col t l) := by
  unfold x1
  pointwise [k0_pay6]
  refine (ext_apply m c t _ l ?_ ?_).trans (congrArg (gp _ · _) ?_) <;> simp only [] <;> omega

theorem x0_apply (r : Fin 528) (l : Fin 704) (h : 512 * (t.val % 4) + r.val < 2048) :
    k0_pay7 (ext m c t) (ix2 r l) = gp (G m c) (512 * (t.val % 4) + r.val + 2) (col t l) := by
  pointwise [k0_pay7]
  refine (ext_apply m c t _ l ?_ ?_).trans (congrArg (gp _ · _) ?_) <;> simp only [] <;> omega

/-- The convolved gate, its sigmoid and its silu. -/
theorem gc_apply (r : Fin 528) (l : Fin 704) (h : 512 * (t.val % 4) + r.val < 2048) :
    gc m c t (ix2 r l) = X (G m c) (CW m c) (CB m c) (512 * (t.val % 4) + r.val) (col t l) := by
  have e0 := x0_apply m c t r l h
  unfold gc
  pointwise [k0_pay9, k0_pay8]
  rw [e0, x2_apply m c t r l h, x1_apply m c t r l h, iblk8 m c t, iblk8 m c t, iblk8 m c t, iblk9 m c t]
  rfl

theorem sg_apply (r : Fin 528) (l : Fin 704) (h : 512 * (t.val % 4) + r.val < 2048) :
    sg m c t (ix2 r l) = tsig (X (G m c) (CW m c) (CB m c) (512 * (t.val % 4) + r.val) (col t l)) := by
  have e0 := gc_apply m c t r l h
  unfold gc at e0
  unfold sg
  pointwise [k0_pay10]
  rw [e0]
  rfl

theorem silu_apply (r : Fin 528) (l : Fin 704) (h : 512 * (t.val % 4) + r.val < 2048) :
    silu m c t (ix2 r l) = X (G m c) (CW m c) (CB m c) (512 * (t.val % 4) + r.val) (col t l)
      * tsig (X (G m c) (CW m c) (CB m c) (512 * (t.val % 4) + r.val) (col t l)) := by
  have e0 := gc_apply m c t r l h
  have e1 := sg_apply m c t r l h
  unfold gc at e0
  unfold sg at e1
  unfold silu
  pointwise [k0_pay11]
  rw [e0, e1]

theorem dav_apply (r : Fin 528) (l : Fin 704) :
    dav m c t (ix2 r l) = if h : 512 * (t.val % 4) + r.val < 2048 then A (DH m c) (WD m c) ⟨_, h⟩ (col t l) * Vv m c ⟨_, h⟩ (col t l) else 0 := by
  have e0 := da_apply m c t r l
  have hr := r.isLt
  unfold dav
  pointwise [k0_pay13]
  rw [e0]
  by_cases h : 512 * (t.val % 4) + r.val < 2048
  · rw [dif_pos h, dif_pos h]
    refine congrArg _ ?_
    by_cases h' : r.val < 512
    · rw [dif_pos h']; exact iblk6 m c t _ l
    · rw [dif_neg h']
      refine (iblk7 m c t _ l).trans (congrArg _ (congrArg (ix2 · _) (Fin.ext ?_)))
      show 16 * min (32 * (t.val % 4 + 1)) 127 + (r.val - 512) = 512 * (t.val % 4) + r.val
      omega
  · rw [dif_neg h, dif_neg h, zero_mul]

/-- The gradient of the convolved gate, at an entry of the tile or its halo. -/
theorem dgc_apply (r : Fin 528) (l : Fin 704) :
    k0_pay14 (sg m c t) (silu m c t) (dav m c t) (ix2 r l)
      = gradAt (DH m c) (WD m c) (G m c) (Vv m c) (CW m c) (CB m c) tsig (512 * (t.val % 4) + r.val) (col t l) := by
  have e0 := dav_apply m c t r l
  unfold gradAt
  pointwise [k0_pay14]
  rw [e0]
  by_cases h : 512 * (t.val % 4) + r.val < 2048
  · rw [dif_pos h, dif_pos h, sg_apply m c t r l h, silu_apply m c t r l h]
  · rw [dif_neg h, dif_neg h, zero_mul]

end Cert.KernelIdeal.Dact

end
-- ==== Proof.Dact.Result.lean ====
/-
  What the kernel's four result arrays hold after the run, entry by entry: the mathematics of Spec.lean, with the
  sigmoid written as a hyperbolic tangent.
-/
module

public import proofs.«01_k».proof.Proof.Dact.Point
public import Idealize.ShloMosaic.Lib.Claim
public import Idealize.ShloMosaic.Lib.Pipeline.ValueKit

@[expose] public section

noncomputable section

namespace Cert.KernelIdeal.Dact

open Cert.KernelIdeal Cert.KernelIdeal.Gen Idealize.ShloMosaic Idealize.ShloMosaic.TcCoe Idealize.SL.Sem
open Cert.Dact

variable (m : (ℓ : Loc nD τ sig) → Buf (Elt Ideal) ℓ) (c : Dev nD) (t : Fin cfg0.N)

/-- The gradient of the convolved gate with the kernel's sigmoid. -/
abbrev gr (t : ℕ) (k : Fin 2816) : EReal := gradAt (DH m c) (WD m c) (G m c) (Vv m c) (CW m c) (CB m c) tsig t k

/-- The block of the gate's gradient a point leaves. -/
theorem dg_apply (r : Fin 512) (l : Fin 704) :
    (outsAt0 m c t.val t.isLt).1 (ix3 0 r l)
      = DG (DH m c) (WD m c) (G m c) (Vv m c) (CW m c) (CB m c) tsig (512 * (t.val % 4) + r.val) (col t l) := by
  have e := dgc_apply m c t
  have hr := r.isLt
  rw [outs_dg]
  unfold DG
  pointwise [k0_pay16, k0_pay15, k0_pay8]
  rw [e, e, e, iblk8 m c t, iblk8 m c t, iblk8 m c t]
  have h1 : 512 * (t.val % 4) + (r.val + 528 - 527) % 528 = 512 * (t.val % 4) + r.val + 1 := by omega
  have h2 : 512 * (t.val % 4) + (r.val + 528 - 526) % 528 = 512 * (t.val % 4) + r.val + 2 := by omega
  simp only [h1, h2]

/-- The block of the value's gradient a point leaves. -/
theorem dv_apply (r : Fin 512) (l : Fin 704) :
    (outsAt0 m c t.val t.isLt).2.1 (ix3 0 r l)
      = DV (DH m c) (WD m c) (G m c) (CW m c) (CB m c) tsig (row t r) (col t l) := by
  have h : 512 * (t.val % 4) + r.val < 2048 := (row t r).isLt
  have e0 := da_apply m c t ⟨r.val, by have := r.isLt; omega⟩ l
  have e1 := silu_apply m c t ⟨r.val, by have := r.isLt; omega⟩ l h
  rw [dif_pos h] at e0
  unfold silu at e1
  rw [outs_dv]
  unfold DV
  pointwise [k0_pay12]
  rw [e0, e1]
  rfl

/-- A tile's part of a tap's gradient. -/
theorem partW_apply (k : Fin 3) (l : Fin 704) :
    partW m c t (ix2 k l) = ∑ r : Fin 512, gr m c (512 * (t.val % 4) + r.val) (col t l) * gp (G m c) (512 * (t.val % 4) + r.val + k.val) (col t l) := by
  have e := dgc_apply m c t
  unfold partW
  pointwise [k0_pay17, k0_pay15]
  have hr (x : Fin 512) : 512 * (t.val % 4) + x.val < 2048 := (row t x).isLt
  match k with
  | ⟨0, _⟩ =>
    rw [dif_pos (show (0 : ℕ) < 1 by decide)]
    exact Finset.sum_congr rfl fun x _ => congrArg₂ (· * ·) (e _ l) (x2_apply m c t _ l (hr x))
  | ⟨1, _⟩ =>
    rw [dif_neg (show ¬(1 : ℕ) < 1 by decide), dif_pos (show (1 : ℕ) - 1 < 1 by decide)]
    exact Finset.sum_congr rfl fun x _ => congrArg₂ (· * ·) (e _ l) (x1_apply m c t _ l (hr x))
  | ⟨2, _⟩ =>
    rw [dif_neg (show ¬(2 : ℕ) < 1 by decide), dif_neg (show ¬(2 : ℕ) - 1 < 1 by decide)]
    exact Finset.sum_congr rfl fun x _ => congrArg₂ (· * ·) (e _ l) (x0_apply m c t _ l (hr x))

/-- A tile's part of the bias's gradient. -/
theorem partB_apply (l : Fin 704) :
    partB m c t (ix2 0 l) = ∑ r : Fin 512, gr m c (512 * (t.val % 4) + r.val) (col t l) := by
  have e := dgc_apply m c t
  unfold partB
  pointwise [k0_pay18, k0_pay15]
  exact Finset.sum_congr rfl fun x _ => e _ l

/-- The tap gradient's block after a point: the parts of the tiles so far. -/
theorem dw_apply (k : Fin 3) (l : Fin 704) : ∀ n (t : Fin cfg0.N), t.val % 4 = n →
    (outsAt0 m c t.val t.isLt).2.2.1 (ix3 0 k l)
      = ∑ i ∈ Finset.range (n + 1), ∑ r : Fin 512, gr m c (512 * i + r.val) (col t l) * gp (G m c) (512 * i + r.val + k.val) (col t l)
  | 0, t, h => by
    rw [outs_dw_first m c t h]
    pointwise
    rw [partW_apply, h, Finset.sum_range_one]
  | n + 1, t, h => by
    have ih := dw_apply k l n ⟨t.val - 1, by have := t.isLt; omega⟩ (by simp only []; omega)
    have ec : col ⟨t.val - 1, by have := t.isLt; omega⟩ l = col t l := Fin.ext (by show (t.val - 1) / 4 * 704 + l.val = t.val / 4 * 704 + l.val; omega)
    rw [ec] at ih
    rw [outs_dw_next m c t (by omega)]
    pointwise [k0_pay1]
    rw [partW_apply, h, Finset.sum_range_succ _ (n + 1), ← ih]

/-- The bias gradient's block after a point: the parts of the tiles so far. -/
theorem db_apply (l : Fin 704) : ∀ n (t : Fin cfg0.N), t.val % 4 = n →
    (outsAt0 m c t.val t.isLt).2.2.2 (ix3 0 0 l)
      = ∑ i ∈ Finset.range (n + 1), ∑ r : Fin 512, gr m c (512 * i + r.val) (col t l)
  | 0, t, h => by
    rw [outs_db_first m c t h]
    pointwise
    rw [partB_apply, h, Finset.sum_range_one]
  | n + 1, t, h => by
    have ih := db_apply l n ⟨t.val - 1, by have := t.isLt; omega⟩ (by simp only []; omega)
    have ec : col ⟨t.val - 1, by have := t.isLt; omega⟩ l = col t l := Fin.ext (by show (t.val - 1) / 4 * 704 + l.val = t.val / 4 * 704 + l.val; omega)
    rw [ec] at ih
    rw [outs_db_next m c t (by omega)]
    pointwise [k0_pay2]
    rw [partB_apply, h, Finset.sum_range_succ _ (n + 1), ← ih]

/-- The four result arrays. -/
def R10 : Vec Ideal S4x2048x704 .bf16 := fun i => DG (DH m c) (WD m c) (G m c) (Vv m c) (CW m c) (CB m c) tsig (i 1).val (blockCol (i 0) (i 2))
def R11 : Vec Ideal S4x2048x704 .bf16 := fun i => DV (DH m c) (WD m c) (G m c) (CW m c) (CB m c) tsig (i 1) (blockCol (i 0) (i 2))
def R12 : Vec Ideal S4x3x704 .f32 := fun i => DW (DH m c) (WD m c) (G m c) (Vv m c) (CW m c) (CB m c) tsig (i 1) (blockCol (i 0) (i 2))
def R13 : Vec Ideal S4x1x704 .f32 := fun i => DB (DH m c) (WD m c) (G m c) (Vv m c) (CW m c) (CB m c) tsig (blockCol (i 0) (i 2))

/-- Where window 10's block lies in its array. -/
theorem emb10 (t : Fin cfg0.N) (r : Fin 512) (l : Fin 704) :
    (win0_10.blk t).view.emb (ix3 0 r l) = ix3 (⟨t.val / 4, by have := lt16 t; omega⟩ : Fin 4) (row t r) l :=
  funext fun a => Fin.ext (match a with
    | ⟨0,_⟩ => by show win0_10.index t 0 * 1 + 1 * 0 = t.val / 4; simp [index10 t]
    | ⟨1,_⟩ => by show win0_10.index t 1 * 512 + 1 * r.val = _; simp [index10 t, row]; omega
    | ⟨2,_⟩ => by show win0_10.index t 2 * 704 + 1 * l.val = _; simp [index10 t])

/-- The gate's gradient after the run. -/
theorem final10 : (dats m 0 c).arrAt 10 cfg0.N = R10 m c := by
  refine (dats m 0 c).arrAt_eq_of_covers 10 _ (by decide +kernel) fun t hf y => ?_
  blk_simp
  rw [after0_10]
  obtain ⟨a, r, l, rfl⟩ : ∃ (a : Fin 1) (r : Fin 512) (l : Fin 704), y = ix3 a r l := ⟨y 0, y 1, y 2, eq_ix3 y⟩
  obtain rfl : a = 0 := Subsingleton.elim _ _
  rw [emb10]
  refine (dg_apply m c t r l).trans ?_
  rfl

/-- Where window 11's block lies in its array. -/
theorem emb11 (t : Fin cfg0.N) (r : Fin 512) (l : Fin 704) :
    (win0_11.blk t).view.emb (ix3 0 r l) = ix3 (⟨t.val / 4, by have := lt16 t; omega⟩ : Fin 4) (row t r) l :=
  funext fun a => Fin.ext (match a with
    | ⟨0,_⟩ => by show win0_11.index t 0 * 1 + 1 * 0 = t.val / 4; simp [index11 t]
    | ⟨1,_⟩ => by show win0_11.index t 1 * 512 + 1 * r.val = _; simp [index11 t, row]; omega
    | ⟨2,_⟩ => by show win0_11.index t 2 * 704 + 1 * l.val = _; simp [index11 t])

/-- The value's gradient after the run. -/
theorem final11 : (dats m 0 c).arrAt 11 cfg0.N = R11 m c := by
  refine (dats m 0 c).arrAt_eq_of_covers 11 _ (by decide +kernel) fun t hf y => ?_
  blk_simp
  rw [after0_11]
  obtain ⟨a, r, l, rfl⟩ : ∃ (a : Fin 1) (r : Fin 512) (l : Fin 704), y = ix3 a r l := ⟨y 0, y 1, y 2, eq_ix3 y⟩
  obtain rfl : a = 0 := Subsingleton.elim _ _
  rw [emb11]
  exact dv_apply m c t r l

/-- Where window 12's block lies in its array. -/
theorem emb12 (t : Fin cfg0.N) (r : Fin 3) (l : Fin 704) :
    (win0_12.blk t).view.emb (ix3 0 r l) = ix3 (⟨t.val / 4, by have := lt16 t; omega⟩ : Fin 4) (r) l :=
  funext fun a => Fin.ext (match a with
    | ⟨0,_⟩ => by show win0_12.index t 0 * 1 + 1 * 0 = t.val / 4; simp [index12 t]
    | ⟨1,_⟩ => by show win0_12.index t 1 * 3 + 1 * r.val = _; simp [index12 t]
    | ⟨2,_⟩ => by show win0_12.index t 2 * 704 + 1 * l.val = _; simp [index12 t])

/-- The taps' gradient after the run. -/
theorem final12 : (dats m 0 c).arrAt 12 cfg0.N = R12 m c := by
  refine (dats m 0 c).arrAt_eq_of_covers 12 _ (by decide +kernel) fun t hf y => ?_
  blk_simp
  rw [after0_12]
  obtain ⟨a, r, l, rfl⟩ : ∃ (a : Fin 1) (r : Fin 3) (l : Fin 704), y = ix3 a r l := ⟨y 0, y 1, y 2, eq_ix3 y⟩
  obtain rfl : a = 0 := Subsingleton.elim _ _
  rw [emb12]
  refine (dw_apply m c r l 3 t ((flush0_12 t).mp hf)).trans ?_
  exact sum_tiles fun i => gr m c i (col t l) * gp (G m c) (i + r.val) (col t l)

/-- Where window 13's block lies in its array. -/
theorem emb13 (t : Fin cfg0.N) (r : Fin 1) (l : Fin 704) :
    (win0_13.blk t).view.emb (ix3 0 r l) = ix3 (⟨t.val / 4, by have := lt16 t; omega⟩ : Fin 4) (r) l :=
  funext fun a => Fin.ext (match a with
    | ⟨0,_⟩ => by show win0_13.index t 0 * 1 + 1 * 0 = t.val / 4; simp [index13 t]
    | ⟨1,_⟩ => by show win0_13.index t 1 * 1 + 1 * r.val = _; simp [index13 t]
    | ⟨2,_⟩ => by show win0_13.index t 2 * 704 + 1 * l.val = _; simp [index13 t])

/-- The bias's gradient after the run. -/
theorem final13 : (dats m 0 c).arrAt 13 cfg0.N = R13 m c := by
  refine (dats m 0 c).arrAt_eq_of_covers 13 _ (by decide +kernel) fun t hf y => ?_
  blk_simp
  rw [after0_13]
  obtain ⟨a, r, l, rfl⟩ : ∃ (a : Fin 1) (r : Fin 1) (l : Fin 704), y = ix3 a r l := ⟨y 0, y 1, y 2, eq_ix3 y⟩
  obtain rfl : a = 0 := Subsingleton.elim _ _
  obtain rfl : r = 0 := Subsingleton.elim _ _
  rw [emb13]
  refine (db_apply m c l 3 t ((flush0_13 t).mp hf)).trans ?_
  exact sum_tiles fun i => gr m c i (col t l)

end Cert.KernelIdeal.Dact

end
-- ==== Proof.Dact.Algebra.lean ====
/-
  The scalar identities over the extended reals: the sigmoid written as a hyperbolic tangent is the logistic function,
  and the two spellings of the silu's derivative agree at a real factor.
-/
module

public import proofs.«01_k».proof.Proof.Dact.Spec
public import Idealize.ShloMosaic.Lib.IdealHost

@[expose] public section

noncomputable section

namespace Cert.Dact

open Idealize.ShloMosaic

/-- The pattern of one half. -/
theorem half : Ideal.ofBits .f32 0x3F000000#32 = ((1 / 2 : ℝ) : EReal) := by
  simp [Ideal.ofBits, Ideal.ieee, -EReal.coe_mul]; norm_num

/-- Half the hyperbolic tangent of half the argument, plus one half, is the logistic function. -/
theorem tsig_real (x : ℝ) : 1 / 2 * Real.tanh (1 / 2 * x) + 1 / 2 = (1 + Real.exp (-x))⁻¹ := by
  have h1 : Real.exp (1 / 2 * x) ≠ 0 := (Real.exp_pos _).ne'
  have h2 : Real.exp (-x) = Real.exp (-(1 / 2 * x)) * Real.exp (-(1 / 2 * x)) := by rw [← Real.exp_add]; ring_nf
  have h3 : Real.exp (1 / 2 * x) * Real.exp (-(1 / 2 * x)) = 1 := by rw [← Real.exp_add]; simp
  have hp := Real.exp_pos (1 / 2 * x)
  have hn := Real.exp_pos (-(1 / 2 * x))
  rw [Real.tanh_eq_sinh_div_cosh, Real.sinh_eq, Real.cosh_eq, h2]
  generalize Real.exp (1 / 2 * x) = p at *
  generalize Real.exp (-(1 / 2 * x)) = q at *
  have hs : p + q ≠ 0 := by positivity
  have hq : 1 + q * q ≠ 0 := by positivity
  field_simp
  linear_combination (2 * q) * h3

theorem tsig_eq (x : EReal) : tsig x = Ideal.logistic x := by
  unfold tsig
  rw [half]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe x =>
    rw [← EReal.coe_mul, Ideal.tanh_coe, ← EReal.coe_mul, ← EReal.coe_add, tsig_real, Ideal.logistic_coe]

/-- The silu's derivative times a real number, and the same product distributed over the derivative's two terms. -/
theorem silu_grad (p : ℝ) (x : EReal) :
    (p : EReal) * (Ideal.logistic x + (x * Ideal.logistic x) * (1 - Ideal.logistic x))
      = (p : EReal) * Ideal.logistic x + (x * (p : EReal)) * (Ideal.logistic x * (1 - Ideal.logistic x)) := by
  induction x with
  | bot => simp
  | top =>
    have h : (1 : EReal) - 1 = 0 := EReal.sub_self (by decide) (by decide)
    simp [h]
  | coe x =>
    rw [Ideal.logistic_coe, ← EReal.coe_one]
    generalize (1 + Real.exp (-x))⁻¹ = s
    norm_cast
    ring

/-- A finite sum of real numbers is one. -/
theorem sum_real {ι : Type} [Fintype ι] (f : ι → EReal) (h : ∀ i, ∃ r : ℝ, f i = r) : ∃ r : ℝ, ∑ i, f i = r := by
  choose r hr using h
  refine ⟨∑ i, r i, ?_⟩
  rw [Finset.sum_congr rfl fun i _ => hr i]
  classical
  induction (Finset.univ : Finset ι) using Finset.induction_on with
  | empty => simp
  | insert a s ha ih => rw [Finset.sum_insert ha, Finset.sum_insert ha, ih, EReal.coe_add]

variable (dh : Fin 2048 → Fin 1024 → EReal) (wd : Fin 2816 → Fin 1024 → EReal) (g v : Fin 2048 → Fin 2816 → EReal)
variable (cw : Fin 3 → Fin 2816 → EReal) (cb : Fin 2816 → EReal)

/-- Where `dh`, `w_down` and `v` are real, so is the gradient of the silu's result. -/
theorem av_real (h0 : ∀ t d, ∃ r : ℝ, dh t d = r) (h1 : ∀ c d, ∃ r : ℝ, wd c d = r) (h3 : ∀ t c, ∃ r : ℝ, v t c = r)
    (t : Fin 2048) (c : Fin 2816) : ∃ r : ℝ, A dh wd t c * v t c = r := by
  obtain ⟨a, ha⟩ : ∃ r : ℝ, A dh wd t c = r := sum_real _ fun d => by
    obtain ⟨x, hx⟩ := h0 t d
    obtain ⟨y, hy⟩ := h1 c d
    exact ⟨x * y, by rw [hx, hy, EReal.coe_mul]⟩
  obtain ⟨b, hb⟩ := h3 t c
  exact ⟨a * b, by rw [ha, hb, EReal.coe_mul]⟩

/-- The gradient of the convolved gate as the reference spells it. -/
theorem gradAt_eq (h : ∀ t c, ∃ r : ℝ, A dh wd t c * v t c = r) (t : Fin 2048) (c : Fin 2816) :
    gradAt dh wd g v cw cb tsig t.val c
      = (A dh wd t c * v t c) * Ideal.logistic (X g cw cb t.val c)
        + (X g cw cb t.val c * (A dh wd t c * v t c)) * (Ideal.logistic (X g cw cb t.val c) * (1 - Ideal.logistic (X g cw cb t.val c))) := by
  obtain ⟨p, hp⟩ := h t c
  unfold gradAt
  rw [dif_pos t.isLt, tsig_eq]
  rw [show A dh wd ⟨t.val, t.isLt⟩ c * v ⟨t.val, t.isLt⟩ c = A dh wd t c * v t c from rfl, hp, silu_grad]

theorem gradAt_below {σ : EReal → EReal} {t : ℕ} (h : ¬t < 2048) (c : Fin 2816) : gradAt dh wd g v cw cb σ t c = 0 := dif_neg h

end Cert.Dact

end
-- ==== Proof.Dact.Reference.lean ====
/-
  The reference's four results as terms of a few named arrays, and those arrays entry by entry over the extended reals.
-/
module

public import proofs.«01_k».proof.Proof.Gen.ReferenceIdeal.Run
public import proofs.«01_k».proof.Proof.Dact.Algebra

@[expose] public section

noncomputable section

namespace Cert.ReferenceIdeal.Dact

open Cert.ReferenceIdeal Cert.ReferenceIdeal.Gen Cert.ReferenceIdeal.Value Idealize.ShloMosaic Idealize.ShloMosaic.TcCoe Idealize.SL.Sem
open Cert.Dact

section
variable {F : FTy → Type} [FloatOps F]
variable (a0 : FVec F S2048x1024 .bf16) (a1 : FVec F S2816x1024 .bf16) (a2 a3 : FVec F S2048x2816 .bf16)
variable (a4 : FVec F S3x2816 .f32) (a5 : FVec F S2816 .f32)

/-- A scalar zero. -/
def zero : FVec F S_ .f32 := constant S_ .f32 0x00000000#32
/-- Ones. -/
def ones : FVec F S2048x2816 .f32 := broadcastInDim S2048x2816 ![] bcast_S_S2048x2816 (constant S_ .f32 0x3F800000#32)
/-- `dh · w_downᵀ`. -/
def da : FVec F S2048x2816 .f32 :=
  Host.dotGeneral dot_S2048x1024_S2816x1024_S2048x2816_1_1_0_0_n_n none (extf .f32 a0 bitsLt_bf16_f32) (extf .f32 a1 bitsLt_bf16_f32)
/-- The gate below two rows of zeros. -/
def gpad : FVec F S2050x2816 .f32 :=
  concatenate S2050x2816 0 [⟨S2x2816, broadcastInDim S2x2816 ![] bcast_S_S2x2816 (zero (F := F))⟩, ⟨S2048x2816, extf .f32 a2 bitsLt_bf16_f32⟩]
    concatenates_S2x2816_S2048x2816_S2050x2816_d0
/-- Its three runs of 2048 rows. -/
def y0 : FVec F S2048x2816 .f32 := extractStridedSlice S2048x2816 ![0, 0] (gpad a2) slices_S2050x2816_S2048x2816_0_0
def y1 : FVec F S2048x2816 .f32 := extractStridedSlice S2048x2816 ![1, 0] (gpad a2) slices_S2050x2816_S2048x2816_1_0
def y2 : FVec F S2048x2816 .f32 := extractStridedSlice S2048x2816 ![2, 0] (gpad a2) slices_S2050x2816_S2048x2816_2_0
/-- A row spread over all rows. -/
def spread (x : FVec F S2816 .f32) : FVec F S2048x2816 .f32 :=
  broadcastInDim S2048x2816 ![0, 1] bcast_S1x2816_S2048x2816_0_1 (broadcastInDim S1x2816 ![1] bcast_S2816_S1x2816_1 x)
/-- The three taps, spread over the rows. -/
def w0 : FVec F S2048x2816 .f32 := spread (shapeCast S2816 (extractStridedSlice S1x2816 ![0, 0] a4 slices_S3x2816_S1x2816_0_0) shapeCasts_S1x2816_S2816)
def w1 : FVec F S2048x2816 .f32 := spread (shapeCast S2816 (extractStridedSlice S1x2816 ![1, 0] a4 slices_S3x2816_S1x2816_1_0) shapeCasts_S1x2816_S2816)
def w2 : FVec F S2048x2816 .f32 := spread (shapeCast S2816 (extractStridedSlice S1x2816 ![2, 0] a4 slices_S3x2816_S1x2816_2_0) shapeCasts_S1x2816_S2816)
/-- The convolved gate plus the bias. -/
def conv : FVec F S2048x2816 .f32 := addf (addf (addf (mulf (y0 a2) (w0 a4)) (mulf (y1 a2) (w1 a4))) (mulf (y2 a2) (w2 a4))) (spread a5)
/-- Its sigmoid. -/
def sgm : FVec F S2048x2816 .f32 := Host.divf ones (addf ones (Host.exp (Host.negf (conv a2 a4 a5))))
/-- The gradient of the silu's result. -/
def dav : FVec F S2048x2816 .f32 := mulf (da a0 a1) (extf .f32 a3 bitsLt_bf16_f32)
/-- The gradient of the convolved gate. -/
def dgc : FVec F S2048x2816 .f32 :=
  addf (mulf (dav a0 a1 a3) (sgm a2 a4 a5)) (mulf (mulf (conv a2 a4 a5) (dav a0 a1 a3)) (mulf (sgm a2 a4 a5) (subf ones (sgm a2 a4 a5))))
/-- A column sum. -/
def colSum (x : FVec F S2048x2816 .f32) : FVec F S2816 .f32 :=
  Host.reduceAdd (shapeCast S1x2816 (Host.reduceAdd x zero reducesTo_S2048x2816_S2816_d0 h_S_) shapeCasts_S2816_S1x2816) zero reducesTo_S1x2816_S2816_d0 h_S_
/-- A column sum as one row. -/
def rowSum (x : FVec F S2048x2816 .f32) : FVec F S1x2816 .f32 := broadcastInDim S1x2816 ![1] bcast_S2816_S1x2816_1 (colSum x)
/-- The gradients of the taps. -/
def dw : FVec F S3x2816 .f32 :=
  addf (addf (pad S3x2816 ![2, 0] ![0, 0] ![0, 0] (rowSum (mulf (y2 a2) (dgc a0 a1 a2 a3 a4 a5))) zero pads_S1x2816_S3x2816_200_000 h_S_)
      (pad S3x2816 ![1, 0] ![1, 0] ![0, 0] (rowSum (mulf (y1 a2) (dgc a0 a1 a2 a3 a4 a5))) zero pads_S1x2816_S3x2816_110_000 h_S_))
    (pad S3x2816 ![0, 0] ![2, 0] ![0, 0] (rowSum (mulf (y0 a2) (dgc a0 a1 a2 a3 a4 a5))) zero pads_S1x2816_S3x2816_020_000 h_S_)
/-- The gradient of the padded gate. -/
def dgpad : FVec F S2050x2816 .f32 :=
  addf (addf (pad S2050x2816 ![2, 0] ![0, 0] ![0, 0] (mulf (dgc a0 a1 a2 a3 a4 a5) (w2 a4)) zero pads_S2048x2816_S2050x2816_200_000 h_S_)
      (pad S2050x2816 ![1, 0] ![1, 0] ![0, 0] (mulf (dgc a0 a1 a2 a3 a4 a5) (w1 a4)) zero pads_S2048x2816_S2050x2816_110_000 h_S_))
    (pad S2050x2816 ![0, 0] ![2, 0] ![0, 0] (mulf (dgc a0 a1 a2 a3 a4 a5) (w0 a4)) zero pads_S2048x2816_S2050x2816_020_000 h_S_)
/-- An array's columns cut into four blocks, rounded. -/
def blocked (x : FVec F S2048x2816 .f32) : FVec F S4x2048x704 .bf16 :=
  truncf .bf16 (transpose S4x2048x704 [1, 0, 2] (shapeCast S2048x4x704 x shapeCasts_S2048x2816_S2048x4x704) transposes_S2048x4x704_S4x2048x704_1_0_2) bitsLt_bf16_f32

variable (m : (ℓ : Loc nD τ sig) → Buf (Elt F) ℓ) (c : Dev nD)

/-- The four results in these arrays. -/
theorem out0_eq : res_out0 m c = blocked (extractStridedSlice S2048x2816 ![2, 0] (dgpad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) slices_S2050x2816_S2048x2816_2_0) := by
  unfold res_out0 res_main_v75; rfl
theorem out1_eq : res_out1 m c = blocked (mulf (mulf (conv (m ((c.tc : Thread nD τ).loc main_arg2)) (m ((c.tc : Thread nD τ).loc main_arg4)) (m ((c.tc : Thread nD τ).loc main_arg5))) (sgm (m ((c.tc : Thread nD τ).loc main_arg2)) (m ((c.tc : Thread nD τ).loc main_arg4)) (m ((c.tc : Thread nD τ).loc main_arg5)))) (da (m ((c.tc : Thread nD τ).loc main_arg0)) (m ((c.tc : Thread nD τ).loc main_arg1)))) := by
  unfold res_out1 res_main_v78; rfl
theorem out2_eq : res_out2 m c = transpose S4x3x704 [1, 0, 2] (shapeCast S3x4x704 (dw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S3x2816_S3x4x704) transposes_S3x4x704_S4x3x704_1_0_2 := by
  unfold res_out2 res_main_v80; rfl
theorem out3_eq : res_out3 m c = shapeCast S4x1x704 (colSum (dgc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) shapeCasts_S2816_S4x1x704 := by
  unfold res_out3 res_main_v81; rfl
end

section
variable (a0 : FVec Ideal S2048x1024 .bf16) (a1 : FVec Ideal S2816x1024 .bf16) (a2 a3 : FVec Ideal S2048x2816 .bf16)
variable (a4 : FVec Ideal S3x2816 .f32) (a5 : FVec Ideal S2816 .f32)

theorem da_apply (t : Fin 2048) (k : Fin 2816) : da a0 a1 (ix2 t k) = A (fun r d => a0 (ix2 r d)) (fun r d => a1 (ix2 r d)) t k := by
  pointwise [da]
  rfl

theorem y0_apply (t : Fin 2048) (k : Fin 2816) : y0 a2 (ix2 t k) = gp (fun r k => a2 (ix2 r k)) t.val k := by
  have ht := t.isLt
  pointwise [y0, gpad, zero]
  unfold gp
  by_cases h : t.val < 2
  · rw [dif_pos h, dif_neg (by omega)]
  · rw [dif_neg h, dif_pos (by omega)]

theorem y1_apply (t : Fin 2048) (k : Fin 2816) : y1 a2 (ix2 t k) = gp (fun r k => a2 (ix2 r k)) (t.val + 1) k := by
  have ht := t.isLt
  pointwise [y1, gpad, zero]
  unfold gp
  by_cases h : 1 + t.val < 2
  · rw [dif_pos h, dif_neg (by omega)]
  · rw [dif_neg h, dif_pos (by omega)]
    exact congrArg a2 (congrArg (ix2 · k) (Fin.ext (by show 1 + t.val - 2 = t.val + 1 - 2; omega)))

theorem y2_apply (t : Fin 2048) (k : Fin 2816) : y2 a2 (ix2 t k) = gp (fun r k => a2 (ix2 r k)) (t.val + 2) k := by
  have ht := t.isLt
  pointwise [y2, gpad, zero]
  unfold gp
  rw [dif_pos (by omega)]
  exact congrArg a2 (congrArg (ix2 · k) (Fin.ext (by show _ = t.val + 2 - 2; simp)))

theorem w0_apply (t : Fin 2048) (k : Fin 2816) : w0 a4 (ix2 t k) = a4 (ix2 0 k) := by pointwise [w0, spread]
theorem w1_apply (t : Fin 2048) (k : Fin 2816) : w1 a4 (ix2 t k) = a4 (ix2 1 k) := by pointwise [w1, spread]
theorem w2_apply (t : Fin 2048) (k : Fin 2816) : w2 a4 (ix2 t k) = a4 (ix2 2 k) := by pointwise [w2, spread]

theorem conv_apply (t : Fin 2048) (k : Fin 2816) : conv a2 a4 a5 (ix2 t k) = X (fun r k => a2 (ix2 r k)) (fun r k => a4 (ix2 r k)) (fun k => a5 (ix1 k)) t.val k := by
  have e0 := y0_apply a2 t k
  have e1 := y1_apply a2 t k
  have e2 := y2_apply a2 t k
  pointwise [conv, spread]
  rw [e0, e1, e2, w0_apply, w1_apply, w2_apply]
  rfl

theorem sgm_apply (t : Fin 2048) (k : Fin 2816) : sgm a2 a4 a5 (ix2 t k) = Ideal.logistic (X (fun r k => a2 (ix2 r k)) (fun r k => a4 (ix2 r k)) (fun k => a5 (ix1 k)) t.val k) := by
  have e := conv_apply a2 a4 a5 t k
  pointwise [sgm, ones]
  rw [e]
  rfl

section
variable (h : ∀ t k, ∃ r : ℝ, A (fun r d => a0 (ix2 r d)) (fun r d => a1 (ix2 r d)) t k * a3 (ix2 t k) = r)
include h

/-- The gradient of the convolved gate is the kernel's. -/
theorem dgc_apply (t : Fin 2048) (k : Fin 2816) : dgc a0 a1 a2 a3 a4 a5 (ix2 t k)
    = gradAt (fun r d => a0 (ix2 r d)) (fun r d => a1 (ix2 r d)) (fun r k => a2 (ix2 r k)) (fun r k => a3 (ix2 r k)) (fun r k => a4 (ix2 r k)) (fun k => a5 (ix1 k)) tsig t.val k := by
  have e := conv_apply a2 a4 a5 t k
  have e1 := sgm_apply a2 a4 a5 t k
  have e2 := da_apply a0 a1 t k
  rw [gradAt_eq _ _ _ (fun r k => a3 (ix2 r k)) _ _ h t k]
  pointwise [dgc, dav, ones]
  rw [e, e1, e2]

theorem dg_apply (t : Fin 2048) (k : Fin 2816) :
    extractStridedSlice S2048x2816 ![2, 0] (dgpad a0 a1 a2 a3 a4 a5) slices_S2050x2816_S2048x2816_2_0 (ix2 t k)
      = DG (fun r d => a0 (ix2 r d)) (fun r d => a1 (ix2 r d)) (fun r k => a2 (ix2 r k)) (fun r k => a3 (ix2 r k)) (fun r k => a4 (ix2 r k)) (fun k => a5 (ix1 k)) tsig t.val k := by
  have e := dgc_apply a0 a1 a2 a3 a4 a5 h
  pointwise [dgpad, zero]
  unfold DG
  rw [w2_apply, e]
  refine congrArg₂ (· + ·) (congrArg₂ (· + ·) rfl ?_) ?_
  · by_cases h' : t.val + 1 < 2048
    · rw [dif_pos (by omega), w1_apply, e]
      exact congrArg (gradAt _ _ _ _ _ _ _ · k * _) (by show 2 + t.val - 1 = t.val + 1; omega)
    · rw [dif_neg (by omega), gradAt_below _ _ _ _ _ _ h', zero_mul]
  · by_cases h' : t.val + 2 < 2048
    · rw [dif_pos (by omega), w0_apply, e]
      exact congrArg (gradAt _ _ _ _ _ _ _ · k * _) (by show 2 + t.val = t.val + 2; omega)
    · rw [dif_neg (by omega), gradAt_below _ _ _ _ _ _ h', zero_mul]

theorem dw_apply (a : Fin 3) (k : Fin 2816) : dw a0 a1 a2 a3 a4 a5 (ix2 a k)
      = DW (fun r d => a0 (ix2 r d)) (fun r d => a1 (ix2 r d)) (fun r k => a2 (ix2 r k)) (fun r k => a3 (ix2 r k)) (fun r k => a4 (ix2 r k)) (fun k => a5 (ix1 k)) tsig a k := by
  have e := dgc_apply a0 a1 a2 a3 a4 a5 h
  pointwise [dw, rowSum, colSum, zero]
  simp only [e]
  unfold DW
  match a with
  | ⟨0, _⟩ =>
    rw [dif_neg (by simp), dif_neg (by simp), dif_pos (by simp)]
    simp [y0_apply, mul_comm]
  | ⟨1, _⟩ =>
    rw [dif_neg (by simp), dif_pos (by simp), dif_neg (by simp)]
    simp [y1_apply, mul_comm]
  | ⟨2, _⟩ =>
    rw [dif_pos (by simp), dif_neg (by simp), dif_neg (by simp)]
    simp [y2_apply, mul_comm]

theorem db_apply (k : Fin 2816) : colSum (dgc a0 a1 a2 a3 a4 a5) (ix1 k)
      = DB (fun r d => a0 (ix2 r d)) (fun r d => a1 (ix2 r d)) (fun r k => a2 (ix2 r k)) (fun r k => a3 (ix2 r k)) (fun r k => a4 (ix2 r k)) (fun k => a5 (ix1 k)) tsig k := by
  have e := dgc_apply a0 a1 a2 a3 a4 a5 h
  pointwise [colSum, zero]
  simp only [e]
  unfold DB
  simp
end

theorem dv_apply (t : Fin 2048) (k : Fin 2816) : mulf (mulf (conv a2 a4 a5) (sgm a2 a4 a5)) (da a0 a1) (ix2 t k)
      = DV (fun r d => a0 (ix2 r d)) (fun r d => a1 (ix2 r d)) (fun r k => a2 (ix2 r k)) (fun r k => a4 (ix2 r k)) (fun k => a5 (ix1 k)) tsig t k := by
  have e := conv_apply a2 a4 a5 t k
  have e1 := sgm_apply a2 a4 a5 t k
  have e2 := da_apply a0 a1 t k
  pointwise
  rw [e, e1, e2]
  unfold DV
  rw [tsig_eq, mul_comm]

/-- A blocked array's entries. -/
theorem blocked_apply (x : FVec Ideal S2048x2816 .f32) (j : Fin 4) (t : Fin 2048) (l : Fin 704) :
    blocked x (ix3 j t l) = x (ix2 t (blockCol j l)) := by
  pointwise [blocked]
  rfl

theorem blockedW_apply (x : FVec Ideal S3x2816 .f32) (j : Fin 4) (a : Fin 3) (l : Fin 704) :
    transpose S4x3x704 [1, 0, 2] (shapeCast S3x4x704 x shapeCasts_S3x2816_S3x4x704) transposes_S3x4x704_S4x3x704_1_0_2 (ix3 j a l) = x (ix2 a (blockCol j l)) := by
  pointwise
  rfl

theorem blockedB_apply (x : FVec Ideal S2816 .f32) (j : Fin 4) (l : Fin 704) :
    shapeCast S4x1x704 x shapeCasts_S2816_S4x1x704 (ix3 j 0 l) = x (ix1 (blockCol j l)) := by
  pointwise
  rfl
end

end Cert.ReferenceIdeal.Dact

end
-- ==== Proof.Dact.Equal.lean ====
/-
  The kernel's four results are the reference's, on arguments whose `dh`, `w_down` and `v` are real.
-/
module

public import proofs.«01_k».proof.Proof.Dact.Result
public import proofs.«01_k».proof.Proof.Dact.Reference

@[expose] public section

noncomputable section

namespace Cert.Dact

open Idealize.ShloMosaic Idealize.ShloMosaic.TcCoe

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ) (c : Dev KernelIdeal.nD)

/-- The two programs' arguments agree on device `c`. -/
structure Agree : Prop where
  a0 : m' ((c.tc : Thread ReferenceIdeal.nD ReferenceIdeal.τ).loc ReferenceIdeal.main_arg0) = m ((c.tc : Thread KernelIdeal.nD KernelIdeal.τ).loc KernelIdeal.main_arg0)
  a1 : m' ((c.tc : Thread ReferenceIdeal.nD ReferenceIdeal.τ).loc ReferenceIdeal.main_arg1) = m ((c.tc : Thread KernelIdeal.nD KernelIdeal.τ).loc KernelIdeal.main_arg1)
  a2 : m' ((c.tc : Thread ReferenceIdeal.nD ReferenceIdeal.τ).loc ReferenceIdeal.main_arg2) = m ((c.tc : Thread KernelIdeal.nD KernelIdeal.τ).loc KernelIdeal.main_arg2)
  a3 : m' ((c.tc : Thread ReferenceIdeal.nD ReferenceIdeal.τ).loc ReferenceIdeal.main_arg3) = m ((c.tc : Thread KernelIdeal.nD KernelIdeal.τ).loc KernelIdeal.main_arg3)
  a4 : m' ((c.tc : Thread ReferenceIdeal.nD ReferenceIdeal.τ).loc ReferenceIdeal.main_arg4) = m ((c.tc : Thread KernelIdeal.nD KernelIdeal.τ).loc KernelIdeal.main_arg4)
  a5 : m' ((c.tc : Thread ReferenceIdeal.nD ReferenceIdeal.τ).loc ReferenceIdeal.main_arg5) = m ((c.tc : Thread KernelIdeal.nD KernelIdeal.τ).loc KernelIdeal.main_arg5)

variable (e : Agree m m' c)
include e

/-- The up projection's gradient agrees; it needs no finiteness. -/
theorem dv_eq : ReferenceIdeal.Value.res_out1 m' c = KernelIdeal.Dact.R11 m c := by
  rw [ReferenceIdeal.Dact.out1_eq, e.a0, e.a1, e.a2, e.a4, e.a5]
  funext i
  obtain ⟨j, t, l, rfl⟩ : ∃ (j : Fin 4) (t : Fin 2048) (l : Fin 704), i = ix3 j t l := ⟨i 0, i 1, i 2, eq_ix3 i⟩
  rw [ReferenceIdeal.Dact.blocked_apply]
  exact ReferenceIdeal.Dact.dv_apply _ _ _ _ _ t _

variable (h : ∀ t k, ∃ r : ℝ, A (KernelIdeal.Dact.DH m c) (KernelIdeal.Dact.WD m c) t k * KernelIdeal.Dact.Vv m c t k = r)
include h

/-- The gate's gradient agrees. -/
theorem dg_eq : ReferenceIdeal.Value.res_out0 m' c = KernelIdeal.Dact.R10 m c := by
  rw [ReferenceIdeal.Dact.out0_eq, e.a0, e.a1, e.a2, e.a3, e.a4, e.a5]
  funext i
  obtain ⟨j, t, l, rfl⟩ : ∃ (j : Fin 4) (t : Fin 2048) (l : Fin 704), i = ix3 j t l := ⟨i 0, i 1, i 2, eq_ix3 i⟩
  rw [ReferenceIdeal.Dact.blocked_apply]
  exact ReferenceIdeal.Dact.dg_apply _ _ _ _ _ _ h t _

/-- The taps' gradient agrees. -/
theorem dw_eq : ReferenceIdeal.Value.res_out2 m' c = KernelIdeal.Dact.R12 m c := by
  rw [ReferenceIdeal.Dact.out2_eq, e.a0, e.a1, e.a2, e.a3, e.a4, e.a5]
  funext i
  obtain ⟨j, a, l, rfl⟩ : ∃ (j : Fin 4) (a : Fin 3) (l : Fin 704), i = ix3 j a l := ⟨i 0, i 1, i 2, eq_ix3 i⟩
  rw [ReferenceIdeal.Dact.blockedW_apply]
  exact ReferenceIdeal.Dact.dw_apply _ _ _ _ _ _ h a _

/-- The bias's gradient agrees. -/
theorem db_eq : ReferenceIdeal.Value.res_out3 m' c = KernelIdeal.Dact.R13 m c := by
  rw [ReferenceIdeal.Dact.out3_eq, e.a0, e.a1, e.a2, e.a3, e.a4, e.a5]
  funext i
  obtain ⟨j, a, l, rfl⟩ : ∃ (j : Fin 4) (a : Fin 1) (l : Fin 704), i = ix3 j a l := ⟨i 0, i 1, i 2, eq_ix3 i⟩
  obtain rfl : a = 0 := Subsingleton.elim _ _
  rw [ReferenceIdeal.Dact.blockedB_apply]
  exact ReferenceIdeal.Dact.db_apply _ _ _ _ _ _ h _

end Cert.Dact

end
-- ==== Proof.Dact.Claims.lean ====
/-
  The claims about the gated layer's backward kernel and its reference: each runs, leaves its arguments as they were and
  every counter at zero, and the two leave the same four arrays.
-/
module

public import proofs.«01_k».proof.Defs
public import proofs.«01_k».proof.Proof.Gen.Kernel.Frame
public import proofs.«01_k».proof.Proof.Gen.KernelIdeal.Frame
public import proofs.«01_k».proof.Proof.Dact.Finite
public import proofs.«01_k».proof.Proof.Dact.Equal
public import Idealize.ShloMosaic.Lib.Quiescent

@[expose] public section

noncomputable section

namespace Cert.Dact

open Idealize.ShloMosaic Idealize.ShloMosaic.TcCoe Idealize.SL.Sem

/-- The kernel over words keeps its frame. -/
theorem frame_bits : Cert.quiescent_Kernel (hKernel := Cert.Kernel.Gen.facts) := fun m ρ _ => Cert.Kernel.Gen.frame m ρ

/-- The kernel over the extended reals keeps its frame. -/
theorem frame_ideal : Cert.quiescent_KernelIdeal (hKernelIdeal := Cert.KernelIdeal.Gen.facts) := fun m ρ _ => Cert.KernelIdeal.Gen.frame m ρ

/-- The reference keeps its frame, whatever its arguments. -/
theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5))
      ∧ r.2.sem = fun _ => 0 :=
  (θ_run _ _ _).mono (fun r h => ⟨fun c => (h c).2.2.2.2, sem_eq_zero_of_no_sems (by decide) r.2⟩) (ReferenceIdeal.Value.run m ρ)

theorem frame_reference : Cert.quiescent_ReferenceIdeal (hReferenceIdeal := Cert.ReferenceIdeal.Gen.facts) := fun m ρ _ => reference_frame m ρ

/-- The kernel and the reference leave the same four arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.shapes) := by
  intro m ρ m' ρ' hpre hargs
  have e : ∀ c : Dev KernelIdeal.nD, Agree m m' c := fun c =>
    ⟨(hargs c).1, (hargs c).2.1, (hargs c).2.2.1, (hargs c).2.2.2.1, (hargs c).2.2.2.2.1, (hargs c).2.2.2.2.2⟩
  have h (c : Dev KernelIdeal.nD) (t : Fin 2048) (k : Fin 2816) :
      ∃ r : ℝ, A (KernelIdeal.Dact.DH m c) (KernelIdeal.Dact.WD m c) t k * KernelIdeal.Dact.Vv m c t k = r := by
    have := Cert.Pre_finite.shapes
    obtain ⟨h0, h1, h3⟩ := Cert.Pre_finite.real_of_fn _ _ _ _ _ _ (hpre c)
    exact av_real _ _ _ (fun _ _ => h0 _) (fun _ _ => h1 _) (fun _ _ => h3 _) t k
  refine ⟨KernelIdeal.Dact.R10 m, KernelIdeal.Dact.R11 m, KernelIdeal.Dact.R12 m, KernelIdeal.Dact.R13 m, ?_, ?_⟩
  · refine (θ_run _ _ _).mono (fun r hr c => ?_) (KernelIdeal.Value.run_blocks m ρ)
    obtain ⟨r0, r1, r2, r3, ha⟩ := hr c
    exact ⟨r0.trans (KernelIdeal.Dact.final10 m c), r1.trans (KernelIdeal.Dact.final11 m c), r2.trans (KernelIdeal.Dact.final12 m c),
      r3.trans (KernelIdeal.Dact.final13 m c), ha⟩
  · refine (θ_run _ _ _).mono (fun r hr c => ?_) (ReferenceIdeal.Value.run m' ρ')
    obtain ⟨r0, r1, r2, r3, ha⟩ := hr c
    exact ⟨r0.trans (dg_eq m m' c (e c) (h c)), r1.trans (dv_eq m m' c (e c)), r2.trans (dw_eq m m' c (e c) (h c)),
      r3.trans (db_eq m m' c (e c) (h c)), ha⟩

end Cert.Dact

end
-- ==== Proof.Attn.Case.lean ====
module

public import proofs.«01_k».proof.Proof.Gen.AttnIdeal.Frame
public import proofs.«01_k».proof.Proof.Gen.AttnIdeal.Loops

@[expose] public section

namespace Cert.AttnBwd

open Idealize.ShloMosaic Idealize.ShloMosaic.TcCoe
open Cert.AttnIdeal Cert.AttnIdeal.Gen

/-- The grid step is the first of its sweep over the key blocks. -/
abbrev isFirst (i : grid0.Coords) : Prop :=
  Scalar.cmpi .ne (Scalar.extui (Scalar.cmpi .eq (BitVec.ofNat 32 (i 1).val) 0#32)) (0#32 : BitVec 32) = 1#1

end Cert.AttnBwd
-- ==== Proof.Attn.RunA.lean ====
module

public import proofs.«01_k».proof.Proof.Attn.Case

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

set_option maxHeartbeats 4000000 in
/-- One grid step of the attention backward kernel at the first key block (both accumulators are filled first): run on whole buffers, the
    inputs at contents `x·`, it ends with the inputs as they were and with
    the listed pieces written into each buffer it stores into. -/
def runA (c : Dev nD) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (hc0 : isFirst i) (hc1 : ¬k0_cond2 i = 1#1)
    (x0 : Vec F S2x2048x256 .bf16) (x1 : Vec F S512x256 .bf16) (x2 : Vec F S512x128 .bf16) (x3 : Vec F S512x256 .bf16) (x4 : Vec F S2048x256 .bf16) (x5 : Vec F S2048x256 .bf16) (x6 : Vec F S2x1x2048 .f32) (x7 : Vec F S2048x128 .f32) (x8 : Vec F S2048x128 .f32) (x9 : Vec F S2048x128 .f32)  :
    Σ' (L13 : List (View.Piece (Elt F) S512x256 .bf16)), Σ' (L14 : List (View.Piece (Elt F) S2x512x128 .f32)), Σ' (L15 : List (View.Piece (Elt F) S512x256 .bf16)), Σ' (L16 : List (View.Piece (Elt F) S2x2048x256 .f32)), { L17 : List (View.Piece (Elt F) S2x1x2048 .f32) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (a16.view.loc (c : Thread nD τ) ↦[a16.view.set]{fullShare} a16.view.writes (Elt F) a16.view.junk L16) ∗ (a17.view.loc (c : Thread nD τ) ↦[a17.view.set]{fullShare} a17.view.writes (Elt F) a17.view.junk L17)) -∗ K ⟨⟩))
          ⊢ wp frame (wpE (defs₀ (F := F)) Variants.none c none) E (cc0_attn_bwd i a2 u2 a3 u3 a4 u4 a5 u5 a6 u6 a7 u7 a8 u8 a9 u9 a10 u10 a11 u11 a12 u12 a13 u13 a14 u14 a15 u15 a16 u16 a17 u17) K } := by
  refine ⟨?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d13, %f13, -, H13⟩, ⟨%d14, %f14, -, H14⟩, ⟨%d15, %f15, -, H15⟩, ⟨%d16, %f16, -, H16⟩, ⟨%d17, %f17, -, H17⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u11.eq_unread hf11
    sl_exec! (disch := first | sl_exact hc0 | sl_exact hc1)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]
    · iexists _; isplitr; · ipureintro; exact u11.read_unread _
      iexact H11
    isplitl [H13]
    · iexists _; iexact H13
    isplitl [H14]
    · iexists _; iexact H14
    isplitl [H15]
    · iexists _; iexact H15
    isplitl [H16]
    · iexact H16
    iexact H17

end Cert.AttnBwd
-- ==== Proof.Attn.RunB.lean ====
module

public import proofs.«01_k».proof.Proof.Attn.Case

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

set_option maxHeartbeats 4000000 in
/-- One grid step of the attention backward kernel at a middle key block: run on whole buffers, the
    inputs at contents `x·`, the two scratch buffers at contents `s·`, it ends with the inputs as they were and with
    the listed pieces written into each buffer it stores into. -/
def runB (c : Dev nD) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (hc0 : ¬isFirst i) (hc1 : ¬k0_cond2 i = 1#1)
    (x0 : Vec F S2x2048x256 .bf16) (x1 : Vec F S512x256 .bf16) (x2 : Vec F S512x128 .bf16) (x3 : Vec F S512x256 .bf16) (x4 : Vec F S2048x256 .bf16) (x5 : Vec F S2048x256 .bf16) (x6 : Vec F S2x1x2048 .f32) (x7 : Vec F S2048x128 .f32) (x8 : Vec F S2048x128 .f32) (x9 : Vec F S2048x128 .f32) (s0 : Vec F S2x2048x256 .f32) (s1 : Vec F S2x1x2048 .f32) :
    Σ' (L13 : List (View.Piece (Elt F) S512x256 .bf16)), Σ' (L14 : List (View.Piece (Elt F) S2x512x128 .f32)), Σ' (L15 : List (View.Piece (Elt F) S512x256 .bf16)), { L16 : List (View.Piece (Elt F) S2x2048x256 .f32) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ d, owns (c : Thread nD τ) a13 fullShare d) ∗ (∃ d, owns (c : Thread nD τ) a14 fullShare d) ∗ (∃ d, owns (c : Thread nD τ) a15 fullShare d) ∗ owns (c : Thread nD τ) a16 fullShare s0 ∗ owns (c : Thread nD τ) a17 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (a16.view.loc (c : Thread nD τ) ↦[a16.view.set]{fullShare} a16.view.writes (Elt F) (u16.unread s0) L16) ∗ owns (c : Thread nD τ) a17 fullShare s1) -∗ K ⟨⟩))
          ⊢ wp frame (wpE (defs₀ (F := F)) Variants.none c none) E (cc0_attn_bwd i a2 u2 a3 u3 a4 u4 a5 u5 a6 u6 a7 u7 a8 u8 a9 u9 a10 u10 a11 u11 a12 u12 a13 u13 a14 u14 a15 u15 a16 u16 a17 u17) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d13, %f13, -, H13⟩, ⟨%d14, %f14, -, H14⟩, ⟨%d15, %f15, -, H15⟩, ⟨%f16, %hf16, H16⟩, ⟨%f17, %hf17, H17⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u11.eq_unread hf11; obtain rfl := u16.eq_unread hf16; obtain rfl := u17.eq_unread hf17
    sl_exec! (disch := first | sl_exact hc0 | sl_exact hc1)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]
    · iexists _; isplitr; · ipureintro; exact u11.read_unread _
      iexact H11
    isplitl [H13]
    · iexists _; iexact H13
    isplitl [H14]
    · iexists _; iexact H14
    isplitl [H15]
    · iexists _; iexact H15
    isplitl [H16]
    · iexact H16
    iexists _; isplitr; · ipureintro; exact u17.read_unread _
    iexact H17

end Cert.AttnBwd
-- ==== Proof.Attn.RunC.lean ====
module

public import proofs.«01_k».proof.Proof.Attn.Case

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

set_option maxHeartbeats 4000000 in
/-- One grid step of the attention backward kernel at the last key block (the query gradient is written out): run on whole buffers, the
    inputs at contents `x·`, the two scratch buffers at contents `s·`, it ends with the inputs as they were and with
    the listed pieces written into each buffer it stores into. -/
def runC (c : Dev nD) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (hc0 : ¬isFirst i) (hc1 : k0_cond2 i = 1#1)
    (x0 : Vec F S2x2048x256 .bf16) (x1 : Vec F S512x256 .bf16) (x2 : Vec F S512x128 .bf16) (x3 : Vec F S512x256 .bf16) (x4 : Vec F S2048x256 .bf16) (x5 : Vec F S2048x256 .bf16) (x6 : Vec F S2x1x2048 .f32) (x7 : Vec F S2048x128 .f32) (x8 : Vec F S2048x128 .f32) (x9 : Vec F S2048x128 .f32) (s0 : Vec F S2x2048x256 .f32) (s1 : Vec F S2x1x2048 .f32) :
    Σ' (L12 : List (View.Piece (Elt F) S2x2048x256 .bf16)), Σ' (L13 : List (View.Piece (Elt F) S512x256 .bf16)), Σ' (L14 : List (View.Piece (Elt F) S2x512x128 .f32)), Σ' (L15 : List (View.Piece (Elt F) S512x256 .bf16)), { L16 : List (View.Piece (Elt F) S2x2048x256 .f32) //
      ∀ (E : Set ℕ) (K : PUnit → sProp (MT nD τ sig Unit (Elt F) ℕ (UR sig nD τ) ℕ)),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) a16 fullShare s0 ∗ owns (c : Thread nD τ) a17 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (a16.view.loc (c : Thread nD τ) ↦[a16.view.set]{fullShare} a16.view.writes (Elt F) (u16.unread s0) L16) ∗ owns (c : Thread nD τ) a17 fullShare s1) -∗ K ⟨⟩))
          ⊢ wp frame (wpE (defs₀ (F := F)) Variants.none c none) E (cc0_attn_bwd i a2 u2 a3 u3 a4 u4 a5 u5 a6 u6 a7 u7 a8 u8 a9 u9 a10 u10 a11 u11 a12 u12 a13 u13 a14 u14 a15 u15 a16 u16 a17 u17) K } := by
  refine ⟨?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u11.eq_unread hf11; obtain rfl := u16.eq_unread hf16; obtain rfl := u17.eq_unread hf17
    sl_exec! (disch := first | sl_exact hc0 | sl_exact hc1)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]
    · iexists _; isplitr; · ipureintro; exact u11.read_unread _
      iexact H11
    isplitl [H12]
    · iexists _; iexact H12
    isplitl [H13]
    · iexists _; iexact H13
    isplitl [H14]
    · iexists _; iexact H14
    isplitl [H15]
    · iexists _; iexact H15
    isplitl [H16]
    · iexact H16
    iexists _; isplitr; · ipureintro; exact u17.read_unread _
    iexact H17

end Cert.AttnBwd
-- ==== Proof.Attn.Data.lean ====
module

public import proofs.«01_k».proof.Proof.Attn.RunA
public import proofs.«01_k».proof.Proof.Attn.RunB
public import proofs.«01_k».proof.Proof.Attn.RunC

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnIdeal Cert.AttnIdeal.Gen

variable {F : FTy → Type} [FloatOps F] [Named F]
variable (m : (ℓ : Loc nD τ sig) → Buf (Elt F) ℓ) (c : Dev nD) (t : Fin cfg0.N)

/-- The run of the grid step `t` at the first key block (both accumulators are filled first), on the buffers and blocks of that step. -/
@[irreducible] def ptA (h0 : isFirst (grid0.coords t)) (h1 : ¬k0_cond2 (grid0.coords t) = 1#1) :=
  runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t)

/-- The run of the grid step `t` at a middle key block, on the buffers and blocks of that step. -/
@[irreducible] def ptB (h0 : ¬isFirst (grid0.coords t)) (h1 : ¬k0_cond2 (grid0.coords t) = 1#1) (s0 : Vec F S2x2048x256 .f32) (s1 : Vec F S2x1x2048 .f32) :=
  runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) s0 s1

/-- The run of the grid step `t` at the last key block (the query gradient is written out), on the buffers and blocks of that step. -/
@[irreducible] def ptC (h0 : ¬isFirst (grid0.coords t)) (h1 : k0_cond2 (grid0.coords t) = 1#1) (s0 : Vec F S2x2048x256 .f32) (s1 : Vec F S2x1x2048 .f32) :=
  runC (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) s0 s1

/-- A buffer of the shape of the output of window 10. -/
abbrev vo12 : View sig .tc .vmem S2x2048x256 .bf16 := (Memref.whole cc0_stg10_0 : Memref sig .tc .vmem S2x2048x256 .bf16).view

/-- A buffer of the shape of the output of window 11. -/
abbrev vo13 : View sig .tc .vmem S512x256 .bf16 := (Memref.whole cc0_stg11_0 : Memref sig .tc .vmem S512x256 .bf16).view

/-- A buffer of the shape of the output of window 12. -/
abbrev vo14 : View sig .tc .vmem S2x512x128 .f32 := (Memref.whole cc0_stg12_0 : Memref sig .tc .vmem S2x512x128 .f32).view

/-- A buffer of the shape of the output of window 13. -/
abbrev vo15 : View sig .tc .vmem S512x256 .bf16 := (Memref.whole cc0_stg13_0 : Memref sig .tc .vmem S512x256 .bf16).view

/-- The scratch buffer 0. -/
abbrev vs16 : View sig .tc .vmem S2x2048x256 .f32 := (Memref.whole cc0_scratch0 : Memref sig .tc .vmem S2x2048x256 .f32).view

/-- The scratch buffer 1. -/
abbrev vs17 : View sig .tc .vmem S2x1x2048 .f32 := (Memref.whole cc0_scratch1 : Memref sig .tc .vmem S2x1x2048 .f32).view

variable (F) in
/-- What a grid step leaves: the four output blocks and the two scratch buffers. -/
structure Out where
  /-- the query gradient's block -/
  dq : Vec F S2x2048x256 .bf16
  /-- the block of the gradient of the unrotated keys -/
  dkn : Vec F S512x256 .bf16
  /-- the block of the gradient of the rotated keys -/
  dkr : Vec F S2x512x128 .f32
  /-- the value gradient's block -/
  dv : Vec F S512x256 .bf16
  /-- the accumulator of the query gradient -/
  acc : Vec F S2x2048x256 .f32
  /-- the row sums of output times its cotangent -/
  dl : Vec F S2x1x2048 .f32

/-- What the step leaves at the first key block (both accumulators are filled first). -/
def outA (h0 : isFirst (grid0.coords t)) (h1 : ¬k0_cond2 (grid0.coords t) = 1#1) : Out F where
  dq := vo12.read (Elt F) vo12.junk
  dkn := vo13.read (Elt F) (vo13.writes (Elt F) vo13.junk (ptA m c t h0 h1).1)
  dkr := vo14.read (Elt F) (vo14.writes (Elt F) vo14.junk (ptA m c t h0 h1).2.1)
  dv := vo15.read (Elt F) (vo15.writes (Elt F) vo15.junk (ptA m c t h0 h1).2.2.1)
  acc := vs16.read (Elt F) (vs16.writes (Elt F) vs16.junk (ptA m c t h0 h1).2.2.2.1)
  dl := vs17.read (Elt F) (vs17.writes (Elt F) vs17.junk (ptA m c t h0 h1).2.2.2.2.1)

/-- What the step leaves at a middle key block. -/
def outB (h0 : ¬isFirst (grid0.coords t)) (h1 : ¬k0_cond2 (grid0.coords t) = 1#1) (s0 : Vec F S2x2048x256 .f32) (s1 : Vec F S2x1x2048 .f32) : Out F where
  dq := vo12.read (Elt F) vo12.junk
  dkn := vo13.read (Elt F) (vo13.writes (Elt F) vo13.junk (ptB m c t h0 h1 s0 s1).1)
  dkr := vo14.read (Elt F) (vo14.writes (Elt F) vo14.junk (ptB m c t h0 h1 s0 s1).2.1)
  dv := vo15.read (Elt F) (vo15.writes (Elt F) vo15.junk (ptB m c t h0 h1 s0 s1).2.2.1)
  acc := vs16.read (Elt F) (vs16.writes (Elt F) ((Memref.isWhole_whole _ : (Memref.whole cc0_scratch0 : Memref sig .tc .vmem S2x2048x256 .f32).IsWhole).unread s0) (ptB m c t h0 h1 s0 s1).2.2.2.1)
  dl := s1

/-- What the step leaves at the last key block (the query gradient is written out). -/
def outC (h0 : ¬isFirst (grid0.coords t)) (h1 : k0_cond2 (grid0.coords t) = 1#1) (s0 : Vec F S2x2048x256 .f32) (s1 : Vec F S2x1x2048 .f32) : Out F where
  dq := vo12.read (Elt F) (vo12.writes (Elt F) vo12.junk (ptC m c t h0 h1 s0 s1).1)
  dkn := vo13.read (Elt F) (vo13.writes (Elt F) vo13.junk (ptC m c t h0 h1 s0 s1).2.1)
  dkr := vo14.read (Elt F) (vo14.writes (Elt F) vo14.junk (ptC m c t h0 h1 s0 s1).2.2.1)
  dv := vo15.read (Elt F) (vo15.writes (Elt F) vo15.junk (ptC m c t h0 h1 s0 s1).2.2.2.1)
  acc := vs16.read (Elt F) (vs16.writes (Elt F) ((Memref.isWhole_whole _ : (Memref.whole cc0_scratch0 : Memref sig .tc .vmem S2x2048x256 .f32).IsWhole).unread s0) (ptC m c t h0 h1 s0 s1).2.2.2.2.1)
  dl := s1

/-- What the grid step `t` leaves, entered with the scratch buffers at `s0` and `s1`. -/
def step (s0 : Vec F S2x2048x256 .f32) (s1 : Vec F S2x1x2048 .f32) : Out F :=
  if h0 : isFirst (grid0.coords t) then
    if h1 : k0_cond2 (grid0.coords t) = 1#1 then
      ⟨vo12.read (Elt F) vo12.junk, vo13.read (Elt F) vo13.junk, vo14.read (Elt F) vo14.junk, vo15.read (Elt F) vo15.junk, s0, s1⟩
    else outA m c t h0 h1
  else
    if h1 : k0_cond2 (grid0.coords t) = 1#1 then outC m c t h0 h1 s0 s1
    else outB m c t h0 h1 s0 s1

/-- The scratch buffers before the grid step `n`. -/
def scr (c : Dev nD) : ℕ → Vec F S2x2048x256 .f32 × Vec F S2x1x2048 .f32
  | 0 => (vs16.read (Elt F) vs16.junk, vs17.read (Elt F) vs17.junk)
  | n + 1 => if h : n < cfg0.N then ((step m c ⟨n, h⟩ (scr c n).1 (scr c n).2).acc, (step m c ⟨n, h⟩ (scr c n).1 (scr c n).2).dl)
    else scr c n

/-- What the grid step `t` of the launch leaves. -/
def outAt : Out F := step m c t (scr m c t.val).1 (scr m c t.val).2

theorem scr_succ : scr m c (t.val + 1) = ((outAt m c t).acc, (outAt m c t).dl) := by
  rw [scr.eq_2]; exact dif_pos t.isLt

/-- The invariant before the grid step `n`: at the start the scratch buffers hold anything, later what the steps before
    left. -/
def inv (c : Dev nD) : ℕ → sProp (MT nD τ sig Unit (Elt F) ℕ (UR sig nD τ) ℕ)
  | 0 => Pipeline.ΦA spec0 c
  | n + 1 => iprop(owns (c : Thread nD τ) (Memref.whole cc0_scratch0) fullShare (scr m c (n + 1)).1
      ∗ owns (c : Thread nD τ) (Memref.whole cc0_scratch1) fullShare (scr m c (n + 1)).2 ∗ ∃ r, prngReg c r)

/-- The data the pipeline's proof tracks: the arrays at entry, what each step leaves in each window, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outAt m c t).dq
    | ⟨11, _⟩ => (outAt m c t).dkn
    | ⟨12, _⟩ => (outAt m c t).dkr
    | ⟨13, _⟩ => (outAt m c t).dv
  Φ n := inv m c n.val
  q w := Pipeline.shareOf spec0 w
  owed _ := 0

theorem A_eq (c : Dev nD) (w : Fin cfg0.W) : (dats m 0 c).A w = V m c (Pipeline.arrRef spec0 w) := by
  dsimp only [dats]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = (outAt m c t).dq := by dsimp only [dats]
theorem after11 : (dats m 0 c).after 11 t = (outAt m c t).dkn := by dsimp only [dats]
theorem after12 : (dats m 0 c).after 12 t = (outAt m c t).dkr := by dsimp only [dats]
theorem after13 : (dats m 0 c).after 13 t = (outAt m c t).dv := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d

theorem not_both : ∀ t : Fin cfg0.N, isFirst (grid0.coords t) → ¬k0_cond2 (grid0.coords t) = 1#1 := by decide +kernel

theorem first_zero : ∀ t : Fin cfg0.N, ¬isFirst (grid0.coords t) → t.val ≠ 0 := by decide +kernel

theorem idle_dq : ∀ t : Fin cfg0.N, ¬k0_cond2 (grid0.coords t) = 1#1 → cfg0.idle 10 (grid0.coords t) = true := by decide +kernel

theorem live_dq : ∀ t : Fin cfg0.N, k0_cond2 (grid0.coords t) = 1#1 → cfg0.idle 10 (grid0.coords t) = false := by decide +kernel

theorem flush_dq : ∀ t : Fin cfg0.N, ¬k0_cond2 (grid0.coords t) = 1#1 → (cfg0.win 10).flush t = false := by decide +kernel

section

variable (h0 : isFirst (grid0.coords t)) (h1 : ¬k0_cond2 (grid0.coords t) = 1#1) (s0 : Vec F S2x2048x256 .f32) (s1 : Vec F S2x1x2048 .f32)

theorem leftA13 (v : View sig .tc .vmem S512x256 .bf16) (f : v.ty.Contents (Elt F)) :
    v.read (Elt F) (v.writes (Elt F) f (ptA m c t h0 h1).1) = (outA m c t h0 h1).dkn :=
  View.read_writes_of_cover v f vo13 vo13.junk _ (View.cover_of_tiledL _ S512x128.size (by sl_kernel_rfl))

theorem leftA14 (v : View sig .tc .vmem S2x512x128 .f32) (f : v.ty.Contents (Elt F)) :
    v.read (Elt F) (v.writes (Elt F) f (ptA m c t h0 h1).2.1) = (outA m c t h0 h1).dkr :=
  View.read_writes_of_cover v f vo14 vo14.junk _ (View.cover_of_tiledL _ S1x512x128.size (by sl_kernel_rfl))

theorem leftA15 (v : View sig .tc .vmem S512x256 .bf16) (f : v.ty.Contents (Elt F)) :
    v.read (Elt F) (v.writes (Elt F) f (ptA m c t h0 h1).2.2.1) = (outA m c t h0 h1).dv :=
  View.read_writes_of_cover v f vo15 vo15.junk _ (View.cover_of_tiledL _ S512x128.size (by sl_kernel_rfl))

theorem step_A :
    step m c t s0 s1 = outA m c t h0 h1 := by
  unfold step; rw [dif_pos h0, dif_neg h1]

end

section

variable (h0 : ¬isFirst (grid0.coords t)) (h1 : ¬k0_cond2 (grid0.coords t) = 1#1) (s0 : Vec F S2x2048x256 .f32) (s1 : Vec F S2x1x2048 .f32)

theorem leftB13 (v : View sig .tc .vmem S512x256 .bf16) (f : v.ty.Contents (Elt F)) :
    v.read (Elt F) (v.writes (Elt F) f (ptB m c t h0 h1 s0 s1).1) = (outB m c t h0 h1 s0 s1).dkn :=
  View.read_writes_of_cover v f vo13 vo13.junk _ (View.cover_of_tiledL _ S512x128.size (by sl_kernel_rfl))

theorem leftB14 (v : View sig .tc .vmem S2x512x128 .f32) (f : v.ty.Contents (Elt F)) :
    v.read (Elt F) (v.writes (Elt F) f (ptB m c t h0 h1 s0 s1).2.1) = (outB m c t h0 h1 s0 s1).dkr :=
  View.read_writes_of_cover v f vo14 vo14.junk _ (View.cover_of_tiledL _ S1x512x128.size (by sl_kernel_rfl))

theorem leftB15 (v : View sig .tc .vmem S512x256 .bf16) (f : v.ty.Contents (Elt F)) :
    v.read (Elt F) (v.writes (Elt F) f (ptB m c t h0 h1 s0 s1).2.2.1) = (outB m c t h0 h1 s0 s1).dv :=
  View.read_writes_of_cover v f vo15 vo15.junk _ (View.cover_of_tiledL _ S512x128.size (by sl_kernel_rfl))

theorem step_B :
    step m c t s0 s1 = outB m c t h0 h1 s0 s1 := by
  unfold step; rw [dif_neg h0, dif_neg h1]

end

section

variable (h0 : ¬isFirst (grid0.coords t)) (h1 : k0_cond2 (grid0.coords t) = 1#1) (s0 : Vec F S2x2048x256 .f32) (s1 : Vec F S2x1x2048 .f32)

theorem leftC12 (v : View sig .tc .vmem S2x2048x256 .bf16) (f : v.ty.Contents (Elt F)) :
    v.read (Elt F) (v.writes (Elt F) f (ptC m c t h0 h1 s0 s1).1) = (outC m c t h0 h1 s0 s1).dq :=
  View.read_writes_of_cover v f vo12 vo12.junk _ (View.cover_of_tiledL _ S1x2048x128.size (by sl_kernel_rfl))

theorem leftC13 (v : View sig .tc .vmem S512x256 .bf16) (f : v.ty.Contents (Elt F)) :
    v.read (Elt F) (v.writes (Elt F) f (ptC m c t h0 h1 s0 s1).2.1) = (outC m c t h0 h1 s0 s1).dkn :=
  View.read_writes_of_cover v f vo13 vo13.junk _ (View.cover_of_tiledL _ S512x128.size (by sl_kernel_rfl))

theorem leftC14 (v : View sig .tc .vmem S2x512x128 .f32) (f : v.ty.Contents (Elt F)) :
    v.read (Elt F) (v.writes (Elt F) f (ptC m c t h0 h1 s0 s1).2.2.1) = (outC m c t h0 h1 s0 s1).dkr :=
  View.read_writes_of_cover v f vo14 vo14.junk _ (View.cover_of_tiledL _ S1x512x128.size (by sl_kernel_rfl))

theorem leftC15 (v : View sig .tc .vmem S512x256 .bf16) (f : v.ty.Contents (Elt F)) :
    v.read (Elt F) (v.writes (Elt F) f (ptC m c t h0 h1 s0 s1).2.2.2.1) = (outC m c t h0 h1 s0 s1).dv :=
  View.read_writes_of_cover v f vo15 vo15.junk _ (View.cover_of_tiledL _ S512x128.size (by sl_kernel_rfl))

theorem step_C :
    step m c t s0 s1 = outC m c t h0 h1 s0 s1 := by
  unfold step; rw [dif_neg h0, dif_pos h1]

end

end Cert.AttnBwd
-- ==== Proof.Attn.Body.lean ====
module

public import proofs.«01_k».proof.Proof.Attn.Data

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnIdeal Cert.AttnIdeal.Gen

variable {F : FTy → Type} [FloatOps F] [Named F]
variable (m : (ℓ : Loc nD τ sig) → Buf (Elt F) ℓ)

/-- What the body is entered with at the grid step `t`. -/
def entered (c : Dev nD) (t : Fin cfg0.N) (Φ : sProp (MT nD τ sig Unit (Elt F) ℕ (UR sig nD τ) ℕ)) : sProp (MT nD τ sig Unit (Elt F) ℕ (UR sig nD τ) ℕ) :=
  iprop(Φ ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What the body must leave at the grid step `t`. -/
def left (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem inv_pos (c : Dev nD) (n : ℕ) (h : n ≠ 0) : inv m c n = iprop(owns (c : Thread nD τ) (Memref.whole cc0_scratch0) fullShare (scr m c n).1
      ∗ owns (c : Thread nD τ) (Memref.whole cc0_scratch1) fullShare (scr m c n).2 ∗ ∃ r, prngReg c r) := by
  obtain ⟨k, rfl⟩ := Nat.exists_eq_succ_of_ne_zero h; rfl

/-- What the body must leave, written out but for the query gradient's block. -/
theorem left_eq (c : Dev nD) (t : Fin cfg0.N) : left m c t = iprop((owns (c : Thread nD τ) (Memref.whole cc0_scratch0) fullShare (outAt m c t).acc
      ∗ owns (c : Thread nD τ) (Memref.whole cc0_scratch1) fullShare (outAt m c t).dl ∗ ∃ r, prngReg c r) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ (dats m 0 c).leavesExact 10 t
    ∗ owns (c : Thread nD τ) (st0_11 t) fullShare (outAt m c t).dkn
    ∗ owns (c : Thread nD τ) (st0_12 t) fullShare (outAt m c t).dkr
    ∗ owns (c : Thread nD τ) (st0_13 t) fullShare (outAt m c t).dv) := by
  unfold left
  rw [show (dats m 0 c).Φ t.succ = iprop(owns (c : Thread nD τ) (Memref.whole cc0_scratch0) fullShare (outAt m c t).acc
      ∗ owns (c : Thread nD τ) (Memref.whole cc0_scratch1) fullShare (outAt m c t).dl ∗ ∃ r, prngReg c r) from by
      show inv m c (t.val + 1) = _; rw [inv_pos m c _ (Nat.succ_ne_zero _), scr_succ],
    show (dats m 0 c).owesAt () t.succ = (dats m 0 c).owesAt () t.castSucc from rfl]
  rw [show (dats m 0 c).leavesExact 0 t = owns (c : Thread nD τ) (st0_0 t) fullShare ((dats m 0 c).after 0 t) from rfl, after0]
  rw [show (dats m 0 c).leavesExact 1 t = owns (c : Thread nD τ) (st0_1 t) fullShare ((dats m 0 c).after 1 t) from rfl, after1]
  rw [show (dats m 0 c).leavesExact 2 t = owns (c : Thread nD τ) (st0_2 t) fullShare ((dats m 0 c).after 2 t) from rfl, after2]
  rw [show (dats m 0 c).leavesExact 3 t = owns (c : Thread nD τ) (st0_3 t) fullShare ((dats m 0 c).after 3 t) from rfl, after3]
  rw [show (dats m 0 c).leavesExact 4 t = owns (c : Thread nD τ) (st0_4 t) fullShare ((dats m 0 c).after 4 t) from rfl, after4]
  rw [show (dats m 0 c).leavesExact 5 t = owns (c : Thread nD τ) (st0_5 t) fullShare ((dats m 0 c).after 5 t) from rfl, after5]
  rw [show (dats m 0 c).leavesExact 6 t = owns (c : Thread nD τ) (st0_6 t) fullShare ((dats m 0 c).after 6 t) from rfl, after6]
  rw [show (dats m 0 c).leavesExact 7 t = owns (c : Thread nD τ) (st0_7 t) fullShare ((dats m 0 c).after 7 t) from rfl, after7]
  rw [show (dats m 0 c).leavesExact 8 t = owns (c : Thread nD τ) (st0_8 t) fullShare ((dats m 0 c).after 8 t) from rfl, after8]
  rw [show (dats m 0 c).leavesExact 9 t = owns (c : Thread nD τ) (st0_9 t) fullShare ((dats m 0 c).after 9 t) from rfl, after9]
  rw [show (dats m 0 c).leavesExact 11 t = owns (c : Thread nD τ) (st0_11 t) fullShare ((dats m 0 c).after 11 t) from rfl, after11]
  rw [show (dats m 0 c).leavesExact 12 t = owns (c : Thread nD τ) (st0_12 t) fullShare ((dats m 0 c).after 12 t) from rfl, after12]
  rw [show (dats m 0 c).leavesExact 13 t = owns (c : Thread nD τ) (st0_13 t) fullShare ((dats m 0 c).after 13 t) from rfl, after13]

/-- The invariant after some step gives back the scratch buffers at some contents. -/
theorem inv_forget (c : Dev nD) : ∀ n, inv m c n ⊢ Pipeline.ΦA spec0 c
  | 0 => .rfl
  | n + 1 => by
    rw [inv_pos m c _ (Nat.succ_ne_zero n)]; unfold Pipeline.ΦA
    rw [scopedRest0_eq, owns_whole, owns_whole]
    iintro ⟨H0, H1, Hr⟩
    isplitl [H0 H1]
    · isplitl [H0]
      · iexists _; iexact H0
      iexists _; iexact H1
    iexact Hr

set_option maxHeartbeats 2000000 in
/-- The body's specification at the first key block (both accumulators are filled first). -/
theorem bodyA (c : Dev nD) (t : Fin cfg0.N) (h0 : isFirst (grid0.coords t)) (h1 : ¬k0_cond2 (grid0.coords t) = 1#1) :
    entered m c t (Pipeline.ΦA spec0 c) ⊢ wp frame (wpE (defs₀ (F := F)) Variants.none c none) Set.univ (bodyAt0 t) (fun _ => left m c t) := by
  unfold entered bodyAt0
  simp only [before0, before1, before2, before3, before4, before5, before6, before7, before8, before9]
  rw [left_eq]
  rw [(dats m 0 c).leavesExact_idle 10 t (idle_dq t h1) (flush_dq t h1)]
  rw [show outAt m c t = outA m c t h0 h1 from step_A m c t h0 h1 _ _]
  unfold Pipeline.ΦA; rw [scopedRest0_eq]
  iintro ⟨⟨⟨⟨%g0, S0⟩, ⟨%g1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩, ⟨%d12, H12⟩, ⟨%d13, H13⟩⟩
  iapply ((ptA m c t h0 h1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  isplitl [H12]; · iexists _; iexact H12
  isplitl [H13]; · iexists _; iexact H13
  isplitl [S0]; · iexists g0; rw [owns_whole]; iexact S0
  isplitl [S1]; · iexists g1; rw [owns_whole]; iexact S1
  iintro ⟨H0, H1, H2, H3, H4, H5, H6, H7, H8, H9, ⟨%e11, H11⟩, ⟨%e12, H12⟩, ⟨%e13, H13⟩, S0, S1⟩
  isplitl [S0 S1 Hr]
  · isplitl [S0]
    · unfold owns; iexists _; isplitr; swap; · iexact S0
      ipureintro; rfl
    isplitl [S1]
    · unfold owns; iexists _; isplitr; swap; · iexact S1
      ipureintro; rfl
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; · iexact H11
    ipureintro; exact leftA13 m c t h0 h1 _ _
  isplitl [H12]
  · unfold owns; iexists _; isplitr; swap; · iexact H12
    ipureintro; exact leftA14 m c t h0 h1 _ _
  unfold owns; iexists _; isplitr; swap; · iexact H13
  ipureintro; exact leftA15 m c t h0 h1 _ _

set_option maxHeartbeats 2000000 in
/-- The body's specification at a middle key block. -/
theorem bodyB (c : Dev nD) (t : Fin cfg0.N) (h0 : ¬isFirst (grid0.coords t)) (h1 : ¬k0_cond2 (grid0.coords t) = 1#1) :
    entered m c t (inv m c t.val) ⊢ wp frame (wpE (defs₀ (F := F)) Variants.none c none) Set.univ (bodyAt0 t) (fun _ => left m c t) := by
  unfold entered bodyAt0
  simp only [before0, before1, before2, before3, before4, before5, before6, before7, before8, before9]
  rw [left_eq]
  rw [(dats m 0 c).leavesExact_idle 10 t (idle_dq t h1) (flush_dq t h1)]
  rw [show outAt m c t = outB m c t h0 h1 (scr m c t.val).1 (scr m c t.val).2 from step_B m c t h0 h1 _ _]
  rw [inv_pos m c t.val (first_zero t h0)]
  iintro ⟨⟨S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%d11, H11⟩, ⟨%d12, H12⟩, ⟨%d13, H13⟩⟩
  iapply ((ptB m c t h0 h1 (scr m c t.val).1 (scr m c t.val).2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexists _; iexact H11
  isplitl [H12]; · iexists _; iexact H12
  isplitl [H13]; · iexists _; iexact H13
  isplitl [S0]; · iexact S0
  isplitl [S1]; · iexact S1
  iintro ⟨H0, H1, H2, H3, H4, H5, H6, H7, H8, H9, ⟨%e11, H11⟩, ⟨%e12, H12⟩, ⟨%e13, H13⟩, S0, S1⟩
  isplitl [S0 S1 Hr]
  · isplitl [S0]
    · unfold owns; iexists _; isplitr; swap; · iexact S0
      ipureintro; rfl
    isplitl [S1]
    · iexact S1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr; swap; · iexact H11
    ipureintro; exact leftB13 m c t h0 h1 _ _ _ _
  isplitl [H12]
  · unfold owns; iexists _; isplitr; swap; · iexact H12
    ipureintro; exact leftB14 m c t h0 h1 _ _ _ _
  unfold owns; iexists _; isplitr; swap; · iexact H13
  ipureintro; exact leftB15 m c t h0 h1 _ _ _ _

set_option maxHeartbeats 2000000 in
/-- The body's specification at the last key block (the query gradient is written out). -/
theorem bodyC (c : Dev nD) (t : Fin cfg0.N) (h0 : ¬isFirst (grid0.coords t)) (h1 : k0_cond2 (grid0.coords t) = 1#1) :
    entered m c t (inv m c t.val) ⊢ wp frame (wpE (defs₀ (F := F)) Variants.none c none) Set.univ (bodyAt0 t) (fun _ => left m c t) := by
  unfold entered bodyAt0
  simp only [before0, before1, before2, before3, before4, before5, before6, before7, before8, before9]
  rw [left_eq]
  rw [show (dats m 0 c).leavesExact 10 t = owns (c : Thread nD τ) (st0_10 t) fullShare ((dats m 0 c).after 10 t) from by
    unfold Dat.leavesExact; rw [live_dq t h1], after10]
  rw [show outAt m c t = outC m c t h0 h1 (scr m c t.val).1 (scr m c t.val).2 from step_C m c t h0 h1 _ _]
  rw [inv_pos m c t.val (first_zero t h0)]
  iintro ⟨⟨S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((ptC m c t h0 h1 (scr m c t.val).1 (scr m c t.val).2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [S0]; · iexact S0
  isplitl [S1]; · iexact S1
  iintro ⟨H0, H1, H2, H3, H4, H5, H6, H7, H8, H9, ⟨%e10, H10⟩, ⟨%e11, H11⟩, ⟨%e12, H12⟩, ⟨%e13, H13⟩, S0, S1⟩
  isplitl [S0 S1 Hr]
  · isplitl [S0]
    · unfold owns; iexists _; isplitr; swap; · iexact S0
      ipureintro; rfl
    isplitl [S1]
    · iexact S1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr; swap; · iexact H10
    ipureintro; exact leftC12 m c t h0 h1 _ _ _ _
  isplitl [H11]
  · unfold owns; iexists _; isplitr; swap; · iexact H11
    ipureintro; exact leftC13 m c t h0 h1 _ _ _ _
  isplitl [H12]
  · unfold owns; iexists _; isplitr; swap; · iexact H12
    ipureintro; exact leftC14 m c t h0 h1 _ _ _ _
  unfold owns; iexists _; isplitr; swap; · iexact H13
  ipureintro; exact leftC15 m c t h0 h1 _ _ _ _

/-- The body's specification at any grid step. -/
theorem body_sound (c : Dev nD) (t : Fin cfg0.N) :
    entered m c t ((dats m 0 c).Φ t.castSucc) ⊢ wp frame (wpE (defs₀ (F := F)) Variants.none c none) Set.univ (bodyAt0 t) (fun _ => left m c t) := by
  show entered m c t (inv m c t.val) ⊢ _
  by_cases h0 : isFirst (grid0.coords t)
  · refine .trans ?_ (bodyA m c t h0 (not_both t h0))
    unfold entered
    exact sep_mono (inv_forget m c _) .rfl
  · by_cases h1 : k0_cond2 (grid0.coords t) = 1#1
    · exact bodyC m c t h0 h1
    · exact bodyB m c t h0 h1

theorem row (t : Fin cfg0.N) : (defs₀ (F := F)) .tc cfg0.body (cfg0.bodyArgs t (cfg0.slots t)) = bodyAt0 t := by
  unfold defs₀; rw [Defs.onTc_tc]

/-- The obligation the pipeline's proof asks of the body. -/
theorem obligation (c : Dev nD) : BodyObligation (dats (F := F) m 0 c) (defs₀ (F := F)) Variants.none () Set.univ := fun t => by
  rw [bigSep_W0, bigSep_W0, row]
  exact body_sound m c t

end Cert.AttnBwd
-- ==== Proof.Attn.Launch.lean ====
module

public import proofs.«01_k».proof.Proof.Attn.Body
public import Idealize.ShloMosaic.Lib.Claim

@[expose] public section

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.AttnIdeal Cert.AttnIdeal.Gen

variable {F : FTy → Type} [FloatOps F] [Named F]
variable (m : (ℓ : Loc nD τ sig) → Buf (Elt F) ℓ) (ρ : Dev nD → PrngReg)

theorem share_eq (c : Dev nD) (w : Fin cfg0.W) : (dats m 0 c).share w = fullShare := by
  unfold Dat.share
  split
  · rfl
  · exact Pipeline.shareOf_eq_fullShare_of_injective spec0 winFacts0.arr_inj w

set_option backward.isDefEq.respectTransparency.types false in
/-- Every weakly fair execution of the attention backward program ends; at the end the arrays of its call hold what the
    tracked data says, every other buffer is as the call found it, and every semaphore counter is zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := share_eq m)
    (howed := fun _ _ => rfl) (V := V m) (hmain := hmain m Variants.none) (hA := A_eq m)
    (hin := fun _ => .rfl) (hout := fun c => inv_forget m c cfg0.N)

theorem run_post : θ_run defs (onTc (τ := τ) (main (F := F))) (s₀ m ρ) (Pipeline.FramePost cfgs (dats m) 0 (V m)) :=
  (θ_run defs _ _).mono (fun _ h => h.1) (run_all m ρ)

/-- The program's arguments end unchanged and its semaphores at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_all m ρ))

end Cert.AttnBwd
-- ==== Proof.AttnBits.Case.lean ====
module

public import proofs.«01_k».proof.Proof.Gen.Attn.Frame
public import proofs.«01_k».proof.Proof.Gen.Attn.Loops

@[expose] public section

namespace Cert.AttnBits

open Idealize.ShloMosaic Idealize.ShloMosaic.TcCoe
open Cert.Attn Cert.Attn.Gen

/-- The grid step is the first of its sweep over the key blocks. -/
abbrev isFirst (i : grid0.Coords) : Prop :=
  Scalar.cmpi .ne (Scalar.extui (Scalar.cmpi .eq (BitVec.ofNat 32 (i 1).val) 0#32)) (0#32 : BitVec 32) = 1#1

end Cert.AttnBits
-- ==== Proof.AttnBits.Launch.lean ====
module

public import proofs.«01_k».proof.Proof.AttnBits.Body
public import Idealize.ShloMosaic.Lib.Claim

@[expose] public section

noncomputable section

namespace Cert.AttnBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Attn Cert.Attn.Gen

variable {F : FTy → Type} [FloatOps F]
variable (m : (ℓ : Loc nD τ sig) → Buf (Elt F) ℓ) (ρ : Dev nD → PrngReg)

theorem share_eq (c : Dev nD) (w : Fin cfg0.W) : (dats m 0 c).share w = fullShare := by
  unfold Dat.share
  split
  · rfl
  · exact Pipeline.shareOf_eq_fullShare_of_injective spec0 winFacts0.arr_inj w

set_option backward.isDefEq.respectTransparency.types false in
/-- Every weakly fair execution of the attention backward program ends; at the end the arrays of its call hold what the
    tracked data says, every other buffer is as the call found it, and every semaphore counter is zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := share_eq m)
    (howed := fun _ _ => rfl) (V := V m) (hmain := hmain m Variants.none) (hA := A_eq m)
    (hin := fun _ => .rfl) (hout := fun c => inv_forget m c cfg0.N)

theorem run_post : θ_run defs (onTc (τ := τ) (main (F := F))) (s₀ m ρ) (Pipeline.FramePost cfgs (dats m) 0 (V m)) :=
  (θ_run defs _ _).mono (fun _ h => h.1) (run_all m ρ)

/-- The program's arguments end unchanged and its semaphores at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_all m ρ))

end Cert.AttnBits
-- ==== Proof.Attn.Frames.lean ====
module

public import proofs.«01_k».proof.Defs
public import proofs.«01_k».proof.Proof.Attn.Launch
public import proofs.«01_k».proof.Proof.AttnBits.Launch
public import proofs.«01_k».proof.Proof.Gen.AttnRefIdeal.Run
public import Idealize.ShloMosaic.Lib.Quiescent

@[expose] public section

noncomputable section

namespace Cert.AttnBwd

open Idealize.ShloMosaic Idealize.ShloMosaic.TcCoe Idealize.SL.Sem

/-- The kernel over words keeps its frame. -/
theorem frame_bits : Cert.quiescent_Attn (hAttn := Cert.Attn.Gen.facts) := fun m ρ _ => Cert.AttnBits.frame_any m ρ

/-- The kernel over the extended reals keeps its frame. -/
theorem frame_ideal : Cert.quiescent_AttnIdeal (hAttnIdeal := Cert.AttnIdeal.Gen.facts) := fun m ρ _ => frame_any m ρ

/-- The reference keeps its frame, whatever its arguments. -/
theorem reference_frame (m : (ℓ : Loc AttnRefIdeal.nD AttnRefIdeal.τ AttnRefIdeal.sig) → Buf (Elt Ideal) ℓ) (ρ : Dev AttnRefIdeal.nD → PrngReg) :
    θ_run (AttnRefIdeal.defs (F := Ideal)) (onTc (τ := AttnRefIdeal.τ) (AttnRefIdeal.main (F := Ideal))) ⟨m, fun _ => 0, ρ⟩ fun r =>
      (∀ c : Dev AttnRefIdeal.nD,
        r.2.mem ((c.tc : Thread AttnRefIdeal.nD AttnRefIdeal.τ).loc AttnRefIdeal.main_arg0) = m ((c.tc : Thread AttnRefIdeal.nD AttnRefIdeal.τ).loc AttnRefIdeal.main_arg0)
        ∧ r.2.mem ((c.tc : Thread AttnRefIdeal.nD AttnRefIdeal.τ).loc AttnRefIdeal.main_arg1) = m ((c.tc : Thread AttnRefIdeal.nD AttnRefIdeal.τ).loc AttnRefIdeal.main_arg1)
        ∧ r.2.mem ((c.tc : Thread AttnRefIdeal.nD AttnRefIdeal.τ).loc AttnRefIdeal.main_arg2) = m ((c.tc : Thread AttnRefIdeal.nD AttnRefIdeal.τ).loc AttnRefIdeal.main_arg2)
        ∧ r.2.mem ((c.tc : Thread AttnRefIdeal.nD AttnRefIdeal.τ).loc AttnRefIdeal.main_arg3) = m ((c.tc : Thread AttnRefIdeal.nD AttnRefIdeal.τ).loc AttnRefIdeal.main_arg3)
        ∧ r.2.mem ((c.tc : Thread AttnRefIdeal.nD AttnRefIdeal.τ).loc AttnRefIdeal.main_arg4) = m ((c.tc : Thread AttnRefIdeal.nD AttnRefIdeal.τ).loc AttnRefIdeal.main_arg4)
        ∧ r.2.mem ((c.tc : Thread AttnRefIdeal.nD AttnRefIdeal.τ).loc AttnRefIdeal.main_arg5) = m ((c.tc : Thread AttnRefIdeal.nD AttnRefIdeal.τ).loc AttnRefIdeal.main_arg5))
      ∧ r.2.sem = fun _ => 0 :=
  (θ_run _ _ _).mono (fun r h => ⟨fun c => (h c).2.2.2.2, sem_eq_zero_of_no_sems (by decide) r.2⟩) (AttnRefIdeal.Value.run m ρ)

theorem frame_reference : Cert.quiescent_AttnRefIdeal (hAttnRefIdeal := Cert.AttnRefIdeal.Gen.facts) := fun m ρ _ => reference_frame m ρ

/-- Each named constant denotes the extended real the table gives for it. -/
theorem preserves : Cert.preserves_Attn_AttnIdeal :=
  ⟨IdealRules.named_const.statement Cert.AttnIdeal.κ "mask" .f32 0xF149F2CA#32 ⊥ rfl,
    IdealRules.named_const.statement Cert.AttnIdeal.κ "ln2" .f32 0x3F317218#32 ((Real.log 2 : ℝ) : EReal) rfl,
    IdealRules.named_const.statement Cert.AttnIdeal.κ "scale" .f32 0x3D93CD3A#32 (((Real.sqrt 192)⁻¹ : ℝ) : EReal) rfl⟩

end Cert.AttnBwd

end
-- ==== Proof.Attn.Score.lean ====
/-
  The softmax weights and their gradients as one block of keys sees them, over the extended reals.
-/
module

public import proofs.«01_k».proof.Proof.Attn.Launch
public import Idealize.ShloMosaic.Lib.Pointwise
public import Idealize.ShloMosaic.Lib.VecWindow

@[expose] public section

noncomputable section

namespace Cert.AttnBwd

open Cert.AttnIdeal Cert.AttnIdeal.Gen Idealize.ShloMosaic Idealize.ShloMosaic.TcCoe

/-- Lane `d` of head `a` of a pair of heads. -/
def lane (a : Fin 2) (d : Fin 128) : Fin 256 := ⟨128 * a.val + d.val, by have := a.isLt; have := d.isLt; omega⟩

/-- The score of key row `r` against query row `t` of head `a`. -/
def score (kv : Vec Ideal S512x256 .bf16) (x0 : Vec Ideal S2x2048x256 .bf16) (a : Fin 2) (r : Fin 512) (t : Fin 2048) : EReal :=
  ∑ l : Fin 256, kv (ix2 r l) * x0 (ix3 a t l)

/-- The softmax weight of row `r` of key block `j` for query row `t`: zero where the key lies in a later group of 64 rows. -/
def wt (j : ℕ) (kv : Vec Ideal S512x256 .bf16) (x0 : Vec Ideal S2x2048x256 .bf16) (x6 : Vec Ideal S2x1x2048 .f32) (a : Fin 2)
    (r : Fin 512) (t : Fin 2048) : EReal :=
  Ideal.exp2 ((if (512 * j + r.val) / 64 ≤ t.val / 64 then score kv x0 a r t else ⊥) - x6 (ix3 a 0 t))

/-- The gradient of the score. -/
def ds (j : ℕ) (kv : Vec Ideal S512x256 .bf16) (vv : Vec Ideal S512x128 .bf16) (x0 : Vec Ideal S2x2048x256 .bf16) (x5 : Vec Ideal S2048x256 .bf16)
    (x6 dl : Vec Ideal S2x1x2048 .f32) (a : Fin 2) (r : Fin 512) (t : Fin 2048) : EReal :=
  wt j kv x0 x6 a r t * ((∑ d : Fin 128, vv (ix2 r d) * x5 (ix2 t (lane a d))) - dl (ix3 a 0 t))

/-- Query row `c` of block `n`. -/
def brow (n : ℕ) (h : n < 4) (c : Fin 512) : Fin 2048 := ⟨512 * n + c.val, by have := c.isLt; omega⟩

section Loads

variable {sp : Space} {F : FTy → Type}

/-- A load of 512 rows of one head. -/
theorem load3 {e : EltTy} (v : View sig .tc sp S2x2048x256 e) (f : v.ty.Contents (Elt F)) {off : Fin 3 → ℕ}
    (inb : ∀ a, off a + (![1, 512, 256] : Fin _ → ℕ) a ≤ S2x2048x256.size a) (a : Fin 2) (o : ℕ) (h : off = ![a.val, o, 0]) (ho : o + 512 ≤ 2048)
    (z : Fin 1) (c : Fin 512) (l : Fin 256) :
    v.readAt (Elt F) (Rect.unit (s := S2x2048x256) off ![1, 512, 256] inb).toLoadRect f (ix3 z c l) = v.read (Elt F) f (ix3 a ⟨o + c.val, by omega⟩ l) := by
  subst h
  rw [View.readAt_unit v f inb rfl inb]
  refine congrArg (v.read (Elt F) f) (funext fun b => Fin.ext ?_)
  match b with
  | ⟨0, _⟩ => show a.val + 1 * z.val = a.val; omega
  | ⟨1, _⟩ => show o + 1 * c.val = o + c.val; omega
  | ⟨2, _⟩ => show 0 + 1 * l.val = l.val; omega

/-- A load of 512 rows of one head of a row-major block. -/
theorem load2 {e : EltTy} (v : View sig .tc sp S2048x256 e) (f : v.ty.Contents (Elt F)) {off : Fin 2 → ℕ}
    (inb : ∀ a, off a + (![512, 128] : Fin _ → ℕ) a ≤ S2048x256.size a) (a : Fin 2) (o : ℕ) (h : off = ![o, 128 * a.val]) (ho : o + 512 ≤ 2048)
    (c : Fin 512) (l : Fin 128) :
    v.readAt (Elt F) (Rect.unit (s := S2048x256) off ![512, 128] inb).toLoadRect f (ix2 c l) = v.read (Elt F) f (ix2 ⟨o + c.val, by omega⟩ (lane a l)) := by
  subst h
  rw [View.readAt_unit v f inb rfl inb]
  refine congrArg (v.read (Elt F) f) (funext fun b => Fin.ext ?_)
  match b with
  | ⟨0, _⟩ => show o + 1 * c.val = o + c.val; omega
  | ⟨1, _⟩ => show 128 * a.val + 1 * l.val = 128 * a.val + l.val; omega

/-- A load of 512 entries of one head's row. -/
theorem load1 {e : EltTy} (v : View sig .tc sp S2x1x2048 e) (f : v.ty.Contents (Elt F)) {off : Fin 3 → ℕ}
    (inb : ∀ a, off a + (![1, 1, 512] : Fin _ → ℕ) a ≤ S2x1x2048.size a) (a : Fin 2) (o : ℕ) (h : off = ![a.val, 0, o]) (ho : o + 512 ≤ 2048)
    (z y : Fin 1) (c : Fin 512) :
    v.readAt (Elt F) (Rect.unit (s := S2x1x2048) off ![1, 1, 512] inb).toLoadRect f (ix3 z y c) = v.read (Elt F) f (ix3 a 0 ⟨o + c.val, by omega⟩) := by
  subst h
  rw [View.readAt_unit v f inb rfl inb]
  refine congrArg (v.read (Elt F) f) (funext fun b => Fin.ext ?_)
  match b with
  | ⟨0, _⟩ => show a.val + 1 * z.val = a.val; omega
  | ⟨1, _⟩ => show 0 + 1 * y.val = 0; omega
  | ⟨2, _⟩ => show o + 1 * c.val = o + c.val; omega

/-- A store of 512 rows of one head, read back. -/
theorem store3 {α : Type} (x : S2x2048x256.Idx → α) (a : Fin 2) (o : ℕ) (ho : o + 512 ≤ 2048)
    (w : ((b : Fin 3) → Fin ((![1, 512, 256] : Fin 3 → ℕ) b)) → α) (a' : Fin 2) (t : Fin 2048) (l : Fin 256) :
    VecWindow.put (s := S2x2048x256) x ![a.val, o, 0] ![1, 512, 256] w (ix3 a' t l)
      = if h : a' = a ∧ o ≤ t.val ∧ t.val < o + 512 then w (ix3 (0 : Fin 1) (⟨t.val - o, by omega⟩ : Fin 512) l) else x (ix3 a' t l) := by
  unfold VecWindow.put
  by_cases h : a' = a ∧ o ≤ t.val ∧ t.val < o + 512
  · have ha := h.1
    subst ha
    rw [dif_pos h, dif_pos (fun b => match b with
      | ⟨0, _⟩ => ⟨Nat.le_refl a'.val, Nat.lt_succ_self a'.val⟩
      | ⟨1, _⟩ => h.2
      | ⟨2, _⟩ => ⟨Nat.zero_le l.val, (Nat.zero_add 256).symm ▸ l.isLt⟩)]
    refine congrArg w (funext fun b => Fin.ext ?_)
    match b with
    | ⟨0, _⟩ => show a'.val - a'.val = 0; omega
    | ⟨1, _⟩ => rfl
    | ⟨2, _⟩ => show l.val - 0 = l.val; omega
  · rw [dif_neg h, dif_neg]
    intro hb
    have h0 : a.val ≤ a'.val ∧ a'.val < a.val + 1 := hb 0
    have h1 : o ≤ t.val ∧ t.val < o + 512 := hb 1
    exact h ⟨Fin.ext (by omega), h1⟩

end Loads

/-- Below the diagonal block every key is visible. -/
theorem wt_below (j : ℕ) (kv : Vec Ideal S512x256 .bf16) (x0 : Vec Ideal S2x2048x256 .bf16) (x6 : Vec Ideal S2x1x2048 .f32) (a : Fin 2)
    (r : Fin 512) (t : Fin 2048) (h : 512 * j + 512 ≤ t.val) :
    wt j kv x0 x6 a r t = Ideal.exp2 (score kv x0 a r t - x6 (ix3 a 0 t)) := by
  unfold wt
  have := r.isLt
  rw [if_pos (by omega)]

end Cert.AttnBwd
-- ==== Proof.Attn.Trip.lean ====
/-
  One round of the loop over the query blocks below the diagonal: what it adds to the four running products and to the
  accumulator of the query gradient.
-/
module

public import proofs.«01_k».proof.Proof.Attn.Score

@[expose] public section

set_option maxRecDepth 16384

noncomputable section

namespace Cert.AttnBwd

open Cert.AttnIdeal Cert.AttnIdeal.Gen Idealize.ShloMosaic Idealize.ShloMosaic.TcCoe
open Idealize.SL Idealize.SL.RA Idealize.SL.BI

/-- Query row `c` of the block which round `k` of the loop reads. -/
def qrow (i : grid0.Coords) (k : Fin (k0_t1_loop i).trips) (c : Fin 512) : Fin 2048 :=
  ⟨512 * (i 1).val + 512 * k.val + 512 + c.val, by
    have h := k0_off9_inb i k 0
    rw [k0_off9_eq] at h
    have := c.isLt
    have h2 : 512 * (i 1).val + 512 * k.val + 512 + 512 ≤ 2048 := h
    omega⟩

theorem qrow_le (i : grid0.Coords) (k : Fin (k0_t1_loop i).trips) : 512 * (i 1).val + 512 * k.val + 512 + 512 ≤ 2048 := by
  have h := k0_off9_inb i k 0
  rw [k0_off9_eq] at h
  exact h

section

variable (𝒱 : Variants) (c : Dev nD) (bd : Option 𝒱.V) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (a1 : BitVec 32) (v7 : FVec Ideal S512x256 .bf16) (v10 : FVec Ideal S512x256 .bf16) (v12 : FVec Ideal S512x128 .bf16) (v14 : FVec Ideal S512x128 .bf16) (v15 : FVec Ideal S512x256 .f32) (v16 : FVec Ideal S512x128 .f32) (v18 : BitVec 32) (v24 : FVec Ideal S512x256 .bf16) (v30 : FVec Ideal S512x128 .bf16) (v32 : FVec Ideal S512x512 .f32) (v34 : FVec Ideal S512x512 .f32) (v52 : FVec Ideal S512x128 .f32) (v61 : FVec Ideal S512x256 .f32) (v73 : IVec S512x512 32) (v74 : IVec S512x512 32) (c6_i32_33 : BitVec 32) (v107 : BitVec 32) (X2 : BufTy.Contents (Elt Ideal) a2.view.ty) (X7 : BufTy.Contents (Elt Ideal) a7.view.ty) (X8 : BufTy.Contents (Elt Ideal) a8.view.ty) (X17 : BufTy.Contents (Elt Ideal) a17.view.ty) (k : Fin (k0_t1_loop i).trips) (acc : FVec Ideal S512x256 .f32 × FVec Ideal S512x128 .f32 × FVec Ideal S512x256 .f32 × FVec Ideal S512x128 .f32) (f_arg16 : BufTy.Contents (Elt Ideal) a16.view.ty)

/-- A round adds to the key gradient of head 0 the products of the rows of its query block. -/
theorem tripR_dk0 (r : Fin 512) (l : Fin 256) :
    (tripR_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 k acc f_arg16).1 (ix2 r l) = acc.1 (ix2 r l)
      + ∑ c : Fin 512, ds (i 1).val v7 v12 (a2.view.read (Elt Ideal) X2) (a7.view.read (Elt Ideal) X7) (a8.view.read (Elt Ideal) X8) (a17.view.read (Elt Ideal) X17) 0 r (qrow i k c)
          * a2.view.read (Elt Ideal) X2 (ix3 0 (qrow i k c) l) := by
  unfold tripR_k0_t1 trip_k0_t1
  dsimp only
  pointwise [k0_pay74, k0_pay75, k0_pay76, k0_pay77, k0_pay78, k0_pay79, trip_k0_t1.sl.v204, trip_k0_t1.sl.v178, trip_k0_t1.sl.v175, trip_k0_t1.sl.v174, trip_k0_t1.sl.v173, trip_k0_t1.sl.v172, trip_k0_t1.sl.v171, trip_k0_t1.sl.v170, trip_k0_t1.sl.v169, trip_k0_t1.sl.v166, trip_k0_t1.sl.v165, trip_k0_t1.sl.v164, trip_k0_t1.sl.v163, trip_k0_t1.sl.v162, trip_k0_t1.sl.v161, trip_k0_t1.sl.v160, trip_k0_t1.sl.v157, trip_k0_t1.sl.v156, trip_k0_t1.sl.v155, trip_k0_t1.sl.v154, trip_k0_t1.sl.v153, trip_k0_t1.sl.v150, trip_k0_t1.sl.v147, trip_k0_t1.sl.v144, trip_k0_t1.sl.cst_73, trip_k0_t1.sl.cst_79, trip_k0_t1.sl.cst_82]
  simp only [load3 a2.view X2 _ 0 _ (k0_off7_eq i k) (qrow_le i k), load3 a2.view X2 _ 1 _ (k0_off8_eq i k) (qrow_le i k),
    load2 a7.view X7 _ 0 _ (k0_off9_eq i k) (qrow_le i k), load2 a7.view X7 _ 1 _ (k0_off10_eq i k) (qrow_le i k),
    load1 a8.view X8 _ 0 _ (k0_off11_eq i k) (qrow_le i k), load1 a8.view X8 _ 1 _ (k0_off12_eq i k) (qrow_le i k),
    load1 a17.view X17 _ 0 _ (k0_off11_eq i k) (qrow_le i k), load1 a17.view X17 _ 1 _ (k0_off12_eq i k) (qrow_le i k)]
  refine congrArg (_ + ·) (Finset.sum_congr rfl fun x _ => ?_)
  unfold ds
  rw [wt_below _ _ _ _ _ _ _ (show 512 * (i 1).val + 512 ≤ (qrow i k x).val from by unfold qrow; simp only []; omega)]
  rfl

/-- A round adds to the value gradient of head 0 the products of the rows of its query block. -/
theorem tripR_dv0 (r : Fin 512) (l : Fin 128) :
    (tripR_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 k acc f_arg16).2.1 (ix2 r l) = acc.2.1 (ix2 r l)
      + ∑ c : Fin 512, wt (i 1).val v7 (a2.view.read (Elt Ideal) X2) (a8.view.read (Elt Ideal) X8) 0 r (qrow i k c)
          * a7.view.read (Elt Ideal) X7 (ix2 (qrow i k c) (lane 0 l)) := by
  unfold tripR_k0_t1 trip_k0_t1
  dsimp only
  pointwise [k0_pay74, k0_pay75, k0_pay76, k0_pay77, k0_pay78, k0_pay79, trip_k0_t1.sl.v204, trip_k0_t1.sl.v178, trip_k0_t1.sl.v175, trip_k0_t1.sl.v174, trip_k0_t1.sl.v173, trip_k0_t1.sl.v172, trip_k0_t1.sl.v171, trip_k0_t1.sl.v170, trip_k0_t1.sl.v169, trip_k0_t1.sl.v166, trip_k0_t1.sl.v165, trip_k0_t1.sl.v164, trip_k0_t1.sl.v163, trip_k0_t1.sl.v162, trip_k0_t1.sl.v161, trip_k0_t1.sl.v160, trip_k0_t1.sl.v157, trip_k0_t1.sl.v156, trip_k0_t1.sl.v155, trip_k0_t1.sl.v154, trip_k0_t1.sl.v153, trip_k0_t1.sl.v150, trip_k0_t1.sl.v147, trip_k0_t1.sl.v144, trip_k0_t1.sl.cst_73, trip_k0_t1.sl.cst_79, trip_k0_t1.sl.cst_82]
  simp only [load3 a2.view X2 _ 0 _ (k0_off7_eq i k) (qrow_le i k), load3 a2.view X2 _ 1 _ (k0_off8_eq i k) (qrow_le i k),
    load2 a7.view X7 _ 0 _ (k0_off9_eq i k) (qrow_le i k), load2 a7.view X7 _ 1 _ (k0_off10_eq i k) (qrow_le i k),
    load1 a8.view X8 _ 0 _ (k0_off11_eq i k) (qrow_le i k), load1 a8.view X8 _ 1 _ (k0_off12_eq i k) (qrow_le i k),
    load1 a17.view X17 _ 0 _ (k0_off11_eq i k) (qrow_le i k), load1 a17.view X17 _ 1 _ (k0_off12_eq i k) (qrow_le i k)]
  refine congrArg (_ + ·) (Finset.sum_congr rfl fun x _ => ?_)
  skip
  rw [wt_below _ _ _ _ _ _ _ (show 512 * (i 1).val + 512 ≤ (qrow i k x).val from by unfold qrow; simp only []; omega)]
  rfl

/-- A round adds to the key gradient of head 1 the products of the rows of its query block. -/
theorem tripR_dk1 (r : Fin 512) (l : Fin 256) :
    (tripR_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 k acc f_arg16).2.2.1 (ix2 r l) = acc.2.2.1 (ix2 r l)
      + ∑ c : Fin 512, ds (i 1).val v10 v14 (a2.view.read (Elt Ideal) X2) (a7.view.read (Elt Ideal) X7) (a8.view.read (Elt Ideal) X8) (a17.view.read (Elt Ideal) X17) 1 r (qrow i k c)
          * a2.view.read (Elt Ideal) X2 (ix3 1 (qrow i k c) l) := by
  unfold tripR_k0_t1 trip_k0_t1
  dsimp only
  pointwise [k0_pay74, k0_pay75, k0_pay76, k0_pay77, k0_pay78, k0_pay79, trip_k0_t1.sl.v204, trip_k0_t1.sl.v178, trip_k0_t1.sl.v175, trip_k0_t1.sl.v174, trip_k0_t1.sl.v173, trip_k0_t1.sl.v172, trip_k0_t1.sl.v171, trip_k0_t1.sl.v170, trip_k0_t1.sl.v169, trip_k0_t1.sl.v166, trip_k0_t1.sl.v165, trip_k0_t1.sl.v164, trip_k0_t1.sl.v163, trip_k0_t1.sl.v162, trip_k0_t1.sl.v161, trip_k0_t1.sl.v160, trip_k0_t1.sl.v157, trip_k0_t1.sl.v156, trip_k0_t1.sl.v155, trip_k0_t1.sl.v154, trip_k0_t1.sl.v153, trip_k0_t1.sl.v150, trip_k0_t1.sl.v147, trip_k0_t1.sl.v144, trip_k0_t1.sl.cst_73, trip_k0_t1.sl.cst_79, trip_k0_t1.sl.cst_82]
  simp only [load3 a2.view X2 _ 0 _ (k0_off7_eq i k) (qrow_le i k), load3 a2.view X2 _ 1 _ (k0_off8_eq i k) (qrow_le i k),
    load2 a7.view X7 _ 0 _ (k0_off9_eq i k) (qrow_le i k), load2 a7.view X7 _ 1 _ (k0_off10_eq i k) (qrow_le i k),
    load1 a8.view X8 _ 0 _ (k0_off11_eq i k) (qrow_le i k), load1 a8.view X8 _ 1 _ (k0_off12_eq i k) (qrow_le i k),
    load1 a17.view X17 _ 0 _ (k0_off11_eq i k) (qrow_le i k), load1 a17.view X17 _ 1 _ (k0_off12_eq i k) (qrow_le i k)]
  refine congrArg (_ + ·) (Finset.sum_congr rfl fun x _ => ?_)
  unfold ds
  rw [wt_below _ _ _ _ _ _ _ (show 512 * (i 1).val + 512 ≤ (qrow i k x).val from by unfold qrow; simp only []; omega)]
  rfl

/-- A round adds to the value gradient of head 1 the products of the rows of its query block. -/
theorem tripR_dv1 (r : Fin 512) (l : Fin 128) :
    (tripR_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 k acc f_arg16).2.2.2 (ix2 r l) = acc.2.2.2 (ix2 r l)
      + ∑ c : Fin 512, wt (i 1).val v10 (a2.view.read (Elt Ideal) X2) (a8.view.read (Elt Ideal) X8) 1 r (qrow i k c)
          * a7.view.read (Elt Ideal) X7 (ix2 (qrow i k c) (lane 1 l)) := by
  unfold tripR_k0_t1 trip_k0_t1
  dsimp only
  pointwise [k0_pay74, k0_pay75, k0_pay76, k0_pay77, k0_pay78, k0_pay79, trip_k0_t1.sl.v204, trip_k0_t1.sl.v178, trip_k0_t1.sl.v175, trip_k0_t1.sl.v174, trip_k0_t1.sl.v173, trip_k0_t1.sl.v172, trip_k0_t1.sl.v171, trip_k0_t1.sl.v170, trip_k0_t1.sl.v169, trip_k0_t1.sl.v166, trip_k0_t1.sl.v165, trip_k0_t1.sl.v164, trip_k0_t1.sl.v163, trip_k0_t1.sl.v162, trip_k0_t1.sl.v161, trip_k0_t1.sl.v160, trip_k0_t1.sl.v157, trip_k0_t1.sl.v156, trip_k0_t1.sl.v155, trip_k0_t1.sl.v154, trip_k0_t1.sl.v153, trip_k0_t1.sl.v150, trip_k0_t1.sl.v147, trip_k0_t1.sl.v144, trip_k0_t1.sl.cst_73, trip_k0_t1.sl.cst_79, trip_k0_t1.sl.cst_82]
  simp only [load3 a2.view X2 _ 0 _ (k0_off7_eq i k) (qrow_le i k), load3 a2.view X2 _ 1 _ (k0_off8_eq i k) (qrow_le i k),
    load2 a7.view X7 _ 0 _ (k0_off9_eq i k) (qrow_le i k), load2 a7.view X7 _ 1 _ (k0_off10_eq i k) (qrow_le i k),
    load1 a8.view X8 _ 0 _ (k0_off11_eq i k) (qrow_le i k), load1 a8.view X8 _ 1 _ (k0_off12_eq i k) (qrow_le i k),
    load1 a17.view X17 _ 0 _ (k0_off11_eq i k) (qrow_le i k), load1 a17.view X17 _ 1 _ (k0_off12_eq i k) (qrow_le i k)]
  refine congrArg (_ + ·) (Finset.sum_congr rfl fun x _ => ?_)
  skip
  rw [wt_below _ _ _ _ _ _ _ (show 512 * (i 1).val + 512 ≤ (qrow i k x).val from by unfold qrow; simp only []; omega)]
  rfl

/-- A round adds to the accumulator, on the rows of its query block, the products of the rows of the key block. -/
theorem tripL_apply (a : Fin 2) (t : Fin 2048) (l : Fin 256) :
    a16.view.read (Elt Ideal) (a16.view.writes (Elt Ideal) f_arg16 (tripL_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 k acc f_arg16)) (ix3 a t l)
      = if 512 * (i 1).val + 512 * k.val + 512 ≤ t.val ∧ t.val < 512 * (i 1).val + 512 * k.val + 512 + 512 then
          a16.view.read (Elt Ideal) f_arg16 (ix3 a t l)
            + ∑ r : Fin 512, ds (i 1).val (if a = 0 then v7 else v10) (if a = 0 then v12 else v14) (a2.view.read (Elt Ideal) X2) (a7.view.read (Elt Ideal) X7) (a8.view.read (Elt Ideal) X8) (a17.view.read (Elt Ideal) X17) a r t * (if a = 0 then v7 else v10) (ix2 r l)
        else a16.view.read (Elt Ideal) f_arg16 (ix3 a t l) := by
  have hq := qrow_le i k
  unfold tripL_k0_t1 trip_k0_t1
  dsimp only
  rw [View.read_writes_cons_put _ _ _ _ _ ((k0_off8_eq i k).trans (show _ = ![(1 : Fin 2).val, 512 * (i 1).val + 512 * k.val + 512, 0] from rfl)),
    View.read_writes_cons_put _ _ _ _ _ ((k0_off7_eq i k).trans (show _ = ![(0 : Fin 2).val, 512 * (i 1).val + 512 * k.val + 512, 0] from rfl)),
    store3 _ 1 _ hq, store3 _ 0 _ hq]
  by_cases ht : 512 * (i 1).val + 512 * k.val + 512 ≤ t.val ∧ t.val < 512 * (i 1).val + 512 * k.val + 512 + 512
  · rw [if_pos ht]
    have hx : ∃ x : Fin 512, t = qrow i k x := ⟨⟨t.val - (512 * (i 1).val + 512 * k.val + 512), by omega⟩, Fin.ext (by unfold qrow; simp only []; omega)⟩
    obtain ⟨x, rfl⟩ := hx
    have hz : ∀ h, (⟨(qrow i k x).val - (512 * (i 1).val + 512 * k.val + 512), h⟩ : Fin 512) = x := fun h => Fin.ext (by unfold qrow; simp only []; omega)
    have hb : 512 * (i 1).val + 512 ≤ (qrow i k x).val := by unfold qrow; simp only []; omega
    by_cases ha : a = 1
    · subst ha
      rw [dif_pos ⟨rfl, ht⟩, if_neg (by decide), if_neg (by decide)]
      simp only [hz]
      pointwise [k0_pay74, k0_pay75, k0_pay76, k0_pay77, k0_pay78, k0_pay79, trip_k0_t1.sl.v204, trip_k0_t1.sl.v178, trip_k0_t1.sl.v175, trip_k0_t1.sl.v174, trip_k0_t1.sl.v173, trip_k0_t1.sl.v172, trip_k0_t1.sl.v171, trip_k0_t1.sl.v170, trip_k0_t1.sl.v169, trip_k0_t1.sl.v166, trip_k0_t1.sl.v165, trip_k0_t1.sl.v164, trip_k0_t1.sl.v163, trip_k0_t1.sl.v162, trip_k0_t1.sl.v161, trip_k0_t1.sl.v160, trip_k0_t1.sl.v157, trip_k0_t1.sl.v156, trip_k0_t1.sl.v155, trip_k0_t1.sl.v154, trip_k0_t1.sl.v153, trip_k0_t1.sl.v150, trip_k0_t1.sl.v147, trip_k0_t1.sl.v144, trip_k0_t1.sl.cst_73, trip_k0_t1.sl.cst_79, trip_k0_t1.sl.cst_82]
      simp only [load3 a16.view f_arg16 _ 1 _ (k0_off8_eq i k) (qrow_le i k)]
      simp only [load3 a2.view X2 _ 0 _ (k0_off7_eq i k) (qrow_le i k), load3 a2.view X2 _ 1 _ (k0_off8_eq i k) (qrow_le i k),
        load2 a7.view X7 _ 0 _ (k0_off9_eq i k) (qrow_le i k), load2 a7.view X7 _ 1 _ (k0_off10_eq i k) (qrow_le i k),
        load1 a8.view X8 _ 0 _ (k0_off11_eq i k) (qrow_le i k), load1 a8.view X8 _ 1 _ (k0_off12_eq i k) (qrow_le i k),
        load1 a17.view X17 _ 0 _ (k0_off11_eq i k) (qrow_le i k), load1 a17.view X17 _ 1 _ (k0_off12_eq i k) (qrow_le i k)]

      refine congrArg (_ + ·) (Finset.sum_congr rfl fun r _ => ?_)
      unfold ds
      rw [wt_below _ _ _ _ _ _ _ hb]
      rfl
    · have ha0 : a = 0 := by omega
      subst ha0
      rw [dif_neg (fun h => ha h.1), dif_pos ⟨rfl, ht⟩, if_pos rfl, if_pos rfl]
      simp only [hz]
      pointwise [k0_pay74, k0_pay75, k0_pay76, k0_pay77, k0_pay78, k0_pay79, trip_k0_t1.sl.v204, trip_k0_t1.sl.v178, trip_k0_t1.sl.v175, trip_k0_t1.sl.v174, trip_k0_t1.sl.v173, trip_k0_t1.sl.v172, trip_k0_t1.sl.v171, trip_k0_t1.sl.v170, trip_k0_t1.sl.v169, trip_k0_t1.sl.v166, trip_k0_t1.sl.v165, trip_k0_t1.sl.v164, trip_k0_t1.sl.v163, trip_k0_t1.sl.v162, trip_k0_t1.sl.v161, trip_k0_t1.sl.v160, trip_k0_t1.sl.v157, trip_k0_t1.sl.v156, trip_k0_t1.sl.v155, trip_k0_t1.sl.v154, trip_k0_t1.sl.v153, trip_k0_t1.sl.v150, trip_k0_t1.sl.v147, trip_k0_t1.sl.v144, trip_k0_t1.sl.cst_73, trip_k0_t1.sl.cst_79, trip_k0_t1.sl.cst_82]
      simp only [load3 a16.view f_arg16 _ 0 _ (k0_off7_eq i k) (qrow_le i k)]
      simp only [load3 a2.view X2 _ 0 _ (k0_off7_eq i k) (qrow_le i k), load3 a2.view X2 _ 1 _ (k0_off8_eq i k) (qrow_le i k),
        load2 a7.view X7 _ 0 _ (k0_off9_eq i k) (qrow_le i k), load2 a7.view X7 _ 1 _ (k0_off10_eq i k) (qrow_le i k),
        load1 a8.view X8 _ 0 _ (k0_off11_eq i k) (qrow_le i k), load1 a8.view X8 _ 1 _ (k0_off12_eq i k) (qrow_le i k),
        load1 a17.view X17 _ 0 _ (k0_off11_eq i k) (qrow_le i k), load1 a17.view X17 _ 1 _ (k0_off12_eq i k) (qrow_le i k)]

      refine congrArg (_ + ·) (Finset.sum_congr rfl fun r _ => ?_)
      unfold ds
      rw [wt_below _ _ _ _ _ _ _ hb]
      rfl
  · rw [if_neg ht, dif_neg (fun h => ht h.2), dif_neg (fun h => ht h.2)]
    rfl

end

end Cert.AttnBwd
-- ==== Proof.Attn.Loop.lean ====
/-
  The loop over the query blocks below the diagonal, closed: what the running products and the accumulator hold after it.
-/
module

public import proofs.«01_k».proof.Proof.Attn.Trip

@[expose] public section

set_option maxRecDepth 16384

noncomputable section

namespace Cert.AttnBwd

open Cert.AttnIdeal Cert.AttnIdeal.Gen Idealize.ShloMosaic Idealize.ShloMosaic.TcCoe
open Idealize.SL Idealize.SL.RA Idealize.SL.BI

/-- The rounds: one for each query block below key block `j`. -/
theorem trips1 : ∀ i : grid0.Coords, (k0_t1_loop i).trips = 3 - (i 1).val := by decide +kernel

/-- The second loop makes no round. -/
theorem trips2 : ∀ i : grid0.Coords, (k0_t2_loop i).trips = 0 := by decide +kernel

/-- The sum over one block of 512 rows is a sum over all rows, the others counted as zero. -/
theorem sum_block (f : Fin 2048 → EReal) (o : ℕ) (ho : o + 512 ≤ 2048) :
    ∑ c : Fin 512, f ⟨o + c.val, by omega⟩ = ∑ t : Fin 2048, if o ≤ t.val ∧ t.val < o + 512 then f t else 0 := by
  rw [← Finset.sum_filter]
  refine Finset.sum_bij (fun c _ => ⟨o + c.val, by omega⟩) ?_ ?_ ?_ ?_
  · intro c _
    have := c.isLt
    simp only [Finset.mem_filter, Finset.mem_univ, true_and]
    omega
  · intro c _ d _ h
    have h' : o + c.val = o + d.val := congrArg Fin.val h
    exact Fin.ext (by omega)
  · intro t ht
    simp only [Finset.mem_filter, Finset.mem_univ, true_and] at ht
    exact ⟨⟨t.val - o, by omega⟩, Finset.mem_univ _, Fin.ext (by show o + (t.val - o) = t.val; omega)⟩
  · intro c _
    rfl

/-- Sums over consecutive ranges of rows add up. -/
theorem sum_range_add (f : Fin 2048 → EReal) (a o b : ℕ) (hao : a ≤ o) (hob : o ≤ b) :
    (∑ t : Fin 2048, if a ≤ t.val ∧ t.val < o then f t else 0) + (∑ t : Fin 2048, if o ≤ t.val ∧ t.val < b then f t else 0)
      = ∑ t : Fin 2048, if a ≤ t.val ∧ t.val < b then f t else 0 := by
  rw [← Finset.sum_add_distrib]
  refine Finset.sum_congr rfl fun t _ => ?_
  by_cases h1 : a ≤ t.val ∧ t.val < o
  · rw [if_pos h1, if_neg (by omega), if_pos (by omega), add_zero]
  · by_cases h2 : o ≤ t.val ∧ t.val < b
    · rw [if_neg h1, if_pos h2, if_pos (by omega), zero_add]
    · rw [if_neg h1, if_neg h2, if_neg (by omega), add_zero]

/-- One more block of rows. -/
theorem sum_step (f : Fin 2048 → EReal) (a n : ℕ) (g : Fin 512 → Fin 2048) (hg : ∀ c, (g c).val = a + 512 * n + c.val) :
    (∑ t : Fin 2048, if a ≤ t.val ∧ t.val < a + 512 * n then f t else 0) + (∑ c : Fin 512, f (g c))
      = ∑ t : Fin 2048, if a ≤ t.val ∧ t.val < a + 512 * (n + 1) then f t else 0 := by
  have h511 : a + 512 * n + 511 < 2048 := (hg ⟨511, by omega⟩) ▸ (g ⟨511, by omega⟩).isLt
  have hs := sum_block f (a + 512 * n) (by omega)
  have hc : (∑ c : Fin 512, f (g c)) = ∑ c : Fin 512, f ⟨a + 512 * n + c.val, by omega⟩ :=
    Finset.sum_congr rfl fun c _ => congrArg f (Fin.ext (hg c))
  rw [hc, hs, sum_range_add f a (a + 512 * n) (a + 512 * n + 512) (by omega) (by omega), show a + 512 * (n + 1) = a + 512 * n + 512 by omega]

theorem qrow_val (i : grid0.Coords) (k : Fin (k0_t1_loop i).trips) (c : Fin 512) :
    (qrow i k c).val = 512 * (i 1).val + 512 + 512 * k.val + c.val := by
  unfold qrow; simp only []; omega

theorem sum_range_empty (f : Fin 2048 → EReal) (a : ℕ) : (∑ t : Fin 2048, if a ≤ t.val ∧ t.val < a then f t else 0) = 0 :=
  Finset.sum_eq_zero fun t _ => if_neg (by omega)

section

variable (𝒱 : Variants) (c : Dev nD) (bd : Option 𝒱.V) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (a1 : BitVec 32) (v7 : FVec Ideal S512x256 .bf16) (v10 : FVec Ideal S512x256 .bf16) (v12 : FVec Ideal S512x128 .bf16) (v14 : FVec Ideal S512x128 .bf16) (v15 : FVec Ideal S512x256 .f32) (v16 : FVec Ideal S512x128 .f32) (v18 : BitVec 32) (v24 : FVec Ideal S512x256 .bf16) (v30 : FVec Ideal S512x128 .bf16) (v32 : FVec Ideal S512x512 .f32) (v34 : FVec Ideal S512x512 .f32) (v52 : FVec Ideal S512x128 .f32) (v61 : FVec Ideal S512x256 .f32) (v73 : IVec S512x512 32) (v74 : IVec S512x512 32) (c6_i32_33 : BitVec 32) (v107 : BitVec 32) (X2 : BufTy.Contents (Elt Ideal) a2.view.ty) (X7 : BufTy.Contents (Elt Ideal) a7.view.ty) (X8 : BufTy.Contents (Elt Ideal) a8.view.ty) (X17 : BufTy.Contents (Elt Ideal) a17.view.ty) (G16 : BufTy.Contents (Elt Ideal) a16.view.ty) (init : FVec Ideal S512x256 .f32 × FVec Ideal S512x128 .f32 × FVec Ideal S512x256 .f32 × FVec Ideal S512x128 .f32)

/-- The key gradient of head 0 after `n` rounds: what it opened with, and the products of the rows of `n` blocks. -/
theorem loop_dk0 (r : Fin 512) (l : Fin 256) (n : ℕ) (hn : n ≤ (k0_t1_loop i).trips) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init n).1.1 (ix2 r l) = init.1 (ix2 r l)
      + ∑ t : Fin 2048, if 512 * (i 1).val + 512 ≤ t.val ∧ t.val < 512 * (i 1).val + 512 + 512 * n then
          (fun t => ds (i 1).val v7 v12 (a2.view.read (Elt Ideal) X2) (a7.view.read (Elt Ideal) X7) (a8.view.read (Elt Ideal) X8) (a17.view.read (Elt Ideal) X17) 0 r t
          * a2.view.read (Elt Ideal) X2 (ix3 0 t l)) t else 0 := by
  induction n with
  | zero => rw [Nat.mul_zero, Nat.add_zero, sum_range_empty, add_zero]; rfl
  | succ n ih =>
    have e := st_k0_t1_succ (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init ⟨n, hn⟩
    refine (congrArg (fun z => z.1.1 (ix2 r l)) e).trans ?_
    refine (tripR_dk0 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 ⟨n, hn⟩ _ _ r l).trans ?_
    clear e
    rw [ih (by omega), add_assoc]
    exact congrArg (_ + ·) (sum_step (fun t => ds (i 1).val v7 v12 (a2.view.read (Elt Ideal) X2) (a7.view.read (Elt Ideal) X7) (a8.view.read (Elt Ideal) X8) (a17.view.read (Elt Ideal) X17) 0 r t
          * a2.view.read (Elt Ideal) X2 (ix3 0 t l)) _ n (qrow i ⟨n, hn⟩) (qrow_val i ⟨n, hn⟩))

/-- The value gradient of head 0 after `n` rounds: what it opened with, and the products of the rows of `n` blocks. -/
theorem loop_dv0 (r : Fin 512) (l : Fin 128) (n : ℕ) (hn : n ≤ (k0_t1_loop i).trips) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init n).1.2.1 (ix2 r l) = init.2.1 (ix2 r l)
      + ∑ t : Fin 2048, if 512 * (i 1).val + 512 ≤ t.val ∧ t.val < 512 * (i 1).val + 512 + 512 * n then
          (fun t => wt (i 1).val v7 (a2.view.read (Elt Ideal) X2) (a8.view.read (Elt Ideal) X8) 0 r t
          * a7.view.read (Elt Ideal) X7 (ix2 t (lane 0 l))) t else 0 := by
  induction n with
  | zero => rw [Nat.mul_zero, Nat.add_zero, sum_range_empty, add_zero]; rfl
  | succ n ih =>
    have e := st_k0_t1_succ (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init ⟨n, hn⟩
    refine (congrArg (fun z => z.1.2.1 (ix2 r l)) e).trans ?_
    refine (tripR_dv0 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 ⟨n, hn⟩ _ _ r l).trans ?_
    clear e
    rw [ih (by omega), add_assoc]
    exact congrArg (_ + ·) (sum_step (fun t => wt (i 1).val v7 (a2.view.read (Elt Ideal) X2) (a8.view.read (Elt Ideal) X8) 0 r t
          * a7.view.read (Elt Ideal) X7 (ix2 t (lane 0 l))) _ n (qrow i ⟨n, hn⟩) (qrow_val i ⟨n, hn⟩))

/-- The key gradient of head 1 after `n` rounds: what it opened with, and the products of the rows of `n` blocks. -/
theorem loop_dk1 (r : Fin 512) (l : Fin 256) (n : ℕ) (hn : n ≤ (k0_t1_loop i).trips) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init n).1.2.2.1 (ix2 r l) = init.2.2.1 (ix2 r l)
      + ∑ t : Fin 2048, if 512 * (i 1).val + 512 ≤ t.val ∧ t.val < 512 * (i 1).val + 512 + 512 * n then
          (fun t => ds (i 1).val v10 v14 (a2.view.read (Elt Ideal) X2) (a7.view.read (Elt Ideal) X7) (a8.view.read (Elt Ideal) X8) (a17.view.read (Elt Ideal) X17) 1 r t
          * a2.view.read (Elt Ideal) X2 (ix3 1 t l)) t else 0 := by
  induction n with
  | zero => rw [Nat.mul_zero, Nat.add_zero, sum_range_empty, add_zero]; rfl
  | succ n ih =>
    have e := st_k0_t1_succ (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init ⟨n, hn⟩
    refine (congrArg (fun z => z.1.2.2.1 (ix2 r l)) e).trans ?_
    refine (tripR_dk1 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 ⟨n, hn⟩ _ _ r l).trans ?_
    clear e
    rw [ih (by omega), add_assoc]
    exact congrArg (_ + ·) (sum_step (fun t => ds (i 1).val v10 v14 (a2.view.read (Elt Ideal) X2) (a7.view.read (Elt Ideal) X7) (a8.view.read (Elt Ideal) X8) (a17.view.read (Elt Ideal) X17) 1 r t
          * a2.view.read (Elt Ideal) X2 (ix3 1 t l)) _ n (qrow i ⟨n, hn⟩) (qrow_val i ⟨n, hn⟩))

/-- The value gradient of head 1 after `n` rounds: what it opened with, and the products of the rows of `n` blocks. -/
theorem loop_dv1 (r : Fin 512) (l : Fin 128) (n : ℕ) (hn : n ≤ (k0_t1_loop i).trips) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init n).1.2.2.2 (ix2 r l) = init.2.2.2 (ix2 r l)
      + ∑ t : Fin 2048, if 512 * (i 1).val + 512 ≤ t.val ∧ t.val < 512 * (i 1).val + 512 + 512 * n then
          (fun t => wt (i 1).val v10 (a2.view.read (Elt Ideal) X2) (a8.view.read (Elt Ideal) X8) 1 r t
          * a7.view.read (Elt Ideal) X7 (ix2 t (lane 1 l))) t else 0 := by
  induction n with
  | zero => rw [Nat.mul_zero, Nat.add_zero, sum_range_empty, add_zero]; rfl
  | succ n ih =>
    have e := st_k0_t1_succ (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init ⟨n, hn⟩
    refine (congrArg (fun z => z.1.2.2.2 (ix2 r l)) e).trans ?_
    refine (tripR_dv1 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 ⟨n, hn⟩ _ _ r l).trans ?_
    clear e
    rw [ih (by omega), add_assoc]
    exact congrArg (_ + ·) (sum_step (fun t => wt (i 1).val v10 (a2.view.read (Elt Ideal) X2) (a8.view.read (Elt Ideal) X8) 1 r t
          * a7.view.read (Elt Ideal) X7 (ix2 t (lane 1 l))) _ n (qrow i ⟨n, hn⟩) (qrow_val i ⟨n, hn⟩))

/-- The accumulator after `n` rounds: on the rows of the `n` blocks the products of the key block's rows are added. -/
theorem loop_acc (a : Fin 2) (t : Fin 2048) (l : Fin 256) (n : ℕ) (hn : n ≤ (k0_t1_loop i).trips) :
    a16.view.read (Elt Ideal) (a16.view.writes (Elt Ideal) G16 (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init n).2) (ix3 a t l)
      = if 512 * (i 1).val + 512 ≤ t.val ∧ t.val < 512 * (i 1).val + 512 + 512 * n then
          a16.view.read (Elt Ideal) G16 (ix3 a t l)
            + ∑ r : Fin 512, ds (i 1).val (if a = 0 then v7 else v10) (if a = 0 then v12 else v14) (a2.view.read (Elt Ideal) X2) (a7.view.read (Elt Ideal) X7) (a8.view.read (Elt Ideal) X8) (a17.view.read (Elt Ideal) X17) a r t * (if a = 0 then v7 else v10) (ix2 r l)
        else a16.view.read (Elt Ideal) G16 (ix3 a t l) := by
  induction n with
  | zero => rw [if_neg (by omega)]; rfl
  | succ n ih =>
    have e := st_k0_t1_succ (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init ⟨n, hn⟩
    refine (congrArg (fun z => a16.view.read (Elt Ideal) (a16.view.writes (Elt Ideal) G16 z.2) (ix3 a t l)) e).trans ?_
    dsimp only
    rw [View.writes_append]
    refine (tripL_apply 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 ⟨n, hn⟩ _ _ a t l).trans ?_
    rw [ih (by omega)]
    simp only []
    by_cases h1 : 512 * (i 1).val + 512 ≤ t.val ∧ t.val < 512 * (i 1).val + 512 + 512 * n
    · rw [if_pos h1, if_neg (show ¬(512 * (i 1).val + 512 * n + 512 ≤ t.val ∧ t.val < 512 * (i 1).val + 512 * n + 512 + 512) by omega), if_pos (show 512 * (i 1).val + 512 ≤ t.val ∧ t.val < 512 * (i 1).val + 512 + 512 * (n + 1) by omega)]
    · by_cases h2 : 512 * (i 1).val + 512 * n + 512 ≤ t.val ∧ t.val < 512 * (i 1).val + 512 * n + 512 + 512
      · rw [if_neg h1, if_pos h2, if_pos (show 512 * (i 1).val + 512 ≤ t.val ∧ t.val < 512 * (i 1).val + 512 + 512 * (n + 1) by omega)]
      · rw [if_neg h1, if_neg h2, if_neg (show ¬(512 * (i 1).val + 512 ≤ t.val ∧ t.val < 512 * (i 1).val + 512 + 512 * (n + 1)) by omega)]

end

end Cert.AttnBwd
-- ==== Proof.Attn.Diag.lean ====
/-
  The block on the diagonal: the products that open the running sums of one grid step.
-/
module

public import proofs.«01_k».proof.Proof.Attn.Score

@[expose] public section

noncomputable section

namespace Cert.AttnBwd

open Cert.AttnIdeal Cert.AttnIdeal.Gen Idealize.ShloMosaic Idealize.ShloMosaic.TcCoe

theorem shift6 : ∀ r : Fin 512, IntOp.shrsi ArithUnit.vector (BitVec.ofNat 32 r.val) 6#32 = BitVec.ofNat 32 (r.val / 64) := by decide +kernel

theorem le8 : ∀ a b : Fin 8, IntOp.cmpi CmpIPredicate.sle (BitVec.ofNat 32 a.val) (BitVec.ofNat 32 b.val) = if a.val ≤ b.val then 1#1 else 0#1 := by decide +kernel

/-- The visibility mask inside one diagonal block: groups of 64 rows. -/
theorem mask_select (r c : Fin 512) (x y : EReal) :
    Scalar.select (IntOp.cmpi CmpIPredicate.sle (IntOp.shrsi ArithUnit.vector (BitVec.ofNat 32 r.val) 6#32)
      (IntOp.shrsi ArithUnit.vector (BitVec.ofNat 32 c.val) 6#32)) x y = if r.val / 64 ≤ c.val / 64 then x else y := by
  have hr := r.isLt
  have hc := c.isLt
  rw [shift6, shift6, le8 ⟨r.val / 64, by omega⟩ ⟨c.val / 64, by omega⟩]
  by_cases h : r.val / 64 ≤ c.val / 64
  · rw [if_pos h, if_pos h]; rfl
  · rw [if_neg h, if_neg h]; rfl

/-- The masked weights of head 0. -/
theorem pay63_apply (st : Vec Ideal S512x512 .f32) (ls : Vec Ideal S1x1x512 .f32) (r c : Fin 512) :
    k0_pay63 (F := Ideal) st ls (ix2 r c) = Ideal.exp2 ((if r.val / 64 ≤ c.val / 64 then st (ix2 r c) else ⊥) - ls (ix3 0 0 c)) := by
  pointwise [k0_pay63]
  rw [mask_select]
  rfl

/-- The masked weights of head 1. -/
theorem pay69_apply (st : Vec Ideal S512x512 .f32) (ls : Vec Ideal S1x1x512 .f32) (r c : Fin 512) :
    k0_pay69 (F := Ideal) st k0_pay68 (iota .tc S512x512 32 [1] iota_S512x512_d1_w32) 6#32 ls (ix2 r c)
      = Ideal.exp2 ((if r.val / 64 ≤ c.val / 64 then st (ix2 r c) else ⊥) - ls (ix3 0 0 c)) := by
  pointwise [k0_pay69, k0_pay68]
  rw [mask_select]
  rfl

section

variable (j : ℕ) (hj : j < 4) (kv : Vec Ideal S512x256 .bf16) (vv : Vec Ideal S512x128 .bf16) (x0 : Vec Ideal S2x2048x256 .bf16) (x5 : Vec Ideal S2048x256 .bf16)
  (x6 dl : Vec Ideal S2x1x2048 .f32) (st : Vec Ideal S512x512 .f32) (ls dlv : Vec Ideal S1x1x512 .f32) (q : Vec Ideal S512x256 .bf16)
  (w : Vec Ideal S512x128 .bf16) (dp : Vec Ideal S512x512 .f32) (ac : Vec Ideal S1x512x256 .f32)

theorem masked (a : Fin 2) (r c : Fin 512) (hst : st (ix2 r c) = score kv x0 a r (brow j hj c)) (hls : ls (ix3 0 0 c) = x6 (ix3 a 0 (brow j hj c))) :
    Ideal.exp2 ((if r.val / 64 ≤ c.val / 64 then st (ix2 r c) else ⊥) - ls (ix3 0 0 c)) = wt j kv x0 x6 a r (brow j hj c) := by
  unfold wt
  rw [hst, hls]
  have e : (r.val / 64 ≤ c.val / 64) ↔ (512 * j + r.val) / 64 ≤ (brow j hj c).val / 64 := by
    unfold brow; simp only []; omega
  simp only [e]

/-- The value gradient of head 0 opens with the products of the diagonal block. -/
theorem diag_dv0 (hst : ∀ r c, st (ix2 r c) = score kv x0 0 r (brow j hj c)) (hls : ∀ c, ls (ix3 0 0 c) = x6 (ix3 0 0 (brow j hj c))) (hw : ∀ c d, w (ix2 c d) = x5 (ix2 (brow j hj c) (lane 0 d))) (r : Fin 512) (l : Fin 128) :
    k0_pay64 (F := Ideal) k0_pay55 w st ls (ix2 r l) = ∑ c : Fin 512, wt j kv x0 x6 0 r (brow j hj c) * x5 (ix2 (brow j hj c) (lane 0 l)) := by
  pointwise [k0_pay64, k0_pay55]
  simp only [hw, zero_add]
  refine Finset.sum_congr rfl fun x _ => ?_
  rw [pay63_apply, masked j hj kv x0 x6 st ls 0 _ _ (hst _ _) (hls _)]

/-- The gradient of the scores of head 0 in the diagonal block. -/
theorem diag_ds0 (hst : ∀ r c, st (ix2 r c) = score kv x0 0 r (brow j hj c)) (hls : ∀ c, ls (ix3 0 0 c) = x6 (ix3 0 0 (brow j hj c))) (hdl : ∀ c, dlv (ix3 0 0 c) = dl (ix3 0 0 (brow j hj c))) (hw : ∀ c d, w (ix2 c d) = x5 (ix2 (brow j hj c) (lane 0 d))) (r c : Fin 512) :
    k0_pay65 (F := Ideal) vv w st (constant (F := Ideal) S512x512 .f32 0x00000000#32) ls dlv (ix2 r c) = ds j kv vv x0 x5 x6 dl 0 r (brow j hj c) := by
  pointwise [k0_pay65]
  rw [pay63_apply, masked j hj kv x0 x6 st ls 0 _ _ (hst _ _) (hls _), hdl]
  simp only [hw]
  unfold ds
  simp only [zero_add]

/-- The key gradient of head 0 opens with the products of the diagonal block. -/
theorem diag_dk0 (hst : ∀ r c, st (ix2 r c) = score kv x0 0 r (brow j hj c)) (hls : ∀ c, ls (ix3 0 0 c) = x6 (ix3 0 0 (brow j hj c))) (hdl : ∀ c, dlv (ix3 0 0 c) = dl (ix3 0 0 (brow j hj c))) (hw : ∀ c d, w (ix2 c d) = x5 (ix2 (brow j hj c) (lane 0 d))) (hq : ∀ c l, q (ix2 c l) = x0 (ix3 0 (brow j hj c) l)) (r : Fin 512) (l : Fin 256) :
    k0_pay66 (F := Ideal) vv k0_pay54 q w st (constant (F := Ideal) S512x512 .f32 0x00000000#32) ls dlv (ix2 r l) = ∑ c : Fin 512, ds j kv vv x0 x5 x6 dl 0 r (brow j hj c) * x0 (ix3 0 (brow j hj c) l) := by
  pointwise [k0_pay66, k0_pay54]
  simp only [diag_ds0 j hj kv vv x0 x5 x6 dl st ls dlv w hst hls hdl hw, hq, zero_add]

/-- What the diagonal block adds to the accumulator of head 0. -/
theorem diag_acc0 (hst : ∀ r c, st (ix2 r c) = score kv x0 0 r (brow j hj c)) (hls : ∀ c, ls (ix3 0 0 c) = x6 (ix3 0 0 (brow j hj c))) (hdl : ∀ c, dlv (ix3 0 0 c) = dl (ix3 0 0 (brow j hj c))) (hw : ∀ c d, w (ix2 c d) = x5 (ix2 (brow j hj c) (lane 0 d))) (z : Fin 1) (c : Fin 512) (l : Fin 256) :
    k0_pay67 (F := Ideal) kv vv w st (constant (F := Ideal) S512x512 .f32 0x00000000#32) ls dlv ac (ix3 z c l) = ac (ix3 z c l) + ∑ r : Fin 512, ds j kv vv x0 x5 x6 dl 0 r (brow j hj c) * kv (ix2 r l) := by
  obtain rfl : z = 0 := by omega
  pointwise [k0_pay67]
  simp only [diag_ds0 j hj kv vv x0 x5 x6 dl st ls dlv w hst hls hdl hw, zero_add]

/-- The value gradient of head 1 opens with the products of the diagonal block. -/
theorem diag_dv1 (hst : ∀ r c, st (ix2 r c) = score kv x0 1 r (brow j hj c)) (hls : ∀ c, ls (ix3 0 0 c) = x6 (ix3 1 0 (brow j hj c))) (hw : ∀ c d, w (ix2 c d) = x5 (ix2 (brow j hj c) (lane 1 d))) (r : Fin 512) (l : Fin 128) :
    k0_pay70 (F := Ideal) k0_pay55 w st k0_pay68 (iota .tc S512x512 32 [1] iota_S512x512_d1_w32) 6#32 ls (ix2 r l) = ∑ c : Fin 512, wt j kv x0 x6 1 r (brow j hj c) * x5 (ix2 (brow j hj c) (lane 1 l)) := by
  pointwise [k0_pay70, k0_pay55]
  simp only [hw, zero_add]
  refine Finset.sum_congr rfl fun x _ => ?_
  rw [pay69_apply, masked j hj kv x0 x6 st ls 1 _ _ (hst _ _) (hls _)]

/-- The gradient of the scores of head 1 in the diagonal block. -/
theorem diag_ds1 (hst : ∀ r c, st (ix2 r c) = score kv x0 1 r (brow j hj c)) (hls : ∀ c, ls (ix3 0 0 c) = x6 (ix3 1 0 (brow j hj c))) (hdl : ∀ c, dlv (ix3 0 0 c) = dl (ix3 1 0 (brow j hj c))) (hdp : ∀ r c, dp (ix2 r c) = ∑ d : Fin 128, vv (ix2 r d) * x5 (ix2 (brow j hj c) (lane 1 d))) (r c : Fin 512) :
    k0_pay71 (F := Ideal) st dp k0_pay68 (iota .tc S512x512 32 [1] iota_S512x512_d1_w32) 6#32 ls dlv (ix2 r c) = ds j kv vv x0 x5 x6 dl 1 r (brow j hj c) := by
  pointwise [k0_pay71]
  rw [pay69_apply, masked j hj kv x0 x6 st ls 1 _ _ (hst _ _) (hls _), hdl]
  simp only [hdp]
  unfold ds
  simp only [zero_add]

/-- The key gradient of head 1 opens with the products of the diagonal block. -/
theorem diag_dk1 (hst : ∀ r c, st (ix2 r c) = score kv x0 1 r (brow j hj c)) (hls : ∀ c, ls (ix3 0 0 c) = x6 (ix3 1 0 (brow j hj c))) (hdl : ∀ c, dlv (ix3 0 0 c) = dl (ix3 1 0 (brow j hj c))) (hdp : ∀ r c, dp (ix2 r c) = ∑ d : Fin 128, vv (ix2 r d) * x5 (ix2 (brow j hj c) (lane 1 d))) (hq : ∀ c l, q (ix2 c l) = x0 (ix3 1 (brow j hj c) l)) (r : Fin 512) (l : Fin 256) :
    k0_pay72 (F := Ideal) k0_pay54 q st dp k0_pay68 (iota .tc S512x512 32 [1] iota_S512x512_d1_w32) 6#32 ls dlv (ix2 r l) = ∑ c : Fin 512, ds j kv vv x0 x5 x6 dl 1 r (brow j hj c) * x0 (ix3 1 (brow j hj c) l) := by
  pointwise [k0_pay72, k0_pay54]
  simp only [diag_ds1 j hj kv vv x0 x5 x6 dl st ls dlv dp hst hls hdl hdp, hq, zero_add]

/-- What the diagonal block adds to the accumulator of head 1. -/
theorem diag_acc1 (hst : ∀ r c, st (ix2 r c) = score kv x0 1 r (brow j hj c)) (hls : ∀ c, ls (ix3 0 0 c) = x6 (ix3 1 0 (brow j hj c))) (hdl : ∀ c, dlv (ix3 0 0 c) = dl (ix3 1 0 (brow j hj c))) (hdp : ∀ r c, dp (ix2 r c) = ∑ d : Fin 128, vv (ix2 r d) * x5 (ix2 (brow j hj c) (lane 1 d))) (z : Fin 1) (c : Fin 512) (l : Fin 256) :
    k0_pay73 (F := Ideal) kv st dp k0_pay68 (iota .tc S512x512 32 [1] iota_S512x512_d1_w32) 6#32 ls dlv ac (ix3 z c l) = ac (ix3 z c l) + ∑ r : Fin 512, ds j kv vv x0 x5 x6 dl 1 r (brow j hj c) * kv (ix2 r l) := by
  obtain rfl : z = 0 := by omega
  pointwise [k0_pay73]
  simp only [diag_ds1 j hj kv vv x0 x5 x6 dl st ls dlv dp hst hls hdl hdp, zero_add]

end

end Cert.AttnBwd
-- ==== Proof.Attn.Core.lean ====
/-
  One grid step, closed: the diagonal block and the blocks below it make sums over all query rows, since the weights of
  the query rows above the key block are zero.
-/
module

public import proofs.«01_k».proof.Proof.Attn.Loop
public import proofs.«01_k».proof.Proof.Attn.Diag

@[expose] public section

set_option maxRecDepth 16384

noncomputable section

namespace Cert.AttnBwd

open Cert.AttnIdeal Cert.AttnIdeal.Gen Idealize.ShloMosaic Idealize.ShloMosaic.TcCoe
open Idealize.SL Idealize.SL.RA Idealize.SL.BI

/-- The keys of head `a`: its own 128 lanes, then the 128 lanes both heads share. -/
def keys (x1 : Vec Ideal S512x256 .bf16) (x2 : Vec Ideal S512x128 .bf16) (a : Fin 2) : Vec Ideal S512x256 .bf16 :=
  fun y => if h : (y 1).val < 128 then x1 (ix2 (y 0) (lane a ⟨(y 1).val, h⟩)) else x2 (ix2 (y 0) ⟨(y 1).val - 128, by have : (y 1).val < 256 := (y 1).isLt; omega⟩)

/-- The values of head `a`. -/
def vals (x3 : Vec Ideal S512x256 .bf16) (a : Fin 2) : Vec Ideal S512x128 .bf16 := fun y => x3 (ix2 (y 0) (lane a (y 1)))

/-- Query rows of earlier blocks do not see the key block. -/
theorem wt_above (j : ℕ) (kv : Vec Ideal S512x256 .bf16) (x0 : Vec Ideal S2x2048x256 .bf16) (x6 : Vec Ideal S2x1x2048 .f32) (a : Fin 2)
    (r : Fin 512) (t : Fin 2048) (h : t.val < 512 * j) : wt j kv x0 x6 a r t = 0 := by
  unfold wt
  rw [if_neg (by omega)]
  rw [sub_eq_add_neg, EReal.bot_add]
  rfl

theorem ds_above (j : ℕ) (kv : Vec Ideal S512x256 .bf16) (vv : Vec Ideal S512x128 .bf16) (x0 : Vec Ideal S2x2048x256 .bf16) (x5 : Vec Ideal S2048x256 .bf16)
    (x6 dl : Vec Ideal S2x1x2048 .f32) (a : Fin 2) (r : Fin 512) (t : Fin 2048) (h : t.val < 512 * j) : ds j kv vv x0 x5 x6 dl a r t = 0 := by
  unfold ds
  rw [wt_above j kv x0 x6 a r t h, zero_mul]

/-- The diagonal block and the blocks below it, together all rows. -/
theorem sum_all (f : Fin 2048 → EReal) (j : ℕ) (hj : j < 4) (hf : ∀ t : Fin 2048, t.val < 512 * j → f t = 0) :
    (∑ c : Fin 512, f (brow j hj c)) + (∑ t : Fin 2048, if 512 * j + 512 ≤ t.val ∧ t.val < 512 * j + 512 + 512 * (3 - j) then f t else 0) = ∑ t : Fin 2048, f t := by
  have hs := sum_block f (512 * j) (by omega)
  have hc : (∑ c : Fin 512, f (brow j hj c)) = ∑ c : Fin 512, f ⟨512 * j + c.val, by omega⟩ := rfl
  rw [hc, hs, sum_range_add f (512 * j) (512 * j + 512) _ (by omega) (by omega)]
  refine Finset.sum_congr rfl fun t _ => ?_
  have := t.isLt
  by_cases h : 512 * j ≤ t.val
  · rw [if_pos (by omega)]
  · rw [if_neg (by omega), hf t (by omega)]

section

variable (𝒱 : Variants) (c : Dev nD) (bd : Option 𝒱.V) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (a1 : BitVec 32) (v7 : FVec Ideal S512x256 .bf16) (v10 : FVec Ideal S512x256 .bf16) (v12 : FVec Ideal S512x128 .bf16) (v14 : FVec Ideal S512x128 .bf16) (v15 : FVec Ideal S512x256 .f32) (v16 : FVec Ideal S512x128 .f32) (v18 : BitVec 32) (v24 : FVec Ideal S512x256 .bf16) (v30 : FVec Ideal S512x128 .bf16) (v32 : FVec Ideal S512x512 .f32) (v34 : FVec Ideal S512x512 .f32) (v52 : FVec Ideal S512x128 .f32) (v61 : FVec Ideal S512x256 .f32) (v73 : IVec S512x512 32) (v74 : IVec S512x512 32) (c6_i32_33 : BitVec 32) (v107 : BitVec 32) (X2 : BufTy.Contents (Elt Ideal) a2.view.ty) (X7 : BufTy.Contents (Elt Ideal) a7.view.ty) (X8 : BufTy.Contents (Elt Ideal) a8.view.ty) (X17 : BufTy.Contents (Elt Ideal) a17.view.ty) (G16 : BufTy.Contents (Elt Ideal) a16.view.ty) (init : FVec Ideal S512x256 .f32 × FVec Ideal S512x128 .f32 × FVec Ideal S512x256 .f32 × FVec Ideal S512x128 .f32)
  (x0 : Vec Ideal S2x2048x256 .bf16) (x5 : Vec Ideal S2048x256 .bf16) (x6 dl : Vec Ideal S2x1x2048 .f32)
  (kv : Fin 2 → Vec Ideal S512x256 .bf16) (vv : Fin 2 → Vec Ideal S512x128 .bf16) (hj : (i 1).val < 4)
  (h2 : a2.view.read (Elt Ideal) X2 = x0) (h7 : a7.view.read (Elt Ideal) X7 = x5) (h8 : a8.view.read (Elt Ideal) X8 = x6)
  (h17 : a17.view.read (Elt Ideal) X17 = dl) (hk0 : v7 = kv 0) (hk1 : v10 = kv 1) (hv0 : v12 = vv 0) (hv1 : v14 = vv 1)

include h2 h7 h8 h17 hk0 hv0 in
/-- The key gradient of head 0 which a grid step makes. -/
theorem core_dk0 (r : Fin 512) (l : Fin 256) (hi : init.1 (ix2 r l) = ∑ c : Fin 512, ds (i 1).val (kv 0) (vv 0) x0 x5 x6 dl 0 r (brow (i 1).val hj c) * x0 (ix3 0 (brow (i 1).val hj c) l)) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.1 (ix2 r l)
      = ∑ t : Fin 2048, ds (i 1).val (kv 0) (vv 0) x0 x5 x6 dl 0 r t * x0 (ix3 0 t l) := by
  refine (loop_dk0 _ _ _ _ _ _ _ _ _ _ _ _ _ _ _ _ _ _ _ _ _ _ _ _ _ _ _ _ _ _ _ _ _ _ _ _ _ _ _ _ _ _ _ _ _ _ _ _ _ _ _ _ _ v107 X2 X7 X8 X17 G16 init r l (k0_t1_loop i).trips (Nat.le_refl _)).trans ?_
  rw [trips1, hi, h2, h7, h8, h17, hk0, hv0]
  exact sum_all (fun t => ds (i 1).val (kv 0) (vv 0) x0 x5 x6 dl 0 r t * x0 (ix3 0 t l)) (i 1).val hj (fun t ht => by simp only []; rw [ds_above _ _ _ _ _ _ _ _ _ _ ht, zero_mul])

include h2 h7 h8 hk0 in
/-- The value gradient of head 0 which a grid step makes. -/
theorem core_dv0 (r : Fin 512) (l : Fin 128) (hi : init.2.1 (ix2 r l) = ∑ c : Fin 512, wt (i 1).val (kv 0) x0 x6 0 r (brow (i 1).val hj c) * x5 (ix2 (brow (i 1).val hj c) (lane 0 l))) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.1 (ix2 r l)
      = ∑ t : Fin 2048, wt (i 1).val (kv 0) x0 x6 0 r t * x5 (ix2 t (lane 0 l)) := by
  refine (loop_dv0 _ _ _ _ _ _ _ _ _ _ _ _ _ _ _ _ _ _ _ _ _ _ _ _ _ _ _ _ _ _ _ _ _ _ _ _ _ _ _ _ _ _ _ _ _ _ _ _ _ _ _ _ _ v107 X2 X7 X8 X17 G16 init r l (k0_t1_loop i).trips (Nat.le_refl _)).trans ?_
  rw [trips1, hi, h2, h7, h8, hk0]
  exact sum_all (fun t => wt (i 1).val (kv 0) x0 x6 0 r t * x5 (ix2 t (lane 0 l))) (i 1).val hj (fun t ht => by simp only []; rw [wt_above _ _ _ _ _ _ _ ht, zero_mul])

include h2 h7 h8 h17 hk1 hv1 in
/-- The key gradient of head 1 which a grid step makes. -/
theorem core_dk1 (r : Fin 512) (l : Fin 256) (hi : init.2.2.1 (ix2 r l) = ∑ c : Fin 512, ds (i 1).val (kv 1) (vv 1) x0 x5 x6 dl 1 r (brow (i 1).val hj c) * x0 (ix3 1 (brow (i 1).val hj c) l)) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.1 (ix2 r l)
      = ∑ t : Fin 2048, ds (i 1).val (kv 1) (vv 1) x0 x5 x6 dl 1 r t * x0 (ix3 1 t l) := by
  refine (loop_dk1 _ _ _ _ _ _ _ _ _ _ _ _ _ _ _ _ _ _ _ _ _ _ _ _ _ _ _ _ _ _ _ _ _ _ _ _ _ _ _ _ _ _ _ _ _ _ _ _ _ _ _ _ _ v107 X2 X7 X8 X17 G16 init r l (k0_t1_loop i).trips (Nat.le_refl _)).trans ?_
  rw [trips1, hi, h2, h7, h8, h17, hk1, hv1]
  exact sum_all (fun t => ds (i 1).val (kv 1) (vv 1) x0 x5 x6 dl 1 r t * x0 (ix3 1 t l)) (i 1).val hj (fun t ht => by simp only []; rw [ds_above _ _ _ _ _ _ _ _ _ _ ht, zero_mul])

include h2 h7 h8 hk1 in
/-- The value gradient of head 1 which a grid step makes. -/
theorem core_dv1 (r : Fin 512) (l : Fin 128) (hi : init.2.2.2 (ix2 r l) = ∑ c : Fin 512, wt (i 1).val (kv 1) x0 x6 1 r (brow (i 1).val hj c) * x5 (ix2 (brow (i 1).val hj c) (lane 1 l))) :
    (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.2 (ix2 r l)
      = ∑ t : Fin 2048, wt (i 1).val (kv 1) x0 x6 1 r t * x5 (ix2 t (lane 1 l)) := by
  refine (loop_dv1 _ _ _ _ _ _ _ _ _ _ _ _ _ _ _ _ _ _ _ _ _ _ _ _ _ _ _ _ _ _ _ _ _ _ _ _ _ _ _ _ _ _ _ _ _ _ _ _ _ _ _ _ _ v107 X2 X7 X8 X17 G16 init r l (k0_t1_loop i).trips (Nat.le_refl _)).trans ?_
  rw [trips1, hi, h2, h7, h8, hk1]
  exact sum_all (fun t => wt (i 1).val (kv 1) x0 x6 1 r t * x5 (ix2 t (lane 1 l))) (i 1).val hj (fun t ht => by simp only []; rw [wt_above _ _ _ _ _ _ _ ht, zero_mul])

include h2 h7 h8 h17 hk0 hk1 hv0 hv1 in
/-- The accumulator after a grid step: what it held, and the products of the key block's rows. -/
theorem core_acc (A : Vec Ideal S2x2048x256 .f32) (a : Fin 2) (t : Fin 2048) (l : Fin 256)
    (hG : a16.view.read (Elt Ideal) G16 (ix3 a t l) = if 512 * (i 1).val ≤ t.val ∧ t.val < 512 * (i 1).val + 512 then
      A (ix3 a t l) + ∑ r : Fin 512, ds (i 1).val (kv a) (vv a) x0 x5 x6 dl a r t * kv a (ix2 r l) else A (ix3 a t l)) :
    a16.view.read (Elt Ideal) (a16.view.writes (Elt Ideal) G16 (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).2) (ix3 a t l)
      = A (ix3 a t l) + ∑ r : Fin 512, ds (i 1).val (kv a) (vv a) x0 x5 x6 dl a r t * kv a (ix2 r l) := by
  refine (loop_acc _ _ _ _ _ _ _ _ _ _ _ _ _ _ _ _ _ _ _ _ _ _ _ _ _ _ _ _ _ _ _ _ _ _ _ _ _ _ _ _ _ _ _ _ _ _ _ _ _ _ _ _ _ v107 X2 X7 X8 X17 G16 init a t l (k0_t1_loop i).trips (Nat.le_refl _)).trans ?_
  have ek : (if a = 0 then v7 else v10) = kv a := by
    by_cases ha : a = 0
    · subst ha; rw [if_pos rfl, hk0]
    · obtain rfl : a = 1 := by omega
      rw [if_neg ha, hk1]
  have ev : (if a = 0 then v12 else v14) = vv a := by
    by_cases ha : a = 0
    · subst ha; rw [if_pos rfl, hv0]
    · obtain rfl : a = 1 := by omega
      rw [if_neg ha, hv1]
  rw [hG, ek, ev, trips1, h2, h7, h8, h17]
  have ht := t.isLt
  by_cases h1 : t.val < 512 * (i 1).val
  · have hz : (∑ r : Fin 512, ds (i 1).val (kv a) (vv a) x0 x5 x6 dl a r t * kv a (ix2 r l)) = 0 :=
      Finset.sum_eq_zero fun r _ => by rw [ds_above _ _ _ _ _ _ _ _ _ _ h1, zero_mul]
    rw [if_neg (fun h => by omega), if_neg (fun h => by omega), hz, add_zero]
  · by_cases h3 : t.val < 512 * (i 1).val + 512
    · rw [if_neg (fun h => by omega), if_pos ⟨by omega, h3⟩]
    · rw [if_pos ⟨by omega, by omega⟩, if_neg (fun h => by omega)]

end

section

variable (𝒱 : Variants) (c : Dev nD) (bd : Option 𝒱.V) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (a1 : BitVec 32) (v7 : FVec Ideal S512x256 .bf16) (v10 : FVec Ideal S512x256 .bf16) (v12 : FVec Ideal S512x128 .bf16) (v14 : FVec Ideal S512x128 .bf16) (v15 : FVec Ideal S512x256 .f32) (v16 : FVec Ideal S512x128 .f32) (v18 : BitVec 32) (v24 : FVec Ideal S512x256 .bf16) (v30 : FVec Ideal S512x128 .bf16) (v32 : FVec Ideal S512x512 .f32) (v34 : FVec Ideal S512x512 .f32) (v52 : FVec Ideal S512x128 .f32) (v61 : FVec Ideal S512x256 .f32) (v73 : IVec S512x512 32) (v74 : IVec S512x512 32) (c6_i32_33 : BitVec 32) (v112 : BitVec 32) (X2 : BufTy.Contents (Elt Ideal) a2.view.ty) (X7 : BufTy.Contents (Elt Ideal) a7.view.ty) (X8 : BufTy.Contents (Elt Ideal) a8.view.ty) (X17 : BufTy.Contents (Elt Ideal) a17.view.ty) (G16 : BufTy.Contents (Elt Ideal) a16.view.ty) (init : FVec Ideal S512x256 .f32 × FVec Ideal S512x128 .f32 × FVec Ideal S512x256 .f32 × FVec Ideal S512x128 .f32)

/-- The second loop leaves its operands and the accumulator alone. -/
theorem second_loop : st_k0_t2 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G16 init (Scf.trips (k0_t2_loop i).lb (k0_t2_loop i).ub (k0_t2_loop i).st) = (init, []) := by
  have e : Scf.trips (k0_t2_loop i).lb (k0_t2_loop i).ub (k0_t2_loop i).st = 0 := trips2 i
  rw [e]
  rfl

end

section

variable (𝒱 : Variants) (c : Dev nD) (bd : Option 𝒱.V) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (a1 : BitVec 32) (v7 : FVec Ideal S512x256 .bf16) (v10 : FVec Ideal S512x256 .bf16) (v12 : FVec Ideal S512x128 .bf16) (v14 : FVec Ideal S512x128 .bf16) (v15 : FVec Ideal S512x256 .f32) (v16 : FVec Ideal S512x128 .f32) (v18 : BitVec 32) (v24 : FVec Ideal S512x256 .bf16) (v30 : FVec Ideal S512x128 .bf16) (v32 : FVec Ideal S512x512 .f32) (v34 : FVec Ideal S512x512 .f32) (v52 : FVec Ideal S512x128 .f32) (v61 : FVec Ideal S512x256 .f32) (v73 : IVec S512x512 32) (v74 : IVec S512x512 32) (c6_i32_33 : BitVec 32) (v107 : BitVec 32) (X2 : BufTy.Contents (Elt Ideal) a2.view.ty) (X7 : BufTy.Contents (Elt Ideal) a7.view.ty) (X8 : BufTy.Contents (Elt Ideal) a8.view.ty) (X17 : BufTy.Contents (Elt Ideal) a17.view.ty) (G16 : BufTy.Contents (Elt Ideal) a16.view.ty) (init : FVec Ideal S512x256 .f32 × FVec Ideal S512x128 .f32 × FVec Ideal S512x256 .f32 × FVec Ideal S512x128 .f32)
  (v112 : BitVec 32) (G_two : BufTy.Contents (Elt Ideal) a16.view.ty)
  (x0 : Vec Ideal S2x2048x256 .bf16) (x5 : Vec Ideal S2048x256 .bf16) (x6 dl : Vec Ideal S2x1x2048 .f32)
  (kv : Fin 2 → Vec Ideal S512x256 .bf16) (vv : Fin 2 → Vec Ideal S512x128 .bf16) (hj : (i 1).val < 4)
  (h2 : a2.view.read (Elt Ideal) X2 = x0) (h7 : a7.view.read (Elt Ideal) X7 = x5) (h8 : a8.view.read (Elt Ideal) X8 = x6)
  (h17 : a17.view.read (Elt Ideal) X17 = dl) (hk0 : v7 = kv 0) (hk1 : v10 = kv 1) (hv0 : v12 = vv 0) (hv1 : v14 = vv 1)

include h2 h7 h8 h17 hk0 hv0 in
/-- The key gradient of head 0 after both loops. -/
theorem both_dk0 (r : Fin 512) (l : Fin 256) (hi : init.1 (ix2 r l) = ∑ c : Fin 512, ds (i 1).val (kv 0) (vv 0) x0 x5 x6 dl 0 r (brow (i 1).val hj c) * x0 (ix3 0 (brow (i 1).val hj c) l)) :
    (st_k0_t2 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G_two ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.2) (Scf.trips (k0_t2_loop i).lb (k0_t2_loop i).ub (k0_t2_loop i).st)).1.1 (ix2 r l)
      = ∑ t : Fin 2048, ds (i 1).val (kv 0) (vv 0) x0 x5 x6 dl 0 r t * x0 (ix3 0 t l) :=
  by
  rw [second_loop]; exact core_dk0 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init x0 x5 x6 dl kv vv hj h2 h7 h8 h17 hk0 hv0 r l hi

include h2 h7 h8 hk0 in
/-- The value gradient of head 0 after both loops. -/
theorem both_dv0 (r : Fin 512) (l : Fin 128) (hi : init.2.1 (ix2 r l) = ∑ c : Fin 512, wt (i 1).val (kv 0) x0 x6 0 r (brow (i 1).val hj c) * x5 (ix2 (brow (i 1).val hj c) (lane 0 l))) :
    (st_k0_t2 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G_two ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.2) (Scf.trips (k0_t2_loop i).lb (k0_t2_loop i).ub (k0_t2_loop i).st)).1.2.1 (ix2 r l)
      = ∑ t : Fin 2048, wt (i 1).val (kv 0) x0 x6 0 r t * x5 (ix2 t (lane 0 l)) :=
  by
  rw [second_loop]; exact core_dv0 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init x0 x5 x6 kv hj h2 h7 h8 hk0 r l hi

include h2 h7 h8 h17 hk1 hv1 in
/-- The key gradient of head 1 after both loops. -/
theorem both_dk1 (r : Fin 512) (l : Fin 256) (hi : init.2.2.1 (ix2 r l) = ∑ c : Fin 512, ds (i 1).val (kv 1) (vv 1) x0 x5 x6 dl 1 r (brow (i 1).val hj c) * x0 (ix3 1 (brow (i 1).val hj c) l)) :
    (st_k0_t2 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G_two ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.2) (Scf.trips (k0_t2_loop i).lb (k0_t2_loop i).ub (k0_t2_loop i).st)).1.2.2.1 (ix2 r l)
      = ∑ t : Fin 2048, ds (i 1).val (kv 1) (vv 1) x0 x5 x6 dl 1 r t * x0 (ix3 1 t l) :=
  by
  rw [second_loop]; exact core_dk1 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init x0 x5 x6 dl kv vv hj h2 h7 h8 h17 hk1 hv1 r l hi

include h2 h7 h8 hk1 in
/-- The value gradient of head 1 after both loops. -/
theorem both_dv1 (r : Fin 512) (l : Fin 128) (hi : init.2.2.2 (ix2 r l) = ∑ c : Fin 512, wt (i 1).val (kv 1) x0 x6 1 r (brow (i 1).val hj c) * x5 (ix2 (brow (i 1).val hj c) (lane 1 l))) :
    (st_k0_t2 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G_two ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init (Scf.trips (k0_t1_loop i).lb (k0_t1_loop i).ub (k0_t1_loop i).st)).1.2.2.2) (Scf.trips (k0_t2_loop i).lb (k0_t2_loop i).ub (k0_t2_loop i).st)).1.2.2.2 (ix2 r l)
      = ∑ t : Fin 2048, wt (i 1).val (kv 1) x0 x6 1 r t * x5 (ix2 t (lane 1 l)) :=
  by
  rw [second_loop]; exact core_dv1 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 G16 init x0 x5 x6 kv hj h2 h7 h8 hk1 r l hi

end

end Cert.AttnBwd
-- ==== Proof.Attn.Entry.lean ====
/-
  What one grid step reads of its blocks: the keys and values of each head, the scores in the diagonal block.
-/
module

public import proofs.«01_k».proof.Proof.Attn.Core

@[expose] public section

noncomputable section

namespace Cert.AttnBwd

open Cert.AttnIdeal Cert.AttnIdeal.Gen Idealize.ShloMosaic Idealize.ShloMosaic.TcCoe

section Loads

variable {sp : Space} {F : FTy → Type}

/-- A load of one head's half of a block of 512 rows. -/
theorem loadHalf {e : EltTy} (v : View sig .tc sp S512x256 e) (f : v.ty.Contents (Elt F)) {off : Fin 2 → ℕ}
    (inb : ∀ a, off a + S512x128.size a ≤ S512x256.size a) (a : Fin 2) (h : off = ![0, 128 * a.val]) (r : Fin 512) (d : Fin 128) :
    v.readAt (Elt F) (Rect.unit (s := S512x256) off S512x128.size inb).toLoadRect f (ix2 r d) = v.read (Elt F) f (ix2 r (lane a d)) := by
  subst h
  rw [View.readAt_unit v f inb rfl inb]
  refine congrArg (v.read (Elt F) f) (funext fun b => Fin.ext ?_)
  match b with
  | ⟨0, _⟩ => show 0 + 1 * r.val = r.val; omega
  | ⟨1, _⟩ => show 128 * a.val + 1 * d.val = 128 * a.val + d.val; omega

/-- A load of a whole block of 512 rows of 128 lanes. -/
theorem loadWhole {e : EltTy} (v : View sig .tc sp S512x128 e) (f : v.ty.Contents (Elt F))
    (inb : ∀ a, (![0, 0] : Fin 2 → ℕ) a + S512x128.size a ≤ S512x128.size a) (r : Fin 512) (d : Fin 128) :
    v.readAt (Elt F) (Rect.unit (s := S512x128) ![0, 0] S512x128.size inb).toLoadRect f (ix2 r d) = v.read (Elt F) f (ix2 r d) := by
  rw [View.readAt_unit v f inb rfl inb]
  refine congrArg (v.read (Elt F) f) (funext fun b => Fin.ext ?_)
  match b with
  | ⟨0, _⟩ => show 0 + 1 * r.val = r.val; omega
  | ⟨1, _⟩ => show 0 + 1 * d.val = d.val; omega

end Loads

section

variable (x1 : Vec Ideal S512x256 .bf16) (x2 : Vec Ideal S512x128 .bf16) (x3 : Vec Ideal S512x256 .bf16) (v3 v5 : Vec Ideal S512x128 .bf16)

theorem pay50_keys (h3 : ∀ r d, v3 (ix2 r d) = x2 (ix2 r d)) (h5 : ∀ r d, v5 (ix2 r d) = x1 (ix2 r (lane 0 d))) :
    k0_pay50 (F := Ideal) v3 v5 = keys x1 x2 0 := by
  funext y
  obtain ⟨r, l, rfl⟩ : ∃ r l, y = ix2 r l := ⟨y 0, y 1, eq_ix2 y⟩
  unfold keys
  pointwise [k0_pay50, k0_pay49]
  by_cases h : l.val < 128
  · rw [dif_pos h, dif_pos h, h5]
  · rw [dif_neg h, dif_neg h, h3]

theorem pay51_keys (h3 : ∀ r d, v3 (ix2 r d) = x2 (ix2 r d)) (h5 : ∀ r d, v5 (ix2 r d) = x1 (ix2 r (lane 1 d))) :
    k0_pay51 (F := Ideal) v3 v5 = keys x1 x2 1 := by
  funext y
  obtain ⟨r, l, rfl⟩ : ∃ r l, y = ix2 r l := ⟨y 0, y 1, eq_ix2 y⟩
  unfold keys
  pointwise [k0_pay51, k0_pay49]
  by_cases h : l.val < 128
  · rw [dif_pos h, dif_pos h, h5]
  · rw [dif_neg h, dif_neg h, h3]

theorem pay52_vals (h5 : ∀ r d, v5 (ix2 r d) = x3 (ix2 r (lane 0 d))) : k0_pay52 (F := Ideal) v5 = vals x3 0 := by
  funext y
  obtain ⟨r, l, rfl⟩ : ∃ r l, y = ix2 r l := ⟨y 0, y 1, eq_ix2 y⟩
  unfold vals
  pointwise [k0_pay52]
  exact h5 r l

theorem pay53_vals (h5 : ∀ r d, v5 (ix2 r d) = x3 (ix2 r (lane 1 d))) : k0_pay53 (F := Ideal) v5 = vals x3 1 := by
  funext y
  obtain ⟨r, l, rfl⟩ : ∃ r l, y = ix2 r l := ⟨y 0, y 1, eq_ix2 y⟩
  unfold vals
  pointwise [k0_pay53]
  exact h5 r l

variable (j : ℕ) (hj : j < 4) (x0 : Vec Ideal S2x2048x256 .bf16) (v20 : Vec Ideal S1x512x256 .bf16)

theorem pay60_score (kv : Vec Ideal S512x256 .bf16) (hk : k0_pay50 (F := Ideal) v3 v5 = kv) (hq : ∀ c l, v20 (ix3 0 c l) = x0 (ix3 0 (brow j hj c) l)) (r c : Fin 512) :
    k0_pay60 (F := Ideal) v3 v5 v20 (ix2 r c) = score kv x0 0 r (brow j hj c) := by
  subst hk
  pointwise [k0_pay60, k0_pay56]
  unfold score
  simp only [hq, zero_add]

theorem pay61_score (kv : Vec Ideal S512x256 .bf16) (hk : k0_pay51 (F := Ideal) v3 v5 = kv) (hq : ∀ c l, v20 (ix3 0 c l) = x0 (ix3 1 (brow j hj c) l)) (r c : Fin 512) :
    k0_pay61 (F := Ideal) v3 v5 v20 (ix2 r c) = score kv x0 1 r (brow j hj c) := by
  subst hk
  pointwise [k0_pay61, k0_pay57]
  unfold score
  simp only [hq, zero_add]

theorem pay62_apply (r c : Fin 512) : k0_pay62 (F := Ideal) v3 v5 (ix2 r c) = ∑ d : Fin 128, v3 (ix2 r d) * v5 (ix2 c d) := by
  pointwise [k0_pay62]

theorem pay56_apply (c : Fin 512) (l : Fin 256) : k0_pay56 (F := Ideal) v20 (ix2 c l) = v20 (ix3 0 c l) := by
  pointwise [k0_pay56]

theorem pay57_apply (c : Fin 512) (l : Fin 256) : k0_pay57 (F := Ideal) v20 (ix2 c l) = v20 (ix3 0 c l) := by
  pointwise [k0_pay57]

theorem pay58_apply (c : Fin 512) (l : Fin 128) : k0_pay58 (F := Ideal) v3 (ix2 c l) = v3 (ix2 c l) := by
  pointwise [k0_pay58]

theorem pay59_apply (c : Fin 512) (l : Fin 128) : k0_pay59 (F := Ideal) v3 (ix2 c l) = v3 (ix2 c l) := by
  pointwise [k0_pay59]

end

end Cert.AttnBwd
-- ==== Proof.Attn.Delta.lean ====
/-
  The rows of the product of the attention's output with its gradient, summed over the lanes of a head: what the first
  grid step of a pair of heads stores for the later ones.
-/
module

public import proofs.«01_k».proof.Proof.Attn.Entry

@[expose] public section

set_option maxRecDepth 16384

noncomputable section

namespace Cert.AttnBwd

open Cert.AttnIdeal Cert.AttnIdeal.Gen Idealize.ShloMosaic Idealize.ShloMosaic.TcCoe

/-- For each query row and head, the gradient of the output against the output. -/
def delta (x4 x5 : Vec Ideal S2048x256 .bf16) : Vec Ideal S2x1x2048 .f32 :=
  fun y => ∑ d : Fin 128, x5 (ix2 (y 2) (lane (y 0) d)) * x4 (ix2 (y 2) (lane (y 0) d))

/-- A store of 512 entries of one head's row, read back. -/
theorem store1 {α : Type} (x : S2x1x2048.Idx → α) (a : Fin 2) (o : ℕ) (ho : o + 512 ≤ 2048)
    (w : ((b : Fin 3) → Fin ((![1, 1, 512] : Fin 3 → ℕ) b)) → α) (a' : Fin 2) (t : Fin 2048) :
    VecWindow.put (s := S2x1x2048) x ![a.val, 0, o] ![1, 1, 512] w (ix3 a' 0 t)
      = if h : a' = a ∧ o ≤ t.val ∧ t.val < o + 512 then w (ix3 (0 : Fin 1) (0 : Fin 1) (⟨t.val - o, by omega⟩ : Fin 512)) else x (ix3 a' 0 t) := by
  unfold VecWindow.put
  by_cases h : a' = a ∧ o ≤ t.val ∧ t.val < o + 512
  · have ha := h.1
    subst ha
    rw [dif_pos h, dif_pos (fun b => match b with
      | ⟨0, _⟩ => ⟨Nat.le_refl a'.val, Nat.lt_succ_self a'.val⟩
      | ⟨1, _⟩ => ⟨Nat.le_refl 0, Nat.zero_lt_one⟩
      | ⟨2, _⟩ => h.2)]
    refine congrArg w (funext fun b => Fin.ext ?_)
    match b with
    | ⟨0, _⟩ => show a'.val - a'.val = 0; omega
    | ⟨1, _⟩ => rfl
    | ⟨2, _⟩ => rfl
  · rw [dif_neg h, dif_neg]
    intro hb
    have h0 : a.val ≤ a'.val ∧ a'.val < a.val + 1 := hb 0
    have h1 : o ≤ t.val ∧ t.val < o + 512 := hb 2
    exact h ⟨Fin.ext (by omega), h1⟩

section

variable (c : Dev nD) (a6 : Memref sig .tc .vmem S2048x256 .bf16) (u6 : a6.IsWhole) (a7 : Memref sig .tc .vmem S2048x256 .bf16) (u7 : a7.IsWhole)
  (a17 : Memref sig .tc .vmem S2x1x2048 .f32) (x4 x5 : Vec Ideal S2048x256 .bf16)

theorem delta_piece0 (z y : Fin 1) (q : Fin 512) :
    runA.sl.v159 (F := Ideal) c a6 u6 a7 u7 x4 x5 (ix3 z y q) = delta x4 x5 (ix3 0 0 ⟨q.val, by omega⟩) := by
  pointwise [runA.sl.v159, runA.sl.v156, runA.sl.v155, runA.sl.v154, runA.sl.v153, runA.sl.v152, runA.sl.v151, runA.sl.v150, runA.sl.v146, runA.sl.v145, runA.sl.v149, runA.sl.v148]
  refine Finset.sum_congr rfl fun d _ => congrArg₂ (fun u v : EReal => u * v) ((load2 a7.view _ _ 0 0 rfl (by omega) q d).trans (congrFun (u7.read_unread x5) _)|>.trans (congrArg (fun u => x5 (ix2 u (lane 0 d))) (Fin.ext (Nat.zero_add q.val))))
    ((load2 a6.view _ _ 0 0 rfl (by omega) q d).trans (congrFun (u6.read_unread x4) _)|>.trans (congrArg (fun u => x4 (ix2 u (lane 0 d))) (Fin.ext (Nat.zero_add q.val))))

theorem delta_piece1 (z y : Fin 1) (q : Fin 512) :
    runA.sl.v175 (F := Ideal) c a6 u6 a7 u7 x4 x5 (ix3 z y q) = delta x4 x5 (ix3 0 0 ⟨512 + q.val, by omega⟩) := by
  pointwise [runA.sl.v175, runA.sl.v172, runA.sl.v171, runA.sl.v170, runA.sl.v169, runA.sl.v168, runA.sl.v167, runA.sl.v166, runA.sl.v162, runA.sl.v161, runA.sl.v165, runA.sl.v164]
  refine Finset.sum_congr rfl fun d _ => congrArg₂ (fun u v : EReal => u * v) ((load2 a7.view _ _ 0 512 rfl (by omega) q d).trans (congrFun (u7.read_unread x5) _))
    ((load2 a6.view _ _ 0 512 rfl (by omega) q d).trans (congrFun (u6.read_unread x4) _))

theorem delta_piece2 (z y : Fin 1) (q : Fin 512) :
    runA.sl.v191 (F := Ideal) c a6 u6 a7 u7 x4 x5 (ix3 z y q) = delta x4 x5 (ix3 0 0 ⟨1024 + q.val, by omega⟩) := by
  pointwise [runA.sl.v191, runA.sl.v188, runA.sl.v187, runA.sl.v186, runA.sl.v185, runA.sl.v184, runA.sl.v183, runA.sl.v182, runA.sl.v178, runA.sl.v177, runA.sl.v181, runA.sl.v180]
  refine Finset.sum_congr rfl fun d _ => congrArg₂ (fun u v : EReal => u * v) ((load2 a7.view _ _ 0 1024 rfl (by omega) q d).trans (congrFun (u7.read_unread x5) _))
    ((load2 a6.view _ _ 0 1024 rfl (by omega) q d).trans (congrFun (u6.read_unread x4) _))

theorem delta_piece3 (z y : Fin 1) (q : Fin 512) :
    runA.sl.v207 (F := Ideal) c a6 u6 a7 u7 x4 x5 (ix3 z y q) = delta x4 x5 (ix3 0 0 ⟨1536 + q.val, by omega⟩) := by
  pointwise [runA.sl.v207, runA.sl.v204, runA.sl.v203, runA.sl.v202, runA.sl.v201, runA.sl.v200, runA.sl.v199, runA.sl.v198, runA.sl.v194, runA.sl.v193, runA.sl.v197, runA.sl.v196]
  refine Finset.sum_congr rfl fun d _ => congrArg₂ (fun u v : EReal => u * v) ((load2 a7.view _ _ 0 1536 rfl (by omega) q d).trans (congrFun (u7.read_unread x5) _))
    ((load2 a6.view _ _ 0 1536 rfl (by omega) q d).trans (congrFun (u6.read_unread x4) _))

theorem delta_piece4 (z y : Fin 1) (q : Fin 512) :
    runA.sl.v223 (F := Ideal) c a6 u6 a7 u7 x4 x5 (ix3 z y q) = delta x4 x5 (ix3 1 0 ⟨q.val, by omega⟩) := by
  pointwise [runA.sl.v223, runA.sl.v220, runA.sl.v219, runA.sl.v218, runA.sl.v217, runA.sl.v216, runA.sl.v215, runA.sl.v214, runA.sl.v210, runA.sl.v209, runA.sl.v213, runA.sl.v212]
  refine Finset.sum_congr rfl fun d _ => congrArg₂ (fun u v : EReal => u * v) ((load2 a7.view _ _ 1 0 rfl (by omega) q d).trans (congrFun (u7.read_unread x5) _)|>.trans (congrArg (fun u => x5 (ix2 u (lane 1 d))) (Fin.ext (Nat.zero_add q.val))))
    ((load2 a6.view _ _ 1 0 rfl (by omega) q d).trans (congrFun (u6.read_unread x4) _)|>.trans (congrArg (fun u => x4 (ix2 u (lane 1 d))) (Fin.ext (Nat.zero_add q.val))))

theorem delta_piece5 (z y : Fin 1) (q : Fin 512) :
    runA.sl.v239 (F := Ideal) c a6 u6 a7 u7 x4 x5 (ix3 z y q) = delta x4 x5 (ix3 1 0 ⟨512 + q.val, by omega⟩) := by
  pointwise [runA.sl.v239, runA.sl.v236, runA.sl.v235, runA.sl.v234, runA.sl.v233, runA.sl.v232, runA.sl.v231, runA.sl.v230, runA.sl.v226, runA.sl.v225, runA.sl.v229, runA.sl.v228]
  refine Finset.sum_congr rfl fun d _ => congrArg₂ (fun u v : EReal => u * v) ((load2 a7.view _ _ 1 512 rfl (by omega) q d).trans (congrFun (u7.read_unread x5) _))
    ((load2 a6.view _ _ 1 512 rfl (by omega) q d).trans (congrFun (u6.read_unread x4) _))

theorem delta_piece6 (z y : Fin 1) (q : Fin 512) :
    k0_pay47 (runA.sl.v252 (F := Ideal) c a6 u6 a7 u7 x4 x5) (ix3 z y q) = delta x4 x5 (ix3 1 0 ⟨1024 + q.val, by omega⟩) := by
  pointwise [k0_pay47, runA.sl.v252, runA.sl.v251, runA.sl.v250, runA.sl.v249, runA.sl.v248, runA.sl.v247, runA.sl.v246, runA.sl.v242, runA.sl.v241, runA.sl.v245, runA.sl.v244]
  refine Finset.sum_congr rfl fun d _ => congrArg₂ (fun u v : EReal => u * v) ((load2 a7.view _ _ 1 1024 rfl (by omega) q d).trans (congrFun (u7.read_unread x5) _))
    ((load2 a6.view _ _ 1 1024 rfl (by omega) q d).trans (congrFun (u6.read_unread x4) _))

theorem delta_piece7 (z y : Fin 1) (q : Fin 512) :
    k0_pay48 (F := Ideal) (View.readAt (Elt Ideal) a7.view (Rect.unit (s := S2048x256) ![1536, 128] S512x128.size inb_S2048x256_S512x128_1536_128).toLoadRect (u7.unread x5)) (View.readAt (Elt Ideal) a6.view (Rect.unit (s := S2048x256) ![1536, 128] S512x128.size inb_S2048x256_S512x128_1536_128).toLoadRect (u6.unread x4)) (ix3 z y q) = delta x4 x5 (ix3 1 0 ⟨1536 + q.val, by omega⟩) := by
  pointwise [k0_pay48]
  refine Finset.sum_congr rfl fun d _ => congrArg₂ (fun u v : EReal => u * v) ((load2 a7.view _ _ 1 1536 rfl (by omega) q d).trans (congrFun (u7.read_unread x5) _))
    ((load2 a6.view _ _ 1 1536 rfl (by omega) q d).trans (congrFun (u6.read_unread x4) _))

/-- What the first grid step leaves in the row scratch. -/
theorem read_delta : a17.view.read (Elt Ideal) (a17.view.writes (Elt Ideal) a17.view.junk (runA.sl.H17_8 (F := Ideal) c a6 u6 a7 u7 x4 x5)) = delta x4 x5 := by
  funext y
  obtain ⟨a, z, t, rfl⟩ : ∃ (a : Fin 2) (z : Fin 1) (t : Fin 2048), y = ix3 a z t := ⟨y 0, y 1, y 2, by funext b; match b with | ⟨0, _⟩ => rfl | ⟨1, _⟩ => rfl | ⟨2, _⟩ => rfl⟩
  obtain rfl : z = 0 := by omega
  have ht := t.isLt
  unfold runA.sl.H17_8
  rw [View.read_writes_cons_put _ _ _ _ _ (show _ = ![(1 : Fin 2).val, 0, 1536] from rfl), store1 _ 1 1536 (by omega)]
  by_cases h7 : a = 1 ∧ 1536 ≤ t.val ∧ t.val < 1536 + 512
  · rw [dif_pos h7]
    refine (delta_piece7 a6 u6 a7 u7 x4 x5 0 0 _).trans (congrArg (delta x4 x5) ?_)
    obtain ⟨rfl, h1, h2⟩ := h7
    exact congrArg (ix3 (1 : Fin 2) (0 : Fin 1)) (Fin.ext (by show 1536 + (t.val - 1536) = t.val; omega))
  rw [dif_neg h7]
  rw [View.read_writes_cons_put _ _ _ _ _ (show _ = ![(1 : Fin 2).val, 0, 1024] from rfl), store1 _ 1 1024 (by omega)]
  by_cases h6 : a = 1 ∧ 1024 ≤ t.val ∧ t.val < 1024 + 512
  · rw [dif_pos h6]
    refine (delta_piece6 c a6 u6 a7 u7 x4 x5 0 0 _).trans (congrArg (delta x4 x5) ?_)
    obtain ⟨rfl, h1, h2⟩ := h6
    exact congrArg (ix3 (1 : Fin 2) (0 : Fin 1)) (Fin.ext (by show 1024 + (t.val - 1024) = t.val; omega))
  rw [dif_neg h6]
  rw [View.read_writes_cons_put _ _ _ _ _ (show _ = ![(1 : Fin 2).val, 0, 512] from rfl), store1 _ 1 512 (by omega)]
  by_cases h5 : a = 1 ∧ 512 ≤ t.val ∧ t.val < 512 + 512
  · rw [dif_pos h5]
    refine (delta_piece5 c a6 u6 a7 u7 x4 x5 0 0 _).trans (congrArg (delta x4 x5) ?_)
    obtain ⟨rfl, h1, h2⟩ := h5
    exact congrArg (ix3 (1 : Fin 2) (0 : Fin 1)) (Fin.ext (by show 512 + (t.val - 512) = t.val; omega))
  rw [dif_neg h5]
  rw [View.read_writes_cons_put _ _ _ _ _ (show _ = ![(1 : Fin 2).val, 0, 0] from rfl), store1 _ 1 0 (by omega)]
  by_cases h4 : a = 1 ∧ 0 ≤ t.val ∧ t.val < 0 + 512
  · rw [dif_pos h4]
    refine (delta_piece4 c a6 u6 a7 u7 x4 x5 0 0 _).trans (congrArg (delta x4 x5) ?_)
    obtain ⟨rfl, h1, h2⟩ := h4
    exact congrArg (ix3 (1 : Fin 2) (0 : Fin 1)) (Fin.ext (by show (t.val - 0) = t.val; omega))
  rw [dif_neg h4]
  rw [View.read_writes_cons_put _ _ _ _ _ (show _ = ![(0 : Fin 2).val, 0, 1536] from rfl), store1 _ 0 1536 (by omega)]
  by_cases h3 : a = 0 ∧ 1536 ≤ t.val ∧ t.val < 1536 + 512
  · rw [dif_pos h3]
    refine (delta_piece3 c a6 u6 a7 u7 x4 x5 0 0 _).trans (congrArg (delta x4 x5) ?_)
    obtain ⟨rfl, h1, h2⟩ := h3
    exact congrArg (ix3 (0 : Fin 2) (0 : Fin 1)) (Fin.ext (by show 1536 + (t.val - 1536) = t.val; omega))
  rw [dif_neg h3]
  rw [View.read_writes_cons_put _ _ _ _ _ (show _ = ![(0 : Fin 2).val, 0, 1024] from rfl), store1 _ 0 1024 (by omega)]
  by_cases h2 : a = 0 ∧ 1024 ≤ t.val ∧ t.val < 1024 + 512
  · rw [dif_pos h2]
    refine (delta_piece2 c a6 u6 a7 u7 x4 x5 0 0 _).trans (congrArg (delta x4 x5) ?_)
    obtain ⟨rfl, h1, h2⟩ := h2
    exact congrArg (ix3 (0 : Fin 2) (0 : Fin 1)) (Fin.ext (by show 1024 + (t.val - 1024) = t.val; omega))
  rw [dif_neg h2]
  rw [View.read_writes_cons_put _ _ _ _ _ (show _ = ![(0 : Fin 2).val, 0, 512] from rfl), store1 _ 0 512 (by omega)]
  by_cases h1 : a = 0 ∧ 512 ≤ t.val ∧ t.val < 512 + 512
  · rw [dif_pos h1]
    refine (delta_piece1 c a6 u6 a7 u7 x4 x5 0 0 _).trans (congrArg (delta x4 x5) ?_)
    obtain ⟨rfl, h1, h2⟩ := h1
    exact congrArg (ix3 (0 : Fin 2) (0 : Fin 1)) (Fin.ext (by show 512 + (t.val - 512) = t.val; omega))
  rw [dif_neg h1]
  rw [View.read_writes_cons_put _ _ _ _ _ (show _ = ![(0 : Fin 2).val, 0, 0] from rfl), store1 _ 0 0 (by omega)]
  by_cases h0 : a = 0 ∧ 0 ≤ t.val ∧ t.val < 0 + 512
  · rw [dif_pos h0]
    refine (delta_piece0 c a6 u6 a7 u7 x4 x5 0 0 _).trans (congrArg (delta x4 x5) ?_)
    obtain ⟨rfl, h1, h2⟩ := h0
    exact congrArg (ix3 (0 : Fin 2) (0 : Fin 1)) (Fin.ext (by show (t.val - 0) = t.val; omega))
  rw [dif_neg h0]
  have := a.isLt
  exfalso
  by_cases ha : a = 0
  · subst ha
    have q0 : ¬ (0 ≤ t.val ∧ t.val < 0 + 512) := fun h => h0 ⟨rfl, h⟩
    have q1 : ¬ (512 ≤ t.val ∧ t.val < 512 + 512) := fun h => h1 ⟨rfl, h⟩
    have q2 : ¬ (1024 ≤ t.val ∧ t.val < 1024 + 512) := fun h => h2 ⟨rfl, h⟩
    have q3 : ¬ (1536 ≤ t.val ∧ t.val < 1536 + 512) := fun h => h3 ⟨rfl, h⟩
    omega
  · obtain rfl : a = 1 := by omega
    have q0 : ¬ (0 ≤ t.val ∧ t.val < 0 + 512) := fun h => h4 ⟨rfl, h⟩
    have q1 : ¬ (512 ≤ t.val ∧ t.val < 512 + 512) := fun h => h5 ⟨rfl, h⟩
    have q2 : ¬ (1024 ≤ t.val ∧ t.val < 1024 + 512) := fun h => h6 ⟨rfl, h⟩
    have q3 : ¬ (1536 ≤ t.val ∧ t.val < 1536 + 512) := fun h => h7 ⟨rfl, h⟩
    omega

end

end Cert.AttnBwd
-- ==== Proof.Attn.Acc.lean ====
/-
  The accumulator of the query gradient after one grid step.
-/
module

public import proofs.«01_k».proof.Proof.Attn.Core

@[expose] public section

set_option maxRecDepth 16384

noncomputable section

namespace Cert.AttnBwd

open Cert.AttnIdeal Cert.AttnIdeal.Gen Idealize.ShloMosaic Idealize.ShloMosaic.TcCoe
open Idealize.SL Idealize.SL.RA Idealize.SL.BI

/-- The two stores of the diagonal block, read back: the rows of that block hold what they held and the new products. -/
theorem acc_pieces {sp : Space} (v : View sig .tc sp S2x2048x256 .f32) (g0 : v.ty.Contents (Elt Ideal)) (L0 : List (View.Piece (Elt Ideal) S2x2048x256 .f32))
    (j : ℕ) (hj : j < 4) {off1 off2 : Fin 3 → ℕ} (h1 : off1 = ![(0 : Fin 2).val, 512 * j, 0]) (h2 : off2 = ![(1 : Fin 2).val, 512 * j, 0])
    (inb1 : ∀ a, off1 a + (![1, 512, 256] : Fin _ → ℕ) a ≤ S2x2048x256.size a) (inb2 : ∀ a, off2 a + (![1, 512, 256] : Fin _ → ℕ) a ≤ S2x2048x256.size a)
    (w1 : (Rect.unit (s := S2x2048x256) off1 ![1, 512, 256] inb1).shape.Idx → Elt Ideal .f32) (w2 : (Rect.unit (s := S2x2048x256) off2 ![1, 512, 256] inb2).shape.Idx → Elt Ideal .f32)
    (A : Vec Ideal S2x2048x256 .f32) (D : Fin 2 → Fin 2048 → Fin 256 → EReal) (hA : v.read (Elt Ideal) (v.writes (Elt Ideal) g0 L0) = A)
    (hw1 : ∀ (c : Fin 512) (l : Fin 256), w1 (ix3 (0 : Fin 1) c l) = A (ix3 0 (brow j hj c) l) + D 0 (brow j hj c) l)
    (hw2 : ∀ (c : Fin 512) (l : Fin 256), w2 (ix3 (0 : Fin 1) c l) = A (ix3 1 (brow j hj c) l) + D 1 (brow j hj c) l)
    (a : Fin 2) (t : Fin 2048) (l : Fin 256) :
    v.read (Elt Ideal) (v.writes (Elt Ideal) g0 (⟨Rect.unit (s := S2x2048x256) off2 ![1, 512, 256] inb2, w2⟩ :: ⟨Rect.unit (s := S2x2048x256) off1 ![1, 512, 256] inb1, w1⟩ :: L0)) (ix3 a t l)
      = if 512 * j ≤ t.val ∧ t.val < 512 * j + 512 then A (ix3 a t l) + D a t l else A (ix3 a t l) := by
  rw [View.read_writes_cons_put _ _ _ _ _ h2, View.read_writes_cons_put _ _ _ _ _ h1, hA, store3 _ 1 _ (by omega), store3 _ 0 _ (by omega)]
  have ht := t.isLt
  by_cases h : 512 * j ≤ t.val ∧ t.val < 512 * j + 512
  · rw [if_pos h]
    have e : brow j hj ⟨t.val - 512 * j, by omega⟩ = t := Fin.ext (by show 512 * j + (t.val - 512 * j) = t.val; omega)
    by_cases ha : a = 1
    · subst ha
      rw [dif_pos ⟨rfl, h⟩]
      exact (hw2 _ l).trans (by rw [e])
    · obtain rfl : a = 0 := by omega
      rw [dif_neg (fun q => ha q.1), dif_pos ⟨rfl, h⟩]
      exact (hw1 _ l).trans (by rw [e])
  · rw [if_neg h, dif_neg (fun q => h q.2), dif_neg (fun q => h q.2)]

section

attribute [local irreducible] st_k0_t1 st_k0_t2

variable (𝒱 : Variants) (c : Dev nD) (bd : Option 𝒱.V) (i : grid0.Coords) (a2 : Memref sig .tc .vmem S2x2048x256 .bf16) (u2 : a2.IsWhole) (a3 : Memref sig .tc .vmem S512x256 .bf16) (u3 : a3.IsWhole) (a4 : Memref sig .tc .vmem S512x128 .bf16) (u4 : a4.IsWhole) (a5 : Memref sig .tc .vmem S512x256 .bf16) (u5 : a5.IsWhole) (a6 : Memref sig .tc .vmem S2048x256 .bf16) (u6 : a6.IsWhole) (a7 : Memref sig .tc .vmem S2048x256 .bf16) (u7 : a7.IsWhole) (a8 : Memref sig .tc .vmem S2x1x2048 .f32) (u8 : a8.IsWhole) (a9 : Memref sig .tc .vmem S2048x128 .f32) (u9 : a9.IsWhole) (a10 : Memref sig .tc .vmem S2048x128 .f32) (u10 : a10.IsWhole) (a11 : Memref sig .tc .vmem S2048x128 .f32) (u11 : a11.IsWhole) (a12 : Memref sig .tc .vmem S2x2048x256 .bf16) (u12 : a12.IsWhole) (a13 : Memref sig .tc .vmem S512x256 .bf16) (u13 : a13.IsWhole) (a14 : Memref sig .tc .vmem S2x512x128 .f32) (u14 : a14.IsWhole) (a15 : Memref sig .tc .vmem S512x256 .bf16) (u15 : a15.IsWhole) (a16 : Memref sig .tc .vmem S2x2048x256 .f32) (u16 : a16.IsWhole) (a17 : Memref sig .tc .vmem S2x1x2048 .f32) (u17 : a17.IsWhole) (a1 : BitVec 32) (v7 : FVec Ideal S512x256 .bf16) (v10 : FVec Ideal S512x256 .bf16) (v12 : FVec Ideal S512x128 .bf16) (v14 : FVec Ideal S512x128 .bf16) (v15 : FVec Ideal S512x256 .f32) (v16 : FVec Ideal S512x128 .f32) (v18 : BitVec 32) (v24 : FVec Ideal S512x256 .bf16) (v30 : FVec Ideal S512x128 .bf16) (v32 : FVec Ideal S512x512 .f32) (v34 : FVec Ideal S512x512 .f32) (v52 : FVec Ideal S512x128 .f32) (v61 : FVec Ideal S512x256 .f32) (v73 : IVec S512x512 32) (v74 : IVec S512x512 32) (c6_i32_33 : BitVec 32) (v107 : BitVec 32) (X2 : BufTy.Contents (Elt Ideal) a2.view.ty) (X7 : BufTy.Contents (Elt Ideal) a7.view.ty) (X8 : BufTy.Contents (Elt Ideal) a8.view.ty) (X17 : BufTy.Contents (Elt Ideal) a17.view.ty)  (init : FVec Ideal S512x256 .f32 × FVec Ideal S512x128 .f32 × FVec Ideal S512x256 .f32 × FVec Ideal S512x128 .f32)
  (v112 : BitVec 32) (G_two : BufTy.Contents (Elt Ideal) a16.view.ty) (g0 : BufTy.Contents (Elt Ideal) a16.view.ty) (L L' : List (View.Piece (Elt Ideal) S2x2048x256 .f32))
  (x0 : Vec Ideal S2x2048x256 .bf16) (x5 : Vec Ideal S2048x256 .bf16) (x6 dl : Vec Ideal S2x1x2048 .f32)
  (kv : Fin 2 → Vec Ideal S512x256 .bf16) (vv : Fin 2 → Vec Ideal S512x128 .bf16) (hj : (i 1).val < 4)
  (h2 : a2.view.read (Elt Ideal) X2 = x0) (h7 : a7.view.read (Elt Ideal) X7 = x5) (h8 : a8.view.read (Elt Ideal) X8 = x6)
  (h17 : a17.view.read (Elt Ideal) X17 = dl) (hk0 : v7 = kv 0) (hk1 : v10 = kv 1) (hv0 : v12 = vv 0) (hv1 : v14 = vv 1)

include h2 h7 h8 h17 hk0 hk1 hv0 hv1 in
/-- The accumulator after both loops: what it held, and the products of the key block's rows. -/
theorem both_acc (A : Vec Ideal S2x2048x256 .f32) (a : Fin 2) (t : Fin 2048) (l : Fin 256)
    (hL : L' = (st_k0_t2 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G_two ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.2.2) (Scf.trips (k0_t2_loop i).lb (k0_t2_loop i).ub (k0_t2_loop i).st)).2 ++ ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).2 ++ L))
    (hG : a16.view.read (Elt Ideal) (a16.view.writes (Elt Ideal) g0 L) (ix3 a t l) = if 512 * (i 1).val ≤ t.val ∧ t.val < 512 * (i 1).val + 512 then
      A (ix3 a t l) + ∑ r : Fin 512, ds (i 1).val (kv a) (vv a) x0 x5 x6 dl a r t * kv a (ix2 r l) else A (ix3 a t l)) :
    a16.view.read (Elt Ideal) (a16.view.writes (Elt Ideal) g0 L') (ix3 a t l)
      = A (ix3 a t l) + ∑ r : Fin 512, ds (i 1).val (kv a) (vv a) x0 x5 x6 dl a r t * kv a (ix2 r l) := by
  have e2 : (st_k0_t2 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G_two ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.2.2) (Scf.trips (k0_t2_loop i).lb (k0_t2_loop i).ub (k0_t2_loop i).st)).2 = [] := congrArg (fun z => z.2) (second_loop 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v112 X2 X7 X8 X17 G_two ((st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.2.1, (st_k0_t1 (F := Ideal) 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init (Scf.trips (k0_t1_loop i).lb (k0_t1_loop i).ub (k0_t1_loop i).st)).1.2.2.2))
  rw [hL, e2, List.nil_append, View.writes_append]
  exact core_acc 𝒱 c bd i a2 u2 a3 u3 a4 u4 a5 u5 a6 u6 a7 u7 a8 u8 a9 u9 a10 u10 a11 u11 a12 u12 a13 u13 a14 u14 a15 u15 a16 u16 a17 u17 a1 v7 v10 v12 v14 v15 v16 v18 v24 v30 v32 v34 v52 v61 v73 v74 c6_i32_33 v107 X2 X7 X8 X17 (a16.view.writes (Elt Ideal) g0 L) init x0 x5 x6 dl kv vv h2 h7 h8 h17 hk0 hk1 hv0 hv1 A a t l hG

end

section

variable (j : ℕ) (hj : j < 4) (kv : Vec Ideal S512x256 .bf16) (vv : Vec Ideal S512x128 .bf16) (x0 : Vec Ideal S2x2048x256 .bf16) (x5 : Vec Ideal S2048x256 .bf16)
  (x6 dl : Vec Ideal S2x1x2048 .f32) (st : Vec Ideal S512x512 .f32) (ls dlv : Vec Ideal S1x1x512 .f32)
  (w : Vec Ideal S512x128 .bf16) (dp : Vec Ideal S512x512 .f32) (ac : Vec Ideal S1x512x256 .f32) (kv' : Vec Ideal S512x256 .bf16) (vv' : Vec Ideal S512x128 .bf16)
  (hk : kv' = kv) (hv : vv' = vv)

include hk hv in
/-- The rows of the diagonal block of head 0 in the accumulator. -/
theorem acc_rows0 (hst : ∀ r c, st (ix2 r c) = score kv x0 0 r (brow j hj c)) (hls : ∀ c, ls (ix3 0 0 c) = x6 (ix3 0 0 (brow j hj c))) (hdl : ∀ c, dlv (ix3 0 0 c) = dl (ix3 0 0 (brow j hj c))) (hw : ∀ c d, w (ix2 c d) = x5 (ix2 (brow j hj c) (lane 0 d))) (z : Fin 1) (c : Fin 512) (l : Fin 256) :
    k0_pay67 (F := Ideal) kv' vv' w st (constant (F := Ideal) S512x512 .f32 0x00000000#32) ls dlv ac (ix3 z c l) = ac (ix3 z c l) + ∑ r : Fin 512, ds j kv vv x0 x5 x6 dl 0 r (brow j hj c) * kv (ix2 r l) := by
  subst hk
  subst hv
  exact diag_acc0 j hj _ _ x0 x5 x6 dl st ls dlv w ac hst hls hdl hw z c l

include hk in
/-- The rows of the diagonal block of head 1 in the accumulator. -/
theorem acc_rows1 (hst : ∀ r c, st (ix2 r c) = score kv x0 1 r (brow j hj c)) (hls : ∀ c, ls (ix3 0 0 c) = x6 (ix3 1 0 (brow j hj c))) (hdl : ∀ c, dlv (ix3 0 0 c) = dl (ix3 1 0 (brow j hj c))) (hdp : ∀ r c, dp (ix2 r c) = ∑ d : Fin 128, vv (ix2 r d) * x5 (ix2 (brow j hj c) (lane 1 d))) (z : Fin 1) (c : Fin 512) (l : Fin 256) :
    k0_pay73 (F := Ideal) kv' st dp k0_pay68 (iota .tc S512x512 32 [1] iota_S512x512_d1_w32) 6#32 ls dlv ac (ix3 z c l) = ac (ix3 z c l) + ∑ r : Fin 512, ds j kv vv x0 x5 x6 dl 1 r (brow j hj c) * kv (ix2 r l) := by
  subst hk
  exact diag_acc1 j hj _ vv x0 x5 x6 dl st ls dlv dp ac hst hls hdl hdp z c l

end

end Cert.AttnBwd
-- ==== Proof.Attn.Outs.lean ====
/-
  What a grid step writes out, from the sums it has made.
-/
module

public import proofs.«01_k».proof.Proof.Attn.Entry

@[expose] public section

noncomputable section

namespace Cert.AttnBwd

open Cert.AttnIdeal Cert.AttnIdeal.Gen Idealize.ShloMosaic Idealize.ShloMosaic.TcCoe

/-- The logarithm of two. -/
def ln2 : EReal := ((Real.log 2 : ℝ) : EReal)

/-- The scale of the scores. -/
def scl : EReal := (((Real.sqrt 192)⁻¹ : ℝ) : EReal)

theorem lane_zero (d : Fin 128) (h : d.val < 256) : (⟨d.val, h⟩ : Fin 256) = lane 0 d := Fin.ext (by show d.val = 128 * 0 + d.val; omega)

theorem pay2_apply (g : Vec Ideal S512x256 .f32) (r : Fin 512) (d : Fin 128) :
    k0_pay2 (F := Ideal) g k0_pay86 (ix2 r d) = g (ix2 r (lane 0 d)) * ln2 := by
  pointwise [k0_pay2, k0_pay1, k0_pay86]
  rw [lane_zero]
  rfl

theorem pay3_apply (g : Vec Ideal S512x256 .f32) (z : Fin 1) (r : Fin 512) (d : Fin 128) :
    k0_pay3 (F := Ideal) g k0_pay86 (ix3 z r d) = g (ix2 r (lane 1 d)) * ln2 := by
  pointwise [k0_pay3, k0_pay1, k0_pay86]
  rfl

theorem pay6_apply (g : Vec Ideal S512x256 .f32) (r : Fin 512) (d : Fin 128) :
    k0_pay6 (F := Ideal) g (ix2 r d) = g (ix2 r (lane 0 d)) * ln2 := by
  pointwise [k0_pay6, k0_pay5]
  rw [lane_zero]
  rfl

theorem pay7_apply (g : Vec Ideal S512x256 .f32) (z : Fin 1) (r : Fin 512) (d : Fin 128) :
    k0_pay7 (F := Ideal) g (ix3 z r d) = g (ix2 r (lane 1 d)) * ln2 := by
  pointwise [k0_pay7, k0_pay5]
  rfl

theorem pay4_apply (g : Vec Ideal S512x128 .f32) (r : Fin 512) (d : Fin 128) : k0_pay4 (F := Ideal) g (ix2 r d) = g (ix2 r d) := rfl

theorem pay8_apply (g : Vec Ideal S512x128 .f32) (r : Fin 512) (d : Fin 128) : k0_pay8 (F := Ideal) g (ix2 r d) = g (ix2 r d) := rfl

/-- Lane `d` moved on by `n`, around 128 lanes. -/
def turn (n : ℕ) (d : Fin 128) : Fin 128 := ⟨(d.val + n) % 128, Nat.mod_lt _ (by decide)⟩

/-- The rotated half of the query gradient: the lanes against the cosines, and the lanes 32 on and 96 on against the sines, taken away. -/
def unrope (g : Fin 2048 → Fin 128 → EReal) (x7 x8 x9 : Vec Ideal S2048x128 .f32) (t : Fin 2048) (d : Fin 128) : EReal :=
  g t d * x7 (ix2 t d) + ((-1 : ℝ) : EReal) * (g t (turn 32 d) * x8 (ix2 t d) + g t (turn 96 d) * x9 (ix2 t d))

theorem minus_one : Ideal.ofBits .f32 0xBF800000#32 = ((-1 : ℝ) : EReal) := by
  simp [Ideal.ofBits, Ideal.ieee, -EReal.coe_mul]
  norm_num

theorem lane_turn (n k : ℕ) (hn : n + k = 128) (d : Fin 128) (h : 128 + (d.val + 128 - k) % 128 < 256) :
    (⟨128 + (d.val + 128 - k) % 128, h⟩ : Fin 256) = lane 1 (turn n d) :=
  Fin.ext (by show 128 + (d.val + 128 - k) % 128 = 128 * 1 + (d.val + n) % 128; have e : d.val + 128 - k = d.val + n := by omega
              rw [e])

theorem pay43_apply (g : Vec Ideal S1x2048x256 .f32) (z : Fin 1) (t : Fin 2048) (d : Fin 128) :
    k0_pay43 (F := Ideal) g (ix3 z t d) = g (ix3 0 t (lane 0 d)) * scl := by
  pointwise [k0_pay43, k0_pay42]
  rw [lane_zero]
  rfl

theorem pay44_apply (g : Vec Ideal S1x2048x256 .f32) (x7 x8 x9 : Vec Ideal S2048x128 .f32) (z : Fin 1) (t : Fin 2048) (d : Fin 128) :
    k0_pay44 (F := Ideal) g x7 x8 x9 (ix3 z t d) = unrope (fun t d => g (ix3 0 t (lane 1 d)) * scl) x7 x8 x9 t d := by
  pointwise [k0_pay44, k0_pay42]
  rw [lane_turn 32 96 rfl, lane_turn 96 32 rfl, minus_one]
  rfl

theorem pay9_apply (g : Vec Ideal S1x2048x256 .f32) (z : Fin 1) (t : Fin 2048) (d : Fin 128) :
    k0_pay9 (F := Ideal) (k0_pay46 g) (ix3 z t d) = g (ix3 0 t (lane 0 d)) * scl := by
  pointwise [k0_pay9, k0_pay46, k0_pay45]
  rw [lane_zero]
  rfl

theorem pay10_apply (g : Vec Ideal S1x2048x256 .f32) (x7 x8 x9 : Vec Ideal S2048x128 .f32) (z : Fin 1) (t : Fin 2048) (d : Fin 128) :
    k0_pay10 (F := Ideal) (k0_pay45 g) x7 x8 x9 (ix3 z t d) = unrope (fun t d => g (ix3 0 t (lane 1 d)) * scl) x7 x8 x9 t d := by
  pointwise [k0_pay10, k0_pay45]
  rw [lane_turn 32 96 rfl, lane_turn 96 32 rfl, minus_one]
  rfl

section

variable {sp : Space}

/-- A load of one head of the accumulator. -/
theorem loadAcc {e : EltTy} (v : View sig .tc sp S2x2048x256 e) (f : v.ty.Contents (Elt Ideal)) {off : Fin 3 → ℕ}
    (inb : ∀ a, off a + (![1, 2048, 256] : Fin _ → ℕ) a ≤ S2x2048x256.size a) (a : Fin 2) (t : Fin 2048) (l : Fin 256) (h : off = ![a.val, 0, 0] := by rfl) :
    v.readAt (Elt Ideal) (Rect.unit (s := S2x2048x256) off ![1, 2048, 256] inb).toLoadRect f (ix3 (0 : Fin 1) t l) = v.read (Elt Ideal) f (ix3 a t l) := by
  subst h
  rw [View.readAt_unit v f inb rfl inb]
  refine congrArg (v.read (Elt Ideal) f) (funext fun b => Fin.ext ?_)
  match b with
  | ⟨0, _⟩ => show a.val + 1 * 0 = a.val; omega
  | ⟨1, _⟩ => show 0 + 1 * t.val = t.val; omega
  | ⟨2, _⟩ => show 0 + 1 * l.val = l.val; omega

/-- A load of a whole table. -/
theorem loadTab {e : EltTy} (v : View sig .tc sp S2048x128 e) (f : v.ty.Contents (Elt Ideal))
    (inb : ∀ a, (![0, 0] : Fin 2 → ℕ) a + (![2048, 128] : Fin _ → ℕ) a ≤ S2048x128.size a) (t : Fin 2048) (d : Fin 128) :
    v.readAt (Elt Ideal) (Rect.unit (s := S2048x128) ![0, 0] ![2048, 128] inb).toLoadRect f (ix2 t d) = v.read (Elt Ideal) f (ix2 t d) := by
  rw [View.readAt_unit v f inb rfl inb]
  refine congrArg (v.read (Elt Ideal) f) (funext fun b => Fin.ext ?_)
  match b with
  | ⟨0, _⟩ => show 0 + 1 * t.val = t.val; omega
  | ⟨1, _⟩ => show 0 + 1 * d.val = d.val; omega

theorem unrope_congr {g g' : Fin 2048 → Fin 128 → EReal} {x7 x8 x9 y7 y8 y9 : Vec Ideal S2048x128 .f32} (hg : ∀ t d, g t d = g' t d)
    (h7 : ∀ t d, y7 (ix2 t d) = x7 (ix2 t d)) (h8 : ∀ t d, y8 (ix2 t d) = x8 (ix2 t d)) (h9 : ∀ t d, y9 (ix2 t d) = x9 (ix2 t d)) (t : Fin 2048) (d : Fin 128) :
    unrope g y7 y8 y9 t d = unrope g' x7 x8 x9 t d := by
  unfold unrope
  rw [hg, hg, hg, h7, h8, h9]

/-- Two stores of 128 lanes each, read back. -/
theorem halves2 {e : EltTy} (v : View sig .tc sp S512x256 e) (f : v.ty.Contents (Elt Ideal)) (inb0 : ∀ a, (![0, 0] : Fin 2 → ℕ) a + (![512, 128] : Fin _ → ℕ) a ≤ S512x256.size a)
    (inb1 : ∀ a, (![0, 128] : Fin 2 → ℕ) a + (![512, 128] : Fin _ → ℕ) a ≤ S512x256.size a)
    (w0 : (Rect.unit (s := S512x256) ![0, 0] ![512, 128] inb0).shape.Idx → Elt Ideal e) (w1 : (Rect.unit (s := S512x256) ![0, 128] ![512, 128] inb1).shape.Idx → Elt Ideal e)
    (a : Fin 2) (r : Fin 512) (d : Fin 128) :
    v.read (Elt Ideal) (v.writes (Elt Ideal) f [⟨Rect.unit (s := S512x256) ![0, 128] ![512, 128] inb1, w1⟩, ⟨Rect.unit (s := S512x256) ![0, 0] ![512, 128] inb0, w0⟩]) (ix2 r (lane a d))
      = if a = 0 then w0 (ix2 r d) else w1 (ix2 r d) := by
  rw [View.read_writes_cons_put _ _ _ _ _ rfl, View.read_writes_cons_put _ _ _ _ _ rfl]
  unfold VecWindow.put
  have hr := r.isLt
  have hd := d.isLt
  by_cases ha : a = 0
  · subst ha
    rw [if_pos rfl, dif_neg (fun h => by
      have h1 : 128 ≤ (lane 0 d).val ∧ _ := h 1
      have h2 : (lane 0 d).val = 128 * 0 + d.val := rfl
      omega), dif_pos (fun b => match b with
        | ⟨0, _⟩ => ⟨Nat.zero_le r.val, (Nat.zero_add 512).symm ▸ hr⟩
        | ⟨1, _⟩ => ⟨Nat.zero_le (lane 0 d).val, by show 128 * 0 + d.val < 0 + 128; omega⟩)]
    refine congrArg w0 (funext fun b => Fin.ext ?_)
    match b with
    | ⟨0, _⟩ => rfl
    | ⟨1, _⟩ => show 128 * 0 + d.val - 0 = d.val; omega
  · obtain rfl : a = 1 := by omega
    rw [if_neg ha, dif_pos (fun b => match b with
        | ⟨0, _⟩ => ⟨Nat.zero_le r.val, (Nat.zero_add 512).symm ▸ hr⟩
        | ⟨1, _⟩ => ⟨by show 128 ≤ 128 * 1 + d.val; omega, by show 128 * 1 + d.val < 128 + 128; omega⟩)]
    refine congrArg w1 (funext fun b => Fin.ext ?_)
    match b with
    | ⟨0, _⟩ => rfl
    | ⟨1, _⟩ => show 128 * 1 + d.val - 128 = d.val; omega

/-- Two stores of one head each, read back. -/
theorem halves3 {e : EltTy} (v : View sig .tc sp S2x512x128 e) (f : v.ty.Contents (Elt Ideal)) (inb0 : ∀ a, (![0, 0, 0] : Fin 3 → ℕ) a + (![1, 512, 128] : Fin _ → ℕ) a ≤ S2x512x128.size a)
    (inb1 : ∀ a, (![1, 0, 0] : Fin 3 → ℕ) a + (![1, 512, 128] : Fin _ → ℕ) a ≤ S2x512x128.size a)
    (w0 : (Rect.unit (s := S2x512x128) ![0, 0, 0] ![1, 512, 128] inb0).shape.Idx → Elt Ideal e) (w1 : (Rect.unit (s := S2x512x128) ![1, 0, 0] ![1, 512, 128] inb1).shape.Idx → Elt Ideal e)
    (a : Fin 2) (r : Fin 512) (d : Fin 128) :
    v.read (Elt Ideal) (v.writes (Elt Ideal) f [⟨Rect.unit (s := S2x512x128) ![1, 0, 0] ![1, 512, 128] inb1, w1⟩, ⟨Rect.unit (s := S2x512x128) ![0, 0, 0] ![1, 512, 128] inb0, w0⟩]) (ix3 a r d)
      = if a = 0 then w0 (ix3 (0 : Fin 1) r d) else w1 (ix3 (0 : Fin 1) r d) := by
  rw [View.read_writes_cons_put _ _ _ _ _ rfl, View.read_writes_cons_put _ _ _ _ _ rfl]
  unfold VecWindow.put
  have hr := r.isLt
  have hd := d.isLt
  by_cases ha : a = 0
  · subst ha
    rw [if_pos rfl, dif_neg (fun h => by have h1 : 1 ≤ 0 ∧ _ := h 0; omega), dif_pos (fun b => match b with
        | ⟨0, _⟩ => ⟨Nat.le_refl 0, Nat.zero_lt_one⟩
        | ⟨1, _⟩ => ⟨Nat.zero_le r.val, (Nat.zero_add 512).symm ▸ hr⟩
        | ⟨2, _⟩ => ⟨Nat.zero_le d.val, (Nat.zero_add 128).symm ▸ hd⟩)]
    refine congrArg w0 (funext fun b => Fin.ext ?_)
    match b with
    | ⟨0, _⟩ => rfl
    | ⟨1, _⟩ => rfl
    | ⟨2, _⟩ => rfl
  · obtain rfl : a = 1 := by omega
    rw [if_neg ha, dif_pos (fun b => match b with
        | ⟨0, _⟩ => ⟨Nat.le_refl 1, Nat.lt_succ_self 1⟩
        | ⟨1, _⟩ => ⟨Nat.zero_le r.val, (Nat.zero_add 512).symm ▸ hr⟩
        | ⟨2, _⟩ => ⟨Nat.zero_le d.val, (Nat.zero_add 128).symm ▸ hd⟩)]
    refine congrArg w1 (funext fun b => Fin.ext ?_)
    match b with
    | ⟨0, _⟩ => rfl
    | ⟨1, _⟩ => rfl
    | ⟨2, _⟩ => rfl

/-- A store of 128 lanes of one head, read back. -/
theorem storeq {α : Type} (x : S2x2048x256.Idx → α) (a b : Fin 2) (o : ℕ) (h : o = 128 * b.val)
    (w : ((k : Fin 3) → Fin ((![1, 2048, 128] : Fin 3 → ℕ) k)) → α) (a' b' : Fin 2) (t : Fin 2048) (d : Fin 128) :
    VecWindow.put (s := S2x2048x256) x ![a.val, 0, o] ![1, 2048, 128] w (ix3 a' t (lane b' d))
      = if a' = a ∧ b' = b then w (ix3 (0 : Fin 1) t d) else x (ix3 a' t (lane b' d)) := by
  subst h
  unfold VecWindow.put
  have ht := t.isLt
  have hd := d.isLt
  by_cases h : a' = a ∧ b' = b
  · obtain ⟨rfl, rfl⟩ := h
    rw [if_pos ⟨rfl, rfl⟩, dif_pos (fun k => match k with
      | ⟨0, _⟩ => ⟨Nat.le_refl a'.val, Nat.lt_succ_self a'.val⟩
      | ⟨1, _⟩ => ⟨Nat.zero_le t.val, (Nat.zero_add 2048).symm ▸ ht⟩
      | ⟨2, _⟩ => ⟨by show 128 * b'.val ≤ 128 * b'.val + d.val; omega, by show 128 * b'.val + d.val < 128 * b'.val + 128; omega⟩)]
    refine congrArg w (funext fun k => Fin.ext ?_)
    match k with
    | ⟨0, _⟩ => show a'.val - a'.val = 0; omega
    | ⟨1, _⟩ => rfl
    | ⟨2, _⟩ => show 128 * b'.val + d.val - 128 * b'.val = d.val; omega
  · rw [if_neg h, dif_neg]
    intro hk
    have h0 : a.val ≤ a'.val ∧ a'.val < a.val + 1 := hk 0
    have h1 : 128 * b.val ≤ 128 * b'.val + d.val ∧ 128 * b'.val + d.val < 128 * b.val + 128 := hk 2
    exact h ⟨Fin.ext (by omega), Fin.ext (by omega)⟩

/-- Four stores, of each half of the lanes of each head, read back. -/
theorem quarters {e : EltTy} (v : View sig .tc sp S2x2048x256 e) (f : v.ty.Contents (Elt Ideal))
    (i00 : ∀ a, (![0, 0, 0] : Fin 3 → ℕ) a + (![1, 2048, 128] : Fin _ → ℕ) a ≤ S2x2048x256.size a)
    (i01 : ∀ a, (![0, 0, 128] : Fin 3 → ℕ) a + (![1, 2048, 128] : Fin _ → ℕ) a ≤ S2x2048x256.size a)
    (i10 : ∀ a, (![1, 0, 0] : Fin 3 → ℕ) a + (![1, 2048, 128] : Fin _ → ℕ) a ≤ S2x2048x256.size a)
    (i11 : ∀ a, (![1, 0, 128] : Fin 3 → ℕ) a + (![1, 2048, 128] : Fin _ → ℕ) a ≤ S2x2048x256.size a)
    (w00 : (Rect.unit (s := S2x2048x256) ![0, 0, 0] ![1, 2048, 128] i00).shape.Idx → Elt Ideal e)
    (w01 : (Rect.unit (s := S2x2048x256) ![0, 0, 128] ![1, 2048, 128] i01).shape.Idx → Elt Ideal e)
    (w10 : (Rect.unit (s := S2x2048x256) ![1, 0, 0] ![1, 2048, 128] i10).shape.Idx → Elt Ideal e)
    (w11 : (Rect.unit (s := S2x2048x256) ![1, 0, 128] ![1, 2048, 128] i11).shape.Idx → Elt Ideal e)
    (a b : Fin 2) (t : Fin 2048) (d : Fin 128) :
    v.read (Elt Ideal) (v.writes (Elt Ideal) f [⟨Rect.unit (s := S2x2048x256) ![1, 0, 128] ![1, 2048, 128] i11, w11⟩, ⟨Rect.unit (s := S2x2048x256) ![1, 0, 0] ![1, 2048, 128] i10, w10⟩,
        ⟨Rect.unit (s := S2x2048x256) ![0, 0, 128] ![1, 2048, 128] i01, w01⟩, ⟨Rect.unit (s := S2x2048x256) ![0, 0, 0] ![1, 2048, 128] i00, w00⟩]) (ix3 a t (lane b d))
      = if a = 0 then (if b = 0 then w00 (ix3 (0 : Fin 1) t d) else w01 (ix3 (0 : Fin 1) t d)) else (if b = 0 then w10 (ix3 (0 : Fin 1) t d) else w11 (ix3 (0 : Fin 1) t d)) := by
  rw [View.read_writes_cons_put _ _ _ _ _ (show _ = ![(1 : Fin 2).val, 0, 128] from rfl), View.read_writes_cons_put _ _ _ _ _ (show _ = ![(1 : Fin 2).val, 0, 0] from rfl),
    View.read_writes_cons_put _ _ _ _ _ (show _ = ![(0 : Fin 2).val, 0, 128] from rfl), View.read_writes_cons_put _ _ _ _ _ (show _ = ![(0 : Fin 2).val, 0, 0] from rfl),
    storeq _ 1 1 128 rfl, storeq _ 1 0 0 rfl, storeq _ 0 1 128 rfl, storeq _ 0 0 0 rfl]
  by_cases ha : a = 0
  · subst ha
    by_cases hb : b = 0
    · subst hb; rw [if_neg (by decide), if_neg (by decide), if_neg (by decide), if_pos ⟨rfl, rfl⟩, if_pos rfl, if_pos rfl]
    · obtain rfl : b = 1 := by omega
      rw [if_neg (by decide), if_neg (by decide), if_pos ⟨rfl, rfl⟩, if_pos rfl, if_neg hb]
  · obtain rfl : a = 1 := by omega
    by_cases hb : b = 0
    · subst hb; rw [if_neg (by decide), if_pos ⟨rfl, rfl⟩, if_neg ha, if_pos rfl]
    · obtain rfl : b = 1 := by omega
      rw [if_pos ⟨rfl, rfl⟩, if_neg ha, if_neg hb]

end

end Cert.AttnBwd
-- ==== Proof.Attn.StepA.lean ====
/-
  What one grid step at a first key block computes.
-/
module

public import proofs.«01_k».proof.Proof.Attn.Delta
public import proofs.«01_k».proof.Proof.Attn.Acc
public import proofs.«01_k».proof.Proof.Attn.Outs

@[expose] public section

set_option maxRecDepth 16384

noncomputable section

namespace Cert.AttnBwd

open Cert.AttnIdeal Cert.AttnIdeal.Gen Idealize.ShloMosaic Idealize.ShloMosaic.TcCoe
open Idealize.SL Idealize.SL.RA Idealize.SL.BI

section

attribute [local irreducible] st_k0_t1 st_k0_t2

variable (c : Dev nD) (i : grid0.Coords) (hj : (i 1).val < 4)
  (a2 : Memref sig .tc .vmem S2x2048x256 .bf16) (u2 : a2.IsWhole)
  (a3 : Memref sig .tc .vmem S512x256 .bf16) (u3 : a3.IsWhole)
  (a4 : Memref sig .tc .vmem S512x128 .bf16) (u4 : a4.IsWhole)
  (a5 : Memref sig .tc .vmem S512x256 .bf16) (u5 : a5.IsWhole)
  (a6 : Memref sig .tc .vmem S2048x256 .bf16) (u6 : a6.IsWhole)
  (a7 : Memref sig .tc .vmem S2048x256 .bf16) (u7 : a7.IsWhole)
  (a8 : Memref sig .tc .vmem S2x1x2048 .f32) (u8 : a8.IsWhole)
  (a9 : Memref sig .tc .vmem S2048x128 .f32) (u9 : a9.IsWhole)
  (a10 : Memref sig .tc .vmem S2048x128 .f32) (u10 : a10.IsWhole)
  (a11 : Memref sig .tc .vmem S2048x128 .f32) (u11 : a11.IsWhole)
  (a12 : Memref sig .tc .vmem S2x2048x256 .bf16) (u12 : a12.IsWhole)
  (a13 : Memref sig .tc .vmem S512x256 .bf16) (u13 : a13.IsWhole)
  (a14 : Memref sig .tc .vmem S2x512x128 .f32) (u14 : a14.IsWhole)
  (a15 : Memref sig .tc .vmem S512x256 .bf16) (u15 : a15.IsWhole)
  (a16 : Memref sig .tc .vmem S2x2048x256 .f32) (u16 : a16.IsWhole)
  (a17 : Memref sig .tc .vmem S2x1x2048 .f32) (u17 : a17.IsWhole)
  (x0 : Vec Ideal S2x2048x256 .bf16) (x1 : Vec Ideal S512x256 .bf16) (x2 : Vec Ideal S512x128 .bf16) (x3 : Vec Ideal S512x256 .bf16) (x4 x5 : Vec Ideal S2048x256 .bf16) (x6 : Vec Ideal S2x1x2048 .f32)
  (s0 : Vec Ideal S2x2048x256 .f32) (s1 : Vec Ideal S2x1x2048 .f32)

theorem RA_keys0 : runA.sl.r (F := Ideal) c a3 u3 a4 u4 x1 x2 = keys x1 x2 0 :=
  pay50_keys x1 x2 _ _ (fun r d => (loadWhole a4.view _ _ r d).trans (congrFun (u4.read_unread x2) _))
    (fun r d => (loadHalf a3.view _ _ 0 rfl r d).trans (congrFun (u3.read_unread x1) _))

theorem RA_keys1 : runA.sl.r_1 (F := Ideal) c a3 u3 a4 u4 x1 x2 = keys x1 x2 1 :=
  pay51_keys x1 x2 _ _ (fun r d => (loadWhole a4.view _ _ r d).trans (congrFun (u4.read_unread x2) _))
    (fun r d => (loadHalf a3.view _ _ 1 rfl r d).trans (congrFun (u3.read_unread x1) _))

theorem RA_vals0 : runA.sl.r_2 (F := Ideal) c a5 u5 x3 = vals x3 0 :=
  pay52_vals x3 _ (fun r d => (loadHalf a5.view _ _ 0 rfl r d).trans (congrFun (u5.read_unread x3) _))

theorem RA_vals1 : runA.sl.r_3 (F := Ideal) c a5 u5 x3 = vals x3 1 :=
  pay53_vals x3 _ (fun r d => (loadHalf a5.view _ _ 1 rfl r d).trans (congrFun (u5.read_unread x3) _))

include hj

theorem RA_q0 (k : Fin 512) (l : Fin 256) : runA.sl.r_4 (F := Ideal) c i a2 u2 x0 (ix2 k l) = x0 (ix3 0 (brow (i 1).val hj k) l) :=
  (pay56_apply _ k l).trans ((load3 a2.view _ _ 0 _ (k0_off1_eq i) (by omega) 0 k l).trans (congrFun (u2.read_unread x0) _))

theorem RA_q1 (k : Fin 512) (l : Fin 256) : runA.sl.r_5 (F := Ideal) c i a2 u2 x0 (ix2 k l) = x0 (ix3 1 (brow (i 1).val hj k) l) :=
  (pay57_apply _ k l).trans ((load3 a2.view _ _ 1 _ (k0_off2_eq i) (by omega) 0 k l).trans (congrFun (u2.read_unread x0) _))

theorem RA_w0 (k : Fin 512) (l : Fin 128) : runA.sl.r_6 (F := Ideal) c i a7 u7 x5 (ix2 k l) = x5 (ix2 (brow (i 1).val hj k) (lane 0 l)) :=
  (pay58_apply _ k l).trans ((load2 a7.view _ _ 0 _ (k0_off3_eq i) (by omega) k l).trans (congrFun (u7.read_unread x5) _))

theorem RA_w1 (k : Fin 512) (l : Fin 128) : runA.sl.r_7 (F := Ideal) c i a7 u7 x5 (ix2 k l) = x5 (ix2 (brow (i 1).val hj k) (lane 1 l)) :=
  (pay59_apply _ k l).trans ((load2 a7.view _ _ 1 _ (k0_off4_eq i) (by omega) k l).trans (congrFun (u7.read_unread x5) _))

theorem RA_st0 (r k : Fin 512) : runA.sl.r_8 (F := Ideal) c i a2 u2 a3 u3 a4 u4 x0 x1 x2 (ix2 r k) = score (keys x1 x2 0) x0 0 r (brow (i 1).val hj k) :=
  pay60_score _ _ (i 1).val hj x0 _ _ (RA_keys0 c a3 u3 a4 u4 x1 x2)
    (fun k l => (load3 a2.view _ _ 0 _ (k0_off1_eq i) (by omega) 0 k l).trans (congrFun (u2.read_unread x0) _)) r k

theorem RA_st1 (r k : Fin 512) : runA.sl.r_9 (F := Ideal) c i a2 u2 a3 u3 a4 u4 x0 x1 x2 (ix2 r k) = score (keys x1 x2 1) x0 1 r (brow (i 1).val hj k) :=
  pay61_score _ _ (i 1).val hj x0 _ _ (RA_keys1 c a3 u3 a4 u4 x1 x2)
    (fun k l => (load3 a2.view _ _ 1 _ (k0_off2_eq i) (by omega) 0 k l).trans (congrFun (u2.read_unread x0) _)) r k

theorem RA_dp1 (r k : Fin 512) : runA.sl.r_10 (F := Ideal) c i a5 u5 a7 u7 x3 x5 (ix2 r k)
    = ∑ d : Fin 128, vals x3 1 (ix2 r d) * x5 (ix2 (brow (i 1).val hj k) (lane 1 d)) := by
  refine (pay62_apply _ _ r k).trans (Finset.sum_congr rfl fun d _ => ?_)
  rw [RA_vals1, RA_w1 c i hj a7 u7 x5]

/-- The key gradient of head 0 at a first key block. -/
theorem RA_dk0 (r : Fin 512) (l : Fin 256) :
    runA.sl.r_13 (F := Ideal) c i a2 u2 a3 u3 a4 u4 a5 u5 a6 u6 a7 u7 a8 u8 a9 u9 a10 u10 a11 u11 a12 u12 a13 u13 a14 u14 a15 u15 a16 u16 a17 u17 x0 x1 x2 x3 x4 x5 x6 (ix2 r l) = ∑ t : Fin 2048, ds (i 1).val (keys x1 x2 0) (vals x3 0) x0 x5 x6 (delta x4 x5) 0 r t * x0 (ix3 0 t l) := by
  unfold runA.sl.r_13
  refine both_dk0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (delta x4 x5) (keys x1 x2) (vals x3) hj (u2.read_unread x0) (u7.read_unread x5) (u8.read_unread x6) (read_delta c a6 u6 a7 u7 a17 x4 x5) (RA_keys0 c a3 u3 a4 u4 x1 x2) (RA_vals0 c a5 u5 x3) r l ?_
  have e := (RA_vals0 c a5 u5 x3)
  rw [← e]
  exact diag_dk0 (i 1).val hj _ _ x0 x5 x6 (delta x4 x5) _ _ _ _ _ (RA_st0 c i hj a2 u2 a3 u3 a4 u4 x0 x1 x2) (fun k => (load1 a8.view _ _ 0 _ (k0_off5_eq i) (by omega) 0 0 k).trans (congrFun (u8.read_unread x6) _)) (fun k => (load1 a17.view _ _ 0 _ (k0_off5_eq i) (by omega) 0 0 k).trans (congrFun (read_delta c a6 u6 a7 u7 a17 x4 x5) _)) (RA_w0 c i hj a7 u7 x5) (RA_q0 c i hj a2 u2 x0) r l

/-- The value gradient of head 0 at a first key block. -/
theorem RA_dv0 (r : Fin 512) (l : Fin 128) :
    runA.sl.r_14 (F := Ideal) c i a2 u2 a3 u3 a4 u4 a5 u5 a6 u6 a7 u7 a8 u8 a9 u9 a10 u10 a11 u11 a12 u12 a13 u13 a14 u14 a15 u15 a16 u16 a17 u17 x0 x1 x2 x3 x4 x5 x6 (ix2 r l) = ∑ t : Fin 2048, wt (i 1).val (keys x1 x2 0) x0 x6 0 r t * x5 (ix2 t (lane 0 l)) := by
  unfold runA.sl.r_14
  refine both_dv0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (keys x1 x2) hj (u2.read_unread x0) (u7.read_unread x5) (u8.read_unread x6) (RA_keys0 c a3 u3 a4 u4 x1 x2) r l ?_
  exact diag_dv0 (i 1).val hj _ x0 x5 x6 _ _ _ (RA_st0 c i hj a2 u2 a3 u3 a4 u4 x0 x1 x2) (fun k => (load1 a8.view _ _ 0 _ (k0_off5_eq i) (by omega) 0 0 k).trans (congrFun (u8.read_unread x6) _)) (RA_w0 c i hj a7 u7 x5) r l

/-- The key gradient of head 1 at a first key block. -/
theorem RA_dk1 (r : Fin 512) (l : Fin 256) :
    runA.sl.r_15 (F := Ideal) c i a2 u2 a3 u3 a4 u4 a5 u5 a6 u6 a7 u7 a8 u8 a9 u9 a10 u10 a11 u11 a12 u12 a13 u13 a14 u14 a15 u15 a16 u16 a17 u17 x0 x1 x2 x3 x4 x5 x6 (ix2 r l) = ∑ t : Fin 2048, ds (i 1).val (keys x1 x2 1) (vals x3 1) x0 x5 x6 (delta x4 x5) 1 r t * x0 (ix3 1 t l) := by
  unfold runA.sl.r_15
  refine both_dk1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (delta x4 x5) (keys x1 x2) (vals x3) hj (u2.read_unread x0) (u7.read_unread x5) (u8.read_unread x6) (read_delta c a6 u6 a7 u7 a17 x4 x5) (RA_keys1 c a3 u3 a4 u4 x1 x2) (RA_vals1 c a5 u5 x3) r l ?_
  exact diag_dk1 (i 1).val hj _ (vals x3 1) x0 x5 x6 (delta x4 x5) _ _ _ _ _ (RA_st1 c i hj a2 u2 a3 u3 a4 u4 x0 x1 x2) (fun k => (load1 a8.view _ _ 1 _ (k0_off6_eq i) (by omega) 0 0 k).trans (congrFun (u8.read_unread x6) _)) (fun k => (load1 a17.view _ _ 1 _ (k0_off6_eq i) (by omega) 0 0 k).trans (congrFun (read_delta c a6 u6 a7 u7 a17 x4 x5) _)) (RA_dp1 c i hj a5 u5 a7 u7 x3 x5) (RA_q1 c i hj a2 u2 x0) r l

/-- The value gradient of head 1 at a first key block. -/
theorem RA_dv1 (r : Fin 512) (l : Fin 128) :
    runA.sl.r_16 (F := Ideal) c i a2 u2 a3 u3 a4 u4 a5 u5 a6 u6 a7 u7 a8 u8 a9 u9 a10 u10 a11 u11 a12 u12 a13 u13 a14 u14 a15 u15 a16 u16 a17 u17 x0 x1 x2 x3 x4 x5 x6 (ix2 r l) = ∑ t : Fin 2048, wt (i 1).val (keys x1 x2 1) x0 x6 1 r t * x5 (ix2 t (lane 1 l)) := by
  unfold runA.sl.r_16
  refine both_dv1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (keys x1 x2) hj (u2.read_unread x0) (u7.read_unread x5) (u8.read_unread x6) (RA_keys1 c a3 u3 a4 u4 x1 x2) r l ?_
  exact diag_dv1 (i 1).val hj _ x0 x5 x6 _ _ _ (RA_st1 c i hj a2 u2 a3 u3 a4 u4 x0 x1 x2) (fun k => (load1 a8.view _ _ 1 _ (k0_off6_eq i) (by omega) 0 0 k).trans (congrFun (u8.read_unread x6) _)) (RA_w1 c i hj a7 u7 x5) r l

variable (hc0 : isFirst i) (hc1 : ¬k0_cond2 i = 1#1) (x7 x8 x9 : Vec Ideal S2048x128 .f32)

omit hj in
/-- The accumulator filled with zeros. -/
theorem RA_zero (f : a16.view.ty.Contents (Elt Ideal)) : a16.view.read (Elt Ideal) (a16.view.writes (Elt Ideal) f (runA.sl.H16_1 (F := Ideal))) = fun _ => (0 : EReal) := by
  unfold runA.sl.H16_1
  rw [View.read_writes_full]
  funext y
  obtain ⟨a, t, l, rfl⟩ : ∃ (a : Fin 2) (t : Fin 2048) (l : Fin 256), y = ix3 a t l := ⟨y 0, y 1, y 2, by funext b; match b with | ⟨0, _⟩ => rfl | ⟨1, _⟩ => rfl | ⟨2, _⟩ => rfl⟩
  pointwise [runA.sl.v143, runA.sl.v140, runA.sl.cst_66]

/-- The accumulator after a first key block. -/
theorem RA_acc (a : Fin 2) (t : Fin 2048) (l : Fin 256) :
    a16.view.read (Elt Ideal) (a16.view.writes (Elt Ideal) a16.view.junk (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9).2.2.2.1) (ix3 a t l) = 0 + ∑ r : Fin 512, ds (i 1).val (keys x1 x2 a) (vals x3 a) x0 x5 x6 (delta x4 x5) a r t * keys x1 x2 a (ix2 r l) := by
  refine both_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ a16.view.junk _ _ x0 x5 x6 (delta x4 x5) (keys x1 x2) (vals x3) (u2.read_unread x0) (u7.read_unread x5) (u8.read_unread x6) (read_delta c a6 u6 a7 u7 a17 x4 x5) (RA_keys0 c a3 u3 a4 u4 x1 x2) (RA_keys1 c a3 u3 a4 u4 x1 x2) (RA_vals0 c a5 u5 x3) (RA_vals1 c a5 u5 x3) (fun _ => 0) a t l rfl ?_
  refine acc_pieces a16.view a16.view.junk (runA.sl.H16_1 (F := Ideal)) (i 1).val hj (k0_off1_eq i) (k0_off2_eq i) _ _ _ _ (fun _ => 0) (fun a t l => ∑ r : Fin 512, ds (i 1).val (keys x1 x2 a) (vals x3 a) x0 x5 x6 (delta x4 x5) a r t * keys x1 x2 a (ix2 r l)) (RA_zero a16 _) (fun c' l => ?_) (fun c' l => ?_) a t l
  · refine (acc_rows0 (i 1).val hj (keys x1 x2 0) (vals x3 0) x0 x5 x6 (delta x4 x5) _ _ _ _ _ _ _ (RA_keys0 c a3 u3 a4 u4 x1 x2) (RA_vals0 c a5 u5 x3) (RA_st0 c i hj a2 u2 a3 u3 a4 u4 x0 x1 x2) (fun k => (load1 a8.view _ _ 0 _ (k0_off5_eq i) (by omega) 0 0 k).trans (congrFun (u8.read_unread x6) _)) (fun k => (load1 a17.view _ _ 0 _ (k0_off5_eq i) (by omega) 0 0 k).trans (congrFun (read_delta c a6 u6 a7 u7 a17 x4 x5) _)) (RA_w0 c i hj a7 u7 x5) 0 c' l).trans (congrArg (fun u : EReal => u + _) ((load3 a16.view _ _ 0 _ (k0_off1_eq i) (by omega) 0 c' l).trans (congrFun (RA_zero a16 _) _)))
  · refine (acc_rows1 (i 1).val hj (keys x1 x2 1) (vals x3 1) x0 x5 x6 (delta x4 x5) _ _ _ _ _ _ (RA_keys1 c a3 u3 a4 u4 x1 x2) (RA_st1 c i hj a2 u2 a3 u3 a4 u4 x0 x1 x2) (fun k => (load1 a8.view _ _ 1 _ (k0_off6_eq i) (by omega) 0 0 k).trans (congrFun (u8.read_unread x6) _)) (fun k => (load1 a17.view _ _ 1 _ (k0_off6_eq i) (by omega) 0 0 k).trans (congrFun (read_delta c a6 u6 a7 u7 a17 x4 x5) _)) (RA_dp1 c i hj a5 u5 a7 u7 x3 x5) 0 c' l).trans (congrArg (fun u : EReal => u + _) ((load3 a16.view _ _ 1 _ (k0_off2_eq i) (by omega) 0 c' l).trans (by
        unfold runA.sl.H16_2
        rw [View.read_writes_cons_put _ _ _ _ _ (k0_off1_eq i)]
        refine (store3 _ 0 (512 * (i 1).val) (by omega) _ 1 _ l).trans ?_
        rw [dif_neg (fun q => absurd q.1 (by decide))]
        exact congrFun (RA_zero a16 _) _)))

/-- The key gradient, first half of the lanes, written at a first key block. -/
theorem RA_dkn {sp : Space} (v : View sig .tc sp S512x256 .bf16) (f : v.ty.Contents (Elt Ideal)) (a : Fin 2) (r : Fin 512) (d : Fin 128) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9).1) (ix2 r (lane a d)) = (∑ t : Fin 2048, ds (i 1).val (keys x1 x2 a) (vals x3 a) x0 x5 x6 (delta x4 x5) a r t * x0 (ix3 a t (lane 0 d))) * ln2 := by
  refine (halves2 v f _ _ _ _ a r d).trans ?_
  by_cases ha : a = 0
  · subst ha
    rw [if_pos rfl]
    refine (pay2_apply _ r d).trans (congrArg (fun u : EReal => u * ln2) ?_)
    exact RA_dk0 c i hj a2 u2 a3 u3 a4 u4 a5 u5 a6 u6 a7 u7 a8 u8 a9 u9 a10 u10 a11 u11 a12 u12 a13 u13 a14 u14 a15 u15 a16 u16 a17 u17 x0 x1 x2 x3 x4 x5 x6 r (lane 0 d)
  · obtain rfl : a = 1 := by omega
    rw [if_neg ha]
    refine (pay6_apply _ r d).trans (congrArg (fun u : EReal => u * ln2) ?_)
    exact RA_dk1 c i hj a2 u2 a3 u3 a4 u4 a5 u5 a6 u6 a7 u7 a8 u8 a9 u9 a10 u10 a11 u11 a12 u12 a13 u13 a14 u14 a15 u15 a16 u16 a17 u17 x0 x1 x2 x3 x4 x5 x6 r (lane 0 d)

/-- The key gradient, second half of the lanes, written at a first key block. -/
theorem RA_dkr {sp : Space} (v : View sig .tc sp S2x512x128 .f32) (f : v.ty.Contents (Elt Ideal)) (a : Fin 2) (r : Fin 512) (d : Fin 128) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9).2.1) (ix3 a r d) = (∑ t : Fin 2048, ds (i 1).val (keys x1 x2 a) (vals x3 a) x0 x5 x6 (delta x4 x5) a r t * x0 (ix3 a t (lane 1 d))) * ln2 := by
  refine (halves3 v f _ _ _ _ a r d).trans ?_
  by_cases ha : a = 0
  · subst ha
    rw [if_pos rfl]
    refine (pay3_apply _ 0 r d).trans (congrArg (fun u : EReal => u * ln2) ?_)
    exact RA_dk0 c i hj a2 u2 a3 u3 a4 u4 a5 u5 a6 u6 a7 u7 a8 u8 a9 u9 a10 u10 a11 u11 a12 u12 a13 u13 a14 u14 a15 u15 a16 u16 a17 u17 x0 x1 x2 x3 x4 x5 x6 r (lane 1 d)
  · obtain rfl : a = 1 := by omega
    rw [if_neg ha]
    refine (pay7_apply _ 0 r d).trans (congrArg (fun u : EReal => u * ln2) ?_)
    exact RA_dk1 c i hj a2 u2 a3 u3 a4 u4 a5 u5 a6 u6 a7 u7 a8 u8 a9 u9 a10 u10 a11 u11 a12 u12 a13 u13 a14 u14 a15 u15 a16 u16 a17 u17 x0 x1 x2 x3 x4 x5 x6 r (lane 1 d)

/-- The value gradient written at a first key block. -/
theorem RA_dv {sp : Space} (v : View sig .tc sp S512x256 .bf16) (f : v.ty.Contents (Elt Ideal)) (a : Fin 2) (r : Fin 512) (d : Fin 128) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9).2.2.1) (ix2 r (lane a d)) = ∑ t : Fin 2048, wt (i 1).val (keys x1 x2 a) x0 x6 a r t * x5 (ix2 t (lane a d)) := by
  refine (halves2 v f _ _ _ _ a r d).trans ?_
  by_cases ha : a = 0
  · subst ha
    rw [if_pos rfl]
    refine (pay4_apply _ r d).trans ?_
    exact RA_dv0 c i hj a2 u2 a3 u3 a4 u4 a5 u5 a6 u6 a7 u7 a8 u8 a9 u9 a10 u10 a11 u11 a12 u12 a13 u13 a14 u14 a15 u15 a16 u16 a17 u17 x0 x1 x2 x3 x4 x5 x6 r d
  · obtain rfl : a = 1 := by omega
    rw [if_neg ha]
    refine (pay8_apply _ r d).trans ?_
    exact RA_dv1 c i hj a2 u2 a3 u3 a4 u4 a5 u5 a6 u6 a7 u7 a8 u8 a9 u9 a10 u10 a11 u11 a12 u12 a13 u13 a14 u14 a15 u15 a16 u16 a17 u17 x0 x1 x2 x3 x4 x5 x6 r d

end

end Cert.AttnBwd
-- ==== Proof.Attn.StepB.lean ====
/-
  What one grid step at a middle key block computes.
-/
module

public import proofs.«01_k».proof.Proof.Attn.Entry
public import proofs.«01_k».proof.Proof.Attn.Acc
public import proofs.«01_k».proof.Proof.Attn.Outs

@[expose] public section

set_option maxRecDepth 16384

noncomputable section

namespace Cert.AttnBwd

open Cert.AttnIdeal Cert.AttnIdeal.Gen Idealize.ShloMosaic Idealize.ShloMosaic.TcCoe
open Idealize.SL Idealize.SL.RA Idealize.SL.BI

section

attribute [local irreducible] st_k0_t1 st_k0_t2

variable (c : Dev nD) (i : grid0.Coords) (hj : (i 1).val < 4)
  (a2 : Memref sig .tc .vmem S2x2048x256 .bf16) (u2 : a2.IsWhole)
  (a3 : Memref sig .tc .vmem S512x256 .bf16) (u3 : a3.IsWhole)
  (a4 : Memref sig .tc .vmem S512x128 .bf16) (u4 : a4.IsWhole)
  (a5 : Memref sig .tc .vmem S512x256 .bf16) (u5 : a5.IsWhole)
  (a6 : Memref sig .tc .vmem S2048x256 .bf16) (u6 : a6.IsWhole)
  (a7 : Memref sig .tc .vmem S2048x256 .bf16) (u7 : a7.IsWhole)
  (a8 : Memref sig .tc .vmem S2x1x2048 .f32) (u8 : a8.IsWhole)
  (a9 : Memref sig .tc .vmem S2048x128 .f32) (u9 : a9.IsWhole)
  (a10 : Memref sig .tc .vmem S2048x128 .f32) (u10 : a10.IsWhole)
  (a11 : Memref sig .tc .vmem S2048x128 .f32) (u11 : a11.IsWhole)
  (a12 : Memref sig .tc .vmem S2x2048x256 .bf16) (u12 : a12.IsWhole)
  (a13 : Memref sig .tc .vmem S512x256 .bf16) (u13 : a13.IsWhole)
  (a14 : Memref sig .tc .vmem S2x512x128 .f32) (u14 : a14.IsWhole)
  (a15 : Memref sig .tc .vmem S512x256 .bf16) (u15 : a15.IsWhole)
  (a16 : Memref sig .tc .vmem S2x2048x256 .f32) (u16 : a16.IsWhole)
  (a17 : Memref sig .tc .vmem S2x1x2048 .f32) (u17 : a17.IsWhole)
  (x0 : Vec Ideal S2x2048x256 .bf16) (x1 : Vec Ideal S512x256 .bf16) (x2 : Vec Ideal S512x128 .bf16) (x3 : Vec Ideal S512x256 .bf16) (x4 x5 : Vec Ideal S2048x256 .bf16) (x6 : Vec Ideal S2x1x2048 .f32)
  (s0 : Vec Ideal S2x2048x256 .f32) (s1 : Vec Ideal S2x1x2048 .f32)

theorem RB_keys0 : runB.sl.r (F := Ideal) c a3 u3 a4 u4 x1 x2 = keys x1 x2 0 :=
  pay50_keys x1 x2 _ _ (fun r d => (loadWhole a4.view _ _ r d).trans (congrFun (u4.read_unread x2) _))
    (fun r d => (loadHalf a3.view _ _ 0 rfl r d).trans (congrFun (u3.read_unread x1) _))

theorem RB_keys1 : runB.sl.r_1 (F := Ideal) c a3 u3 a4 u4 x1 x2 = keys x1 x2 1 :=
  pay51_keys x1 x2 _ _ (fun r d => (loadWhole a4.view _ _ r d).trans (congrFun (u4.read_unread x2) _))
    (fun r d => (loadHalf a3.view _ _ 1 rfl r d).trans (congrFun (u3.read_unread x1) _))

theorem RB_vals0 : runB.sl.r_2 (F := Ideal) c a5 u5 x3 = vals x3 0 :=
  pay52_vals x3 _ (fun r d => (loadHalf a5.view _ _ 0 rfl r d).trans (congrFun (u5.read_unread x3) _))

theorem RB_vals1 : runB.sl.r_3 (F := Ideal) c a5 u5 x3 = vals x3 1 :=
  pay53_vals x3 _ (fun r d => (loadHalf a5.view _ _ 1 rfl r d).trans (congrFun (u5.read_unread x3) _))

include hj

theorem RB_q0 (k : Fin 512) (l : Fin 256) : runB.sl.r_4 (F := Ideal) c i a2 u2 x0 (ix2 k l) = x0 (ix3 0 (brow (i 1).val hj k) l) :=
  (pay56_apply _ k l).trans ((load3 a2.view _ _ 0 _ (k0_off1_eq i) (by omega) 0 k l).trans (congrFun (u2.read_unread x0) _))

theorem RB_q1 (k : Fin 512) (l : Fin 256) : runB.sl.r_5 (F := Ideal) c i a2 u2 x0 (ix2 k l) = x0 (ix3 1 (brow (i 1).val hj k) l) :=
  (pay57_apply _ k l).trans ((load3 a2.view _ _ 1 _ (k0_off2_eq i) (by omega) 0 k l).trans (congrFun (u2.read_unread x0) _))

theorem RB_w0 (k : Fin 512) (l : Fin 128) : runB.sl.r_6 (F := Ideal) c i a7 u7 x5 (ix2 k l) = x5 (ix2 (brow (i 1).val hj k) (lane 0 l)) :=
  (pay58_apply _ k l).trans ((load2 a7.view _ _ 0 _ (k0_off3_eq i) (by omega) k l).trans (congrFun (u7.read_unread x5) _))

theorem RB_w1 (k : Fin 512) (l : Fin 128) : runB.sl.r_7 (F := Ideal) c i a7 u7 x5 (ix2 k l) = x5 (ix2 (brow (i 1).val hj k) (lane 1 l)) :=
  (pay59_apply _ k l).trans ((load2 a7.view _ _ 1 _ (k0_off4_eq i) (by omega) k l).trans (congrFun (u7.read_unread x5) _))

theorem RB_st0 (r k : Fin 512) : runB.sl.r_8 (F := Ideal) c i a2 u2 a3 u3 a4 u4 x0 x1 x2 (ix2 r k) = score (keys x1 x2 0) x0 0 r (brow (i 1).val hj k) :=
  pay60_score _ _ (i 1).val hj x0 _ _ (RB_keys0 c a3 u3 a4 u4 x1 x2)
    (fun k l => (load3 a2.view _ _ 0 _ (k0_off1_eq i) (by omega) 0 k l).trans (congrFun (u2.read_unread x0) _)) r k

theorem RB_st1 (r k : Fin 512) : runB.sl.r_9 (F := Ideal) c i a2 u2 a3 u3 a4 u4 x0 x1 x2 (ix2 r k) = score (keys x1 x2 1) x0 1 r (brow (i 1).val hj k) :=
  pay61_score _ _ (i 1).val hj x0 _ _ (RB_keys1 c a3 u3 a4 u4 x1 x2)
    (fun k l => (load3 a2.view _ _ 1 _ (k0_off2_eq i) (by omega) 0 k l).trans (congrFun (u2.read_unread x0) _)) r k

theorem RB_dp1 (r k : Fin 512) : runB.sl.r_10 (F := Ideal) c i a5 u5 a7 u7 x3 x5 (ix2 r k)
    = ∑ d : Fin 128, vals x3 1 (ix2 r d) * x5 (ix2 (brow (i 1).val hj k) (lane 1 d)) := by
  refine (pay62_apply _ _ r k).trans (Finset.sum_congr rfl fun d _ => ?_)
  rw [RB_vals1, RB_w1 c i hj a7 u7 x5]

/-- The key gradient of head 0 at a middle key block. -/
theorem RB_dk0 (r : Fin 512) (l : Fin 256) :
    runB.sl.r_13 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, ds (i 1).val (keys x1 x2 0) (vals x3 0) x0 x5 x6 s1 0 r t * x0 (ix3 0 t l) := by
  unfold runB.sl.r_13
  refine both_dk0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 s1 (keys x1 x2) (vals x3) hj (u2.read_unread x0) (u7.read_unread x5) (u8.read_unread x6) (u17.read_unread s1) (RB_keys0 c a3 u3 a4 u4 x1 x2) (RB_vals0 c a5 u5 x3) r l ?_
  have e := (RB_vals0 c a5 u5 x3)
  rw [← e]
  exact diag_dk0 (i 1).val hj _ _ x0 x5 x6 s1 _ _ _ _ _ (RB_st0 c i hj a2 u2 a3 u3 a4 u4 x0 x1 x2) (fun k => (load1 a8.view _ _ 0 _ (k0_off5_eq i) (by omega) 0 0 k).trans (congrFun (u8.read_unread x6) _)) (fun k => (load1 a17.view _ _ 0 _ (k0_off5_eq i) (by omega) 0 0 k).trans (congrFun (u17.read_unread s1) _)) (RB_w0 c i hj a7 u7 x5) (RB_q0 c i hj a2 u2 x0) r l

/-- The value gradient of head 0 at a middle key block. -/
theorem RB_dv0 (r : Fin 512) (l : Fin 128) :
    runB.sl.r_14 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, wt (i 1).val (keys x1 x2 0) x0 x6 0 r t * x5 (ix2 t (lane 0 l)) := by
  unfold runB.sl.r_14
  refine both_dv0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (keys x1 x2) hj (u2.read_unread x0) (u7.read_unread x5) (u8.read_unread x6) (RB_keys0 c a3 u3 a4 u4 x1 x2) r l ?_
  exact diag_dv0 (i 1).val hj _ x0 x5 x6 _ _ _ (RB_st0 c i hj a2 u2 a3 u3 a4 u4 x0 x1 x2) (fun k => (load1 a8.view _ _ 0 _ (k0_off5_eq i) (by omega) 0 0 k).trans (congrFun (u8.read_unread x6) _)) (RB_w0 c i hj a7 u7 x5) r l

/-- The key gradient of head 1 at a middle key block. -/
theorem RB_dk1 (r : Fin 512) (l : Fin 256) :
    runB.sl.r_15 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, ds (i 1).val (keys x1 x2 1) (vals x3 1) x0 x5 x6 s1 1 r t * x0 (ix3 1 t l) := by
  unfold runB.sl.r_15
  refine both_dk1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 s1 (keys x1 x2) (vals x3) hj (u2.read_unread x0) (u7.read_unread x5) (u8.read_unread x6) (u17.read_unread s1) (RB_keys1 c a3 u3 a4 u4 x1 x2) (RB_vals1 c a5 u5 x3) r l ?_
  exact diag_dk1 (i 1).val hj _ (vals x3 1) x0 x5 x6 s1 _ _ _ _ _ (RB_st1 c i hj a2 u2 a3 u3 a4 u4 x0 x1 x2) (fun k => (load1 a8.view _ _ 1 _ (k0_off6_eq i) (by omega) 0 0 k).trans (congrFun (u8.read_unread x6) _)) (fun k => (load1 a17.view _ _ 1 _ (k0_off6_eq i) (by omega) 0 0 k).trans (congrFun (u17.read_unread s1) _)) (RB_dp1 c i hj a5 u5 a7 u7 x3 x5) (RB_q1 c i hj a2 u2 x0) r l

/-- The value gradient of head 1 at a middle key block. -/
theorem RB_dv1 (r : Fin 512) (l : Fin 128) :
    runB.sl.r_16 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, wt (i 1).val (keys x1 x2 1) x0 x6 1 r t * x5 (ix2 t (lane 1 l)) := by
  unfold runB.sl.r_16
  refine both_dv1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (keys x1 x2) hj (u2.read_unread x0) (u7.read_unread x5) (u8.read_unread x6) (RB_keys1 c a3 u3 a4 u4 x1 x2) r l ?_
  exact diag_dv1 (i 1).val hj _ x0 x5 x6 _ _ _ (RB_st1 c i hj a2 u2 a3 u3 a4 u4 x0 x1 x2) (fun k => (load1 a8.view _ _ 1 _ (k0_off6_eq i) (by omega) 0 0 k).trans (congrFun (u8.read_unread x6) _)) (RB_w1 c i hj a7 u7 x5) r l

variable (hc0 : ¬isFirst i) (hc1 : ¬k0_cond2 i = 1#1) (x7 x8 x9 : Vec Ideal S2048x128 .f32)

/-- The accumulator after a middle key block. -/
theorem RB_acc (a : Fin 2) (t : Fin 2048) (l : Fin 256) :
    a16.view.read (Elt Ideal) (a16.view.writes (Elt Ideal) (u16.unread s0) (runB (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).2.2.2.1) (ix3 a t l) = s0 (ix3 a t l) + ∑ r : Fin 512, ds (i 1).val (keys x1 x2 a) (vals x3 a) x0 x5 x6 s1 a r t * keys x1 x2 a (ix2 r l) := by
  refine both_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ (u16.unread s0) _ _ x0 x5 x6 s1 (keys x1 x2) (vals x3) (u2.read_unread x0) (u7.read_unread x5) (u8.read_unread x6) (u17.read_unread s1) (RB_keys0 c a3 u3 a4 u4 x1 x2) (RB_keys1 c a3 u3 a4 u4 x1 x2) (RB_vals0 c a5 u5 x3) (RB_vals1 c a5 u5 x3) s0 a t l rfl ?_
  refine acc_pieces a16.view (u16.unread s0) [] (i 1).val hj (k0_off1_eq i) (k0_off2_eq i) _ _ _ _ s0 (fun a t l => ∑ r : Fin 512, ds (i 1).val (keys x1 x2 a) (vals x3 a) x0 x5 x6 s1 a r t * keys x1 x2 a (ix2 r l)) (u16.read_unread s0) (fun c' l => ?_) (fun c' l => ?_) a t l
  · refine (acc_rows0 (i 1).val hj (keys x1 x2 0) (vals x3 0) x0 x5 x6 s1 _ _ _ _ _ _ _ (RB_keys0 c a3 u3 a4 u4 x1 x2) (RB_vals0 c a5 u5 x3) (RB_st0 c i hj a2 u2 a3 u3 a4 u4 x0 x1 x2) (fun k => (load1 a8.view _ _ 0 _ (k0_off5_eq i) (by omega) 0 0 k).trans (congrFun (u8.read_unread x6) _)) (fun k => (load1 a17.view _ _ 0 _ (k0_off5_eq i) (by omega) 0 0 k).trans (congrFun (u17.read_unread s1) _)) (RB_w0 c i hj a7 u7 x5) 0 c' l).trans (congrArg (fun u : EReal => u + _) ((load3 a16.view _ _ 0 _ (k0_off1_eq i) (by omega) 0 c' l).trans (congrFun (u16.read_unread s0) _)))
  · refine (acc_rows1 (i 1).val hj (keys x1 x2 1) (vals x3 1) x0 x5 x6 s1 _ _ _ _ _ _ (RB_keys1 c a3 u3 a4 u4 x1 x2) (RB_st1 c i hj a2 u2 a3 u3 a4 u4 x0 x1 x2) (fun k => (load1 a8.view _ _ 1 _ (k0_off6_eq i) (by omega) 0 0 k).trans (congrFun (u8.read_unread x6) _)) (fun k => (load1 a17.view _ _ 1 _ (k0_off6_eq i) (by omega) 0 0 k).trans (congrFun (u17.read_unread s1) _)) (RB_dp1 c i hj a5 u5 a7 u7 x3 x5) 0 c' l).trans (congrArg (fun u : EReal => u + _) ((load3 a16.view _ _ 1 _ (k0_off2_eq i) (by omega) 0 c' l).trans (congrFun (u16.read_unread s0) _)))

/-- The key gradient, first half of the lanes, written at a middle key block. -/
theorem RB_dkn {sp : Space} (v : View sig .tc sp S512x256 .bf16) (f : v.ty.Contents (Elt Ideal)) (a : Fin 2) (r : Fin 512) (d : Fin 128) :
    v.read (Elt Ideal) (v.writes (Elt Ideal) f (runB (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).1) (ix2 r (lane a d)) = (∑ t : Fin 2048, ds (i 1).val (keys x1 x2 a) (vals x3 a) x0 x5 x6 s1 a r t * x0 (ix3 a t (lane 0 d))) * ln2 := by
  refine (halves2 v f _ _ _ _ a r d).trans ?_
  by_cases ha : a = 0
  · subst ha
    rw [if_pos rfl]
    refine (pay2_apply _ r d).trans (congrArg (fun u : EReal => u * ln2) ?_)
    exact RB_dk0 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 0 d)
  · obtain rfl : a = 1 := by omega
    rw [if_neg ha]
    refine (pay6_apply _ r d).trans (congrArg (fun u : EReal => u * ln2) ?_)
    exact RB_dk1 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 0 d)

/-- The key gradient, second half of the lanes, written at a middle key block. -/
theorem RB_dkr {sp : Space} (v : View sig .tc sp S2x512x128 .f32) (f : v.ty.Contents (Elt Ideal)) (a : Fin 2) (r : Fin 512) (d : Fin 128) :
    v.read (Elt Ideal) (v.writes (Elt Ideal) f (runB (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).2.1) (ix3 a r d) = (∑ t : Fin 2048, ds (i 1).val (keys x1 x2 a) (vals x3 a) x0 x5 x6 s1 a r t * x0 (ix3 a t (lane 1 d))) * ln2 := by
  refine (halves3 v f _ _ _ _ a r d).trans ?_
  by_cases ha : a = 0
  · subst ha
    rw [if_pos rfl]
    refine (pay3_apply _ 0 r d).trans (congrArg (fun u : EReal => u * ln2) ?_)
    exact RB_dk0 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 1 d)
  · obtain rfl : a = 1 := by omega
    rw [if_neg ha]
    refine (pay7_apply _ 0 r d).trans (congrArg (fun u : EReal => u * ln2) ?_)
    exact RB_dk1 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 1 d)

/-- The value gradient written at a middle key block. -/
theorem RB_dv {sp : Space} (v : View sig .tc sp S512x256 .bf16) (f : v.ty.Contents (Elt Ideal)) (a : Fin 2) (r : Fin 512) (d : Fin 128) :
    v.read (Elt Ideal) (v.writes (Elt Ideal) f (runB (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).2.2.1) (ix2 r (lane a d)) = ∑ t : Fin 2048, wt (i 1).val (keys x1 x2 a) x0 x6 a r t * x5 (ix2 t (lane a d)) := by
  refine (halves2 v f _ _ _ _ a r d).trans ?_
  by_cases ha : a = 0
  · subst ha
    rw [if_pos rfl]
    refine (pay4_apply _ r d).trans ?_
    exact RB_dv0 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r d
  · obtain rfl : a = 1 := by omega
    rw [if_neg ha]
    refine (pay8_apply _ r d).trans ?_
    exact RB_dv1 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r d

end

end Cert.AttnBwd
-- ==== Proof.Attn.StepC.lean ====
/-
  What one grid step at a last key block computes.
-/
module

public import proofs.«01_k».proof.Proof.Attn.Entry
public import proofs.«01_k».proof.Proof.Attn.Acc
public import proofs.«01_k».proof.Proof.Attn.Outs

@[expose] public section

set_option maxRecDepth 16384

noncomputable section

namespace Cert.AttnBwd

open Cert.AttnIdeal Cert.AttnIdeal.Gen Idealize.ShloMosaic Idealize.ShloMosaic.TcCoe
open Idealize.SL Idealize.SL.RA Idealize.SL.BI

section

attribute [local irreducible] st_k0_t1 st_k0_t2

variable (c : Dev nD) (i : grid0.Coords) (hj : (i 1).val < 4)
  (a2 : Memref sig .tc .vmem S2x2048x256 .bf16) (u2 : a2.IsWhole)
  (a3 : Memref sig .tc .vmem S512x256 .bf16) (u3 : a3.IsWhole)
  (a4 : Memref sig .tc .vmem S512x128 .bf16) (u4 : a4.IsWhole)
  (a5 : Memref sig .tc .vmem S512x256 .bf16) (u5 : a5.IsWhole)
  (a6 : Memref sig .tc .vmem S2048x256 .bf16) (u6 : a6.IsWhole)
  (a7 : Memref sig .tc .vmem S2048x256 .bf16) (u7 : a7.IsWhole)
  (a8 : Memref sig .tc .vmem S2x1x2048 .f32) (u8 : a8.IsWhole)
  (a9 : Memref sig .tc .vmem S2048x128 .f32) (u9 : a9.IsWhole)
  (a10 : Memref sig .tc .vmem S2048x128 .f32) (u10 : a10.IsWhole)
  (a11 : Memref sig .tc .vmem S2048x128 .f32) (u11 : a11.IsWhole)
  (a12 : Memref sig .tc .vmem S2x2048x256 .bf16) (u12 : a12.IsWhole)
  (a13 : Memref sig .tc .vmem S512x256 .bf16) (u13 : a13.IsWhole)
  (a14 : Memref sig .tc .vmem S2x512x128 .f32) (u14 : a14.IsWhole)
  (a15 : Memref sig .tc .vmem S512x256 .bf16) (u15 : a15.IsWhole)
  (a16 : Memref sig .tc .vmem S2x2048x256 .f32) (u16 : a16.IsWhole)
  (a17 : Memref sig .tc .vmem S2x1x2048 .f32) (u17 : a17.IsWhole)
  (x0 : Vec Ideal S2x2048x256 .bf16) (x1 : Vec Ideal S512x256 .bf16) (x2 : Vec Ideal S512x128 .bf16) (x3 : Vec Ideal S512x256 .bf16) (x4 x5 : Vec Ideal S2048x256 .bf16) (x6 : Vec Ideal S2x1x2048 .f32)
  (s0 : Vec Ideal S2x2048x256 .f32) (s1 : Vec Ideal S2x1x2048 .f32)

theorem RC_keys0 : runC.sl.r (F := Ideal) c a3 u3 a4 u4 x1 x2 = keys x1 x2 0 :=
  pay50_keys x1 x2 _ _ (fun r d => (loadWhole a4.view _ _ r d).trans (congrFun (u4.read_unread x2) _))
    (fun r d => (loadHalf a3.view _ _ 0 rfl r d).trans (congrFun (u3.read_unread x1) _))

theorem RC_keys1 : runC.sl.r_1 (F := Ideal) c a3 u3 a4 u4 x1 x2 = keys x1 x2 1 :=
  pay51_keys x1 x2 _ _ (fun r d => (loadWhole a4.view _ _ r d).trans (congrFun (u4.read_unread x2) _))
    (fun r d => (loadHalf a3.view _ _ 1 rfl r d).trans (congrFun (u3.read_unread x1) _))

theorem RC_vals0 : runC.sl.r_2 (F := Ideal) c a5 u5 x3 = vals x3 0 :=
  pay52_vals x3 _ (fun r d => (loadHalf a5.view _ _ 0 rfl r d).trans (congrFun (u5.read_unread x3) _))

theorem RC_vals1 : runC.sl.r_3 (F := Ideal) c a5 u5 x3 = vals x3 1 :=
  pay53_vals x3 _ (fun r d => (loadHalf a5.view _ _ 1 rfl r d).trans (congrFun (u5.read_unread x3) _))

include hj

theorem RC_q0 (k : Fin 512) (l : Fin 256) : runC.sl.r_4 (F := Ideal) c i a2 u2 x0 (ix2 k l) = x0 (ix3 0 (brow (i 1).val hj k) l) :=
  (pay56_apply _ k l).trans ((load3 a2.view _ _ 0 _ (k0_off1_eq i) (by omega) 0 k l).trans (congrFun (u2.read_unread x0) _))

theorem RC_q1 (k : Fin 512) (l : Fin 256) : runC.sl.r_5 (F := Ideal) c i a2 u2 x0 (ix2 k l) = x0 (ix3 1 (brow (i 1).val hj k) l) :=
  (pay57_apply _ k l).trans ((load3 a2.view _ _ 1 _ (k0_off2_eq i) (by omega) 0 k l).trans (congrFun (u2.read_unread x0) _))

theorem RC_w0 (k : Fin 512) (l : Fin 128) : runC.sl.r_6 (F := Ideal) c i a7 u7 x5 (ix2 k l) = x5 (ix2 (brow (i 1).val hj k) (lane 0 l)) :=
  (pay58_apply _ k l).trans ((load2 a7.view _ _ 0 _ (k0_off3_eq i) (by omega) k l).trans (congrFun (u7.read_unread x5) _))

theorem RC_w1 (k : Fin 512) (l : Fin 128) : runC.sl.r_7 (F := Ideal) c i a7 u7 x5 (ix2 k l) = x5 (ix2 (brow (i 1).val hj k) (lane 1 l)) :=
  (pay59_apply _ k l).trans ((load2 a7.view _ _ 1 _ (k0_off4_eq i) (by omega) k l).trans (congrFun (u7.read_unread x5) _))

theorem RC_st0 (r k : Fin 512) : runC.sl.r_8 (F := Ideal) c i a2 u2 a3 u3 a4 u4 x0 x1 x2 (ix2 r k) = score (keys x1 x2 0) x0 0 r (brow (i 1).val hj k) :=
  pay60_score _ _ (i 1).val hj x0 _ _ (RC_keys0 c a3 u3 a4 u4 x1 x2)
    (fun k l => (load3 a2.view _ _ 0 _ (k0_off1_eq i) (by omega) 0 k l).trans (congrFun (u2.read_unread x0) _)) r k

theorem RC_st1 (r k : Fin 512) : runC.sl.r_9 (F := Ideal) c i a2 u2 a3 u3 a4 u4 x0 x1 x2 (ix2 r k) = score (keys x1 x2 1) x0 1 r (brow (i 1).val hj k) :=
  pay61_score _ _ (i 1).val hj x0 _ _ (RC_keys1 c a3 u3 a4 u4 x1 x2)
    (fun k l => (load3 a2.view _ _ 1 _ (k0_off2_eq i) (by omega) 0 k l).trans (congrFun (u2.read_unread x0) _)) r k

theorem RC_dp1 (r k : Fin 512) : runC.sl.r_10 (F := Ideal) c i a5 u5 a7 u7 x3 x5 (ix2 r k)
    = ∑ d : Fin 128, vals x3 1 (ix2 r d) * x5 (ix2 (brow (i 1).val hj k) (lane 1 d)) := by
  refine (pay62_apply _ _ r k).trans (Finset.sum_congr rfl fun d _ => ?_)
  rw [RC_vals1, RC_w1 c i hj a7 u7 x5]

/-- The key gradient of head 0 at a last key block. -/
theorem RC_dk0 (r : Fin 512) (l : Fin 256) :
    runC.sl.r_13 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, ds (i 1).val (keys x1 x2 0) (vals x3 0) x0 x5 x6 s1 0 r t * x0 (ix3 0 t l) := by
  unfold runC.sl.r_13
  refine both_dk0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 s1 (keys x1 x2) (vals x3) hj (u2.read_unread x0) (u7.read_unread x5) (u8.read_unread x6) (u17.read_unread s1) (RC_keys0 c a3 u3 a4 u4 x1 x2) (RC_vals0 c a5 u5 x3) r l ?_
  have e := (RC_vals0 c a5 u5 x3)
  rw [← e]
  exact diag_dk0 (i 1).val hj _ _ x0 x5 x6 s1 _ _ _ _ _ (RC_st0 c i hj a2 u2 a3 u3 a4 u4 x0 x1 x2) (fun k => (load1 a8.view _ _ 0 _ (k0_off5_eq i) (by omega) 0 0 k).trans (congrFun (u8.read_unread x6) _)) (fun k => (load1 a17.view _ _ 0 _ (k0_off5_eq i) (by omega) 0 0 k).trans (congrFun (u17.read_unread s1) _)) (RC_w0 c i hj a7 u7 x5) (RC_q0 c i hj a2 u2 x0) r l

/-- The value gradient of head 0 at a last key block. -/
theorem RC_dv0 (r : Fin 512) (l : Fin 128) :
    runC.sl.r_14 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, wt (i 1).val (keys x1 x2 0) x0 x6 0 r t * x5 (ix2 t (lane 0 l)) := by
  unfold runC.sl.r_14
  refine both_dv0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (keys x1 x2) hj (u2.read_unread x0) (u7.read_unread x5) (u8.read_unread x6) (RC_keys0 c a3 u3 a4 u4 x1 x2) r l ?_
  exact diag_dv0 (i 1).val hj _ x0 x5 x6 _ _ _ (RC_st0 c i hj a2 u2 a3 u3 a4 u4 x0 x1 x2) (fun k => (load1 a8.view _ _ 0 _ (k0_off5_eq i) (by omega) 0 0 k).trans (congrFun (u8.read_unread x6) _)) (RC_w0 c i hj a7 u7 x5) r l

/-- The key gradient of head 1 at a last key block. -/
theorem RC_dk1 (r : Fin 512) (l : Fin 256) :
    runC.sl.r_15 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, ds (i 1).val (keys x1 x2 1) (vals x3 1) x0 x5 x6 s1 1 r t * x0 (ix3 1 t l) := by
  unfold runC.sl.r_15
  refine both_dk1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 s1 (keys x1 x2) (vals x3) hj (u2.read_unread x0) (u7.read_unread x5) (u8.read_unread x6) (u17.read_unread s1) (RC_keys1 c a3 u3 a4 u4 x1 x2) (RC_vals1 c a5 u5 x3) r l ?_
  exact diag_dk1 (i 1).val hj _ (vals x3 1) x0 x5 x6 s1 _ _ _ _ _ (RC_st1 c i hj a2 u2 a3 u3 a4 u4 x0 x1 x2) (fun k => (load1 a8.view _ _ 1 _ (k0_off6_eq i) (by omega) 0 0 k).trans (congrFun (u8.read_unread x6) _)) (fun k => (load1 a17.view _ _ 1 _ (k0_off6_eq i) (by omega) 0 0 k).trans (congrFun (u17.read_unread s1) _)) (RC_dp1 c i hj a5 u5 a7 u7 x3 x5) (RC_q1 c i hj a2 u2 x0) r l

/-- The value gradient of head 1 at a last key block. -/
theorem RC_dv1 (r : Fin 512) (l : Fin 128) :
    runC.sl.r_16 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix2 r l) = ∑ t : Fin 2048, wt (i 1).val (keys x1 x2 1) x0 x6 1 r t * x5 (ix2 t (lane 1 l)) := by
  unfold runC.sl.r_16
  refine both_dv1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ x0 x5 x6 (keys x1 x2) hj (u2.read_unread x0) (u7.read_unread x5) (u8.read_unread x6) (RC_keys1 c a3 u3 a4 u4 x1 x2) r l ?_
  exact diag_dv1 (i 1).val hj _ x0 x5 x6 _ _ _ (RC_st1 c i hj a2 u2 a3 u3 a4 u4 x0 x1 x2) (fun k => (load1 a8.view _ _ 1 _ (k0_off6_eq i) (by omega) 0 0 k).trans (congrFun (u8.read_unread x6) _)) (RC_w1 c i hj a7 u7 x5) r l

variable (hc0 : ¬isFirst i) (hc1 : k0_cond2 i = 1#1) (x7 x8 x9 : Vec Ideal S2048x128 .f32)

/-- The accumulator after the last key block. -/
theorem RC_acc (a : Fin 2) (t : Fin 2048) (l : Fin 256) :
    a16.view.read (Elt Ideal) (a16.view.writes (Elt Ideal) (u16.unread s0) (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).2.2.2.2.1) (ix3 a t l) = s0 (ix3 a t l) + ∑ r : Fin 512, ds (i 1).val (keys x1 x2 a) (vals x3 a) x0 x5 x6 s1 a r t * keys x1 x2 a (ix2 r l) := by
  refine both_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ (u16.unread s0) _ _ x0 x5 x6 s1 (keys x1 x2) (vals x3) (u2.read_unread x0) (u7.read_unread x5) (u8.read_unread x6) (u17.read_unread s1) (RC_keys0 c a3 u3 a4 u4 x1 x2) (RC_keys1 c a3 u3 a4 u4 x1 x2) (RC_vals0 c a5 u5 x3) (RC_vals1 c a5 u5 x3) s0 a t l rfl ?_
  refine acc_pieces a16.view (u16.unread s0) [] (i 1).val hj (k0_off1_eq i) (k0_off2_eq i) _ _ _ _ s0 (fun a t l => ∑ r : Fin 512, ds (i 1).val (keys x1 x2 a) (vals x3 a) x0 x5 x6 s1 a r t * keys x1 x2 a (ix2 r l)) (u16.read_unread s0) (fun c' l => ?_) (fun c' l => ?_) a t l
  · refine (acc_rows0 (i 1).val hj (keys x1 x2 0) (vals x3 0) x0 x5 x6 s1 _ _ _ _ _ _ _ (RC_keys0 c a3 u3 a4 u4 x1 x2) (RC_vals0 c a5 u5 x3) (RC_st0 c i hj a2 u2 a3 u3 a4 u4 x0 x1 x2) (fun k => (load1 a8.view _ _ 0 _ (k0_off5_eq i) (by omega) 0 0 k).trans (congrFun (u8.read_unread x6) _)) (fun k => (load1 a17.view _ _ 0 _ (k0_off5_eq i) (by omega) 0 0 k).trans (congrFun (u17.read_unread s1) _)) (RC_w0 c i hj a7 u7 x5) 0 c' l).trans (congrArg (fun u : EReal => u + _) ((load3 a16.view _ _ 0 _ (k0_off1_eq i) (by omega) 0 c' l).trans (congrFun (u16.read_unread s0) _)))
  · refine (acc_rows1 (i 1).val hj (keys x1 x2 1) (vals x3 1) x0 x5 x6 s1 _ _ _ _ _ _ (RC_keys1 c a3 u3 a4 u4 x1 x2) (RC_st1 c i hj a2 u2 a3 u3 a4 u4 x0 x1 x2) (fun k => (load1 a8.view _ _ 1 _ (k0_off6_eq i) (by omega) 0 0 k).trans (congrFun (u8.read_unread x6) _)) (fun k => (load1 a17.view _ _ 1 _ (k0_off6_eq i) (by omega) 0 0 k).trans (congrFun (u17.read_unread s1) _)) (RC_dp1 c i hj a5 u5 a7 u7 x3 x5) 0 c' l).trans (congrArg (fun u : EReal => u + _) ((load3 a16.view _ _ 1 _ (k0_off2_eq i) (by omega) 0 c' l).trans (congrFun (u16.read_unread s0) _)))

/-- The key gradient, first half of the lanes, written at a last key block. -/
theorem RC_dkn {sp : Space} (v : View sig .tc sp S512x256 .bf16) (f : v.ty.Contents (Elt Ideal)) (a : Fin 2) (r : Fin 512) (d : Fin 128) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).2.1) (ix2 r (lane a d)) = (∑ t : Fin 2048, ds (i 1).val (keys x1 x2 a) (vals x3 a) x0 x5 x6 s1 a r t * x0 (ix3 a t (lane 0 d))) * ln2 := by
  refine (halves2 v f _ _ _ _ a r d).trans ?_
  by_cases ha : a = 0
  · subst ha
    rw [if_pos rfl]
    refine (pay2_apply _ r d).trans (congrArg (fun u : EReal => u * ln2) ?_)
    exact RC_dk0 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 0 d)
  · obtain rfl : a = 1 := by omega
    rw [if_neg ha]
    refine (pay6_apply _ r d).trans (congrArg (fun u : EReal => u * ln2) ?_)
    exact RC_dk1 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 0 d)

/-- The key gradient, second half of the lanes, written at a last key block. -/
theorem RC_dkr {sp : Space} (v : View sig .tc sp S2x512x128 .f32) (f : v.ty.Contents (Elt Ideal)) (a : Fin 2) (r : Fin 512) (d : Fin 128) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).2.2.1) (ix3 a r d) = (∑ t : Fin 2048, ds (i 1).val (keys x1 x2 a) (vals x3 a) x0 x5 x6 s1 a r t * x0 (ix3 a t (lane 1 d))) * ln2 := by
  refine (halves3 v f _ _ _ _ a r d).trans ?_
  by_cases ha : a = 0
  · subst ha
    rw [if_pos rfl]
    refine (pay3_apply _ 0 r d).trans (congrArg (fun u : EReal => u * ln2) ?_)
    exact RC_dk0 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 1 d)
  · obtain rfl : a = 1 := by omega
    rw [if_neg ha]
    refine (pay7_apply _ 0 r d).trans (congrArg (fun u : EReal => u * ln2) ?_)
    exact RC_dk1 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r (lane 1 d)

/-- The value gradient written at a last key block. -/
theorem RC_dv {sp : Space} (v : View sig .tc sp S512x256 .bf16) (f : v.ty.Contents (Elt Ideal)) (a : Fin 2) (r : Fin 512) (d : Fin 128) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).2.2.2.1) (ix2 r (lane a d)) = ∑ t : Fin 2048, wt (i 1).val (keys x1 x2 a) x0 x6 a r t * x5 (ix2 t (lane a d)) := by
  refine (halves2 v f _ _ _ _ a r d).trans ?_
  by_cases ha : a = 0
  · subst ha
    rw [if_pos rfl]
    refine (pay4_apply _ r d).trans ?_
    exact RC_dv0 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r d
  · obtain rfl : a = 1 := by omega
    rw [if_neg ha]
    refine (pay8_apply _ r d).trans ?_
    exact RC_dv1 c i hj a2 u2 a3 u3 a4 u4 a5 u5 a6 u6 a7 u7 a8 u8 a9 u9 a10 u10 a11 u11 a12 u12 a13 u13 a14 u14 a15 u15 a16 u16 a17 u17 x0 x1 x2 x3 x5 x6 s0 s1 r d

include x4 hc0 hc1 x7 x8 x9 in
theorem RC_v140 (t : Fin 2048) (l : Fin 256) : runC.sl.v140 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix3 0 t l) = s0 (ix3 0 t (l)) + ∑ r : Fin 512, ds (i 1).val (keys x1 x2 0) (vals x3 0) x0 x5 x6 s1 0 r t * keys x1 x2 0 (ix2 r (l)) :=
  (loadAcc a16.view _ _ 0 t l).trans (RC_acc c i hj a2 u2 a3 u3 a4 u4 a5 u5 a6 u6 a7 u7 a8 u8 a9 u9 a10 u10 a11 u11 a12 u12 a13 u13 a14 u14 a15 u15 a16 u16 a17 u17 x0 x1 x2 x3 x4 x5 x6 s0 s1 hc0 hc1 x7 x8 x9 0 t l)

include x4 hc0 hc1 x7 x8 x9 in
theorem RC_v169 (t : Fin 2048) (l : Fin 256) : runC.sl.v169 (F := Ideal) c i a2 u2 a3 u3 a4 u4 a5 u5 a6 u6 a7 u7 a8 u8 a9 u9 a10 u10 a11 u11 a12 u12 a13 u13 a14 u14 a15 u15 a16 u16 a17 u17 x0 x1 x2 x3 x5 x6 s0 s1 (ix3 0 t l) = s0 (ix3 1 t (l)) + ∑ r : Fin 512, ds (i 1).val (keys x1 x2 1) (vals x3 1) x0 x5 x6 s1 1 r t * keys x1 x2 1 (ix2 r (l)) :=
  (loadAcc a16.view _ _ 1 t l).trans (RC_acc c i hj a2 u2 a3 u3 a4 u4 a5 u5 a6 u6 a7 u7 a8 u8 a9 u9 a10 u10 a11 u11 a12 u12 a13 u13 a14 u14 a15 u15 a16 u16 a17 u17 x0 x1 x2 x3 x4 x5 x6 s0 s1 hc0 hc1 x7 x8 x9 1 t l)

/-- The query gradient written at the last key block. -/
theorem RC_dq {sp : Space} (v : View sig .tc sp S2x2048x256 .bf16) (f : v.ty.Contents (Elt Ideal)) (a b : Fin 2) (t : Fin 2048) (d : Fin 128) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 x6 x7 x8 x9 s0 s1).1) (ix3 a t (lane b d)) = if b = 0 then (s0 (ix3 a t (lane 0 d)) + ∑ r : Fin 512, ds (i 1).val (keys x1 x2 a) (vals x3 a) x0 x5 x6 s1 a r t * keys x1 x2 a (ix2 r (lane 0 d))) * scl
      else unrope (fun t d => (s0 (ix3 a t (lane 1 d)) + ∑ r : Fin 512, ds (i 1).val (keys x1 x2 a) (vals x3 a) x0 x5 x6 s1 a r t * keys x1 x2 a (ix2 r (lane 1 d))) * scl) x7 x8 x9 t d := by
  refine (quarters v f _ _ _ _ _ _ _ _ a b t d).trans ?_
  by_cases ha : a = 0
  · subst ha
    rw [if_pos rfl]
    by_cases hb : b = 0
    · rw [if_pos hb, if_pos hb]
      exact (pay43_apply _ 0 t d).trans (congrArg (fun u : EReal => u * scl) (RC_v140 c i hj a2 u2 a3 u3 a4 u4 a5 u5 a6 u6 a7 u7 a8 u8 a9 u9 a10 u10 a11 u11 a12 u12 a13 u13 a14 u14 a15 u15 a16 u16 a17 u17 x0 x1 x2 x3 x4 x5 x6 s0 s1 hc0 hc1 x7 x8 x9 t (lane 0 d)))
    · rw [if_neg hb, if_neg hb]
      exact (pay44_apply _ _ _ _ 0 t d).trans (unrope_congr (fun t d => congrArg (fun u : EReal => u * scl) (RC_v140 c i hj a2 u2 a3 u3 a4 u4 a5 u5 a6 u6 a7 u7 a8 u8 a9 u9 a10 u10 a11 u11 a12 u12 a13 u13 a14 u14 a15 u15 a16 u16 a17 u17 x0 x1 x2 x3 x4 x5 x6 s0 s1 hc0 hc1 x7 x8 x9 t (lane 1 d))) (fun t d => (loadTab a9.view _ _ t d).trans (congrFun (u9.read_unread x7) _)) (fun t d => (loadTab a10.view _ _ t d).trans (congrFun (u10.read_unread x8) _)) (fun t d => (loadTab a11.view _ _ t d).trans (congrFun (u11.read_unread x9) _)) t d)
  · obtain rfl : a = 1 := by omega
    rw [if_neg ha]
    by_cases hb : b = 0
    · rw [if_pos hb, if_pos hb]
      exact (pay9_apply _ 0 t d).trans (congrArg (fun u : EReal => u * scl) (RC_v169 c i hj a2 u2 a3 u3 a4 u4 a5 u5 a6 u6 a7 u7 a8 u8 a9 u9 a10 u10 a11 u11 a12 u12 a13 u13 a14 u14 a15 u15 a16 u16 a17 u17 x0 x1 x2 x3 x4 x5 x6 s0 s1 hc0 hc1 x7 x8 x9 t (lane 0 d)))
    · rw [if_neg hb, if_neg hb]
      exact (pay10_apply _ _ _ _ 0 t d).trans (unrope_congr (fun t d => congrArg (fun u : EReal => u * scl) (RC_v169 c i hj a2 u2 a3 u3 a4 u4 a5 u5 a6 u6 a7 u7 a8 u8 a9 u9 a10 u10 a11 u11 a12 u12 a13 u13 a14 u14 a15 u15 a16 u16 a17 u17 x0 x1 x2 x3 x4 x5 x6 s0 s1 hc0 hc1 x7 x8 x9 t (lane 1 d))) (fun t d => (loadTab a9.view _ _ t d).trans (congrFun (u9.read_unread x7) _)) (fun t d => (loadTab a10.view _ _ t d).trans (congrFun (u10.read_unread x8) _)) (fun t d => (loadTab a11.view _ _ t d).trans (congrFun (u11.read_unread x9) _)) t d)

end

end Cert.AttnBwd
-- ==== Proof.Attn.Blocks.lean ====
/-
  What the blocks staged at a grid step hold of the whole arrays, and the step's quantities in terms of the whole arrays.
-/
module

public import proofs.«01_k».proof.Proof.Attn.StepA
public import proofs.«01_k».proof.Proof.Attn.StepB
public import proofs.«01_k».proof.Proof.Attn.StepC
public import proofs.«01_k».proof.Proof.Attn.Data
public import Idealize.ShloMosaic.Lib.Pointwise

@[expose] public section

set_option maxRecDepth 16384

noncomputable section

namespace Cert.AttnBwd

open Cert.AttnIdeal Cert.AttnIdeal.Gen Idealize.ShloMosaic Idealize.ShloMosaic.TcCoe Idealize.SL.Sem

/-- Column `d` of head `H` in an array whose columns are the heads side by side. -/
def hcol (H : Fin 8) (d : Fin 128) : Fin 1024 := ⟨128 * H.val + d.val, by omega⟩

section Spec

variable (Q : Vec Ideal S8x2048x256 .bf16) (KN : Vec Ideal S2048x1024 .bf16) (KR : Vec Ideal S2048x128 .bf16)
  (Vv O DO : Vec Ideal S2048x1024 .bf16) (LSE : Vec Ideal S8x1x2048 .f32)

/-- Lane `l` of key row `K` of head `H`: the unrotated part, then the rotated part. -/
def gkey (H : Fin 8) (K : Fin 2048) (l : Fin 256) : EReal :=
  if h : l.val < 128 then KN (ix2 K (hcol H ⟨l.val, h⟩)) else KR (ix2 K ⟨l.val - 128, by omega⟩)

/-- The score of key row `K` against query row `t`. -/
def gscore (H : Fin 8) (K t : Fin 2048) : EReal := ∑ l : Fin 256, gkey KN KR H K l * Q (ix3 H t l)

/-- The softmax weight of key row `K` for query row `t`. -/
def gwt (H : Fin 8) (K t : Fin 2048) : EReal :=
  Ideal.exp2 ((if K.val / 64 ≤ t.val / 64 then gscore Q KN KR H K t else ⊥) - LSE (ix3 H 0 t))

/-- The inner product of output and its cotangent at query row `t`. -/
def gdl (H : Fin 8) (t : Fin 2048) : EReal := ∑ d : Fin 128, DO (ix2 t (hcol H d)) * O (ix2 t (hcol H d))

/-- The gradient of the score. -/
def gds (H : Fin 8) (K t : Fin 2048) : EReal :=
  gwt Q KN KR LSE H K t * ((∑ d : Fin 128, Vv (ix2 K (hcol H d)) * DO (ix2 t (hcol H d))) - gdl O DO H t)

/-- The query gradient summed over the key rows before `n`. -/
def pacc (n : ℕ) (H : Fin 8) (t : Fin 2048) (l : Fin 256) : EReal :=
  ∑ K : Fin 2048, if 0 ≤ K.val ∧ K.val < n then gds Q KN KR Vv O DO LSE H K t * gkey KN KR H K l else 0

end Spec

/-- The grid has sixteen steps. -/
theorem lt16 (t : Fin cfg0.N) : t.val < 16 := Nat.lt_of_lt_of_eq t.isLt N_0

/-- The head that is `a` of the step's two. -/
def hd (t : Fin cfg0.N) (a : Fin 2) : Fin 8 := ⟨2 * (t.val / 4) + a.val, by have := lt16 t; omega⟩

/-- Row `r` of the step's key block. -/
def krow (t : Fin cfg0.N) (r : Fin 512) : Fin 2048 := ⟨512 * (t.val % 4) + r.val, by omega⟩

theorem coords1 : ∀ t : Fin cfg0.N, (grid0.coords t 1).val = t.val % 4 := by decide +kernel
theorem first_iff : ∀ t : Fin cfg0.N, isFirst (grid0.coords t) ↔ t.val % 4 = 0 := by decide +kernel
theorem last_iff : ∀ t : Fin cfg0.N, k0_cond2 (grid0.coords t) = 1#1 ↔ t.val % 4 = 3 := by decide +kernel

/-- Where window 0 stands at a step. -/
theorem index0 : ∀ t : Fin cfg0.N, win0_0.index t 0 = t.val / 4 ∧ win0_0.index t 1 = 0 ∧ win0_0.index t 2 = 0 := by decide +kernel

/-- Where window 1 stands at a step. -/
theorem index1 : ∀ t : Fin cfg0.N, win0_1.index t 0 = t.val % 4 ∧ win0_1.index t 1 = t.val / 4 := by decide +kernel

/-- Where window 2 stands at a step. -/
theorem index2 : ∀ t : Fin cfg0.N, win0_2.index t 0 = t.val % 4 ∧ win0_2.index t 1 = 0 := by decide +kernel

/-- Where window 3 stands at a step. -/
theorem index3 : ∀ t : Fin cfg0.N, win0_3.index t 0 = t.val % 4 ∧ win0_3.index t 1 = t.val / 4 := by decide +kernel

/-- Where window 4 stands at a step. -/
theorem index4 : ∀ t : Fin cfg0.N, win0_4.index t 0 = 0 ∧ win0_4.index t 1 = t.val / 4 := by decide +kernel

/-- Where window 5 stands at a step. -/
theorem index5 : ∀ t : Fin cfg0.N, win0_5.index t 0 = 0 ∧ win0_5.index t 1 = t.val / 4 := by decide +kernel

/-- Where window 6 stands at a step. -/
theorem index6 : ∀ t : Fin cfg0.N, win0_6.index t 0 = t.val / 4 ∧ win0_6.index t 1 = 0 ∧ win0_6.index t 2 = 0 := by decide +kernel

/-- Where window 7 stands at a step. -/
theorem index7 : ∀ t : Fin cfg0.N, win0_7.index t 0 = 0 ∧ win0_7.index t 1 = 0 := by decide +kernel

/-- Where window 8 stands at a step. -/
theorem index8 : ∀ t : Fin cfg0.N, win0_8.index t 0 = 0 ∧ win0_8.index t 1 = 0 := by decide +kernel

/-- Where window 9 stands at a step. -/
theorem index9 : ∀ t : Fin cfg0.N, win0_9.index t 0 = 0 ∧ win0_9.index t 1 = 0 := by decide +kernel

/-- Where window 10 stands at a step. -/
theorem index10 : ∀ t : Fin cfg0.N, win0_10.index t 0 = t.val / 4 ∧ win0_10.index t 1 = 0 ∧ win0_10.index t 2 = 0 := by decide +kernel

/-- Where window 11 stands at a step. -/
theorem index11 : ∀ t : Fin cfg0.N, win0_11.index t 0 = t.val % 4 ∧ win0_11.index t 1 = t.val / 4 := by decide +kernel

/-- Where window 12 stands at a step. -/
theorem index12 : ∀ t : Fin cfg0.N, win0_12.index t 0 = t.val / 4 ∧ win0_12.index t 1 = t.val % 4 ∧ win0_12.index t 2 = 0 := by decide +kernel

/-- Where window 13 stands at a step. -/
theorem index13 : ∀ t : Fin cfg0.N, win0_13.index t 0 = t.val % 4 ∧ win0_13.index t 1 = t.val / 4 := by decide +kernel

/-- Where window 0's block lies in its array. -/
theorem emb0 (t : Fin cfg0.N) (a : Fin 2) (s : Fin 2048) (l : Fin 256) : (win0_0.blk t).view.emb (ix3 a s l) = ix3 (hd t a) s l :=
  funext fun a' => Fin.ext (match a' with
    | ⟨0,_⟩ => by show win0_0.index t 0 * 2 + 1 * (ix3 a s l 0).val = _; simp [index0 t, hd, krow, hcol, lane] <;> omega
    | ⟨1,_⟩ => by show win0_0.index t 1 * 2048 + 1 * (ix3 a s l 1).val = _; simp [index0 t, hd, krow, hcol, lane] <;> omega
    | ⟨2,_⟩ => by show win0_0.index t 2 * 256 + 1 * (ix3 a s l 2).val = _; simp [index0 t, hd, krow, hcol, lane] <;> omega)

/-- Where window 1's block lies in its array. -/
theorem emb1 (t : Fin cfg0.N) (r : Fin 512) (a : Fin 2) (d : Fin 128) : (win0_1.blk t).view.emb (ix2 r (lane a d)) = ix2 (krow t r) (hcol (hd t a) d) :=
  funext fun a' => Fin.ext (match a' with
    | ⟨0,_⟩ => by show win0_1.index t 0 * 512 + 1 * (ix2 r (lane a d) 0).val = _; simp [index1 t, hd, krow, hcol, lane] <;> omega
    | ⟨1,_⟩ => by show win0_1.index t 1 * 256 + 1 * (ix2 r (lane a d) 1).val = _; simp [index1 t, hd, krow, hcol, lane] <;> omega)

/-- Where window 2's block lies in its array. -/
theorem emb2 (t : Fin cfg0.N) (r : Fin 512) (d : Fin 128) : (win0_2.blk t).view.emb (ix2 r d) = ix2 (krow t r) d :=
  funext fun a' => Fin.ext (match a' with
    | ⟨0,_⟩ => by show win0_2.index t 0 * 512 + 1 * (ix2 r d 0).val = _; simp [index2 t, hd, krow, hcol, lane] <;> omega
    | ⟨1,_⟩ => by show win0_2.index t 1 * 128 + 1 * (ix2 r d 1).val = _; simp [index2 t, hd, krow, hcol, lane] <;> omega)

/-- Where window 3's block lies in its array. -/
theorem emb3 (t : Fin cfg0.N) (r : Fin 512) (a : Fin 2) (d : Fin 128) : (win0_3.blk t).view.emb (ix2 r (lane a d)) = ix2 (krow t r) (hcol (hd t a) d) :=
  funext fun a' => Fin.ext (match a' with
    | ⟨0,_⟩ => by show win0_3.index t 0 * 512 + 1 * (ix2 r (lane a d) 0).val = _; simp [index3 t, hd, krow, hcol, lane] <;> omega
    | ⟨1,_⟩ => by show win0_3.index t 1 * 256 + 1 * (ix2 r (lane a d) 1).val = _; simp [index3 t, hd, krow, hcol, lane] <;> omega)

/-- Where window 4's block lies in its array. -/
theorem emb4 (t : Fin cfg0.N) (s : Fin 2048) (a : Fin 2) (d : Fin 128) : (win0_4.blk t).view.emb (ix2 s (lane a d)) = ix2 s (hcol (hd t a) d) :=
  funext fun a' => Fin.ext (match a' with
    | ⟨0,_⟩ => by show win0_4.index t 0 * 2048 + 1 * (ix2 s (lane a d) 0).val = _; simp [index4 t, hd, krow, hcol, lane] <;> omega
    | ⟨1,_⟩ => by show win0_4.index t 1 * 256 + 1 * (ix2 s (lane a d) 1).val = _; simp [index4 t, hd, krow, hcol, lane] <;> omega)

/-- Where window 5's block lies in its array. -/
theorem emb5 (t : Fin cfg0.N) (s : Fin 2048) (a : Fin 2) (d : Fin 128) : (win0_5.blk t).view.emb (ix2 s (lane a d)) = ix2 s (hcol (hd t a) d) :=
  funext fun a' => Fin.ext (match a' with
    | ⟨0,_⟩ => by show win0_5.index t 0 * 2048 + 1 * (ix2 s (lane a d) 0).val = _; simp [index5 t, hd, krow, hcol, lane] <;> omega
    | ⟨1,_⟩ => by show win0_5.index t 1 * 256 + 1 * (ix2 s (lane a d) 1).val = _; simp [index5 t, hd, krow, hcol, lane] <;> omega)

/-- Where window 6's block lies in its array. -/
theorem emb6 (t : Fin cfg0.N) (a : Fin 2) (s : Fin 2048) : (win0_6.blk t).view.emb (ix3 a 0 s) = ix3 (hd t a) 0 s :=
  funext fun a' => Fin.ext (match a' with
    | ⟨0,_⟩ => by show win0_6.index t 0 * 2 + 1 * (ix3 a 0 s 0).val = _; simp [index6 t, hd, krow, hcol, lane] <;> omega
    | ⟨1,_⟩ => by show win0_6.index t 1 * 1 + 1 * (ix3 a 0 s 1).val = _; simp [index6 t, hd, krow, hcol, lane] <;> omega
    | ⟨2,_⟩ => by show win0_6.index t 2 * 2048 + 1 * (ix3 a 0 s 2).val = _; simp [index6 t, hd, krow, hcol, lane] <;> omega)

/-- Where window 7's block lies in its array. -/
theorem emb7 (t : Fin cfg0.N) (s : Fin 2048) (d : Fin 128) : (win0_7.blk t).view.emb (ix2 s d) = ix2 s d :=
  funext fun a' => Fin.ext (match a' with
    | ⟨0,_⟩ => by show win0_7.index t 0 * 2048 + 1 * (ix2 s d 0).val = _; simp [index7 t, hd, krow, hcol, lane] <;> omega
    | ⟨1,_⟩ => by show win0_7.index t 1 * 128 + 1 * (ix2 s d 1).val = _; simp [index7 t, hd, krow, hcol, lane] <;> omega)

/-- Where window 8's block lies in its array. -/
theorem emb8 (t : Fin cfg0.N) (s : Fin 2048) (d : Fin 128) : (win0_8.blk t).view.emb (ix2 s d) = ix2 s d :=
  funext fun a' => Fin.ext (match a' with
    | ⟨0,_⟩ => by show win0_8.index t 0 * 2048 + 1 * (ix2 s d 0).val = _; simp [index8 t, hd, krow, hcol, lane] <;> omega
    | ⟨1,_⟩ => by show win0_8.index t 1 * 128 + 1 * (ix2 s d 1).val = _; simp [index8 t, hd, krow, hcol, lane] <;> omega)

/-- Where window 9's block lies in its array. -/
theorem emb9 (t : Fin cfg0.N) (s : Fin 2048) (d : Fin 128) : (win0_9.blk t).view.emb (ix2 s d) = ix2 s d :=
  funext fun a' => Fin.ext (match a' with
    | ⟨0,_⟩ => by show win0_9.index t 0 * 2048 + 1 * (ix2 s d 0).val = _; simp [index9 t, hd, krow, hcol, lane] <;> omega
    | ⟨1,_⟩ => by show win0_9.index t 1 * 128 + 1 * (ix2 s d 1).val = _; simp [index9 t, hd, krow, hcol, lane] <;> omega)

/-- Where window 10's block lies in its array. -/
theorem emb10 (t : Fin cfg0.N) (a : Fin 2) (s : Fin 2048) (l : Fin 256) : (win0_10.blk t).view.emb (ix3 a s l) = ix3 (hd t a) s l :=
  funext fun a' => Fin.ext (match a' with
    | ⟨0,_⟩ => by show win0_10.index t 0 * 2 + 1 * (ix3 a s l 0).val = _; simp [index10 t, hd, krow, hcol, lane] <;> omega
    | ⟨1,_⟩ => by show win0_10.index t 1 * 2048 + 1 * (ix3 a s l 1).val = _; simp [index10 t, hd, krow, hcol, lane] <;> omega
    | ⟨2,_⟩ => by show win0_10.index t 2 * 256 + 1 * (ix3 a s l 2).val = _; simp [index10 t, hd, krow, hcol, lane] <;> omega)

/-- Where window 11's block lies in its array. -/
theorem emb11 (t : Fin cfg0.N) (r : Fin 512) (a : Fin 2) (d : Fin 128) : (win0_11.blk t).view.emb (ix2 r (lane a d)) = ix2 (krow t r) (hcol (hd t a) d) :=
  funext fun a' => Fin.ext (match a' with
    | ⟨0,_⟩ => by show win0_11.index t 0 * 512 + 1 * (ix2 r (lane a d) 0).val = _; simp [index11 t, hd, krow, hcol, lane] <;> omega
    | ⟨1,_⟩ => by show win0_11.index t 1 * 256 + 1 * (ix2 r (lane a d) 1).val = _; simp [index11 t, hd, krow, hcol, lane] <;> omega)

/-- Where window 12's block lies in its array. -/
theorem emb12 (t : Fin cfg0.N) (a : Fin 2) (r : Fin 512) (d : Fin 128) : (win0_12.blk t).view.emb (ix3 a r d) = ix3 (hd t a) (krow t r) d :=
  funext fun a' => Fin.ext (match a' with
    | ⟨0,_⟩ => by show win0_12.index t 0 * 2 + 1 * (ix3 a r d 0).val = _; simp [index12 t, hd, krow, hcol, lane] <;> omega
    | ⟨1,_⟩ => by show win0_12.index t 1 * 512 + 1 * (ix3 a r d 1).val = _; simp [index12 t, hd, krow, hcol, lane] <;> omega
    | ⟨2,_⟩ => by show win0_12.index t 2 * 128 + 1 * (ix3 a r d 2).val = _; simp [index12 t, hd, krow, hcol, lane] <;> omega)

/-- Where window 13's block lies in its array. -/
theorem emb13 (t : Fin cfg0.N) (r : Fin 512) (a : Fin 2) (d : Fin 128) : (win0_13.blk t).view.emb (ix2 r (lane a d)) = ix2 (krow t r) (hcol (hd t a) d) :=
  funext fun a' => Fin.ext (match a' with
    | ⟨0,_⟩ => by show win0_13.index t 0 * 512 + 1 * (ix2 r (lane a d) 0).val = _; simp [index13 t, hd, krow, hcol, lane] <;> omega
    | ⟨1,_⟩ => by show win0_13.index t 1 * 256 + 1 * (ix2 r (lane a d) 1).val = _; simp [index13 t, hd, krow, hcol, lane] <;> omega)

variable (m : (ℓ : Loc nD τ sig) → Buf (Elt Ideal) ℓ) (c : Dev nD) (t : Fin cfg0.N)

theorem iblk0 (a : Fin 2) (s : Fin 2048) (l : Fin 256) : iblk m c 0 t (ix3 a s l) = V m c main_v189 (ix3 (hd t a) s l) := by
  show V m c main_v189 ((win0_0.blk t).view.emb (ix3 a s l)) = _
  rw [emb0]

theorem iblk1 (r : Fin 512) (a : Fin 2) (d : Fin 128) : iblk m c 1 t (ix2 r (lane a d)) = V m c main_v191 (ix2 (krow t r) (hcol (hd t a) d)) := by
  show V m c main_v191 ((win0_1.blk t).view.emb (ix2 r (lane a d))) = _
  rw [emb1]

theorem iblk2 (r : Fin 512) (d : Fin 128) : iblk m c 2 t (ix2 r d) = V m c main_v192 (ix2 (krow t r) d) := by
  show V m c main_v192 ((win0_2.blk t).view.emb (ix2 r d)) = _
  rw [emb2]

theorem iblk3 (r : Fin 512) (a : Fin 2) (d : Fin 128) : iblk m c 3 t (ix2 r (lane a d)) = V m c main_v194 (ix2 (krow t r) (hcol (hd t a) d)) := by
  show V m c main_v194 ((win0_3.blk t).view.emb (ix2 r (lane a d))) = _
  rw [emb3]

theorem iblk4 (s : Fin 2048) (a : Fin 2) (d : Fin 128) : iblk m c 4 t (ix2 s (lane a d)) = V m c main_v195 (ix2 s (hcol (hd t a) d)) := by
  show V m c main_v195 ((win0_4.blk t).view.emb (ix2 s (lane a d))) = _
  rw [emb4]

theorem iblk5 (s : Fin 2048) (a : Fin 2) (d : Fin 128) : iblk m c 5 t (ix2 s (lane a d)) = V m c main_v196 (ix2 s (hcol (hd t a) d)) := by
  show V m c main_v196 ((win0_5.blk t).view.emb (ix2 s (lane a d))) = _
  rw [emb5]

theorem iblk6 (a : Fin 2) (s : Fin 2048) : iblk m c 6 t (ix3 a 0 s) = V m c main_v197 (ix3 (hd t a) 0 s) := by
  show V m c main_v197 ((win0_6.blk t).view.emb (ix3 a 0 s)) = _
  rw [emb6]

theorem iblk7 (s : Fin 2048) (d : Fin 128) : iblk m c 7 t (ix2 s d) = V m c main_v142 (ix2 s d) := by
  show V m c main_v142 ((win0_7.blk t).view.emb (ix2 s d)) = _
  rw [emb7]

theorem iblk8 (s : Fin 2048) (d : Fin 128) : iblk m c 8 t (ix2 s d) = V m c main_v144 (ix2 s d) := by
  show V m c main_v144 ((win0_8.blk t).view.emb (ix2 s d)) = _
  rw [emb8]

theorem iblk9 (s : Fin 2048) (d : Fin 128) : iblk m c 9 t (ix2 s d) = V m c main_v145 (ix2 s d) := by
  show V m c main_v145 ((win0_9.blk t).view.emb (ix2 s d)) = _
  rw [emb9]

/-- The step's keys are rows of the whole key arrays. -/
theorem keys_blk (a : Fin 2) (r : Fin 512) (l : Fin 256) :
    keys (iblk m c 1 t) (iblk m c 2 t) a (ix2 r l) = gkey (V m c main_v191) (V m c main_v192) (hd t a) (krow t r) l := by
  show (if h : l.val < 128 then iblk m c 1 t (ix2 r (lane a ⟨l.val, h⟩)) else iblk m c 2 t (ix2 r ⟨l.val - 128, _⟩)) = _
  unfold gkey
  by_cases h : l.val < 128
  · rw [dif_pos h, dif_pos h, iblk1]
  · rw [dif_neg h, dif_neg h, iblk2]

/-- The step's weights are those of the whole arrays. -/
theorem wt_blk (a : Fin 2) (r : Fin 512) (s : Fin 2048) :
    wt (grid0.coords t 1).val (keys (iblk m c 1 t) (iblk m c 2 t) a) (iblk m c 0 t) (iblk m c 6 t) a r s
      = gwt (V m c main_v189) (V m c main_v191) (V m c main_v192) (V m c main_v197) (hd t a) (krow t r) s := by
  unfold wt gwt score gscore
  rw [coords1, iblk6]
  simp only [keys_blk, iblk0]
  rfl

/-- The step's score gradients are those of the whole arrays. -/
theorem ds_blk (dl : Vec Ideal S2x1x2048 .f32) (hdl : ∀ (a : Fin 2) (s : Fin 2048), dl (ix3 a 0 s) = gdl (V m c main_v195) (V m c main_v196) (hd t a) s)
    (a : Fin 2) (r : Fin 512) (s : Fin 2048) :
    ds (grid0.coords t 1).val (keys (iblk m c 1 t) (iblk m c 2 t) a) (vals (iblk m c 3 t) a) (iblk m c 0 t) (iblk m c 5 t) (iblk m c 6 t) dl a r s
      = gds (V m c main_v189) (V m c main_v191) (V m c main_v192) (V m c main_v194) (V m c main_v195) (V m c main_v196) (V m c main_v197) (hd t a) (krow t r) s := by
  exact congrArg₂ (fun u v : EReal => u * v) (wt_blk m c t a r s) (congrArg₂ (fun u v : EReal => u - v)
    (Finset.sum_congr rfl fun d _ => congrArg₂ (fun u v : EReal => u * v) (iblk3 m c t r a d) (iblk5 m c t s a d)) (hdl a s))

/-- The step's row products of output and cotangent are those of the whole arrays. -/
theorem delta_blk (a : Fin 2) (s : Fin 2048) :
    delta (iblk m c 4 t) (iblk m c 5 t) (ix3 a 0 s) = gdl (V m c main_v195) (V m c main_v196) (hd t a) s := by
  exact Finset.sum_congr rfl fun d _ => congrArg₂ (fun u v : EReal => u * v) (iblk5 m c t s a d) (iblk4 m c t s a d)

/-- One more key block adds its rows to the partial query gradient. -/
theorem pacc_add (a : Fin 2) (s : Fin 2048) (l : Fin 256) :
    pacc (V m c main_v189) (V m c main_v191) (V m c main_v192) (V m c main_v194) (V m c main_v195) (V m c main_v196) (V m c main_v197) (512 * (t.val % 4)) (hd t a) s l
        + ∑ r : Fin 512, gds (V m c main_v189) (V m c main_v191) (V m c main_v192) (V m c main_v194) (V m c main_v195) (V m c main_v196) (V m c main_v197) (hd t a) (krow t r) s * gkey (V m c main_v191) (V m c main_v192) (hd t a) (krow t r) l
      = pacc (V m c main_v189) (V m c main_v191) (V m c main_v192) (V m c main_v194) (V m c main_v195) (V m c main_v196) (V m c main_v197) (512 * (t.val % 4) + 512) (hd t a) s l := by
  have e := sum_block (fun K => gds (V m c main_v189) (V m c main_v191) (V m c main_v192) (V m c main_v194) (V m c main_v195) (V m c main_v196) (V m c main_v197) (hd t a) K s * gkey (V m c main_v191) (V m c main_v192) (hd t a) K l) (512 * (t.val % 4)) (by omega)
  have e2 := sum_range_add (fun K => gds (V m c main_v189) (V m c main_v191) (V m c main_v192) (V m c main_v194) (V m c main_v195) (V m c main_v196) (V m c main_v197) (hd t a) K s * gkey (V m c main_v191) (V m c main_v192) (hd t a) K l) 0 (512 * (t.val % 4)) (512 * (t.val % 4) + 512) (by omega) (by omega)
  unfold pacc
  rw [← e2, ← e]
  rfl

/-- Before the first key block nothing is summed. -/
theorem pacc_zero (H : Fin 8) (s : Fin 2048) (l : Fin 256) : pacc (V m c main_v189) (V m c main_v191) (V m c main_v192) (V m c main_v194) (V m c main_v195) (V m c main_v196) (V m c main_v197) 0 H s l = 0 :=
  Finset.sum_eq_zero fun K _ => if_neg (by omega)

end Cert.AttnBwd
-- ==== Proof.Attn.Steps.lean ====
/-
  What every grid step leaves in the output blocks and in the scratch buffers, in terms of the whole arrays.
-/
module

public import proofs.«01_k».proof.Proof.Attn.Blocks

@[expose] public section

set_option maxRecDepth 16384

noncomputable section

namespace Cert.AttnBwd

open Cert.AttnIdeal Cert.AttnIdeal.Gen Idealize.ShloMosaic Idealize.ShloMosaic.TcCoe Idealize.SL.Sem

section

attribute [local irreducible] st_k0_t1 st_k0_t2 keys vals ds wt delta

/-- The row products after a first key block. -/
theorem A_dl (m : (ℓ : Loc nD τ sig) → Buf (Elt Ideal) ℓ) (c : Dev nD) (t : Fin cfg0.N) (h0 : isFirst (grid0.coords t)) (h1 : ¬k0_cond2 (grid0.coords t) = 1#1) (a : Fin 2) (s : Fin 2048) :
    (outA m c t h0 h1).dl (ix3 a 0 s) = gdl (V m c main_v195) (V m c main_v196) (hd t a) s := by
  unfold outA
  dsimp only
  unfold ptA runA
  exact (congrFun (read_delta c _ (hstage0_4 ((cfg0.slots t 4).cast nbuf0_4)) _ (hstage0_5 ((cfg0.slots t 5).cast nbuf0_5)) (Memref.whole cc0_scratch1) (iblk m c 4 t) (iblk m c 5 t)) _).trans (delta_blk m c t a s)

end

section

attribute [local irreducible] st_k0_t1 st_k0_t2 runA runB runC keys vals ds wt delta

variable (m : (ℓ : Loc nD τ sig) → Buf (Elt Ideal) ℓ) (c : Dev nD) (t : Fin cfg0.N)

theorem hj (t : Fin cfg0.N) : (grid0.coords t 1).val < 4 := by rw [coords1]; omega

/-- The accumulator after a first key block. -/
theorem A_acc (h0 : isFirst (grid0.coords t)) (h1 : ¬k0_cond2 (grid0.coords t) = 1#1) (a : Fin 2) (s : Fin 2048) (l : Fin 256) :
    (outA m c t h0 h1).acc (ix3 a s l) = 0 + ∑ r : Fin 512, gds (V m c main_v189) (V m c main_v191) (V m c main_v192) (V m c main_v194) (V m c main_v195) (V m c main_v196) (V m c main_v197) (hd t a) (krow t r) s * gkey (V m c main_v191) (V m c main_v192) (hd t a) (krow t r) l := by
  unfold outA
  dsimp only
  unfold ptA
  exact (RA_acc c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) h0 h1 (iblk m c 7 t) (iblk m c 8 t) (iblk m c 9 t) a s l).trans (congrArg (fun u : EReal => 0 + u) (Finset.sum_congr rfl fun r _ => congrArg₂ (fun u v : EReal => u * v) (ds_blk m c t (delta (iblk m c 4 t) (iblk m c 5 t)) (delta_blk m c t) a r s) (keys_blk m c t a r l)))

/-- The key gradient (unrotated lanes) of a first key block. -/
theorem A_dkn (h0 : isFirst (grid0.coords t)) (h1 : ¬k0_cond2 (grid0.coords t) = 1#1) (a : Fin 2) (r : Fin 512) (d : Fin 128) :
    (outA m c t h0 h1).dkn (ix2 r (lane a d)) = (∑ s : Fin 2048, gds (V m c main_v189) (V m c main_v191) (V m c main_v192) (V m c main_v194) (V m c main_v195) (V m c main_v196) (V m c main_v197) (hd t a) (krow t r) s * V m c main_v189 (ix3 (hd t a) s (lane 0 d))) * ln2 := by
  unfold outA
  dsimp only
  unfold ptA
  exact (RA_dkn c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) h0 h1 (iblk m c 7 t) (iblk m c 8 t) (iblk m c 9 t) _ _ a r d).trans (congrArg (fun u : EReal => u * ln2) (Finset.sum_congr rfl fun s _ => congrArg₂ (fun u v : EReal => u * v) (ds_blk m c t (delta (iblk m c 4 t) (iblk m c 5 t)) (delta_blk m c t) a r s) (iblk0 m c t a s (lane 0 d))))

/-- The key gradient (rotated lanes) of a first key block. -/
theorem A_dkr (h0 : isFirst (grid0.coords t)) (h1 : ¬k0_cond2 (grid0.coords t) = 1#1) (a : Fin 2) (r : Fin 512) (d : Fin 128) :
    (outA m c t h0 h1).dkr (ix3 a r d) = (∑ s : Fin 2048, gds (V m c main_v189) (V m c main_v191) (V m c main_v192) (V m c main_v194) (V m c main_v195) (V m c main_v196) (V m c main_v197) (hd t a) (krow t r) s * V m c main_v189 (ix3 (hd t a) s (lane 1 d))) * ln2 := by
  unfold outA
  dsimp only
  unfold ptA
  exact (RA_dkr c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) h0 h1 (iblk m c 7 t) (iblk m c 8 t) (iblk m c 9 t) _ _ a r d).trans (congrArg (fun u : EReal => u * ln2) (Finset.sum_congr rfl fun s _ => congrArg₂ (fun u v : EReal => u * v) (ds_blk m c t (delta (iblk m c 4 t) (iblk m c 5 t)) (delta_blk m c t) a r s) (iblk0 m c t a s (lane 1 d))))

/-- The value gradient of a first key block. -/
theorem A_dv (h0 : isFirst (grid0.coords t)) (h1 : ¬k0_cond2 (grid0.coords t) = 1#1) (a : Fin 2) (r : Fin 512) (d : Fin 128) :
    (outA m c t h0 h1).dv (ix2 r (lane a d)) = ∑ s : Fin 2048, gwt (V m c main_v189) (V m c main_v191) (V m c main_v192) (V m c main_v197) (hd t a) (krow t r) s * V m c main_v196 (ix2 s (hcol (hd t a) d)) := by
  unfold outA
  dsimp only
  unfold ptA
  exact (RA_dv c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) h0 h1 (iblk m c 7 t) (iblk m c 8 t) (iblk m c 9 t) _ _ a r d).trans (Finset.sum_congr rfl fun s _ => congrArg₂ (fun u v : EReal => u * v) (wt_blk m c t a r s) (iblk5 m c t s a d))

/-- The accumulator after a middle key block. -/
theorem B_acc (h0 : ¬isFirst (grid0.coords t)) (h1 : ¬k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (s : Fin 2048) (l : Fin 256) :
    (outB m c t h0 h1 s0 s1).acc (ix3 a s l) = s0 (ix3 a s l) + ∑ r : Fin 512, gds (V m c main_v189) (V m c main_v191) (V m c main_v192) (V m c main_v194) (V m c main_v195) (V m c main_v196) (V m c main_v197) (hd t a) (krow t r) s * gkey (V m c main_v191) (V m c main_v192) (hd t a) (krow t r) l := by
  unfold outB
  dsimp only
  unfold ptB
  exact (RB_acc c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) a s l).trans (congrArg (fun u : EReal => s0 (ix3 a s l) + u) (Finset.sum_congr rfl fun r _ => congrArg₂ (fun u v : EReal => u * v) (ds_blk m c t s1 hdl a r s) (keys_blk m c t a r l)))

/-- The key gradient (unrotated lanes) of a middle key block. -/
theorem B_dkn (h0 : ¬isFirst (grid0.coords t)) (h1 : ¬k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (r : Fin 512) (d : Fin 128) :
    (outB m c t h0 h1 s0 s1).dkn (ix2 r (lane a d)) = (∑ s : Fin 2048, gds (V m c main_v189) (V m c main_v191) (V m c main_v192) (V m c main_v194) (V m c main_v195) (V m c main_v196) (V m c main_v197) (hd t a) (krow t r) s * V m c main_v189 (ix3 (hd t a) s (lane 0 d))) * ln2 := by
  unfold outB
  dsimp only
  unfold ptB
  exact (RB_dkn c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) _ _ a r d).trans (congrArg (fun u : EReal => u * ln2) (Finset.sum_congr rfl fun s _ => congrArg₂ (fun u v : EReal => u * v) (ds_blk m c t s1 hdl a r s) (iblk0 m c t a s (lane 0 d))))

/-- The key gradient (rotated lanes) of a middle key block. -/
theorem B_dkr (h0 : ¬isFirst (grid0.coords t)) (h1 : ¬k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (r : Fin 512) (d : Fin 128) :
    (outB m c t h0 h1 s0 s1).dkr (ix3 a r d) = (∑ s : Fin 2048, gds (V m c main_v189) (V m c main_v191) (V m c main_v192) (V m c main_v194) (V m c main_v195) (V m c main_v196) (V m c main_v197) (hd t a) (krow t r) s * V m c main_v189 (ix3 (hd t a) s (lane 1 d))) * ln2 := by
  unfold outB
  dsimp only
  unfold ptB
  exact (RB_dkr c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) _ _ a r d).trans (congrArg (fun u : EReal => u * ln2) (Finset.sum_congr rfl fun s _ => congrArg₂ (fun u v : EReal => u * v) (ds_blk m c t s1 hdl a r s) (iblk0 m c t a s (lane 1 d))))

/-- The value gradient of a middle key block. -/
theorem B_dv (h0 : ¬isFirst (grid0.coords t)) (h1 : ¬k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (r : Fin 512) (d : Fin 128) :
    (outB m c t h0 h1 s0 s1).dv (ix2 r (lane a d)) = ∑ s : Fin 2048, gwt (V m c main_v189) (V m c main_v191) (V m c main_v192) (V m c main_v197) (hd t a) (krow t r) s * V m c main_v196 (ix2 s (hcol (hd t a) d)) := by
  unfold outB
  dsimp only
  unfold ptB
  exact (RB_dv c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) _ _ a r d).trans (Finset.sum_congr rfl fun s _ => congrArg₂ (fun u v : EReal => u * v) (wt_blk m c t a r s) (iblk5 m c t s a d))

/-- The accumulator after a last key block. -/
theorem C_acc (h0 : ¬isFirst (grid0.coords t)) (h1 : k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (s : Fin 2048) (l : Fin 256) :
    (outC m c t h0 h1 s0 s1).acc (ix3 a s l) = s0 (ix3 a s l) + ∑ r : Fin 512, gds (V m c main_v189) (V m c main_v191) (V m c main_v192) (V m c main_v194) (V m c main_v195) (V m c main_v196) (V m c main_v197) (hd t a) (krow t r) s * gkey (V m c main_v191) (V m c main_v192) (hd t a) (krow t r) l := by
  unfold outC
  dsimp only
  unfold ptC
  exact (RC_acc c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) a s l).trans (congrArg (fun u : EReal => s0 (ix3 a s l) + u) (Finset.sum_congr rfl fun r _ => congrArg₂ (fun u v : EReal => u * v) (ds_blk m c t s1 hdl a r s) (keys_blk m c t a r l)))

/-- The key gradient (unrotated lanes) of a last key block. -/
theorem C_dkn (h0 : ¬isFirst (grid0.coords t)) (h1 : k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (r : Fin 512) (d : Fin 128) :
    (outC m c t h0 h1 s0 s1).dkn (ix2 r (lane a d)) = (∑ s : Fin 2048, gds (V m c main_v189) (V m c main_v191) (V m c main_v192) (V m c main_v194) (V m c main_v195) (V m c main_v196) (V m c main_v197) (hd t a) (krow t r) s * V m c main_v189 (ix3 (hd t a) s (lane 0 d))) * ln2 := by
  unfold outC
  dsimp only
  unfold ptC
  exact (RC_dkn c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) _ _ a r d).trans (congrArg (fun u : EReal => u * ln2) (Finset.sum_congr rfl fun s _ => congrArg₂ (fun u v : EReal => u * v) (ds_blk m c t s1 hdl a r s) (iblk0 m c t a s (lane 0 d))))

/-- The key gradient (rotated lanes) of a last key block. -/
theorem C_dkr (h0 : ¬isFirst (grid0.coords t)) (h1 : k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (r : Fin 512) (d : Fin 128) :
    (outC m c t h0 h1 s0 s1).dkr (ix3 a r d) = (∑ s : Fin 2048, gds (V m c main_v189) (V m c main_v191) (V m c main_v192) (V m c main_v194) (V m c main_v195) (V m c main_v196) (V m c main_v197) (hd t a) (krow t r) s * V m c main_v189 (ix3 (hd t a) s (lane 1 d))) * ln2 := by
  unfold outC
  dsimp only
  unfold ptC
  exact (RC_dkr c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) _ _ a r d).trans (congrArg (fun u : EReal => u * ln2) (Finset.sum_congr rfl fun s _ => congrArg₂ (fun u v : EReal => u * v) (ds_blk m c t s1 hdl a r s) (iblk0 m c t a s (lane 1 d))))

/-- The value gradient of a last key block. -/
theorem C_dv (h0 : ¬isFirst (grid0.coords t)) (h1 : k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a : Fin 2) (r : Fin 512) (d : Fin 128) :
    (outC m c t h0 h1 s0 s1).dv (ix2 r (lane a d)) = ∑ s : Fin 2048, gwt (V m c main_v189) (V m c main_v191) (V m c main_v192) (V m c main_v197) (hd t a) (krow t r) s * V m c main_v196 (ix2 s (hcol (hd t a) d)) := by
  unfold outC
  dsimp only
  unfold ptC
  exact (RC_dv c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) _ _ a r d).trans (Finset.sum_congr rfl fun s _ => congrArg₂ (fun u v : EReal => u * v) (wt_blk m c t a r s) (iblk5 m c t s a d))

/-- The query gradient written at a last key block. -/
theorem C_dq (h0 : ¬isFirst (grid0.coords t)) (h1 : k0_cond2 (grid0.coords t) = 1#1) (s0 : Vec Ideal S2x2048x256 .f32) (s1 : Vec Ideal S2x1x2048 .f32) (hdl : ∀ (a : Fin 2) (s : Fin 2048), s1 (ix3 a 0 s) = gdl (V m c main_v195) (V m c main_v196) (hd t a) s) (a b : Fin 2) (s : Fin 2048) (d : Fin 128) :
    (outC m c t h0 h1 s0 s1).dq (ix3 a s (lane b d)) = if b = 0 then (s0 (ix3 a s (lane 0 d)) + ∑ r : Fin 512, gds (V m c main_v189) (V m c main_v191) (V m c main_v192) (V m c main_v194) (V m c main_v195) (V m c main_v196) (V m c main_v197) (hd t a) (krow t r) s * gkey (V m c main_v191) (V m c main_v192) (hd t a) (krow t r) (lane 0 d)) * scl
      else unrope (fun s d => (s0 (ix3 a s (lane 1 d)) + ∑ r : Fin 512, gds (V m c main_v189) (V m c main_v191) (V m c main_v192) (V m c main_v194) (V m c main_v195) (V m c main_v196) (V m c main_v197) (hd t a) (krow t r) s * gkey (V m c main_v191) (V m c main_v192) (hd t a) (krow t r) (lane 1 d)) * scl) (V m c main_v142) (V m c main_v144) (V m c main_v145) s d := by
  unfold outC
  dsimp only
  unfold ptC
  refine (RC_dq c (grid0.coords t) (hj t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) s0 s1 h0 h1 (iblk m c 7 t) (iblk m c 8 t) (iblk m c 9 t) _ _ a b s d).trans ?_
  by_cases hb : b = 0
  · rw [if_pos hb, if_pos hb]
    exact congrArg (fun u : EReal => (s0 (ix3 a s (lane 0 d)) + u) * scl) (Finset.sum_congr rfl fun r _ => congrArg₂ (fun u v : EReal => u * v) (ds_blk m c t s1 hdl a r s) (keys_blk m c t a r (lane 0 d)))
  · rw [if_neg hb, if_neg hb]
    have e (s : Fin 2048) (d : Fin 128) : (s0 (ix3 a s (lane 1 d)) + ∑ r : Fin 512, ds (grid0.coords t 1).val (keys (iblk m c 1 t) (iblk m c 2 t) a) (vals (iblk m c 3 t) a) (iblk m c 0 t) (iblk m c 5 t) (iblk m c 6 t) s1 a r s * keys (iblk m c 1 t) (iblk m c 2 t) a (ix2 r (lane 1 d))) * scl = (s0 (ix3 a s (lane 1 d)) + ∑ r : Fin 512, gds (V m c main_v189) (V m c main_v191) (V m c main_v192) (V m c main_v194) (V m c main_v195) (V m c main_v196) (V m c main_v197) (hd t a) (krow t r) s * gkey (V m c main_v191) (V m c main_v192) (hd t a) (krow t r) (lane 1 d)) * scl := congrArg (fun u : EReal => (s0 (ix3 a s (lane 1 d)) + u) * scl) (Finset.sum_congr rfl fun r _ => congrArg₂ (fun u v : EReal => u * v) (ds_blk m c t s1 hdl a r s) (keys_blk m c t a r (lane 1 d)))
    exact unrope_congr e (iblk7 m c t) (iblk8 m c t) (iblk9 m c t) s d

end

end Cert.AttnBwd
-- ==== Proof.Attn.Arrays.lean ====
/-
  What the kernel's four result arrays hold after the run, entry by entry.
-/
module

public import proofs.«01_k».proof.Proof.Attn.Steps
public import Idealize.ShloMosaic.Lib.Claim
public import Idealize.ShloMosaic.Lib.Pipeline.ValueKit

@[expose] public section

set_option maxRecDepth 16384

noncomputable section

namespace Cert.AttnBwd

open Cert.AttnIdeal Cert.AttnIdeal.Gen Idealize.ShloMosaic Idealize.ShloMosaic.TcCoe Idealize.SL.Sem

attribute [local irreducible] step outA outB outC pacc gds gwt gdl gkey

variable (m : (ℓ : Loc nD τ sig) → Buf (Elt Ideal) ℓ) (c : Dev nD) (t : Fin cfg0.N)

/-- The step before. -/
def prev (t : Fin cfg0.N) : Fin cfg0.N := ⟨t.val - 1, by have := t.isLt; omega⟩

theorem hd_prev (h : t.val % 4 ≠ 0) (a : Fin 2) : hd (prev t) a = hd t a :=
  Fin.ext (by show 2 * ((t.val - 1) / 4) + a.val = 2 * (t.val / 4) + a.val; omega)

theorem scr_prev (h : t.val % 4 ≠ 0) : scr m c t.val = ((outAt m c (prev t)).acc, (outAt m c (prev t)).dl) := by
  have e := scr_succ m c (prev t)
  rwa [show (prev t).val + 1 = t.val by show t.val - 1 + 1 = t.val; omega] at e

theorem outAt_A (h : t.val % 4 = 0) : ∃ h0 h1, outAt m c t = outA m c t h0 h1 :=
  ⟨(first_iff t).2 h, fun q => by have := (last_iff t).1 q; omega, step_A m c t _ _ _ _⟩

theorem outAt_B (h : t.val % 4 ≠ 0) (h3 : t.val % 4 ≠ 3) : ∃ h0 h1, outAt m c t = outB m c t h0 h1 (scr m c t.val).1 (scr m c t.val).2 :=
  ⟨fun q => h ((first_iff t).1 q), fun q => h3 ((last_iff t).1 q), step_B m c t _ _ _ _⟩

theorem outAt_C (h3 : t.val % 4 = 3) : ∃ h0 h1, outAt m c t = outC m c t h0 h1 (scr m c t.val).1 (scr m c t.val).2 :=
  ⟨fun q => by have := (first_iff t).1 q; omega, (last_iff t).2 h3, step_C m c t _ _ _ _⟩

/-- After a step the accumulator holds the sum over the key rows so far, and the row products are kept. -/
theorem left_scr : ∀ n (t : Fin cfg0.N), t.val % 4 = n →
    (∀ (a : Fin 2) (s : Fin 2048) (l : Fin 256), (outAt m c t).acc (ix3 a s l) = pacc (V m c main_v189) (V m c main_v191) (V m c main_v192) (V m c main_v194) (V m c main_v195) (V m c main_v196) (V m c main_v197) (512 * (t.val % 4) + 512) (hd t a) s l)
    ∧ (∀ (a : Fin 2) (s : Fin 2048), (outAt m c t).dl (ix3 a 0 s) = gdl (V m c main_v195) (V m c main_v196) (hd t a) s)
  | 0, t, h => by
    obtain ⟨h0, h1, e⟩ := outAt_A m c t h
    rw [e]
    refine ⟨fun a s l => ?_, A_dl m c t h0 h1⟩
    rw [A_acc, ← pacc_add, h, Nat.mul_zero, pacc_zero]
  | n + 1, t, h => by
    obtain ⟨i1, i2⟩ := left_scr n (prev t) (by show (t.val - 1) % 4 = n; omega)
    have hne : t.val % 4 ≠ 0 := by omega
    have es := scr_prev m c t hne
    have q1 (a : Fin 2) (s : Fin 2048) (l : Fin 256) : (scr m c t.val).1 (ix3 a s l) = pacc (V m c main_v189) (V m c main_v191) (V m c main_v192) (V m c main_v194) (V m c main_v195) (V m c main_v196) (V m c main_v197) (512 * (t.val % 4)) (hd t a) s l := by
      rw [es]
      refine (i1 a s l).trans ?_
      rw [hd_prev t hne, show 512 * ((prev t).val % 4) + 512 = 512 * (t.val % 4) by show 512 * ((t.val - 1) % 4) + 512 = 512 * (t.val % 4); omega]
    have q2 (a : Fin 2) (s : Fin 2048) : (scr m c t.val).2 (ix3 a 0 s) = gdl (V m c main_v195) (V m c main_v196) (hd t a) s := by
      rw [es]
      exact (i2 a s).trans (by rw [hd_prev t hne])
    by_cases h3 : t.val % 4 = 3
    · obtain ⟨h0, h1, e⟩ := outAt_C m c t h3
      rw [e]
      refine ⟨fun a s l => ?_, fun a s => ?_⟩
      · rw [C_acc m c t h0 h1 _ _ q2, q1, pacc_add]
      · rw [show (outC m c t h0 h1 (scr m c t.val).1 (scr m c t.val).2).dl = (scr m c t.val).2 by unfold outC; rfl]
        exact q2 a s
    · obtain ⟨h0, h1, e⟩ := outAt_B m c t hne h3
      rw [e]
      refine ⟨fun a s l => ?_, fun a s => ?_⟩
      · rw [B_acc m c t h0 h1 _ _ q2, q1, pacc_add]
      · rw [show (outB m c t h0 h1 (scr m c t.val).1 (scr m c t.val).2).dl = (scr m c t.val).2 by unfold outB; rfl]
        exact q2 a s

/-- The accumulator a later step is entered with. -/
theorem scr_acc (hne : t.val % 4 ≠ 0) (a : Fin 2) (s : Fin 2048) (l : Fin 256) :
    (scr m c t.val).1 (ix3 a s l) = pacc (V m c main_v189) (V m c main_v191) (V m c main_v192) (V m c main_v194) (V m c main_v195) (V m c main_v196) (V m c main_v197) (512 * (t.val % 4)) (hd t a) s l := by
  rw [scr_prev m c t hne]
  refine ((left_scr m c _ (prev t) rfl).1 a s l).trans ?_
  rw [hd_prev t hne, show 512 * ((prev t).val % 4) + 512 = 512 * (t.val % 4) by show 512 * ((t.val - 1) % 4) + 512 = 512 * (t.val % 4); omega]

/-- The row products a later step is entered with. -/
theorem scr_dl (hne : t.val % 4 ≠ 0) (a : Fin 2) (s : Fin 2048) :
    (scr m c t.val).2 (ix3 a 0 s) = gdl (V m c main_v195) (V m c main_v196) (hd t a) s := by
  rw [scr_prev m c t hne]
  exact ((left_scr m c _ (prev t) rfl).2 a s).trans (by rw [hd_prev t hne])

/-- The block of `dkn` a step leaves. -/
theorem left_dkn (a : Fin 2) (r : Fin 512) (d : Fin 128) : (outAt m c t).dkn (ix2 r (lane a d)) = (∑ s : Fin 2048, gds (V m c main_v189) (V m c main_v191) (V m c main_v192) (V m c main_v194) (V m c main_v195) (V m c main_v196) (V m c main_v197) (hd t a) (krow t r) s * V m c main_v189 (ix3 (hd t a) s (lane 0 d))) * ln2 := by
  by_cases h : t.val % 4 = 0
  · obtain ⟨h0, h1, e⟩ := outAt_A m c t h
    rw [e, A_dkn]
  · by_cases h3 : t.val % 4 = 3
    · obtain ⟨h0, h1, e⟩ := outAt_C m c t h3
      rw [e, C_dkn m c t h0 h1 _ _ (scr_dl m c t h)]
    · obtain ⟨h0, h1, e⟩ := outAt_B m c t h h3
      rw [e, B_dkn m c t h0 h1 _ _ (scr_dl m c t h)]

/-- The block of `dkr` a step leaves. -/
theorem left_dkr (a : Fin 2) (r : Fin 512) (d : Fin 128) : (outAt m c t).dkr (ix3 a r d) = (∑ s : Fin 2048, gds (V m c main_v189) (V m c main_v191) (V m c main_v192) (V m c main_v194) (V m c main_v195) (V m c main_v196) (V m c main_v197) (hd t a) (krow t r) s * V m c main_v189 (ix3 (hd t a) s (lane 1 d))) * ln2 := by
  by_cases h : t.val % 4 = 0
  · obtain ⟨h0, h1, e⟩ := outAt_A m c t h
    rw [e, A_dkr]
  · by_cases h3 : t.val % 4 = 3
    · obtain ⟨h0, h1, e⟩ := outAt_C m c t h3
      rw [e, C_dkr m c t h0 h1 _ _ (scr_dl m c t h)]
    · obtain ⟨h0, h1, e⟩ := outAt_B m c t h h3
      rw [e, B_dkr m c t h0 h1 _ _ (scr_dl m c t h)]

/-- The block of `dv` a step leaves. -/
theorem left_dv (a : Fin 2) (r : Fin 512) (d : Fin 128) : (outAt m c t).dv (ix2 r (lane a d)) = ∑ s : Fin 2048, gwt (V m c main_v189) (V m c main_v191) (V m c main_v192) (V m c main_v197) (hd t a) (krow t r) s * V m c main_v196 (ix2 s (hcol (hd t a) d)) := by
  by_cases h : t.val % 4 = 0
  · obtain ⟨h0, h1, e⟩ := outAt_A m c t h
    rw [e, A_dv]
  · by_cases h3 : t.val % 4 = 3
    · obtain ⟨h0, h1, e⟩ := outAt_C m c t h3
      rw [e, C_dv m c t h0 h1 _ _ (scr_dl m c t h)]
    · obtain ⟨h0, h1, e⟩ := outAt_B m c t h h3
      rw [e, B_dv m c t h0 h1 _ _ (scr_dl m c t h)]

/-- The query gradient of head `H` before it is rotated back. -/
def gq (H : Fin 8) (s : Fin 2048) (l : Fin 256) : EReal := (∑ K : Fin 2048, gds (V m c main_v189) (V m c main_v191) (V m c main_v192) (V m c main_v194) (V m c main_v195) (V m c main_v196) (V m c main_v197) H K s * gkey (V m c main_v191) (V m c main_v192) H K l) * scl

theorem pacc_all (H : Fin 8) (s : Fin 2048) (l : Fin 256) : pacc (V m c main_v189) (V m c main_v191) (V m c main_v192) (V m c main_v194) (V m c main_v195) (V m c main_v196) (V m c main_v197) 2048 H s l = ∑ K : Fin 2048, gds (V m c main_v189) (V m c main_v191) (V m c main_v192) (V m c main_v194) (V m c main_v195) (V m c main_v196) (V m c main_v197) H K s * gkey (V m c main_v191) (V m c main_v192) H K l := by
  unfold pacc
  exact Finset.sum_congr rfl fun K _ => if_pos ⟨Nat.zero_le _, K.isLt⟩

/-- The block of the query gradient the last step of a sweep leaves. -/
theorem left_dq (h3 : t.val % 4 = 3) (a b : Fin 2) (s : Fin 2048) (d : Fin 128) :
    (outAt m c t).dq (ix3 a s (lane b d)) = if b = 0 then gq m c (hd t a) s (lane 0 d)
      else unrope (fun s d => gq m c (hd t a) s (lane 1 d)) (V m c main_v142) (V m c main_v144) (V m c main_v145) s d := by
  have hne : t.val % 4 ≠ 0 := by omega
  have e2 (s : Fin 2048) (l : Fin 256) := pacc_add m c t a s l
  rw [show 512 * (t.val % 4) + 512 = 2048 by omega] at e2
  obtain ⟨h0, h1, e⟩ := outAt_C m c t h3
  rw [e, C_dq m c t h0 h1 _ _ (scr_dl m c t hne)]
  have e3 (s : Fin 2048) (l : Fin 256) := (e2 s l).trans (pacc_all m c (hd t a) s l)
  simp only [scr_acc m c t hne, e3]
  rfl

/-- The query gradient's array. -/
def K10 : Vec Ideal S8x2048x256 .bf16 := fun i =>
  if h : (i 2).val < 128 then gq m c (i 0) (i 1) (i 2)
  else unrope (fun s d => gq m c (i 0) s (lane 1 d)) (V m c main_v142) (V m c main_v144) (V m c main_v145) (i 1) ⟨(i 2).val - 128, by have : (i 2).val < 256 := (i 2).isLt; omega⟩
/-- The head of a column. -/
def hof (x : Fin 1024) : Fin 8 := ⟨x.val / 128, by omega⟩
/-- The place of a column within its head. -/
def dof (x : Fin 1024) : Fin 128 := ⟨x.val % 128, by omega⟩
/-- The gradient of the unrotated keys. -/
def K11 : Vec Ideal S2048x1024 .bf16 := fun i =>
  (∑ s : Fin 2048, gds (V m c main_v189) (V m c main_v191) (V m c main_v192) (V m c main_v194) (V m c main_v195) (V m c main_v196) (V m c main_v197) (hof (i 1)) (i 0) s * V m c main_v189 (ix3 (hof (i 1)) s (lane 0 (dof (i 1))))) * ln2
/-- The gradient of the rotated keys. -/
def K12 : Vec Ideal S8x2048x128 .f32 := fun i =>
  (∑ s : Fin 2048, gds (V m c main_v189) (V m c main_v191) (V m c main_v192) (V m c main_v194) (V m c main_v195) (V m c main_v196) (V m c main_v197) (i 0) (i 1) s * V m c main_v189 (ix3 (i 0) s (lane 1 (i 2)))) * ln2
/-- The value gradient. -/
def K13 : Vec Ideal S2048x1024 .bf16 := fun i =>
  ∑ s : Fin 2048, gwt (V m c main_v189) (V m c main_v191) (V m c main_v192) (V m c main_v197) (hof (i 1)) (i 0) s * V m c main_v196 (ix2 s (hcol (hof (i 1)) (dof (i 1))))

theorem hof_hcol (H : Fin 8) (d : Fin 128) : hof (hcol H d) = H := Fin.ext (by show (128 * H.val + d.val) / 128 = H.val; omega)
theorem dof_hcol (H : Fin 8) (d : Fin 128) : dof (hcol H d) = d := Fin.ext (by show (128 * H.val + d.val) % 128 = d.val; omega)
theorem hcol_of (x : Fin 1024) : hcol (hof x) (dof x) = x := Fin.ext (by show 128 * (x.val / 128) + x.val % 128 = x.val; omega)

/-- Every lane of 256 is lane `d` of one of the halves. -/
theorem lanes (l : Fin 256) : ∃ (b : Fin 2) (d : Fin 128), l = lane b d :=
  ⟨⟨l.val / 128, by omega⟩, ⟨l.val % 128, by omega⟩, Fin.ext (by show l.val = 128 * (l.val / 128) + l.val % 128; omega)⟩

theorem K10_apply (H : Fin 8) (s : Fin 2048) (b : Fin 2) (d : Fin 128) : K10 m c (ix3 H s (lane b d)) = if b = 0 then gq m c H s (lane 0 d)
      else unrope (fun s d => gq m c H s (lane 1 d)) (V m c main_v142) (V m c main_v144) (V m c main_v145) s d := by
  by_cases hb : b = 0
  · subst hb
    rw [if_pos rfl]
    exact dif_pos (show (lane 0 d).val < 128 by show 128 * 0 + d.val < 128; omega)
  · obtain rfl : b = 1 := by omega
    rw [if_neg hb]
    refine (dif_neg (show ¬(lane 1 d).val < 128 by show ¬128 * 1 + d.val < 128; omega)).trans ?_
    exact congrArg (unrope (fun s d => gq m c H s (lane 1 d)) (V m c main_v142) (V m c main_v144) (V m c main_v145) s) (Fin.ext (by show 128 * 1 + d.val - 128 = d.val; omega))

/-- The query gradient after the run. -/
theorem final10 : (dats m 0 c).arrAt 10 cfg0.N = K10 m c := by
  refine (dats m 0 c).arrAt_eq_of_covers 10 _ (by decide +kernel) fun t hf y => ?_
  blk_simp
  rw [after10]
  obtain ⟨a, s, l, rfl⟩ : ∃ (a : Fin 2) (s : Fin 2048) (l : Fin 256), y = ix3 a s l := ⟨y 0, y 1, y 2, eq_ix3 y⟩
  obtain ⟨b, d, rfl⟩ := lanes l
  rw [emb10, K10_apply]
  refine left_dq m c t ?_ a b s d
  by_contra h3
  rw [flush_dq t (fun q => h3 ((last_iff t).1 q))] at hf
  exact absurd hf (by decide)

/-- The gradient of the unrotated keys after the run. -/
theorem final11 : (dats m 0 c).arrAt 11 cfg0.N = K11 m c := by
  refine (dats m 0 c).arrAt_eq_of_covers 11 _ (by decide +kernel) fun t hf y => ?_
  blk_simp
  rw [after11]
  obtain ⟨r, l, rfl⟩ : ∃ (r : Fin 512) (l : Fin 256), y = ix2 r l := ⟨y 0, y 1, eq_ix2 y⟩
  obtain ⟨a, d, rfl⟩ := lanes l
  rw [emb11]
  refine (left_dkn m c t a r d).trans ?_
  show _ = (∑ s : Fin 2048, gds (V m c main_v189) (V m c main_v191) (V m c main_v192) (V m c main_v194) (V m c main_v195) (V m c main_v196) (V m c main_v197) (hof (hcol (hd t a) d)) (krow t r) s * V m c main_v189 (ix3 (hof (hcol (hd t a) d)) s (lane 0 (dof (hcol (hd t a) d))))) * ln2
  rw [hof_hcol, dof_hcol]

/-- The gradient of the rotated keys after the run. -/
theorem final12 : (dats m 0 c).arrAt 12 cfg0.N = K12 m c := by
  refine (dats m 0 c).arrAt_eq_of_covers 12 _ (by decide +kernel) fun t hf y => ?_
  blk_simp
  rw [after12]
  obtain ⟨a, r, d, rfl⟩ : ∃ (a : Fin 2) (r : Fin 512) (d : Fin 128), y = ix3 a r d := ⟨y 0, y 1, y 2, eq_ix3 y⟩
  rw [emb12]
  exact left_dkr m c t a r d

/-- The value gradient after the run. -/
theorem final13 : (dats m 0 c).arrAt 13 cfg0.N = K13 m c := by
  refine (dats m 0 c).arrAt_eq_of_covers 13 _ (by decide +kernel) fun t hf y => ?_
  blk_simp
  rw [after13]
  obtain ⟨r, l, rfl⟩ : ∃ (r : Fin 512) (l : Fin 256), y = ix2 r l := ⟨y 0, y 1, eq_ix2 y⟩
  obtain ⟨a, d, rfl⟩ := lanes l
  rw [emb13]
  refine (left_dv m c t a r d).trans ?_
  show _ = ∑ s : Fin 2048, gwt (V m c main_v189) (V m c main_v191) (V m c main_v192) (V m c main_v197) (hof (hcol (hd t a) d)) (krow t r) s * V m c main_v196 (ix2 s (hcol (hof (hcol (hd t a) d)) (dof (hcol (hd t a) d))))
  rw [hof_hcol, dof_hcol]

end Cert.AttnBwd
-- ==== Proof.Attn.Host.lean ====
/-
  The arrays that the kernel's host lines hand to the attention backward call, each as a term of the arguments.
-/
module

public import proofs.«01_k».proof.Proof.Gen.AttnRefIdeal.Run
public import proofs.«01_k».proof.Proof.Attn.Data

@[expose] public section

set_option maxRecDepth 16384
set_option maxHeartbeats 4000000

noncomputable section

namespace Cert.AttnBwd

open Cert.AttnIdeal Cert.AttnIdeal.Gen Idealize.ShloMosaic Idealize.ShloMosaic.TcCoe Idealize.SL.Sem
open Cert.AttnRefIdeal.Value (res_main_v2 res_main_v16 res_main_v33 res_main_v49_0 res_main_v50 res_main_v74)

section
variable (m : (ℓ : Loc nD τ sig) → Buf (Elt Ideal) ℓ) (c : Dev nD)
variable (X : Valuation Cert.AttnRefIdeal.τ Cert.AttnRefIdeal.sig (Elt Ideal))

/-- The rotation angles of the host lines. -/
def angles (p : IVec S2048 32) : FVec Ideal S2048x32 .f32 :=
  mulf (broadcastInDim S2048x32 ![0, 1] bcast_S2048x1_S2048x32_0_1 (broadcastInDim S2048x1 ![0] bcast_S2048_S2048x1_0 (sitofp .f32 p))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (iotaInDim S32 32 0)) (broadcastInDim S32 ![] bcast_S_S32 (constant S_ .f32 0x42000000#32)))))))

/-- Their cosines and sines, and the two halves of a query's last 64 lanes. -/
def co (p : IVec S2048 32) : FVec Ideal S2048x1x32 .f32 := broadcastInDim S2048x1x32 ![0, 2] bcast_S2048x32_S2048x1x32_0_2 (Host.cos (angles p))
def si (p : IVec S2048 32) : FVec Ideal S2048x1x32 .f32 := broadcastInDim S2048x1x32 ![0, 2] bcast_S2048x32_S2048x1x32_0_2 (Host.sin (angles p))
def lo (q : FVec Ideal S2048x8x192 .f32) : FVec Ideal S2048x8x32 .f32 := extractStridedSlice S2048x8x32 ![0, 0, 0] (extractStridedSlice S2048x8x64 ![0, 0, 128] q slices_S2048x8x192_S2048x8x64_0_0_128) slices_S2048x8x64_S2048x8x32_0_0_0
def hi (q : FVec Ideal S2048x8x192 .f32) : FVec Ideal S2048x8x32 .f32 := extractStridedSlice S2048x8x32 ![0, 0, 32] (extractStridedSlice S2048x8x64 ![0, 0, 128] q slices_S2048x8x192_S2048x8x64_0_0_128) slices_S2048x8x64_S2048x8x32_0_0_32

/-- The rotated lanes. -/
def turned (q : FVec Ideal S2048x8x192 .f32) (p : IVec S2048 32) : FVec Ideal S2048x8x64 .f32 :=
  concatenate S2048x8x64 2 [⟨S2048x8x32, (subf (mulf (lo q) (broadcastInDim S2048x8x32 ![0, 1, 2] bcast_S2048x1x32_S2048x8x32_0_1_2 (co p))) (mulf (hi q) (broadcastInDim S2048x8x32 ![0, 1, 2] bcast_S2048x1x32_S2048x8x32_0_1_2 (si p))))⟩, ⟨S2048x8x32, (addf (mulf (hi q) (broadcastInDim S2048x8x32 ![0, 1, 2] bcast_S2048x1x32_S2048x8x32_0_1_2 (co p))) (mulf (lo q) (broadcastInDim S2048x8x32 ![0, 1, 2] bcast_S2048x1x32_S2048x8x32_0_1_2 (si p))))⟩] concatenates_S2048x8x32_S2048x8x32_S2048x8x64_d2

/-- The table of cosines. -/
theorem V_v142 (h4 : m (c, Proc.devRef .tc main_arg4) = X (Proc.devRef .tc Cert.AttnRefIdeal.main_arg4)) :
    V m c main_v142 = (concatenate S2048x128 1 [⟨S2048x32, Host.cos (F := Ideal) (φ := .f32) (res_main_v16 X)⟩, ⟨S2048x32, Host.cos (F := Ideal) (φ := .f32) (res_main_v16 X)⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1) := by
  have e : res_main_v16 X = angles (m (c, Proc.devRef .tc main_arg4)) := by rw [h4]; rfl
  refine Eq.trans ?_ (congrArg (fun w : FVec Ideal S2048x32 .f32 => (concatenate S2048x128 1 [⟨S2048x32, Host.cos (F := Ideal) (φ := .f32) w⟩, ⟨S2048x32, Host.cos (F := Ideal) (φ := .f32) w⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1)) e.symm)
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rfl

/-- The table of negated sines. -/
theorem V_v144 (h4 : m (c, Proc.devRef .tc main_arg4) = X (Proc.devRef .tc Cert.AttnRefIdeal.main_arg4)) :
    V m c main_v144 = (concatenate S2048x128 1 [⟨S2048x32, Host.negf (Host.sin (F := Ideal) (φ := .f32) (res_main_v16 X))⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1) := by
  have e : res_main_v16 X = angles (m (c, Proc.devRef .tc main_arg4)) := by rw [h4]; rfl
  refine Eq.trans ?_ (congrArg (fun w : FVec Ideal S2048x32 .f32 => (concatenate S2048x128 1 [⟨S2048x32, Host.negf (Host.sin (F := Ideal) (φ := .f32) w)⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1)) e.symm)
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rfl

/-- The table of sines. -/
theorem V_v145 (h4 : m (c, Proc.devRef .tc main_arg4) = X (Proc.devRef .tc Cert.AttnRefIdeal.main_arg4)) :
    V m c main_v145 = (concatenate S2048x128 1 [⟨S2048x32, broadcastInDim S2048x32 ![] bcast_S_S2048x32 (constant (F := Ideal) S_ .f32 0x00000000#32)⟩, ⟨S2048x32, Host.sin (F := Ideal) (φ := .f32) (res_main_v16 X)⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1) := by
  have e : res_main_v16 X = angles (m (c, Proc.devRef .tc main_arg4)) := by rw [h4]; rfl
  refine Eq.trans ?_ (congrArg (fun w : FVec Ideal S2048x32 .f32 => (concatenate S2048x128 1 [⟨S2048x32, broadcastInDim S2048x32 ![] bcast_S_S2048x32 (constant (F := Ideal) S_ .f32 0x00000000#32)⟩, ⟨S2048x32, Host.sin (F := Ideal) (φ := .f32) w⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1)) e.symm)
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rfl

/-- The queries, rotated, scaled and padded. -/
theorem V_v189 (h0 : m (c, Proc.devRef .tc main_arg0) = X (Proc.devRef .tc Cert.AttnRefIdeal.main_arg0)) (h4 : m (c, Proc.devRef .tc main_arg4) = X (Proc.devRef .tc Cert.AttnRefIdeal.main_arg4)) :
    V m c main_v189 = (transpose S8x2048x256 [1, 0, 2] (truncf .bf16 (mulf (F := Ideal) (φ := .f32) (concatenate S2048x8x256 2 [⟨S2048x8x128, res_main_v2 X⟩, ⟨S2048x8x64, res_main_v33 X⟩, ⟨S2048x8x64, broadcastInDim S2048x8x64 ![] bcast_S_S2048x8x64 (constant (F := Ideal) S_ .f32 0x00000000#32)⟩] concatenates_S2048x8x128_S2048x8x64_S2048x8x64_S2048x8x256_d2) (broadcastInDim S2048x8x256 ![] bcast_S_S2048x8x256 (Host.divf (Host.divf (constant S_ .f32 0x3F800000#32) (Host.sqrt (constant S_ .f32 0x43400000#32))) (Host.log (constant S_ .f32 0x40000000#32))))) bitsLt_bf16_f32) transposes_S2048x8x256_S8x2048x256_1_0_2) := by
  have e3 : res_main_v33 X = turned (m (c, Proc.devRef .tc main_arg0)) (m (c, Proc.devRef .tc main_arg4)) := by rw [h0, h4]; rfl
  have e2 : res_main_v2 X = extractStridedSlice S2048x8x128 ![0, 0, 0] (m (c, Proc.devRef .tc main_arg0)) slices_S2048x8x192_S2048x8x128_0_0_0 := by rw [h0]; rfl
  refine Eq.trans ?_ (congrArg₂ (fun (u : FVec Ideal S2048x8x128 .f32) (w : FVec Ideal S2048x8x64 .f32) => (transpose S8x2048x256 [1, 0, 2] (truncf .bf16 (mulf (F := Ideal) (φ := .f32) (concatenate S2048x8x256 2 [⟨S2048x8x128, u⟩, ⟨S2048x8x64, w⟩, ⟨S2048x8x64, broadcastInDim S2048x8x64 ![] bcast_S_S2048x8x64 (constant (F := Ideal) S_ .f32 0x00000000#32)⟩] concatenates_S2048x8x128_S2048x8x64_S2048x8x64_S2048x8x256_d2) (broadcastInDim S2048x8x256 ![] bcast_S_S2048x8x256 (Host.divf (Host.divf (constant S_ .f32 0x3F800000#32) (Host.sqrt (constant S_ .f32 0x43400000#32))) (Host.log (constant S_ .f32 0x40000000#32))))) bitsLt_bf16_f32) transposes_S2048x8x256_S8x2048x256_1_0_2)) e2.symm e3.symm)
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rfl

/-- The attention's output. -/
theorem V_v195 (h0 : m (c, Proc.devRef .tc main_arg0) = X (Proc.devRef .tc Cert.AttnRefIdeal.main_arg0)) (h1 : m (c, Proc.devRef .tc main_arg1) = X (Proc.devRef .tc Cert.AttnRefIdeal.main_arg1)) (h2 : m (c, Proc.devRef .tc main_arg2) = X (Proc.devRef .tc Cert.AttnRefIdeal.main_arg2)) (h3 : m (c, Proc.devRef .tc main_arg3) = X (Proc.devRef .tc Cert.AttnRefIdeal.main_arg3)) (h4 : m (c, Proc.devRef .tc main_arg4) = X (Proc.devRef .tc Cert.AttnRefIdeal.main_arg4)) :
    V m c main_v195 = (truncf .bf16 (shapeCast S2048x1024 (transpose S2048x8x128 [2, 0, 1] (Host.dotGeneral dot_S2048x8x128_S8x2048x2048_S8x128x2048_0_2_2_1_1_0 none (φ₁ := .f32) (φ₂ := .f32) (F := Ideal) (X (Proc.devRef .tc Cert.AttnRefIdeal.main_arg3)) (res_main_v74 X)) transposes_S8x128x2048_S2048x8x128_2_0_1) shapeCasts_S2048x8x128_S2048x1024) bitsLt_bf16_f32) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rw [h0, h1, h2, h3, h4]
  rfl

/-- The logarithms of the rows' sums, to base two. -/
theorem V_v197 (h0 : m (c, Proc.devRef .tc main_arg0) = X (Proc.devRef .tc Cert.AttnRefIdeal.main_arg0)) (h1 : m (c, Proc.devRef .tc main_arg1) = X (Proc.devRef .tc Cert.AttnRefIdeal.main_arg1)) (h2 : m (c, Proc.devRef .tc main_arg2) = X (Proc.devRef .tc Cert.AttnRefIdeal.main_arg2)) (h4 : m (c, Proc.devRef .tc main_arg4) = X (Proc.devRef .tc Cert.AttnRefIdeal.main_arg4)) :
    V m c main_v197 = (shapeCast S8x1x2048 (Host.divf (F := Ideal) (φ := .f32) (addf (broadcastInDim S8x2048x1 ![0, 1] bcast_S8x2048_S8x2048x1_0_1 (res_main_v50 X)) (Host.log (broadcastInDim S8x2048x1 ![0, 1] bcast_S8x2048_S8x2048x1_0_1 (Host.reduceAdd (Host.exp (subf (res_main_v49_0 X) (broadcastInDim S8x2048x2048 ![0, 1, 2] bcast_S8x2048x1_S8x2048x2048_0_1_2 (broadcastInDim S8x2048x1 ![0, 1] bcast_S8x2048_S8x2048x1_0_1 (res_main_v50 X))))) (constant S_ .f32 0x00000000#32) reducesTo_S8x2048x2048_S8x2048_d2 h_S_)))) (broadcastInDim S8x2048x1 ![] bcast_S_S8x2048x1 (Host.log (constant S_ .f32 0x40000000#32)))) shapeCasts_S8x2048x1_S8x1x2048) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rw [h0, h1, h2, h4]
  rfl

/-- The keys' own lanes. -/
theorem V_v191 (h1 : m (c, Proc.devRef .tc main_arg1) = X (Proc.devRef .tc Cert.AttnRefIdeal.main_arg1)) :
    V m c main_v191 = (shapeCast S2048x1024 (truncf .bf16 (φ := .f32) (F := Ideal) (X (Proc.devRef .tc Cert.AttnRefIdeal.main_arg1)) bitsLt_bf16_f32) shapeCasts_S2048x8x128_S2048x1024) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rw [h1]
  rfl

/-- The values. -/
theorem V_v194 (h3 : m (c, Proc.devRef .tc main_arg3) = X (Proc.devRef .tc Cert.AttnRefIdeal.main_arg3)) :
    V m c main_v194 = (shapeCast S2048x1024 (truncf .bf16 (φ := .f32) (F := Ideal) (X (Proc.devRef .tc Cert.AttnRefIdeal.main_arg3)) bitsLt_bf16_f32) shapeCasts_S2048x8x128_S2048x1024) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  simp only [StableHlo.TRef.toBuf, StableHlo.TRef.ofBuf, cast_eq]
  rw [h3]
  rfl

/-- The keys' shared lanes. -/
theorem V_v192 (h2 : m (c, Proc.devRef .tc main_arg2) = X (Proc.devRef .tc Cert.AttnRefIdeal.main_arg2)) :
    V m c main_v192 = (truncf .bf16 (φ := .f32) (F := Ideal) (concatenate S2048x128 1 [⟨S2048x64, (X (Proc.devRef .tc Cert.AttnRefIdeal.main_arg2))⟩, ⟨S2048x64, broadcastInDim S2048x64 ![] bcast_S_S2048x64 (constant S_ .f32 0x00000000#32)⟩] concatenates_S2048x64_S2048x64_S2048x128_d1) bitsLt_bf16_f32) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  rw [h2]

/-- The output's gradient. -/
theorem V_v196 (h5 : m (c, Proc.devRef .tc main_arg5) = X (Proc.devRef .tc Cert.AttnRefIdeal.main_arg5)) :
    V m c main_v196 = (truncf .bf16 (φ := .f32) (F := Ideal) (X (Proc.devRef .tc Cert.AttnRefIdeal.main_arg5)) bitsLt_bf16_f32) := by
  unfold V
  simp only [hostOps0, hostOps0_1, hostOps0_2, hostOps0_3, hostOps0_4, hostOps0_5, hostOps0_6, hostOps0_7, hostOps0_8, List.flatten_cons, List.flatten_nil, List.cons_append, List.nil_append, List.append_nil]
  after_results
  rw [h5]

end

end Cert.AttnBwd
-- ==== Proof.Attn.HostRead.lean ====
/-
  The arrays that the kernel's host lines compute, entry by entry.
-/
module

public import proofs.«01_k».proof.Proof.Attn.Data
public import Idealize.ShloMosaic.Lib.Pointwise

@[expose] public section

set_option maxRecDepth 16384

noncomputable section

namespace Cert.AttnBwd

open Cert.AttnIdeal Cert.AttnIdeal.Gen Idealize.ShloMosaic Idealize.ShloMosaic.TcCoe Idealize.SL.Sem

/-- A query's lanes. -/
theorem of_v189 (a_v2 : FVec Ideal S2048x8x128 .f32) (a_v33 : FVec Ideal S2048x8x64 .f32) (H : Fin 8) (t : Fin 2048) (l : Fin 256) :
    ((transpose S8x2048x256 [1, 0, 2] (truncf .bf16 (mulf (F := Ideal) (φ := .f32) (concatenate S2048x8x256 2 [⟨S2048x8x128, a_v2⟩, ⟨S2048x8x64, a_v33⟩, ⟨S2048x8x64, broadcastInDim S2048x8x64 ![] bcast_S_S2048x8x64 (constant (F := Ideal) S_ .f32 0x00000000#32)⟩] concatenates_S2048x8x128_S2048x8x64_S2048x8x64_S2048x8x256_d2) (broadcastInDim S2048x8x256 ![] bcast_S_S2048x8x256 (Host.divf (Host.divf (constant S_ .f32 0x3F800000#32) (Host.sqrt (constant S_ .f32 0x43400000#32))) (Host.log (constant S_ .f32 0x40000000#32))))) bitsLt_bf16_f32) transposes_S2048x8x256_S8x2048x256_1_0_2)) (ix3 H t l)
      = (if h : l.val < 128 then a_v2 (ix3 t H ⟨l.val, h⟩) else if h : l.val - 128 < 64 then a_v33 (ix3 t H ⟨l.val - 128, h⟩) else 0)
      * Ideal.div (Ideal.div 1 (Ideal.sqrt (Ideal.ofBits FTy.f32 0x43400000#32))) (Ideal.log (Ideal.ofBits FTy.f32 0x40000000#32)) := by
  pointwise

/-- A key's lanes. -/
theorem of_v191 (a_arg1 : FVec Ideal S2048x8x128 .f32) (K : Fin 2048) (H : Fin 8) (d : Fin 128) :
    ((shapeCast S2048x1024 (truncf .bf16 (φ := .f32) (F := Ideal) a_arg1 bitsLt_bf16_f32) shapeCasts_S2048x8x128_S2048x1024)) (ix2 K (⟨H.val * 128 + d.val, by omega⟩ : Fin 1024))
      = a_arg1 (ix3 K H d) := by
  pointwise

/-- A value's lanes. -/
theorem of_v194 (a_arg3 : FVec Ideal S2048x8x128 .f32) (K : Fin 2048) (H : Fin 8) (d : Fin 128) :
    ((shapeCast S2048x1024 (truncf .bf16 (φ := .f32) (F := Ideal) a_arg3 bitsLt_bf16_f32) shapeCasts_S2048x8x128_S2048x1024)) (ix2 K (⟨H.val * 128 + d.val, by omega⟩ : Fin 1024))
      = a_arg3 (ix3 K H d) := by
  pointwise

/-- The attention's output. -/
theorem of_v195 (a_v74 : FVec Ideal S8x2048x2048 .f32) (a_arg3 : FVec Ideal S2048x8x128 .f32) (K : Fin 2048) (H : Fin 8) (d : Fin 128) :
    ((truncf .bf16 (shapeCast S2048x1024 (transpose S2048x8x128 [2, 0, 1] (Host.dotGeneral dot_S2048x8x128_S8x2048x2048_S8x128x2048_0_2_2_1_1_0 none (φ₁ := .f32) (φ₂ := .f32) (F := Ideal) a_arg3 a_v74) transposes_S8x128x2048_S2048x8x128_2_0_1) shapeCasts_S2048x8x128_S2048x1024) bitsLt_bf16_f32)) (ix2 K (⟨H.val * 128 + d.val, by omega⟩ : Fin 1024))
      = ∑ x : Fin 2048, a_arg3 (ix3 x H d) * a_v74 (ix3 H K x) := by
  pointwise

/-- A key's shared lanes. -/
theorem of_v192 (a_arg2 : FVec Ideal S2048x64 .f32) (t : Fin 2048) (d : Fin 128) :
    ((truncf .bf16 (φ := .f32) (F := Ideal) (concatenate S2048x128 1 [⟨S2048x64, a_arg2⟩, ⟨S2048x64, broadcastInDim S2048x64 ![] bcast_S_S2048x64 (constant S_ .f32 0x00000000#32)⟩] concatenates_S2048x64_S2048x64_S2048x128_d1) bitsLt_bf16_f32)) (ix2 t d)
      = if h : d.val < 64 then a_arg2 (ix2 t ⟨d.val, h⟩) else 0 := by
  pointwise

/-- The logarithm of a row's sum. -/
theorem of_v197 (a_v50 : FVec Ideal S8x2048 .f32) (a_v49_0 : FVec Ideal S8x2048x2048 .f32) (H : Fin 8) (t : Fin 2048) :
    ((shapeCast S8x1x2048 (Host.divf (F := Ideal) (φ := .f32) (addf (broadcastInDim S8x2048x1 ![0, 1] bcast_S8x2048_S8x2048x1_0_1 a_v50) (Host.log (broadcastInDim S8x2048x1 ![0, 1] bcast_S8x2048_S8x2048x1_0_1 (Host.reduceAdd (Host.exp (subf a_v49_0 (broadcastInDim S8x2048x2048 ![0, 1, 2] bcast_S8x2048x1_S8x2048x2048_0_1_2 (broadcastInDim S8x2048x1 ![0, 1] bcast_S8x2048_S8x2048x1_0_1 a_v50)))) (constant S_ .f32 0x00000000#32) reducesTo_S8x2048x2048_S8x2048_d2 h_S_)))) (broadcastInDim S8x2048x1 ![] bcast_S_S8x2048x1 (Host.log (constant S_ .f32 0x40000000#32)))) shapeCasts_S8x2048x1_S8x1x2048)) (ix3 H (0 : Fin 1) t)
      = Ideal.div (a_v50 (ix2 H t) + Ideal.log (∑ x : Fin 2048, Ideal.exp (a_v49_0 (ix3 H t x) - a_v50 (ix2 H t)))) (Ideal.log (Ideal.ofBits FTy.f32 0x40000000#32)) := by
  pointwise

/-- The table of cosines. -/
theorem of_v142 (a_v16 : FVec Ideal S2048x32 .f32) (t : Fin 2048) (d : Fin 128) :
    ((concatenate S2048x128 1 [⟨S2048x32, Host.cos (F := Ideal) (φ := .f32) a_v16⟩, ⟨S2048x32, Host.cos (F := Ideal) (φ := .f32) a_v16⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1)) (ix2 t d)
      = if h : d.val < 32 then Ideal.cos (a_v16 (ix2 t ⟨d.val, h⟩))
    else if h : d.val - 32 < 32 then Ideal.cos (a_v16 (ix2 t ⟨d.val - 32, h⟩)) else if h : d.val - 32 - 32 < 32 then 0 else 0 := by
  pointwise

/-- The table of negated sines. -/
theorem of_v144 (a_v16 : FVec Ideal S2048x32 .f32) (t : Fin 2048) (d : Fin 128) :
    ((concatenate S2048x128 1 [⟨S2048x32, Host.negf (Host.sin (F := Ideal) (φ := .f32) a_v16)⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1)) (ix2 t d)
      = if h : d.val < 32 then -Ideal.sin (a_v16 (ix2 t ⟨d.val, h⟩)) else if h : d.val - 32 < 32 then 0 else if h : d.val - 32 - 32 < 32 then 0 else 0 := by
  pointwise

/-- The table of sines. -/
theorem of_v145 (a_v16 : FVec Ideal S2048x32 .f32) (t : Fin 2048) (d : Fin 128) :
    ((concatenate S2048x128 1 [⟨S2048x32, broadcastInDim S2048x32 ![] bcast_S_S2048x32 (constant (F := Ideal) S_ .f32 0x00000000#32)⟩, ⟨S2048x32, Host.sin (F := Ideal) (φ := .f32) a_v16⟩, ⟨S2048x32, broadcastInDim S2048x32 ![] bcast_S_S2048x32 (constant (F := Ideal) S_ .f32 0x00000000#32)⟩, ⟨S2048x32, broadcastInDim S2048x32 ![] bcast_S_S2048x32 (constant (F := Ideal) S_ .f32 0x00000000#32)⟩] concatenates_S2048x32_S2048x32_S2048x32_S2048x32_S2048x128_d1)) (ix2 t d)
      = if h : d.val < 32 then 0
    else if h : d.val - 32 < 32 then Ideal.sin (a_v16 (ix2 t ⟨d.val - 32, h⟩)) else if h : d.val - 32 - 32 < 32 then 0 else 0 := by
  pointwise

end Cert.AttnBwd

end
-- ==== Proof.Attn.RefRead.lean ====
/-
  The arrays of the reference, entry by entry, each as a term of the arrays that it is computed from.
-/
module

public import proofs.«01_k».proof.Proof.Gen.AttnRefIdeal.Run
public import Idealize.ShloMosaic.Lib.Pointwise

@[expose] public section

set_option maxRecDepth 16384

noncomputable section

namespace Cert.AttnBwd

open Cert.AttnRefIdeal Cert.AttnRefIdeal.Gen Cert.AttnRefIdeal.Value Idealize.ShloMosaic Idealize.ShloMosaic.TcCoe Idealize.SL.Sem

/-- A row's greatest score. -/
theorem at_v50 (a_v49_0 : FVec Ideal S8x2048x2048 .f32) (H : Fin 8) (t : Fin 2048) :
    (Host.reduce FloatOps.maximumf a_v49_0 (constant S_ .f32 0xFF800000#32) reducesTo_S8x2048x2048_S8x2048_d2 h_S_) (ix2 H t) = Finset.fold max (Ideal.ofBits FTy.f32 0xFF800000#32) (fun x => a_v49_0 (ix3 H t x)) Finset.univ := by
  pointwise

/-- A score. -/
theorem at_v49_0 (a_v49_1 : IVec S8x2048x2048 1) (a_v2 : FVec Ideal S2048x8x128 .f32) (a_v33 : FVec Ideal S2048x8x64 .f32) (a_v1 : FVec Ideal S8x2048x64 .f32) (a_v35 : FVec Ideal S_ .f32) (a_arg1 : FVec Ideal S2048x8x128 .f32) (H : Fin 8) (t K : Fin 2048) :
    (select a_v49_1 (mulf (addf (Host.dotGeneral dot_S2048x8x128_S2048x8x128_S8x2048x2048_2_2_0_0_1_1 none a_v2 a_arg1) (Host.dotGeneral dot_S2048x8x64_S8x2048x64_S8x2048x2048_2_2_0_1_1_0 none a_v33 a_v1)) (broadcastInDim S8x2048x2048 ![] bcast_S_S8x2048x2048 a_v35)) (broadcastInDim S8x2048x2048 ![] bcast_S_S8x2048x2048 (id (constant S_ .f32 0xFF800000#32)))) (ix3 H t K) = Scalar.select (a_v49_1 (ix3 H t K)) ((∑ x : Fin 128, a_v2 (ix3 t H x) * a_arg1 (ix3 K H x) + ∑ x : Fin 64, a_v33 (ix3 t H x) * a_v1 (ix3 H K x)) * a_v35 ix0) (Ideal.ofBits .f32 0xFF800000#32) := by
  pointwise
  rfl

/-- A score's exponential. -/
theorem at_v70 (a_v49_0 : FVec Ideal S8x2048x2048 .f32) (a_v50 : FVec Ideal S8x2048 .f32) (H : Fin 8) (t K : Fin 2048) :
    (Host.exp (subf a_v49_0 (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) a_v50))))) (ix3 H t K) = Ideal.exp (a_v49_0 (ix3 H t K) - max (Ideal.ofBits FTy.f32 0xFF800000#32) (a_v50 (ix2 H t))) := by
  pointwise

/-- A row's sum. -/
theorem at_v72 (a_v70 : FVec Ideal S8x2048x2048 .f32) (H : Fin 8) (t : Fin 2048) :
    (broadcastInDim S8x2048x1 ![0, 1] bcast_S8x2048_S8x2048x1_0_1 (Host.reduceAdd a_v70 (constant S_ .f32 0x00000000#32) reducesTo_S8x2048x2048_S8x2048_d2 h_S_)) (ix3 H t 0) = ∑ x : Fin 2048, a_v70 (ix3 H t x) := by
  pointwise

/-- A weight. -/
theorem at_v74 (a_v70 : FVec Ideal S8x2048x2048 .f32) (a_v72 : FVec Ideal S8x2048x1 .f32) (H : Fin 8) (t K : Fin 2048) :
    (Host.divf a_v70 (broadcastInDim S8x2048x2048 ![0, 1, 2] bcast_S8x2048x1_S8x2048x2048_0_1_2 a_v72)) (ix3 H t K) = Ideal.div (a_v70 (ix3 H t K)) (a_v72 (ix3 H t 0)) := by
  pointwise

/-- The output's gradient by heads. -/
theorem at_v82 (a_arg5 : FVec Ideal S2048x1024 .f32) (H : Fin 8) (d : Fin 128) (t : Fin 2048) :
    (transpose S8x128x2048 [1, 2, 0] (shapeCast _ a_arg5 shapeCasts_S2048x1024_S2048x8x128) transposes_S2048x8x128_S8x128x2048_1_2_0) (ix3 H d t) = a_arg5 (ix2 t ⟨H.val * 128 + d.val, by omega⟩) := by
  pointwise

/-- A weight's gradient. -/
theorem at_v83 (a_v82 : FVec Ideal S8x128x2048 .f32) (a_arg3 : FVec Ideal S2048x8x128 .f32) (H : Fin 8) (t K : Fin 2048) :
    (Host.dotGeneral dot_S8x128x2048_S2048x8x128_S8x2048x2048_1_2_2_0_0_1 none a_v82 a_arg3) (ix3 H t K) = ∑ x : Fin 128, a_v82 (ix3 H x t) * a_arg3 (ix3 K H x) := by
  pointwise

/-- A score's gradient. -/
theorem at_v100 (a_v49_1 : IVec S8x2048x2048 1) (a_v83 : FVec Ideal S8x2048x2048 .f32) (a_v72 : FVec Ideal S8x2048x1 .f32) (a_v70 : FVec Ideal S8x2048x2048 .f32) (a_v35 : FVec Ideal S_ .f32) (H : Fin 8) (t K : Fin 2048) :
    (mulf (select a_v49_1 (mulf (addf (Host.divf a_v83 (broadcastInDim S8x2048x2048 ![0, 1, 2] bcast_S8x2048x1_S8x2048x2048_0_1_2 a_v72)) (broadcastInDim S8x2048x2048 ![0, 1] bcast_S8x2048_S8x2048x2048_0_1 (Host.reduceAdd (Host.negf (shapeCast _ (Host.reduceAdd (mulf (mulf a_v83 (broadcastInDim S8x2048x2048 ![0, 1, 2] bcast_S8x2048x1_S8x2048x2048_0_1_2 (Host.divf (broadcastInDim S8x2048x1 ![] bcast_S_S8x2048x1 (constant S_ .f32 0x3F800000#32)) (mulf a_v72 a_v72)))) a_v70) (constant S_ .f32 0x00000000#32) reducesTo_S8x2048x2048_S8x2048_d2 h_S_) shapeCasts_S8x2048_S8x2048x1)) (constant S_ .f32 0x00000000#32) reducesTo_S8x2048x1_S8x2048_d2 h_S_))) a_v70) (broadcastInDim S8x2048x2048 ![] bcast_S_S8x2048x2048 (constant S_ .f32 0x00000000#32))) (broadcastInDim S8x2048x2048 ![] bcast_S_S8x2048x2048 a_v35)) (ix3 H t K) = Scalar.select (a_v49_1 (ix3 H t K))
      ((Ideal.div (a_v83 (ix3 H t K)) (a_v72 (ix3 H t 0))
          + ∑ _x : Fin 1, -∑ x : Fin 2048, a_v83 (ix3 H t x) * Ideal.div 1 (a_v72 (ix3 H t 0) * a_v72 (ix3 H t 0)) * a_v70 (ix3 H t x))
        * a_v70 (ix3 H t K) * a_v35 ix0) 0 := by
  pointwise

/-- The rotated lanes' gradient. -/
theorem at_v103 (a_v100 : FVec Ideal S8x2048x2048 .f32) (a_v1 : FVec Ideal S8x2048x64 .f32) (t : Fin 2048) (H : Fin 8) (d : Fin 64) :
    (transpose S2048x8x64 [1, 0, 2] (Host.dotGeneral dot_S8x2048x2048_S8x2048x64_S8x2048x64_2_1_1_2_0_0 none a_v100 a_v1) transposes_S8x2048x64_S2048x8x64_1_0_2) (ix3 t H d) = ∑ x : Fin 2048, a_v100 (ix3 H t x) * a_v1 (ix3 H x d) := by
  pointwise

/-- The keys' gradient. -/
theorem at_v134 (a_v100 : FVec Ideal S8x2048x2048 .f32) (a_v2 : FVec Ideal S2048x8x128 .f32) (K : Fin 2048) (H : Fin 8) (d : Fin 128) :
    (truncf .bf16 (shapeCast _ (transpose S2048x8x128 [1, 0, 2] (Host.dotGeneral dot_S8x2048x2048_S2048x8x128_S8x2048x128_1_0_2_2_0_1 none a_v100 a_v2) transposes_S8x2048x128_S2048x8x128_1_0_2) shapeCasts_S2048x8x128_S2048x1024) bitsLt_bf16_f32) (ix2 K (⟨H.val * 128 + d.val, by omega⟩ : Fin 1024)) = ∑ x : Fin 2048, a_v100 (ix3 H x K) * a_v2 (ix3 x H d) := by
  pointwise

/-- The values' gradient. -/
theorem at_v136 (a_v82 : FVec Ideal S8x128x2048 .f32) (a_v74 : FVec Ideal S8x2048x2048 .f32) (K : Fin 2048) (H : Fin 8) (d : Fin 128) :
    (truncf .bf16 (shapeCast _ (transpose S2048x8x128 [2, 0, 1] (Host.dotGeneral dot_S8x128x2048_S8x2048x2048_S8x128x2048_2_1_1_2_0_0 none a_v82 a_v74) transposes_S8x128x2048_S2048x8x128_2_0_1) shapeCasts_S2048x8x128_S2048x1024) bitsLt_bf16_f32) (ix2 K (⟨H.val * 128 + d.val, by omega⟩ : Fin 1024)) = ∑ x : Fin 2048, a_v82 (ix3 H d x) * a_v74 (ix3 H x K) := by
  pointwise

/-- The shared keys' gradient by heads. -/
theorem at_v131 (a_v100 : FVec Ideal S8x2048x2048 .f32) (a_v33 : FVec Ideal S2048x8x64 .f32) (H : Fin 8) (K : Fin 2048) (d : Fin 128) :
    (concatenate S8x2048x128 2 [⟨S8x2048x64, (Host.dotGeneral dot_S8x2048x2048_S2048x8x64_S8x2048x64_1_0_2_2_0_1 none a_v100 a_v33)⟩, ⟨S8x2048x64, (broadcastInDim S8x2048x64 ![] bcast_S_S8x2048x64 (constant S_ .f32 0x00000000#32))⟩] concatenates_S8x2048x64_S8x2048x64_S8x2048x128_d2) (ix3 H K d) = if h : d.val < 64 then ∑ x : Fin 2048, a_v100 (ix3 H x K) * a_v33 (ix3 x H ⟨d.val, h⟩) else 0 := by
  pointwise

/-- The queries' gradient. -/
theorem at_v132 (a_v109 : FVec Ideal S2048x8x32 .f32) (a_v18 : FVec Ideal S2048x1x32 .f32) (a_v108 : FVec Ideal S2048x8x32 .f32) (a_v20 : FVec Ideal S2048x1x32 .f32) (a_v100 : FVec Ideal S8x2048x2048 .f32) (a_arg1 : FVec Ideal S2048x8x128 .f32) (H : Fin 8) (t : Fin 2048) (l : Fin 256) :
    (truncf .bf16 (transpose S8x2048x256 [1, 0, 2] (concatenate S2048x8x256 2 [⟨S2048x8x192, (addf (pad S2048x8x192 ![0, 0, 128] ![0, 0, 0] ![0, 0, 0] (addf (pad S2048x8x64 ![0, 0, 32] ![0, 0, 0] ![0, 0, 0] (addf (mulf a_v109 (broadcastInDim S2048x8x32 ![0, 1, 2] bcast_S2048x1x32_S2048x8x32_0_1_2 a_v18)) (mulf (Host.negf a_v108) (broadcastInDim S2048x8x32 ![0, 1, 2] bcast_S2048x1x32_S2048x8x32_0_1_2 a_v20))) (constant S_ .f32 0x00000000#32) pads_S2048x8x32_S2048x8x64_000_000_3200 h_S_) (pad S2048x8x64 ![0, 0, 0] ![0, 0, 32] ![0, 0, 0] (addf (mulf a_v109 (broadcastInDim S2048x8x32 ![0, 1, 2] bcast_S2048x1x32_S2048x8x32_0_1_2 a_v20)) (mulf a_v108 (broadcastInDim S2048x8x32 ![0, 1, 2] bcast_S2048x1x32_S2048x8x32_0_1_2 a_v18))) (constant S_ .f32 0x00000000#32) pads_S2048x8x32_S2048x8x64_000_000_0320 h_S_)) (constant S_ .f32 0x00000000#32) pads_S2048x8x64_S2048x8x192_000_000_12800 h_S_) (pad S2048x8x192 ![0, 0, 0] ![0, 0, 64] ![0, 0, 0] (transpose S2048x8x128 [1, 0, 2] (Host.dotGeneral dot_S8x2048x2048_S2048x8x128_S8x2048x128_2_0_1_2_0_1 none a_v100 a_arg1) transposes_S8x2048x128_S2048x8x128_1_0_2) (constant S_ .f32 0x00000000#32) pads_S2048x8x128_S2048x8x192_000_000_0640 h_S_))⟩, ⟨S2048x8x64, (broadcastInDim S2048x8x64 ![] bcast_S_S2048x8x64 (constant S_ .f32 0x00000000#32))⟩] concatenates_S2048x8x192_S2048x8x64_S2048x8x256_d2) transposes_S2048x8x256_S8x2048x256_1_0_2) bitsLt_bf16_f32) (ix3 H t l) = if h : l.val < 192 then
      (if h1 : 128 ≤ l.val ∧ l.val - 128 < 64 then
          (if h2 : 32 ≤ l.val - 128 ∧ l.val - 128 - 32 < 32 then
              a_v109 (ix3 t H ⟨l.val - 128 - 32, by omega⟩) * a_v18 (ix3 t 0 ⟨l.val - 128 - 32, by omega⟩)
                + -a_v108 (ix3 t H ⟨l.val - 128 - 32, by omega⟩) * a_v20 (ix3 t 0 ⟨l.val - 128 - 32, by omega⟩)
            else 0)
            + if h2 : l.val - 128 < 32 then
                a_v109 (ix3 t H ⟨l.val - 128, by omega⟩) * a_v20 (ix3 t 0 ⟨l.val - 128, by omega⟩)
                  + a_v108 (ix3 t H ⟨l.val - 128, by omega⟩) * a_v18 (ix3 t 0 ⟨l.val - 128, by omega⟩)
              else 0
        else 0)
        + if h1 : l.val < 128 then ∑ x : Fin 2048, a_v100 (ix3 H t x) * a_arg1 (ix3 x H ⟨l.val, h1⟩) else 0
    else 0 := by
  pointwise

/-- A small word is not negative. -/
theorem msb_small (n : ℕ) (h : n < 2048) : (BitVec.ofNat 32 n).msb = false := by
  rw [BitVec.msb_eq_false_iff_two_mul_lt, BitVec.toNat_ofNat]
  omega

theorem div_small (n : ℕ) (h : n < 2048) : IntOp.divsi .host (BitVec.ofNat 32 n) 64#32 = BitVec.ofNat 32 (n / 64) := by
  unfold IntOp.divsi
  rw [if_neg (by unfold IntOp.SDivCorner; rintro (h | ⟨-, h⟩) <;> exact absurd h (by decide)), BitVec.sdiv_eq, msb_small n h, show (64#32).msb = false by decide]
  apply BitVec.eq_of_toNat_eq
  show (BitVec.ofNat 32 n / 64#32).toNat = _
  rw [BitVec.toNat_udiv, BitVec.toNat_ofNat, BitVec.toNat_ofNat, BitVec.toNat_ofNat, show (64 : ℕ) % 2 ^ 32 = 64 from rfl]
  omega

theorem rem_zero : IntOp.remsi .host 0#32 64#32 = 0#32 := by
  unfold IntOp.remsi
  rw [if_neg (by unfold IntOp.SDivCorner; rintro (h | ⟨-, h⟩) <;> exact absurd h (by decide))]
  decide

theorem floor_small (n : ℕ) (h : n < 2048) :
    Scalar.select
      (IntOp.andi
        (IntOp.cmpi CmpIPredicate.ne (if BitVec.ofNat 32 n = 0 then (0 : BitVec 32) else if (BitVec.ofNat 32 n).msb = true then -1 else 1)
          (if 64#32 = 0 then (0 : BitVec 32) else if BitVec.msb 64#32 = true then -1 else 1))
        (IntOp.cmpi CmpIPredicate.ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32) = BitVec.ofNat 32 (n / 64) := by
  rw [div_small n h]
  by_cases hk : n = 0
  · subst hk
    rw [rem_zero]
    rfl
  · have h0 : BitVec.ofNat 32 n ≠ 0 := by
      intro h
      have := congrArg BitVec.toNat h
      rw [BitVec.toNat_ofNat] at this
      have h2 : n % 2 ^ 32 = 0 := this
      omega
    rw [if_neg h0, msb_small n h, if_neg (by decide), if_neg (by decide), if_neg (by decide)]
    show Scalar.select (0#1 &&& _) _ _ = _
    rw [BitVec.zero_and]
    rfl

/-- The block of 64 that a position lies in. -/
theorem at_v42 (X : Valuation τ sig (Elt Ideal)) (k : Fin 2048) : res_main_v42 X (ix1 k) = BitVec.ofNat 32 (k.val / 64) := by
  unfold res_main_v42
  pointwise [res_main_call0_v2, res_main_call0_v0, res_main_v41]
  exact floor_small k.val k.isLt

/-- The mask. -/
theorem at_v49_1 (X : Valuation τ sig (Elt Ideal)) (H : Fin 8) (t K : Fin 2048) :
    res_main_v49_1 X (ix3 H t K) = if K.val / 64 ≤ t.val / 64 then 1#1 else 0#1 := by
  unfold res_main_v49_1
  pointwise
  rw [at_v42, at_v42]
  unfold IntOp.cmpi
  simp only []
  have h : (BitVec.ofNat 32 (K.val / 64)).sle (BitVec.ofNat 32 (t.val / 64)) = decide (K.val / 64 ≤ t.val / 64) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_le]
  rw [h]
  by_cases hv : K.val / 64 ≤ t.val / 64
  · rw [if_pos hv, decide_eq_true hv]
    rfl
  · rw [if_neg hv, decide_eq_false hv]
    rfl

/-- The queries. -/
abbrev argQ (X : Valuation τ sig (Elt Ideal)) : S2048x8x192.Idx → EReal := X (Proc.devRef .tc main_arg0)

/-- The rotated query lanes. -/
theorem at_v33 (X : Valuation τ sig (Elt Ideal)) (t : Fin 2048) (H : Fin 8) (d : Fin 64) : res_main_v33 X (ix3 t H d) =
    if h : d.val < 32 then
      (argQ X (ix3 t H ⟨128 + d.val, by omega⟩) : EReal) * Ideal.cos (res_main_v16 X (ix2 t ⟨d.val, h⟩))
        - (argQ X (ix3 t H ⟨128 + (32 + d.val), by omega⟩) : EReal) * Ideal.sin (res_main_v16 X (ix2 t ⟨d.val, h⟩))
    else
      (argQ X (ix3 t H ⟨128 + (32 + (d.val - 32)), by omega⟩) : EReal) * Ideal.cos (res_main_v16 X (ix2 t ⟨d.val - 32, by omega⟩))
        + (argQ X (ix3 t H ⟨128 + (d.val - 32), by omega⟩) : EReal) * Ideal.sin (res_main_v16 X (ix2 t ⟨d.val - 32, by omega⟩)) := by
  unfold res_main_v33
  pointwise [res_main_v21, res_main_v22, res_main_v20, res_main_v18, res_main_v3]

/-- The rotation angles. -/
theorem at_v16 (X : Valuation τ sig (Elt Ideal)) (t : Fin 2048) (d : Fin 32) : res_main_v16 X (ix2 t d) =
    FloatOps.sitofp (F := Ideal) FTy.f32 (X (Proc.devRef .tc main_arg4) (ix1 t)) * Ideal.div 1
      (Ideal.pow (Ideal.ofBits FTy.f32 0x461C4000#32) (Ideal.div (FloatOps.sitofp (F := Ideal) FTy.f32 (BitVec.ofNat 32 d.val)) (Ideal.ofBits FTy.f32 0x42000000#32))) := by
  unfold res_main_v16
  pointwise

theorem at_v18 (X : Valuation τ sig (Elt Ideal)) (t : Fin 2048) (d : Fin 32) : res_main_v18 X (ix3 t 0 d) = Ideal.cos (res_main_v16 X (ix2 t d)) := by
  unfold res_main_v18
  pointwise

theorem at_v20 (X : Valuation τ sig (Elt Ideal)) (t : Fin 2048) (d : Fin 32) : res_main_v20 X (ix3 t 0 d) = Ideal.sin (res_main_v16 X (ix2 t d)) := by
  unfold res_main_v20
  pointwise

theorem at_v2 (X : Valuation τ sig (Elt Ideal)) (t : Fin 2048) (H : Fin 8) (d : Fin 128) :
    res_main_v2 X (ix3 t H d) = (argQ X (ix3 t H ⟨d.val, by omega⟩) : EReal) := by
  unfold res_main_v2
  pointwise

theorem at_v1 (X : Valuation τ sig (Elt Ideal)) (H : Fin 8) (K : Fin 2048) (d : Fin 64) :
    res_main_v1 X (ix3 H K d) = X (Proc.devRef .tc main_arg2) (ix2 K d) := by
  unfold res_main_v1
  pointwise

theorem at_v35 (X : Valuation τ sig (Elt Ideal)) : res_main_v35 X ix0 = Ideal.div 1 (Ideal.sqrt (Ideal.ofBits FTy.f32 0x43400000#32)) := by
  unfold res_main_v35
  pointwise

theorem at_v108 (X : Valuation τ sig (Elt Ideal)) (t : Fin 2048) (H : Fin 8) (d : Fin 32) :
    res_main_v108 X (ix3 t H d) = res_main_v103 X (ix3 t H ⟨d.val, by omega⟩) := by
  unfold res_main_v108
  generalize res_main_v103 X = a
  pointwise

theorem at_v109 (X : Valuation τ sig (Elt Ideal)) (t : Fin 2048) (H : Fin 8) (d : Fin 32) :
    res_main_v109 X (ix3 t H d) = res_main_v103 X (ix3 t H ⟨32 + d.val, by omega⟩) := by
  unfold res_main_v109
  generalize res_main_v103 X = a
  pointwise

end Cert.AttnBwd

end
-- ==== Proof.Attn.Plain.lean ====
/-
  The attention of one block of causal rows over the real numbers, with its gradient: what both programs come to when every argument is real.
-/
module

public import Idealize.ShloMosaic.PureOps.Ideal
public import Mathlib.Analysis.SpecialFunctions.Pow.Real
public import Mathlib.Analysis.SpecialFunctions.Trigonometric.Basic

@[expose] public section

noncomputable section

namespace Cert.AttnBwd

open Idealize.ShloMosaic

/-- A quotient of reals with a divisor other than zero. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- A finite sum of reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- One over the square root of 192. -/
def sinv : ℝ := (Real.sqrt 192)⁻¹

/-- Real arguments: queries, keys, shared keys, values, the output's gradient, the rotation angles, and one number per row that is taken off its scores. -/
structure Ins where
  q : Fin 2048 → Fin 8 → Fin 192 → ℝ
  k : Fin 2048 → Fin 8 → Fin 128 → ℝ
  r : Fin 2048 → Fin 64 → ℝ
  v : Fin 2048 → Fin 8 → Fin 128 → ℝ
  g : Fin 2048 → Fin 8 → Fin 128 → ℝ
  w : Fin 2048 → Fin 32 → ℝ
  mx : Fin 8 → Fin 2048 → ℝ

variable (I : Ins)

/-- A query's last 64 lanes, rotated. -/
def Ins.qr (t : Fin 2048) (H : Fin 8) (d : Fin 64) : ℝ :=
  if h : d.val < 32 then
    I.q t H ⟨128 + d.val, by omega⟩ * Real.cos (I.w t ⟨d.val, h⟩) - I.q t H ⟨128 + (32 + d.val), by omega⟩ * Real.sin (I.w t ⟨d.val, h⟩)
  else
    I.q t H ⟨128 + (32 + (d.val - 32)), by omega⟩ * Real.cos (I.w t ⟨d.val - 32, by omega⟩)
      + I.q t H ⟨128 + (d.val - 32), by omega⟩ * Real.sin (I.w t ⟨d.val - 32, by omega⟩)

/-- The product of query `t` and key `K`. -/
def Ins.dot (H : Fin 8) (t K : Fin 2048) : ℝ := (∑ d : Fin 128, I.q t H ⟨d.val, by omega⟩ * I.k K H d) + ∑ d : Fin 64, I.qr t H d * I.r K d
/-- Its score. -/
def Ins.sc (H : Fin 8) (t K : Fin 2048) : ℝ := I.dot H t K * sinv
/-- A visible score's exponential, zero elsewhere. -/
def Ins.e (H : Fin 8) (t K : Fin 2048) : ℝ := if K.val / 64 ≤ t.val / 64 then Real.exp (I.sc H t K - I.mx H t) else 0
/-- A row's sum. -/
def Ins.z (H : Fin 8) (t : Fin 2048) : ℝ := ∑ K, I.e H t K
/-- A weight. -/
def Ins.p (H : Fin 8) (t K : Fin 2048) : ℝ := I.e H t K / I.z H t
/-- A weight's gradient. -/
def Ins.dp (H : Fin 8) (t K : Fin 2048) : ℝ := ∑ d, I.g t H d * I.v K H d
/-- A row's weighted sum of these. -/
def Ins.dl (H : Fin 8) (t : Fin 2048) : ℝ := ∑ K, I.p H t K * I.dp H t K
/-- A score's gradient. -/
def Ins.gs (H : Fin 8) (t K : Fin 2048) : ℝ := I.p H t K * (I.dp H t K - I.dl H t)
/-- The gradient of a query's own lanes. -/
def Ins.dqn (H : Fin 8) (t : Fin 2048) (d : Fin 128) : ℝ := ∑ K, sinv * I.gs H t K * I.k K H d
/-- The gradient of a query's rotated lanes. -/
def Ins.dqr (H : Fin 8) (t : Fin 2048) (d : Fin 64) : ℝ := ∑ K, sinv * I.gs H t K * I.r K d
/-- Turned back by the angle. -/
def Ins.dqu (H : Fin 8) (t : Fin 2048) (d : Fin 64) : ℝ :=
  if h : d.val < 32 then
    I.dqr H t ⟨32 + d.val, by omega⟩ * Real.sin (I.w t ⟨d.val, h⟩) + I.dqr H t ⟨d.val, by omega⟩ * Real.cos (I.w t ⟨d.val, h⟩)
  else
    I.dqr H t ⟨32 + (d.val - 32), by omega⟩ * Real.cos (I.w t ⟨d.val - 32, by omega⟩)
      - I.dqr H t ⟨d.val - 32, by omega⟩ * Real.sin (I.w t ⟨d.val - 32, by omega⟩)
/-- The gradient of a key's own lanes. -/
def Ins.dk (H : Fin 8) (K : Fin 2048) (d : Fin 128) : ℝ := ∑ t, sinv * I.gs H t K * I.q t H ⟨d.val, by omega⟩
/-- The gradient of a key's shared lanes, one head's part. -/
def Ins.dkr (H : Fin 8) (K : Fin 2048) (d : Fin 64) : ℝ := ∑ t, sinv * I.gs H t K * I.qr t H d
/-- The gradient of a value. -/
def Ins.dv (H : Fin 8) (K : Fin 2048) (d : Fin 128) : ℝ := ∑ t, I.p H t K * I.g t H d

theorem Ins.e_nonneg (H : Fin 8) (t K : Fin 2048) : 0 ≤ I.e H t K := by
  unfold Ins.e
  split
  · exact (Real.exp_pos _).le
  · exact le_rfl

/-- A row sees itself. -/
theorem Ins.z_pos (H : Fin 8) (t : Fin 2048) : 0 < I.z H t := by
  unfold Ins.z
  refine Finset.sum_pos' (fun K _ => I.e_nonneg H t K) ⟨t, Finset.mem_univ t, ?_⟩
  unfold Ins.e
  rw [if_pos le_rfl]
  exact Real.exp_pos _

theorem Ins.z_ne (H : Fin 8) (t : Fin 2048) : I.z H t ≠ 0 := (I.z_pos H t).ne'

/-- The score's gradient as the rule for a quotient gives it. -/
theorem Ins.gs_quot (H : Fin 8) (t K : Fin 2048) :
    (I.dp H t K / I.z H t + -∑ L, I.dp H t L * (1 / (I.z H t * I.z H t)) * I.e H t L) * I.e H t K * sinv = sinv * I.gs H t K := by
  have hz := I.z_ne H t
  have h : ∑ L, I.dp H t L * (1 / (I.z H t * I.z H t)) * I.e H t L = I.dl H t / I.z H t := by
    unfold Ins.dl Ins.p
    rw [Finset.sum_div]
    refine Finset.sum_congr rfl fun L _ => ?_
    field_simp
  rw [h]
  unfold Ins.gs Ins.p
  field_simp
  ring

theorem Ins.gs_hidden (H : Fin 8) (t K : Fin 2048) (h : ¬K.val / 64 ≤ t.val / 64) : I.gs H t K = 0 := by
  unfold Ins.gs Ins.p Ins.e
  rw [if_neg h, zero_div, zero_mul]

end Cert.AttnBwd

end
-- ==== Proof.Attn.RefValue.lean ====
/-
  The reference's arrays when its arguments are real: every entry is the real number that the attention and its gradient come to.
-/
module

public import proofs.«01_k».proof.Proof.Attn.RefRead
public import proofs.«01_k».proof.Proof.Attn.Plain

@[expose] public section

set_option maxRecDepth 16384

noncomputable section

namespace Cert.AttnBwd

open Cert.AttnRefIdeal Cert.AttnRefIdeal.Gen Cert.AttnRefIdeal.Value Idealize.ShloMosaic Idealize.ShloMosaic.TcCoe Idealize.SL.Sem

/-- The keys, the shared keys, the values and the output's gradient. -/
abbrev argK (X : Valuation τ sig (Elt Ideal)) : S2048x8x128.Idx → EReal := X (Proc.devRef .tc main_arg1)
abbrev argR (X : Valuation τ sig (Elt Ideal)) : S2048x64.Idx → EReal := X (Proc.devRef .tc main_arg2)
abbrev argV (X : Valuation τ sig (Elt Ideal)) : S2048x8x128.Idx → EReal := X (Proc.devRef .tc main_arg3)
abbrev argG (X : Valuation τ sig (Elt Ideal)) : S2048x1024.Idx → EReal := X (Proc.devRef .tc main_arg5)

/-- The reference's arrays, with extended reals for entries. -/
abbrev r1 (X : Valuation τ sig (Elt Ideal)) : S8x2048x64.Idx → EReal := res_main_v1 X
abbrev r2 (X : Valuation τ sig (Elt Ideal)) : S2048x8x128.Idx → EReal := res_main_v2 X
abbrev r16 (X : Valuation τ sig (Elt Ideal)) : S2048x32.Idx → EReal := res_main_v16 X
abbrev r33 (X : Valuation τ sig (Elt Ideal)) : S2048x8x64.Idx → EReal := res_main_v33 X
abbrev r49 (X : Valuation τ sig (Elt Ideal)) : S8x2048x2048.Idx → EReal := res_main_v49_0 X
abbrev r50 (X : Valuation τ sig (Elt Ideal)) : S8x2048.Idx → EReal := res_main_v50 X
abbrev r70 (X : Valuation τ sig (Elt Ideal)) : S8x2048x2048.Idx → EReal := res_main_v70 X
abbrev r72 (X : Valuation τ sig (Elt Ideal)) : S8x2048x1.Idx → EReal := res_main_v72 X
abbrev r74 (X : Valuation τ sig (Elt Ideal)) : S8x2048x2048.Idx → EReal := res_main_v74 X
abbrev r82 (X : Valuation τ sig (Elt Ideal)) : S8x128x2048.Idx → EReal := res_main_v82 X
abbrev r83 (X : Valuation τ sig (Elt Ideal)) : S8x2048x2048.Idx → EReal := res_main_v83 X
abbrev r100 (X : Valuation τ sig (Elt Ideal)) : S8x2048x2048.Idx → EReal := res_main_v100 X
abbrev r103 (X : Valuation τ sig (Elt Ideal)) : S2048x8x64.Idx → EReal := res_main_v103 X

/-- The arguments and the angles are real. -/
structure Reads (X : Valuation τ sig (Elt Ideal)) (I : Ins) : Prop where
  q : ∀ t H d, argQ X (ix3 t H d) = (I.q t H d : EReal)
  k : ∀ K H d, argK X (ix3 K H d) = (I.k K H d : EReal)
  r : ∀ K d, argR X (ix2 K d) = (I.r K d : EReal)
  v : ∀ K H d, argV X (ix3 K H d) = (I.v K H d : EReal)
  g : ∀ (t : Fin 2048) (H : Fin 8) (d : Fin 128), argG X (ix2 t ⟨H.val * 128 + d.val, by omega⟩) = (I.g t H d : EReal)
  w : ∀ t d, r16 X (ix2 t d) = (I.w t d : EReal)

theorem bits_ninf : Ideal.ofBits .f32 0xFF800000#32 = ⊥ := by simp [Ideal.ofBits, Ideal.ieee]
theorem bits_192 : Ideal.ofBits .f32 0x43400000#32 = ((192 : ℝ) : EReal) := by
  simp [Ideal.ofBits, Ideal.ieee, -EReal.coe_mul]
  norm_num
theorem bits_2 : Ideal.ofBits .f32 0x40000000#32 = ((2 : ℝ) : EReal) := by
  simp [Ideal.ofBits, Ideal.ieee, -EReal.coe_mul]
  norm_num
theorem bits_32 : Ideal.ofBits .f32 0x42000000#32 = ((32 : ℝ) : EReal) := by
  simp [Ideal.ofBits, Ideal.ieee, -EReal.coe_mul]
  norm_num
theorem bits_base : Ideal.ofBits .f32 0x461C4000#32 = ((10000 : ℝ) : EReal) := by
  simp [Ideal.ofBits, Ideal.ieee, -EReal.coe_mul]
  norm_num

theorem sqrt_192 : Ideal.sqrt ((192 : ℝ) : EReal) = ((Real.sqrt 192 : ℝ) : EReal) := by
  show (if (192 : ℝ) < 0 then (⊥ : EReal) else _) = _
  rw [if_neg (by norm_num)]

theorem sqrt_192_ne : Real.sqrt 192 ≠ 0 := (Real.sqrt_pos.2 (by norm_num)).ne'

theorem sinv_host : Ideal.div 1 (Ideal.sqrt (Ideal.ofBits .f32 0x43400000#32)) = (sinv : EReal) := by
  rw [bits_192, sqrt_192, ← EReal.coe_one, div_coe _ _ sqrt_192_ne, one_div]
  rfl

variable (X : Valuation τ sig (Elt Ideal)) (I : Ins)

/-- The angles are real whatever the positions. -/
theorem angle_real (t : Fin 2048) (d : Fin 32) : ∃ w : ℝ, r16 X (ix2 t d) = (w : EReal) := by
  show ∃ w : ℝ, res_main_v16 X (ix2 t d) = (w : EReal)
  rw [at_v16, bits_base, bits_32]
  have h : Ideal.div (FloatOps.sitofp (F := Ideal) FTy.f32 (BitVec.ofNat 32 d.val)) ((32 : ℝ) : EReal)
      = (((BitVec.ofNat 32 d.val).toInt / 32 : ℝ) : EReal) := div_coe _ _ (by norm_num)
  rw [h]
  have h2 : Ideal.pow ((10000 : ℝ) : EReal) (((BitVec.ofNat 32 d.val).toInt / 32 : ℝ) : EReal)
      = (((10000 : ℝ) ^ ((BitVec.ofNat 32 d.val).toInt / 32 : ℝ) : ℝ) : EReal) := rfl
  rw [h2, ← EReal.coe_one, div_coe _ _ (Real.rpow_pos_of_pos (by norm_num) _).ne']
  exact ⟨_, (EReal.coe_mul _ _).symm⟩

variable {X I} (h : Reads X I)
include h

theorem v33_real (t : Fin 2048) (H : Fin 8) (d : Fin 64) : r33 X (ix3 t H d) = (I.qr t H d : EReal) := by
  have hw : ∀ t d, res_main_v16 X (ix2 t d) = (I.w t d : EReal) := h.w
  refine (at_v33 X t H d).trans ?_
  unfold Ins.qr
  by_cases hd : d.val < 32
  · rw [dif_pos hd, dif_pos hd, h.q, h.q, hw, EReal.coe_sub, EReal.coe_mul, EReal.coe_mul]
    rfl
  · rw [dif_neg hd, dif_neg hd, h.q, h.q, hw, EReal.coe_add, EReal.coe_mul, EReal.coe_mul]
    rfl

theorem v49_real (H : Fin 8) (t K : Fin 2048) :
    r49 X (ix3 H t K) = if K.val / 64 ≤ t.val / 64 then (I.sc H t K : EReal) else ⊥ := by
  have e : r49 X (ix3 H t K) = Scalar.select (res_main_v49_1 X (ix3 H t K)) ((∑ x : Fin 128, r2 X (ix3 t H x) * argK X (ix3 K H x)
      + ∑ x : Fin 64, r33 X (ix3 t H x) * r1 X (ix3 H K x)) * (res_main_v35 X ix0 : EReal)) (Ideal.ofBits .f32 0xFF800000#32) := at_v49_0 ..
  rw [e, at_v49_1, at_v35, sinv_host, bits_ninf]
  by_cases hv : K.val / 64 ≤ t.val / 64
  · rw [if_pos hv, if_pos hv]
    have e1 : ∑ x : Fin 128, r2 X (ix3 t H x) * argK X (ix3 K H x) = ((∑ d : Fin 128, I.q t H ⟨d.val, by omega⟩ * I.k K H d : ℝ) : EReal) := by
      rw [← sum_coe]
      refine Finset.sum_congr rfl fun x _ => ?_
      rw [h.k, EReal.coe_mul]
      exact congrArg (fun u : EReal => u * _) ((at_v2 X t H x).trans (h.q t H ⟨x.val, by omega⟩))
    have e2 : ∑ x : Fin 64, r33 X (ix3 t H x) * r1 X (ix3 H K x) = ((∑ d : Fin 64, I.qr t H d * I.r K d : ℝ) : EReal) := by
      rw [← sum_coe]
      refine Finset.sum_congr rfl fun x _ => ?_
      rw [v33_real h, EReal.coe_mul]
      exact congrArg (fun u : EReal => _ * u) ((at_v1 X H K x).trans (h.r K x))
    rw [e1, e2]
    unfold Ins.sc Ins.dot
    rw [EReal.coe_mul, EReal.coe_add]
    rfl
  · rw [if_neg hv, if_neg hv]
    rfl

/-- A row's greatest score is real. -/
theorem v50_real (H : Fin 8) (t : Fin 2048) : ∃ M : ℝ, r50 X (ix2 H t) = (M : EReal) := by
  have e : r50 X (ix2 H t) = Finset.fold max (Ideal.ofBits FTy.f32 0xFF800000#32) (fun x => r49 X (ix3 H t x)) Finset.univ := at_v50 ..
  rw [e, bits_ninf]
  have h1 : Finset.fold max (⊥ : EReal) (fun x => r49 X (ix3 H t x)) Finset.univ < ⊤ := by
    rw [Finset.fold_max_lt]
    refine ⟨bot_lt_top, fun x _ => ?_⟩
    rw [v49_real h]
    split
    · exact EReal.coe_lt_top _
    · exact bot_lt_top
  have h2 : ⊥ < Finset.fold max (⊥ : EReal) (fun x => r49 X (ix3 H t x)) Finset.univ := by
    rw [Finset.lt_fold_max]
    refine Or.inr ⟨t, Finset.mem_univ t, ?_⟩
    rw [v49_real h, if_pos le_rfl]
    exact EReal.bot_lt_coe _
  exact ⟨_, (EReal.coe_toReal h1.ne h2.ne').symm⟩

variable (hm : ∀ H t, r50 X (ix2 H t) = (I.mx H t : EReal))
include hm

/-- The exponential of a score less the row's greatest. -/
theorem exp_real (H : Fin 8) (t K : Fin 2048) : Ideal.exp (r49 X (ix3 H t K) - (I.mx H t : EReal)) = (I.e H t K : EReal) := by
  rw [v49_real h]
  unfold Ins.e
  by_cases hv : K.val / 64 ≤ t.val / 64
  · rw [if_pos hv, if_pos hv, ← EReal.coe_sub]
    rfl
  · rw [if_neg hv, if_neg hv, sub_eq_add_neg, EReal.bot_add]
    rfl

theorem v70_real (H : Fin 8) (t K : Fin 2048) : r70 X (ix3 H t K) = (I.e H t K : EReal) := by
  have e : r70 X (ix3 H t K) = Ideal.exp (r49 X (ix3 H t K) - max (Ideal.ofBits FTy.f32 0xFF800000#32) (r50 X (ix2 H t))) := at_v70 ..
  rw [e, hm, bits_ninf, max_eq_right bot_le]
  exact exp_real h hm H t K

theorem v72_real (H : Fin 8) (t : Fin 2048) : r72 X (ix3 H t 0) = (I.z H t : EReal) := by
  have e : r72 X (ix3 H t 0) = ∑ x : Fin 2048, r70 X (ix3 H t x) := at_v72 ..
  rw [e]
  unfold Ins.z
  rw [← sum_coe]
  exact Finset.sum_congr rfl fun x _ => v70_real h hm H t x

theorem v74_real (H : Fin 8) (t K : Fin 2048) : r74 X (ix3 H t K) = (I.p H t K : EReal) := by
  have e : r74 X (ix3 H t K) = Ideal.div (r70 X (ix3 H t K)) (r72 X (ix3 H t 0)) := at_v74 ..
  rw [e, v70_real h hm, v72_real h hm, div_coe _ _ (I.z_ne H t)]
  rfl

omit hm in
theorem v82_real (H : Fin 8) (d : Fin 128) (t : Fin 2048) : r82 X (ix3 H d t) = (I.g t H d : EReal) := by
  have e : r82 X (ix3 H d t) = argG X (ix2 t ⟨H.val * 128 + d.val, by omega⟩) := at_v82 ..
  rw [e]
  exact h.g t H d

omit hm in
theorem v83_real (H : Fin 8) (t K : Fin 2048) : r83 X (ix3 H t K) = (I.dp H t K : EReal) := by
  have e : r83 X (ix3 H t K) = ∑ x : Fin 128, r82 X (ix3 H x t) * argV X (ix3 K H x) := at_v83 ..
  rw [e]
  unfold Ins.dp
  rw [← sum_coe]
  refine Finset.sum_congr rfl fun x _ => ?_
  rw [v82_real h, h.v, EReal.coe_mul]

theorem v100_real (H : Fin 8) (t K : Fin 2048) : r100 X (ix3 H t K) = ((sinv * I.gs H t K : ℝ) : EReal) := by
  have e : r100 X (ix3 H t K) = Scalar.select (res_main_v49_1 X (ix3 H t K))
      ((Ideal.div (r83 X (ix3 H t K)) (r72 X (ix3 H t 0))
          + ∑ _x : Fin 1, -∑ x : Fin 2048, r83 X (ix3 H t x) * Ideal.div 1 (r72 X (ix3 H t 0) * r72 X (ix3 H t 0)) * r70 X (ix3 H t x))
        * r70 X (ix3 H t K) * (res_main_v35 X ix0 : EReal)) 0 := at_v100 ..
  rw [e, at_v49_1, at_v35, sinv_host]
  by_cases hv : K.val / 64 ≤ t.val / 64
  · rw [if_pos hv, ← I.gs_quot H t K]
    have e1 : ∑ x : Fin 2048, r83 X (ix3 H t x) * Ideal.div 1 (r72 X (ix3 H t 0) * r72 X (ix3 H t 0)) * r70 X (ix3 H t x)
        = ((∑ L, I.dp H t L * (1 / (I.z H t * I.z H t)) * I.e H t L : ℝ) : EReal) := by
      rw [← sum_coe]
      refine Finset.sum_congr rfl fun x _ => ?_
      rw [v83_real h, v72_real h hm, v70_real h hm, ← EReal.coe_mul, ← EReal.coe_one, div_coe _ _ (mul_ne_zero (I.z_ne H t) (I.z_ne H t)), ← EReal.coe_mul, ← EReal.coe_mul]
    show (_ + _) * _ * _ = _
    rw [Fin.sum_univ_one, e1, v83_real h, v72_real h hm, v70_real h hm, div_coe _ _ (I.z_ne H t), ← EReal.coe_neg, ← EReal.coe_add, ← EReal.coe_mul, ← EReal.coe_mul]
  · rw [if_neg hv, I.gs_hidden H t K hv, mul_zero]
    rfl

theorem v103_real (t : Fin 2048) (H : Fin 8) (d : Fin 64) : r103 X (ix3 t H d) = (I.dqr H t d : EReal) := by
  have e : r103 X (ix3 t H d) = ∑ x : Fin 2048, r100 X (ix3 H t x) * r1 X (ix3 H x d) := at_v103 ..
  rw [e]
  unfold Ins.dqr
  rw [← sum_coe]
  refine Finset.sum_congr rfl fun x _ => ?_
  rw [v100_real h hm, EReal.coe_mul]
  exact congrArg (fun u : EReal => _ * u) ((at_v1 X H x d).trans (h.r x d))

/-- The reference's gradients of the keys, of a key's shared lanes and of the values, in terms of the arrays above. -/
theorem dk_real (K : Fin 2048) (H : Fin 8) (d : Fin 128) : ∑ x : Fin 2048, r100 X (ix3 H x K) * r2 X (ix3 x H d) = (I.dk H K d : EReal) := by
  unfold Ins.dk
  rw [← sum_coe]
  refine Finset.sum_congr rfl fun x _ => ?_
  rw [v100_real h hm, EReal.coe_mul]
  exact congrArg (fun u : EReal => _ * u) ((at_v2 X x H d).trans (h.q x H ⟨d.val, by omega⟩))

theorem dkr_real (K : Fin 2048) (H : Fin 8) (d : Fin 64) : ∑ x : Fin 2048, r100 X (ix3 H x K) * r33 X (ix3 x H d) = (I.dkr H K d : EReal) := by
  unfold Ins.dkr
  rw [← sum_coe]
  refine Finset.sum_congr rfl fun x _ => ?_
  rw [v100_real h hm, v33_real h, ← EReal.coe_mul]

theorem dv_real (K : Fin 2048) (H : Fin 8) (d : Fin 128) : ∑ x : Fin 2048, r82 X (ix3 H d x) * r74 X (ix3 H x K) = (I.dv H K d : EReal) := by
  unfold Ins.dv
  rw [← sum_coe]
  refine Finset.sum_congr rfl fun x _ => ?_
  rw [v82_real h, v74_real h hm, EReal.coe_mul, mul_comm]

theorem dqn_real (H : Fin 8) (t : Fin 2048) (d : Fin 128) : ∑ x : Fin 2048, r100 X (ix3 H t x) * argK X (ix3 x H d) = (I.dqn H t d : EReal) := by
  unfold Ins.dqn
  rw [← sum_coe]
  refine Finset.sum_congr rfl fun x _ => ?_
  rw [v100_real h hm, h.k, ← EReal.coe_mul]

end Cert.AttnBwd

end
-- ==== Proof.Attn.KerPlain.lean ====
/-
  What the kernel computes from host arrays that hold real numbers: the weights, the scores' gradients and the four sums over them.
-/
module

public import proofs.«01_k».proof.Proof.Attn.Blocks
public import proofs.«01_k».proof.Proof.Attn.Plain

@[expose] public section

set_option maxRecDepth 16384

noncomputable section

namespace Cert.AttnBwd

open Cert.AttnIdeal Cert.AttnIdeal.Gen Idealize.ShloMosaic Idealize.ShloMosaic.TcCoe Idealize.SL.Sem

theorem log2_ne : Real.log 2 ≠ 0 := (Real.log_pos (by norm_num)).ne'

/-- The arrays of the kernel's call hold the attention's numbers: queries are scaled by `1/√192` and by one over the logarithm of two. -/
structure Holds (Q : S8x2048x256.Idx → EReal) (KN : S2048x1024.Idx → EReal) (KR : S2048x128.Idx → EReal) (Vv O DO : S2048x1024.Idx → EReal)
    (LSE : S8x1x2048.Idx → EReal) (I : Ins) : Prop where
  qn : ∀ H t (d : Fin 128), Q (ix3 H t (lane 0 d)) = ((I.q t H ⟨d.val, by omega⟩ * (sinv / Real.log 2) : ℝ) : EReal)
  qr : ∀ H t (d : Fin 128), Q (ix3 H t (lane 1 d)) = (((if h : d.val < 64 then I.qr t H ⟨d.val, h⟩ else 0) * (sinv / Real.log 2) : ℝ) : EReal)
  k : ∀ K H d, KN (ix2 K (hcol H d)) = (I.k K H d : EReal)
  r : ∀ K (d : Fin 128), KR (ix2 K d) = ((if h : d.val < 64 then I.r K ⟨d.val, h⟩ else 0 : ℝ) : EReal)
  v : ∀ K H d, Vv (ix2 K (hcol H d)) = (I.v K H d : EReal)
  o : ∀ t H d, O (ix2 t (hcol H d)) = ((∑ K, I.v K H d * I.p H t K : ℝ) : EReal)
  g : ∀ t H d, DO (ix2 t (hcol H d)) = (I.g t H d : EReal)
  l : ∀ H t, LSE (ix3 H 0 t) = (((I.mx H t + Real.log (I.z H t)) / Real.log 2 : ℝ) : EReal)

variable {Q : S8x2048x256.Idx → EReal} {KN : S2048x1024.Idx → EReal} {KR : S2048x128.Idx → EReal} {Vv O DO : S2048x1024.Idx → EReal}
  {LSE : S8x1x2048.Idx → EReal} {I : Ins} (h : Holds Q KN KR Vv O DO LSE I)
include h

theorem gkey_own (H : Fin 8) (K : Fin 2048) (d : Fin 128) : gkey KN KR H K (lane 0 d) = (I.k K H d : EReal) := by
  unfold gkey
  rw [dif_pos (show (lane 0 d).val < 128 by show 128 * 0 + d.val < 128; omega)]
  rw [← h.k K H d]
  exact congrArg (fun x => KN (ix2 K (hcol H x))) (Fin.ext (by show 128 * 0 + d.val = d.val; omega))

theorem gkey_shared (H : Fin 8) (K : Fin 2048) (d : Fin 128) :
    gkey KN KR H K (lane 1 d) = ((if h : d.val < 64 then I.r K ⟨d.val, h⟩ else 0 : ℝ) : EReal) := by
  unfold gkey
  rw [dif_neg (show ¬(lane 1 d).val < 128 by show ¬128 * 1 + d.val < 128; omega)]
  rw [← h.r K d]
  exact congrArg (fun x => KR (ix2 K x)) (Fin.ext (by show 128 * 1 + d.val - 128 = d.val; omega))

omit h in
/-- A sum over 256 lanes by halves. -/
theorem sum_lanes (f : Fin 256 → EReal) : ∑ l, f l = ∑ d : Fin 128, f (lane 0 d) + ∑ d : Fin 128, f (lane 1 d) := by
  have e : ∑ l : Fin (128 + 128), f l = _ := Fin.sum_univ_add (a := 128) (b := 128) f
  refine e.trans (congrArg₂ (fun u v : EReal => u + v) ?_ ?_)
  · exact Finset.sum_congr rfl fun d _ => congrArg f (Fin.ext (by show d.val = 128 * 0 + d.val; omega))
  · exact Finset.sum_congr rfl fun d _ => congrArg f (Fin.ext (by show 128 + d.val = 128 * 1 + d.val; omega))

omit h in
/-- A sum over 128 lanes of which the last 64 are zero. -/
theorem sum_low (f : Fin 64 → ℝ) : ∑ d : Fin 128, (if h : d.val < 64 then f ⟨d.val, h⟩ else 0) = ∑ d, f d := by
  have e : ∑ d : Fin (64 + 64), (if h : d.val < 64 then f ⟨d.val, h⟩ else 0) = _ :=
    Fin.sum_univ_add (a := 64) (b := 64) fun d : Fin (64 + 64) => if h : d.val < 64 then f ⟨d.val, h⟩ else 0
  refine e.trans ?_
  have e1 : ∀ d : Fin 64, (if h : (Fin.castAdd 64 d).val < 64 then f ⟨(Fin.castAdd 64 d).val, h⟩ else 0) = f d := fun d => dif_pos d.isLt
  have e2 : ∀ d : Fin 64, (if h : (Fin.natAdd 64 d).val < 64 then f ⟨(Fin.natAdd 64 d).val, h⟩ else 0) = 0 := fun d =>
    dif_neg (by show ¬64 + d.val < 64; omega)
  rw [Finset.sum_congr rfl fun d _ => e1 d, Finset.sum_congr rfl fun d _ => e2 d, Finset.sum_const_zero, add_zero]

theorem gscore_real (H : Fin 8) (K t : Fin 2048) : gscore Q KN KR H K t = ((I.sc H t K / Real.log 2 : ℝ) : EReal) := by
  unfold gscore
  rw [sum_lanes]
  have e0 : ∑ d : Fin 128, gkey KN KR H K (lane 0 d) * Q (ix3 H t (lane 0 d))
      = (((∑ d : Fin 128, I.q t H ⟨d.val, by omega⟩ * I.k K H d) * (sinv / Real.log 2) : ℝ) : EReal) := by
    rw [Finset.sum_mul, ← sum_coe]
    refine Finset.sum_congr rfl fun d _ => ?_
    rw [gkey_own h, h.qn, ← EReal.coe_mul]
    exact congrArg Real.toEReal (by ring)
  have e1 : ∑ d : Fin 128, gkey KN KR H K (lane 1 d) * Q (ix3 H t (lane 1 d))
      = (((∑ d : Fin 64, I.qr t H d * I.r K d) * (sinv / Real.log 2) : ℝ) : EReal) := by
    rw [← sum_low (fun d => I.qr t H d * I.r K d), Finset.sum_mul, ← sum_coe]
    refine Finset.sum_congr rfl fun d _ => ?_
    rw [gkey_shared h, h.qr, ← EReal.coe_mul]
    refine congrArg Real.toEReal ?_
    by_cases hd : d.val < 64
    · rw [dif_pos hd, dif_pos hd, dif_pos hd]
      ring
    · rw [dif_neg hd, dif_neg hd, dif_neg hd]
      ring
  rw [e0, e1, ← EReal.coe_add]
  refine congrArg Real.toEReal ?_
  unfold Ins.sc Ins.dot
  ring

/-- The kernel's weight, taken to base two, is the softmax weight. -/
theorem gwt_real (H : Fin 8) (K t : Fin 2048) : gwt Q KN KR LSE H K t = (I.p H t K : EReal) := by
  unfold gwt
  rw [gscore_real h, h.l]
  unfold Ins.p Ins.e
  by_cases hv : K.val / 64 ≤ t.val / 64
  · rw [if_pos hv, if_pos hv, ← EReal.coe_sub]
    show ((Real.rpow 2 _ : ℝ) : EReal) = _
    refine congrArg Real.toEReal ?_
    show (2 : ℝ) ^ (I.sc H t K / Real.log 2 - (I.mx H t + Real.log (I.z H t)) / Real.log 2 : ℝ) = _
    rw [Real.rpow_def_of_pos (by norm_num)]
    have e : Real.log 2 * (I.sc H t K / Real.log 2 - (I.mx H t + Real.log (I.z H t)) / Real.log 2) = (I.sc H t K - I.mx H t) - Real.log (I.z H t) := by
      have := log2_ne
      field_simp
      ring
    rw [e, Real.exp_sub, Real.exp_log (I.z_pos H t)]
  · rw [if_neg hv, if_neg hv, sub_eq_add_neg, EReal.bot_add, zero_div]
    rfl

theorem gdl_real (H : Fin 8) (t : Fin 2048) : gdl O DO H t = (I.dl H t : EReal) := by
  unfold gdl
  have e : I.dl H t = ∑ d : Fin 128, I.g t H d * ∑ K, I.v K H d * I.p H t K := by
    unfold Ins.dl Ins.dp
    simp only [Finset.mul_sum]
    rw [Finset.sum_comm]
    refine Finset.sum_congr rfl fun d _ => Finset.sum_congr rfl fun K _ => by ring
  rw [e, ← sum_coe]
  refine Finset.sum_congr rfl fun d _ => ?_
  rw [h.g, h.o, ← EReal.coe_mul]

/-- The kernel's score gradient. -/
theorem gds_real (H : Fin 8) (K t : Fin 2048) : gds Q KN KR Vv O DO LSE H K t = (I.gs H t K : EReal) := by
  unfold gds
  have e : ∑ d : Fin 128, Vv (ix2 K (hcol H d)) * DO (ix2 t (hcol H d)) = (I.dp H t K : EReal) := by
    unfold Ins.dp
    rw [← sum_coe]
    refine Finset.sum_congr rfl fun d _ => ?_
    rw [h.v, h.g, ← EReal.coe_mul, mul_comm]
  rw [gwt_real h, gdl_real h, e, ← EReal.coe_sub, ← EReal.coe_mul]
  rfl

/-- The four sums. -/
theorem sum_dk (H : Fin 8) (K : Fin 2048) (d : Fin 128) :
    (∑ s : Fin 2048, gds Q KN KR Vv O DO LSE H K s * Q (ix3 H s (lane 0 d))) * ln2 = (I.dk H K d : EReal) := by
  have e : ∑ s : Fin 2048, gds Q KN KR Vv O DO LSE H K s * Q (ix3 H s (lane 0 d))
      = ((∑ s, I.gs H s K * (I.q s H ⟨d.val, by omega⟩ * (sinv / Real.log 2)) : ℝ) : EReal) := by
    rw [← sum_coe]
    refine Finset.sum_congr rfl fun s _ => ?_
    rw [gds_real h, h.qn, ← EReal.coe_mul]
  rw [e]
  unfold ln2 Ins.dk
  rw [← EReal.coe_mul, Finset.sum_mul]
  refine congrArg Real.toEReal (Finset.sum_congr rfl fun s _ => ?_)
  have := log2_ne
  field_simp

theorem sum_dkr (H : Fin 8) (K : Fin 2048) (d : Fin 128) :
    (∑ s : Fin 2048, gds Q KN KR Vv O DO LSE H K s * Q (ix3 H s (lane 1 d))) * ln2
      = ((if h : d.val < 64 then I.dkr H K ⟨d.val, h⟩ else 0 : ℝ) : EReal) := by
  have e : ∑ s : Fin 2048, gds Q KN KR Vv O DO LSE H K s * Q (ix3 H s (lane 1 d))
      = ((∑ s, I.gs H s K * ((if h : d.val < 64 then I.qr s H ⟨d.val, h⟩ else 0) * (sinv / Real.log 2)) : ℝ) : EReal) := by
    rw [← sum_coe]
    refine Finset.sum_congr rfl fun s _ => ?_
    rw [gds_real h, h.qr, ← EReal.coe_mul]
  rw [e]
  unfold ln2
  rw [← EReal.coe_mul, Finset.sum_mul]
  refine congrArg Real.toEReal ?_
  by_cases hd : d.val < 64
  · rw [dif_pos hd]
    unfold Ins.dkr
    refine Finset.sum_congr rfl fun s _ => ?_
    rw [dif_pos hd]
    have := log2_ne
    field_simp
  · rw [dif_neg hd]
    refine Finset.sum_eq_zero fun s _ => ?_
    rw [dif_neg hd]
    ring

theorem sum_dv (H : Fin 8) (K : Fin 2048) (d : Fin 128) :
    ∑ s : Fin 2048, gwt Q KN KR LSE H K s * DO (ix2 s (hcol H d)) = (I.dv H K d : EReal) := by
  unfold Ins.dv
  rw [← sum_coe]
  refine Finset.sum_congr rfl fun s _ => ?_
  rw [gwt_real h, h.g, ← EReal.coe_mul]

omit h in
theorem scl_real : scl = (sinv : EReal) := rfl

theorem sum_dqn (H : Fin 8) (t : Fin 2048) (d : Fin 128) :
    (∑ K : Fin 2048, gds Q KN KR Vv O DO LSE H K t * gkey KN KR H K (lane 0 d)) * scl = (I.dqn H t d : EReal) := by
  have e : ∑ K : Fin 2048, gds Q KN KR Vv O DO LSE H K t * gkey KN KR H K (lane 0 d) = ((∑ K, I.gs H t K * I.k K H d : ℝ) : EReal) := by
    rw [← sum_coe]
    refine Finset.sum_congr rfl fun s _ => ?_
    rw [gds_real h, gkey_own h, ← EReal.coe_mul]
  rw [e, scl_real, ← EReal.coe_mul, Finset.sum_mul]
  unfold Ins.dqn
  exact congrArg Real.toEReal (Finset.sum_congr rfl fun s _ => by ring)

theorem sum_dqr (H : Fin 8) (t : Fin 2048) (d : Fin 128) :
    (∑ K : Fin 2048, gds Q KN KR Vv O DO LSE H K t * gkey KN KR H K (lane 1 d)) * scl
      = ((if h : d.val < 64 then I.dqr H t ⟨d.val, h⟩ else 0 : ℝ) : EReal) := by
  have e : ∑ K : Fin 2048, gds Q KN KR Vv O DO LSE H K t * gkey KN KR H K (lane 1 d)
      = ((∑ K, I.gs H t K * (if h : d.val < 64 then I.r K ⟨d.val, h⟩ else 0) : ℝ) : EReal) := by
    rw [← sum_coe]
    refine Finset.sum_congr rfl fun s _ => ?_
    rw [gds_real h, gkey_shared h, ← EReal.coe_mul]
  rw [e, scl_real, ← EReal.coe_mul, Finset.sum_mul]
  refine congrArg Real.toEReal ?_
  by_cases hd : d.val < 64
  · rw [dif_pos hd]
    unfold Ins.dqr
    refine Finset.sum_congr rfl fun s _ => ?_
    rw [dif_pos hd]
    ring
  · rw [dif_neg hd]
    refine Finset.sum_eq_zero fun s _ => ?_
    rw [dif_neg hd]
    ring

omit h in
/-- The rotation taken back, lane by lane. -/
theorem unrope_real (g : Fin 2048 → Fin 128 → EReal) (x7 x8 x9 : S2048x128.Idx → EReal) (H : Fin 8) (t : Fin 2048) (d : Fin 128)
    (hg : ∀ d : Fin 128, g t d = ((if h : d.val < 64 then I.dqr H t ⟨d.val, h⟩ else 0 : ℝ) : EReal))
    (h7 : x7 (ix2 t d) = ((if h : d.val < 32 then Real.cos (I.w t ⟨d.val, h⟩) else if h : d.val - 32 < 32 then Real.cos (I.w t ⟨d.val - 32, h⟩) else 0 : ℝ) : EReal))
    (h8 : x8 (ix2 t d) = ((if h : d.val < 32 then -Real.sin (I.w t ⟨d.val, h⟩) else 0 : ℝ) : EReal))
    (h9 : x9 (ix2 t d) = ((if h : d.val < 32 then 0 else if h : d.val - 32 < 32 then Real.sin (I.w t ⟨d.val - 32, h⟩) else 0 : ℝ) : EReal)) :
    unrope g x7 x8 x9 t d = ((if h : d.val < 64 then I.dqu H t ⟨d.val, h⟩ else 0 : ℝ) : EReal) := by
  unfold unrope
  rw [hg, hg, hg, h7, h8, h9, ← EReal.coe_mul, ← EReal.coe_mul, ← EReal.coe_mul, ← EReal.coe_add, ← EReal.coe_mul, ← EReal.coe_add]
  refine congrArg Real.toEReal ?_
  unfold Ins.dqu
  by_cases h1 : d.val < 32
  · have e : turn 32 d = ⟨32 + d.val, by omega⟩ := Fin.ext (by show (d.val + 32) % 128 = 32 + d.val; omega)
    rw [e]
    have e2 : (32 + d.val) < 64 := by omega
    rw [dif_pos (show d.val < 64 by omega), dif_pos h1, dif_pos h1, dif_pos h1, dif_pos (show d.val < 64 by omega), dif_pos h1, dif_pos e2]
    ring
  · by_cases h2 : d.val < 64
    · have e : ¬(turn 32 d).val < 64 := by show ¬(d.val + 32) % 128 < 64; omega
      have e2 : turn 96 d = ⟨32 + (d.val - 32) - 32, by omega⟩ := Fin.ext (by show (d.val + 96) % 128 = 32 + (d.val - 32) - 32; omega)
      rw [e2]
      have e3 : 32 + (d.val - 32) - 32 < 64 := by omega
      have e4 : d.val - 32 < 32 := by omega
      rw [dif_pos h2, dif_neg h1, dif_pos e4, dif_neg e, dif_neg h1, dif_neg h1, dif_pos e3, dif_pos e4, dif_pos h2, dif_neg h1]
      have f1 : (⟨d.val, h2⟩ : Fin 64) = ⟨32 + (d.val - 32), by omega⟩ := Fin.ext (by show d.val = 32 + (d.val - 32); omega)
      have f2 : (⟨32 + (d.val - 32) - 32, e3⟩ : Fin 64) = ⟨d.val - 32, by omega⟩ := Fin.ext (by show 32 + (d.val - 32) - 32 = d.val - 32; omega)
      have e5 : ∀ A B A' B' u v : ℝ, A = A' → B = B' → A * u + -1 * (0 * 0 + B * v) = A' * u - B' * v := by
        intro A B A' B' u v ha hb
        rw [ha, hb]
        ring
      exact e5 _ _ _ _ _ _ (congrArg (I.dqr H t) f1) (congrArg (I.dqr H t) f2)
    · have e4 : ¬d.val - 32 < 32 := by omega
      rw [dif_neg h2, dif_neg h1, dif_neg e4, dif_neg h1, dif_neg h1, dif_neg e4, dif_neg h2]
      ring

end Cert.AttnBwd

end
-- ==== Proof.Attn.KerValue.lean ====
/-
  The arrays that the kernel's call is handed hold the attention's numbers when the arguments are real.
-/
module

public import proofs.«01_k».proof.Proof.Attn.Host
public import proofs.«01_k».proof.Proof.Attn.HostRead
public import proofs.«01_k».proof.Proof.Attn.RefValue
public import proofs.«01_k».proof.Proof.Attn.KerPlain

@[expose] public section

set_option maxRecDepth 16384

noncomputable section

namespace Cert.AttnBwd

open Cert.AttnIdeal Cert.AttnIdeal.Gen Idealize.ShloMosaic Idealize.ShloMosaic.TcCoe Idealize.SL.Sem

/-- The kernel's arguments on a device are the reference's. -/
def Same (m : (ℓ : Loc nD τ sig) → Buf (Elt Ideal) ℓ) (c : Dev nD) (X : Valuation Cert.AttnRefIdeal.τ Cert.AttnRefIdeal.sig (Elt Ideal)) : Prop :=
  (m (c, Proc.devRef .tc main_arg0) = X (Proc.devRef .tc Cert.AttnRefIdeal.main_arg0))
    ∧ (m (c, Proc.devRef .tc main_arg1) = X (Proc.devRef .tc Cert.AttnRefIdeal.main_arg1))
    ∧ (m (c, Proc.devRef .tc main_arg2) = X (Proc.devRef .tc Cert.AttnRefIdeal.main_arg2))
    ∧ (m (c, Proc.devRef .tc main_arg3) = X (Proc.devRef .tc Cert.AttnRefIdeal.main_arg3))
    ∧ (m (c, Proc.devRef .tc main_arg4) = X (Proc.devRef .tc Cert.AttnRefIdeal.main_arg4))
    ∧ (m (c, Proc.devRef .tc main_arg5) = X (Proc.devRef .tc Cert.AttnRefIdeal.main_arg5))

theorem Same.a0 {m : (ℓ : Loc nD τ sig) → Buf (Elt Ideal) ℓ} {c : Dev nD} {X : Valuation Cert.AttnRefIdeal.τ Cert.AttnRefIdeal.sig (Elt Ideal)} (s : Same m c X) :
    m (c, Proc.devRef .tc main_arg0) = X (Proc.devRef .tc Cert.AttnRefIdeal.main_arg0) := s.1
theorem Same.a1 {m : (ℓ : Loc nD τ sig) → Buf (Elt Ideal) ℓ} {c : Dev nD} {X : Valuation Cert.AttnRefIdeal.τ Cert.AttnRefIdeal.sig (Elt Ideal)} (s : Same m c X) :
    m (c, Proc.devRef .tc main_arg1) = X (Proc.devRef .tc Cert.AttnRefIdeal.main_arg1) := s.2.1
theorem Same.a2 {m : (ℓ : Loc nD τ sig) → Buf (Elt Ideal) ℓ} {c : Dev nD} {X : Valuation Cert.AttnRefIdeal.τ Cert.AttnRefIdeal.sig (Elt Ideal)} (s : Same m c X) :
    m (c, Proc.devRef .tc main_arg2) = X (Proc.devRef .tc Cert.AttnRefIdeal.main_arg2) := s.2.2.1
theorem Same.a3 {m : (ℓ : Loc nD τ sig) → Buf (Elt Ideal) ℓ} {c : Dev nD} {X : Valuation Cert.AttnRefIdeal.τ Cert.AttnRefIdeal.sig (Elt Ideal)} (s : Same m c X) :
    m (c, Proc.devRef .tc main_arg3) = X (Proc.devRef .tc Cert.AttnRefIdeal.main_arg3) := s.2.2.2.1
theorem Same.a4 {m : (ℓ : Loc nD τ sig) → Buf (Elt Ideal) ℓ} {c : Dev nD} {X : Valuation Cert.AttnRefIdeal.τ Cert.AttnRefIdeal.sig (Elt Ideal)} (s : Same m c X) :
    m (c, Proc.devRef .tc main_arg4) = X (Proc.devRef .tc Cert.AttnRefIdeal.main_arg4) := s.2.2.2.2.1
theorem Same.a5 {m : (ℓ : Loc nD τ sig) → Buf (Elt Ideal) ℓ} {c : Dev nD} {X : Valuation Cert.AttnRefIdeal.τ Cert.AttnRefIdeal.sig (Elt Ideal)} (s : Same m c X) :
    m (c, Proc.devRef .tc main_arg5) = X (Proc.devRef .tc Cert.AttnRefIdeal.main_arg5) := s.2.2.2.2.2

variable (m : (ℓ : Loc nD τ sig) → Buf (Elt Ideal) ℓ) (c : Dev nD)

/-- The host arrays, with extended reals for entries. -/
abbrev kQ : S8x2048x256.Idx → EReal := V m c main_v189
abbrev kKN : S2048x1024.Idx → EReal := V m c main_v191
abbrev kKR : S2048x128.Idx → EReal := V m c main_v192
abbrev kV : S2048x1024.Idx → EReal := V m c main_v194
abbrev kO : S2048x1024.Idx → EReal := V m c main_v195
abbrev kDO : S2048x1024.Idx → EReal := V m c main_v196
abbrev kL : S8x1x2048.Idx → EReal := V m c main_v197
abbrev kC : S2048x128.Idx → EReal := V m c main_v142
abbrev kA : S2048x128.Idx → EReal := V m c main_v144
abbrev kB : S2048x128.Idx → EReal := V m c main_v145

theorem log_2 : Ideal.log (Ideal.ofBits .f32 0x40000000#32) = ((Real.log 2 : ℝ) : EReal) := by
  rw [bits_2]
  show (if (2 : ℝ) ≤ 0 then (⊥ : EReal) else _) = _
  rw [if_neg (by norm_num)]

theorem scale_host : Ideal.div (Ideal.div 1 (Ideal.sqrt (Ideal.ofBits FTy.f32 0x43400000#32))) (Ideal.log (Ideal.ofBits FTy.f32 0x40000000#32))
    = ((sinv / Real.log 2 : ℝ) : EReal) := by
  rw [sinv_host, log_2, div_coe _ _ log2_ne]

/-- A column of the reshaped arrays. -/
theorem col_eq (H : Fin 8) (d : Fin 128) : hcol H d = ⟨H.val * 128 + d.val, by omega⟩ :=
  Fin.ext (by show 128 * H.val + d.val = H.val * 128 + d.val; omega)

variable {m c} {X : Valuation Cert.AttnRefIdeal.τ Cert.AttnRefIdeal.sig (Elt Ideal)} {I : Ins} (s : Same m c X) (h : Reads X I)
include s

theorem kQ_at (H : Fin 8) (t : Fin 2048) (l : Fin 256) : kQ m c (ix3 H t l) =
    (if h : l.val < 128 then r2 X (ix3 t H ⟨l.val, h⟩) else if h : l.val - 128 < 64 then r33 X (ix3 t H ⟨l.val - 128, h⟩) else 0)
      * Ideal.div (Ideal.div 1 (Ideal.sqrt (Ideal.ofBits FTy.f32 0x43400000#32))) (Ideal.log (Ideal.ofBits FTy.f32 0x40000000#32)) :=
  (congrFun (V_v189 m c X s.a0 s.a4) (ix3 H t l)).trans (of_v189 ..)

include h

theorem kQ_own (H : Fin 8) (t : Fin 2048) (d : Fin 128) :
    kQ m c (ix3 H t (lane 0 d)) = ((I.q t H ⟨d.val, by omega⟩ * (sinv / Real.log 2) : ℝ) : EReal) := by
  have hl : (lane 0 d).val = d.val := by show 128 * 0 + d.val = d.val; omega
  rw [kQ_at s, scale_host, dif_pos (show (lane 0 d).val < 128 by omega), EReal.coe_mul, ← h.q t H ⟨d.val, by omega⟩, ← at_v2]
  exact congrArg (fun x => r2 X (ix3 t H x) * ((sinv / Real.log 2 : ℝ) : EReal)) (Fin.ext hl)

theorem kQ_rot (H : Fin 8) (t : Fin 2048) (d : Fin 128) :
    kQ m c (ix3 H t (lane 1 d)) = (((if h : d.val < 64 then I.qr t H ⟨d.val, h⟩ else 0) * (sinv / Real.log 2) : ℝ) : EReal) := by
  have hl : (lane 1 d).val = 128 + d.val := rfl
  rw [kQ_at s, scale_host, dif_neg (show ¬(lane 1 d).val < 128 by omega), EReal.coe_mul]
  by_cases hd : d.val < 64
  · rw [dif_pos (show (lane 1 d).val - 128 < 64 by omega), dif_pos hd, ← v33_real h]
    exact congrArg (fun x => r33 X (ix3 t H x) * ((sinv / Real.log 2 : ℝ) : EReal)) (Fin.ext (by show (lane 1 d).val - 128 = d.val; omega))
  · rw [dif_neg (show ¬(lane 1 d).val - 128 < 64 by omega), dif_neg hd]
    rfl

theorem kK_at (K : Fin 2048) (H : Fin 8) (d : Fin 128) : kKN m c (ix2 K (hcol H d)) = (I.k K H d : EReal) := by
  rw [col_eq]
  exact ((congrFun (V_v191 m c X s.a1) _).trans (of_v191 ..)).trans (h.k K H d)

theorem kV_at (K : Fin 2048) (H : Fin 8) (d : Fin 128) : kV m c (ix2 K (hcol H d)) = (I.v K H d : EReal) := by
  rw [col_eq]
  exact ((congrFun (V_v194 m c X s.a3) _).trans (of_v194 ..)).trans (h.v K H d)

theorem kDO_at (t : Fin 2048) (H : Fin 8) (d : Fin 128) : kDO m c (ix2 t (hcol H d)) = (I.g t H d : EReal) := by
  rw [col_eq]
  exact (congrFun (V_v196 m c X s.a5) _).trans (h.g t H d)

theorem kR_at (K : Fin 2048) (d : Fin 128) : kKR m c (ix2 K d) = ((if h : d.val < 64 then I.r K ⟨d.val, h⟩ else 0 : ℝ) : EReal) := by
  have e : kKR m c (ix2 K d) = if h : d.val < 64 then argR X (ix2 K ⟨d.val, h⟩) else 0 := (congrFun (V_v192 m c X s.a2) _).trans (of_v192 ..)
  rw [e]
  by_cases hd : d.val < 64
  · rw [dif_pos hd, dif_pos hd, h.r]
  · rw [dif_neg hd, dif_neg hd, EReal.coe_zero]

variable (hm : ∀ H t, r50 X (ix2 H t) = (I.mx H t : EReal))
include hm

theorem kO_at (t : Fin 2048) (H : Fin 8) (d : Fin 128) : kO m c (ix2 t (hcol H d)) = ((∑ K, I.v K H d * I.p H t K : ℝ) : EReal) := by
  rw [col_eq]
  have e : kO m c (ix2 t ⟨H.val * 128 + d.val, by omega⟩) = ∑ x : Fin 2048, argV X (ix3 x H d) * r74 X (ix3 H t x) :=
    (congrFun (V_v195 m c X s.a0 s.a1 s.a2 s.a3 s.a4) _).trans (of_v195 ..)
  rw [e, ← sum_coe]
  refine Finset.sum_congr rfl fun x _ => ?_
  rw [h.v, v74_real h hm, ← EReal.coe_mul]

theorem kL_at (H : Fin 8) (t : Fin 2048) : kL m c (ix3 H 0 t) = (((I.mx H t + Real.log (I.z H t)) / Real.log 2 : ℝ) : EReal) := by
  have e : kL m c (ix3 H 0 t) = Ideal.div (r50 X (ix2 H t) + Ideal.log (∑ x : Fin 2048, Ideal.exp (r49 X (ix3 H t x) - r50 X (ix2 H t))))
      (Ideal.log (Ideal.ofBits FTy.f32 0x40000000#32)) := (congrFun (V_v197 m c X s.a0 s.a1 s.a2 s.a4) _).trans (of_v197 ..)
  have e1 : ∑ x : Fin 2048, Ideal.exp (r49 X (ix3 H t x) - (I.mx H t : EReal)) = (I.z H t : EReal) := by
    unfold Ins.z
    rw [← sum_coe]
    exact Finset.sum_congr rfl fun x _ => exp_real h hm H t x
  have e2 : Ideal.log (I.z H t : EReal) = ((Real.log (I.z H t) : ℝ) : EReal) := by
    show (if I.z H t ≤ 0 then (⊥ : EReal) else _) = _
    rw [if_neg (not_le.2 (I.z_pos H t))]
  rw [e, hm, e1, e2, log_2, ← EReal.coe_add, div_coe _ _ log2_ne]

/-- The call's arrays hold the attention's numbers. -/
theorem holds : Holds (kQ m c) (kKN m c) (kKR m c) (kV m c) (kO m c) (kDO m c) (kL m c) I where
  qn := kQ_own s h
  qr := kQ_rot s h
  k := kK_at s h
  r := kR_at s h
  v := kV_at s h
  o := kO_at s h hm
  g := kDO_at s h
  l := kL_at s h hm

omit hm

theorem kC_at (t : Fin 2048) (d : Fin 128) : kC m c (ix2 t d) =
    ((if h : d.val < 32 then Real.cos (I.w t ⟨d.val, h⟩) else if h : d.val - 32 < 32 then Real.cos (I.w t ⟨d.val - 32, h⟩) else 0 : ℝ) : EReal) := by
  have e : kC m c (ix2 t d) = if h : d.val < 32 then Ideal.cos (r16 X (ix2 t ⟨d.val, h⟩))
      else if h : d.val - 32 < 32 then Ideal.cos (r16 X (ix2 t ⟨d.val - 32, h⟩)) else if h : d.val - 32 - 32 < 32 then 0 else 0 :=
    (congrFun (V_v142 m c X s.a4) _).trans (of_v142 ..)
  rw [e]
  by_cases h1 : d.val < 32
  · rw [dif_pos h1, dif_pos h1, h.w]
    rfl
  · rw [dif_neg h1, dif_neg h1]
    by_cases h2 : d.val - 32 < 32
    · rw [dif_pos h2, dif_pos h2, h.w]
      rfl
    · rw [dif_neg h2, dif_neg h2, EReal.coe_zero]
      split <;> rfl

theorem kA_at (t : Fin 2048) (d : Fin 128) : kA m c (ix2 t d) = ((if h : d.val < 32 then -Real.sin (I.w t ⟨d.val, h⟩) else 0 : ℝ) : EReal) := by
  have e : kA m c (ix2 t d) = if h : d.val < 32 then -Ideal.sin (r16 X (ix2 t ⟨d.val, h⟩))
      else if h : d.val - 32 < 32 then 0 else if h : d.val - 32 - 32 < 32 then 0 else 0 :=
    (congrFun (V_v144 m c X s.a4) _).trans (of_v144 ..)
  rw [e]
  by_cases h1 : d.val < 32
  · rw [dif_pos h1, dif_pos h1, h.w, EReal.coe_neg]
    rfl
  · rw [dif_neg h1, dif_neg h1, EReal.coe_zero]
    split
    · rfl
    · split <;> rfl

theorem kB_at (t : Fin 2048) (d : Fin 128) : kB m c (ix2 t d) =
    ((if h : d.val < 32 then 0 else if h : d.val - 32 < 32 then Real.sin (I.w t ⟨d.val - 32, h⟩) else 0 : ℝ) : EReal) := by
  have e : kB m c (ix2 t d) = if h : d.val < 32 then 0
      else if h : d.val - 32 < 32 then Ideal.sin (r16 X (ix2 t ⟨d.val - 32, h⟩)) else if h : d.val - 32 - 32 < 32 then 0 else 0 :=
    (congrFun (V_v145 m c X s.a4) _).trans (of_v145 ..)
  rw [e]
  by_cases h1 : d.val < 32
  · rw [dif_pos h1, dif_pos h1, EReal.coe_zero]
  · rw [dif_neg h1, dif_neg h1]
    by_cases h2 : d.val - 32 < 32
    · rw [dif_pos h2, dif_pos h2, h.w]
      rfl
    · rw [dif_neg h2, dif_neg h2, EReal.coe_zero]
      split <;> rfl

end Cert.AttnBwd

end
-- ==== Proof.Attn.Equal.lean ====
/-
  The four results: the reference's arrays are the kernel's.
-/
module

public import proofs.«01_k».proof.Proof.Attn.Arrays
public import proofs.«01_k».proof.Proof.Attn.KerValue

@[expose] public section

set_option maxRecDepth 16384

noncomputable section

namespace Cert.AttnBwd

open Cert.AttnIdeal Cert.AttnIdeal.Gen Idealize.ShloMosaic Idealize.ShloMosaic.TcCoe Idealize.SL.Sem

/-- The reference's halves of the turned gradient, and its cosines and sines. -/
abbrev r108 (X : Valuation Cert.AttnRefIdeal.τ Cert.AttnRefIdeal.sig (Elt Ideal)) : Cert.AttnRefIdeal.S2048x8x32.Idx → EReal := Cert.AttnRefIdeal.Value.res_main_v108 X
abbrev r109 (X : Valuation Cert.AttnRefIdeal.τ Cert.AttnRefIdeal.sig (Elt Ideal)) : Cert.AttnRefIdeal.S2048x8x32.Idx → EReal := Cert.AttnRefIdeal.Value.res_main_v109 X
abbrev r18 (X : Valuation Cert.AttnRefIdeal.τ Cert.AttnRefIdeal.sig (Elt Ideal)) : Cert.AttnRefIdeal.S2048x1x32.Idx → EReal := Cert.AttnRefIdeal.Value.res_main_v18 X
abbrev r20 (X : Valuation Cert.AttnRefIdeal.τ Cert.AttnRefIdeal.sig (Elt Ideal)) : Cert.AttnRefIdeal.S2048x1x32.Idx → EReal := Cert.AttnRefIdeal.Value.res_main_v20 X

variable {m : (ℓ : Loc nD τ sig) → Buf (Elt Ideal) ℓ} {c : Dev nD} {X : Valuation Cert.AttnRefIdeal.τ Cert.AttnRefIdeal.sig (Elt Ideal)} {I : Ins}
variable (s : Same m c X) (h : Reads X I) (hm : ∀ H t, r50 X (ix2 H t) = (I.mx H t : EReal))

section Ref
include h

theorem cos_at (t : Fin 2048) (d : Fin 32) : r18 X (ix3 t 0 d) = (Real.cos (I.w t d) : EReal) := by
  have e : r18 X (ix3 t 0 d) = Ideal.cos (r16 X (ix2 t d)) := at_v18 ..
  rw [e, h.w]
  rfl

theorem sin_at (t : Fin 2048) (d : Fin 32) : r20 X (ix3 t 0 d) = (Real.sin (I.w t d) : EReal) := by
  have e : r20 X (ix3 t 0 d) = Ideal.sin (r16 X (ix2 t d)) := at_v20 ..
  rw [e, h.w]
  rfl

include hm

theorem low_at (t : Fin 2048) (H : Fin 8) (d : Fin 32) : r108 X (ix3 t H d) = (I.dqr H t ⟨d.val, by omega⟩ : EReal) := by
  have e : r108 X (ix3 t H d) = r103 X (ix3 t H ⟨d.val, by omega⟩) := at_v108 ..
  rw [e, v103_real h hm]

theorem high_at (t : Fin 2048) (H : Fin 8) (d : Fin 32) : r109 X (ix3 t H d) = (I.dqr H t ⟨32 + d.val, by omega⟩ : EReal) := by
  have e : r109 X (ix3 t H d) = r103 X (ix3 t H ⟨32 + d.val, by omega⟩) := at_v109 ..
  rw [e, v103_real h hm]

/-- The turned half of the reference's query gradient. -/
theorem turn_at (t : Fin 2048) (H : Fin 8) (d : Fin 128) (l : Fin 256) (hl : l.val = 128 + d.val) :
    (if h : l.val < 192 then
      (if h1 : 128 ≤ l.val ∧ l.val - 128 < 64 then
          (if h2 : 32 ≤ l.val - 128 ∧ l.val - 128 - 32 < 32 then
              r109 X (ix3 t H ⟨l.val - 128 - 32, by omega⟩) * r18 X (ix3 t 0 ⟨l.val - 128 - 32, by omega⟩)
                + -r108 X (ix3 t H ⟨l.val - 128 - 32, by omega⟩) * r20 X (ix3 t 0 ⟨l.val - 128 - 32, by omega⟩)
            else 0)
            + if h2 : l.val - 128 < 32 then
                r109 X (ix3 t H ⟨l.val - 128, by omega⟩) * r20 X (ix3 t 0 ⟨l.val - 128, by omega⟩)
                  + r108 X (ix3 t H ⟨l.val - 128, by omega⟩) * r18 X (ix3 t 0 ⟨l.val - 128, by omega⟩)
              else 0
        else 0)
        + if h1 : l.val < 128 then ∑ x : Fin 2048, r100 X (ix3 H t x) * argK X (ix3 x H ⟨l.val, h1⟩) else 0
    else 0) = ((if h : d.val < 64 then I.dqu H t ⟨d.val, h⟩ else 0 : ℝ) : EReal) := by
  obtain ⟨l, hl'⟩ := l
  have hl : l = 128 + d.val := hl
  subst hl
  have e : 128 + d.val - 128 = d.val := by omega
  simp only [e, low_at h hm, high_at h hm, cos_at h, sin_at h]
  by_cases hd : d.val < 64
  · rw [dif_pos (show 128 + d.val < 192 by omega), dif_pos (⟨by omega, hd⟩ : 128 ≤ 128 + d.val ∧ d.val < 64),
      dif_neg (show ¬128 + d.val < 128 by omega), add_zero, dif_pos hd]
    unfold Ins.dqu
    by_cases h3 : d.val < 32
    · rw [dif_neg (show ¬(32 ≤ d.val ∧ d.val - 32 < 32) by omega), dif_pos h3, zero_add, dif_pos h3, ← EReal.coe_mul, ← EReal.coe_mul, ← EReal.coe_add]
    · rw [dif_pos (show 32 ≤ d.val ∧ d.val - 32 < 32 by omega), dif_neg h3, add_zero, dif_neg h3, ← EReal.coe_neg, ← EReal.coe_mul, ← EReal.coe_mul, ← EReal.coe_add]
      refine congrArg Real.toEReal ?_
      ring
  · rw [dif_neg (show ¬128 + d.val < 192 by omega), dif_neg hd]
    rfl

end Ref

include s h hm

/-- The query gradient. -/
theorem q_eq (E : S8x2048x256.Idx → EReal)
    (hE : ∀ (H : Fin 8) (t : Fin 2048) (l : Fin 256), E (ix3 H t l) = if h : l.val < 192 then
      (if h1 : 128 ≤ l.val ∧ l.val - 128 < 64 then
          (if h2 : 32 ≤ l.val - 128 ∧ l.val - 128 - 32 < 32 then
              r109 X (ix3 t H ⟨l.val - 128 - 32, by omega⟩) * r18 X (ix3 t 0 ⟨l.val - 128 - 32, by omega⟩)
                + -r108 X (ix3 t H ⟨l.val - 128 - 32, by omega⟩) * r20 X (ix3 t 0 ⟨l.val - 128 - 32, by omega⟩)
            else 0)
            + if h2 : l.val - 128 < 32 then
                r109 X (ix3 t H ⟨l.val - 128, by omega⟩) * r20 X (ix3 t 0 ⟨l.val - 128, by omega⟩)
                  + r108 X (ix3 t H ⟨l.val - 128, by omega⟩) * r18 X (ix3 t 0 ⟨l.val - 128, by omega⟩)
              else 0
        else 0)
        + if h1 : l.val < 128 then ∑ x : Fin 2048, r100 X (ix3 H t x) * argK X (ix3 x H ⟨l.val, h1⟩) else 0
    else 0) : E = K10 m c := by
  funext i
  obtain ⟨H, t, l, rfl⟩ : ∃ (H : Fin 8) (t : Fin 2048) (l : Fin 256), i = ix3 H t l := ⟨i 0, i 1, i 2, eq_ix3 i⟩
  obtain ⟨b, d, rfl⟩ := lanes l
  rw [hE, K10_apply]
  by_cases hb : b = 0
  · subst hb
    have hl : (lane 0 d).val = d.val := by show 128 * 0 + d.val = d.val; omega
    rw [if_pos rfl, dif_pos (show (lane 0 d).val < 192 by omega), dif_neg (show ¬(128 ≤ (lane 0 d).val ∧ (lane 0 d).val - 128 < 64) by omega),
      zero_add, dif_pos (show (lane 0 d).val < 128 by omega)]
    refine Eq.trans ?_ (sum_dqn (holds s h hm) H t d).symm
    refine Eq.trans ?_ (dqn_real h hm H t d)
    exact congrArg (fun y => ∑ x : Fin 2048, r100 X (ix3 H t x) * argK X (ix3 x H y)) (Fin.ext hl)
  · obtain rfl : b = 1 := by omega
    rw [if_neg hb]
    refine Eq.trans ?_ (unrope_real _ _ _ _ H t d (fun d => sum_dqr (holds s h hm) H t d) (kC_at s h t d) (kA_at s h t d) (kB_at s h t d)).symm
    exact turn_at h hm t H d (lane 1 d) rfl

/-- The unrotated keys' gradient. -/
theorem k_eq (E : S2048x1024.Idx → EReal)
    (hE : ∀ (K : Fin 2048) (H : Fin 8) (d : Fin 128), E (ix2 K ⟨H.val * 128 + d.val, by omega⟩) = ∑ x : Fin 2048, r100 X (ix3 H x K) * r2 X (ix3 x H d)) :
    E = K11 m c := by
  funext i
  obtain ⟨K, l, rfl⟩ : ∃ (K : Fin 2048) (l : Fin 1024), i = ix2 K l := ⟨i 0, i 1, eq_ix2 i⟩
  refine Eq.trans ?_ (sum_dk (holds s h hm) (hof l) K (dof l)).symm
  refine Eq.trans ?_ ((hE K (hof l) (dof l)).trans (dk_real h hm K (hof l) (dof l)))
  exact congrArg (fun y => E (ix2 K y)) ((hcol_of l).symm.trans (col_eq (hof l) (dof l)))

/-- The rotated keys' gradient. -/
theorem r_eq (E : S8x2048x128.Idx → EReal)
    (hE : ∀ (H : Fin 8) (K : Fin 2048) (d : Fin 128), E (ix3 H K d) = if h : d.val < 64 then ∑ x : Fin 2048, r100 X (ix3 H x K) * r33 X (ix3 x H ⟨d.val, h⟩) else 0) :
    E = K12 m c := by
  funext i
  obtain ⟨H, K, d, rfl⟩ : ∃ (H : Fin 8) (K : Fin 2048) (d : Fin 128), i = ix3 H K d := ⟨i 0, i 1, i 2, eq_ix3 i⟩
  refine Eq.trans ?_ (sum_dkr (holds s h hm) H K d).symm
  rw [hE]
  by_cases hd : d.val < 64
  · rw [dif_pos hd, dif_pos hd, dkr_real h hm]
  · rw [dif_neg hd, dif_neg hd]
    rfl

/-- The values' gradient. -/
theorem v_eq (E : S2048x1024.Idx → EReal)
    (hE : ∀ (K : Fin 2048) (H : Fin 8) (d : Fin 128), E (ix2 K ⟨H.val * 128 + d.val, by omega⟩) = ∑ x : Fin 2048, r82 X (ix3 H d x) * r74 X (ix3 H x K)) :
    E = K13 m c := by
  funext i
  obtain ⟨K, l, rfl⟩ : ∃ (K : Fin 2048) (l : Fin 1024), i = ix2 K l := ⟨i 0, i 1, eq_ix2 i⟩
  refine Eq.trans ?_ (sum_dv (holds s h hm) (hof l) K (dof l)).symm
  refine Eq.trans ?_ ((hE K (hof l) (dof l)).trans (dv_real h hm K (hof l) (dof l)))
  exact congrArg (fun y => E (ix2 K y)) ((hcol_of l).symm.trans (col_eq (hof l) (dof l)))

end Cert.AttnBwd

end
-- ==== Proof.Attn.Finite.lean ====
/-
  The precondition of the attention read back: the arrays it tests hold real numbers.
-/
module

public import proofs.«01_k».proof.Pre_finite_attn
public import proofs.«01_k».proof.Proof.Dact.Finite

@[expose] public section

noncomputable section

namespace Cert.Pre_finite_attn

open Idealize.ShloMosaic

/-- The relations between shapes that the predicate's operations take. -/
theorem shapes : Facts where
  bcast_S_S2048x8x192 := by decide
  reducesTo_S2048x8x192_S_d0_1_2 := by decide
  h_S_ := by decide
  bcast_S_S2048x8x128 := by decide
  reducesTo_S2048x8x128_S_d0_1_2 := by decide
  bcast_S_S2048x64 := by decide
  reducesTo_S2048x64_S_d0_1 := by decide
  bcast_S_S2048x1024 := by decide
  reducesTo_S2048x1024_S_d0_1 := by decide

instance : Subsingleton S_.Idx := ⟨fun a b => funext fun i => i.elim0⟩

section
variable {s : Shape} {axes : List (Fin s.rank)} (x : FVec Ideal s .f32) (h2 : S_.BroadcastsInDim s ![]) (h3 : s.ReducesTo axes S_) (h4 : 0 < S_.numel)

/-- Where the conjunction of all comparisons of an array's absolute values with the infinity is true, every entry is real. -/
theorem real_of_all (j : S_.Idx) (h : Host.reduce IntOp.andi (cmpf .olt (Host.absf x) (broadcastInDim s ![] h2 (constant S_ .f32 0x7F800000#32)))
    (constantI S_ 1 1#1) h3 h4 j = 1#1) (i : s.Idx) : ∃ r : ℝ, x i = r :=
  Cert.Pre_finite.real_of_abs_lt (x i) (Host.reduce_andi_all _ _ _ _ j h i)
end

variable [Facts]

/-- The predicate holds of six arrays only if all of them but the positions are real. -/
theorem real_of_fn (a0 : FVec Ideal S2048x8x192 .f32) (a1 : FVec Ideal S2048x8x128 .f32) (a2 : FVec Ideal S2048x64 .f32)
    (a3 : FVec Ideal S2048x8x128 .f32) (a4 : IVec S2048 32) (a5 : FVec Ideal S2048x1024 .f32) (h : fn a0 a1 a2 a3 a4 a5 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ ∀ i, ∃ r : ℝ, a5 i = r := by
  have h := congrFun h (fun i => i.elim0)
  unfold fn fn_part1 at h
  obtain ⟨h, h5⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all a0 _ _ _ _ h0, real_of_all a1 _ _ _ _ h1, real_of_all a2 _ _ _ _ h2, real_of_all a3 _ _ _ _ h3, real_of_all a5 _ _ _ _ h5⟩

end Cert.Pre_finite_attn

end
-- ==== Proof.Attn.Claims.lean ====
/-
  The claim about the attention's gradient: from the same finite arguments the kernel and the reference leave the same four arrays.
-/
module

public import proofs.«01_k».proof.Defs
public import proofs.«01_k».proof.Proof.Attn.Frames
public import proofs.«01_k».proof.Proof.Attn.Equal
public import proofs.«01_k».proof.Proof.Attn.Finite

@[expose] public section

set_option maxRecDepth 16384

noncomputable section

namespace Cert.AttnBwd

open Idealize.ShloMosaic Idealize.ShloMosaic.TcCoe Idealize.SL.Sem Idealize.ShloMosaic.StableHlo

/-- Real arguments have real numbers that they are, with the angles and the rows' greatest scores. -/
theorem exists_ins (X : Valuation AttnRefIdeal.τ AttnRefIdeal.sig (Elt Ideal)) (hq : ∀ i, ∃ r : ℝ, argQ X i = r) (hk : ∀ i, ∃ r : ℝ, argK X i = r)
    (hr : ∀ i, ∃ r : ℝ, argR X i = r) (hv : ∀ i, ∃ r : ℝ, argV X i = r) (hg : ∀ i, ∃ r : ℝ, argG X i = r) :
    ∃ I : Ins, Reads X I ∧ ∀ H t, r50 X (ix2 H t) = (I.mx H t : EReal) := by
  choose q hq using hq
  choose k hk using hk
  choose r hr using hr
  choose v hv using hv
  choose g hg using hg
  choose w hw using angle_real X
  have h (M : Fin 8 → Fin 2048 → ℝ) : Reads X
      { q := fun t H d => q (ix3 t H d), k := fun K H d => k (ix3 K H d), r := fun K d => r (ix2 K d), v := fun K H d => v (ix3 K H d),
        g := fun t H d => g (ix2 t ⟨H.val * 128 + d.val, by omega⟩), w := w, mx := M } :=
    ⟨fun _ _ _ => hq _, fun _ _ _ => hk _, fun _ _ => hr _, fun _ _ _ => hv _, fun _ _ _ => hg _, hw⟩
  choose M hM using v50_real (h fun _ _ => 0)
  exact ⟨_, h M, hM⟩

section Post
open Cert.AttnIdeal Cert.AttnIdeal.Gen
variable (m : (ℓ : Loc nD τ sig) → Buf (Elt Ideal) ℓ) (ρ : Dev nD → PrngReg)

/-- The kernel ends with the four arrays and its arguments unchanged. -/
theorem run_arrays : θ_run defs (onTc (τ := τ) (main (F := Ideal))) ⟨m, fun _ => 0, ρ⟩ fun r => ∀ c : Dev nD,
      r.2.mem ((c.tc : Thread nD τ).loc main_v198_0) = K10 m c
      ∧ r.2.mem ((c.tc : Thread nD τ).loc main_v198_1) = K11 m c
      ∧ r.2.mem ((c.tc : Thread nD τ).loc main_v198_2) = K12 m c
      ∧ r.2.mem ((c.tc : Thread nD τ).loc main_v198_3) = K13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 10).trans (final10 m c), ((h.1 c).1 11).trans (final11 m c),
      ((h.1 c).1 12).trans (final12 m c), ((h.1 c).1 13).trans (final13 m c), h.2 c⟩)
    (θ_run_and (run_post m ρ) (frame_of m ρ (dats m) (A_eq m) (run_post m ρ)))

end Post

/-- The kernel and the reference leave the same four arrays. -/
theorem algebraic : Cert.algebraic_AttnIdeal_AttnRefIdeal_pre_finite_attn (hAttnIdeal := Cert.AttnIdeal.Gen.facts)
    (hAttnRefIdeal := Cert.AttnRefIdeal.Gen.facts) (hPre_finite_attn := Cert.Pre_finite_attn.shapes) := by
  intro m ρ m' ρ' hpre hargs
  have s : ∀ c : Dev AttnIdeal.nD, Same m c (launchContents m' c) := fun c =>
    ⟨(hargs c).1.symm, (hargs c).2.1.symm, (hargs c).2.2.1.symm, (hargs c).2.2.2.1.symm, (hargs c).2.2.2.2.1.symm, (hargs c).2.2.2.2.2.symm⟩
  have hI (c : Dev AttnIdeal.nD) : ∃ I : Ins, Reads (launchContents m' c) I ∧ ∀ H t, r50 (launchContents m' c) (ix2 H t) = (I.mx H t : EReal) := by
    have := Cert.Pre_finite_attn.shapes
    obtain ⟨h0, h1, h2, h3, h5⟩ := Cert.Pre_finite_attn.real_of_fn _ _ _ _ _ _ (hpre c)
    refine exists_ins _ (fun i => ?_) (fun i => ?_) (fun i => ?_) (fun i => ?_) fun i => ?_
    · exact (h0 i).imp fun _ e => (congrFun (s c).a0.symm i).trans e
    · exact (h1 i).imp fun _ e => (congrFun (s c).a1.symm i).trans e
    · exact (h2 i).imp fun _ e => (congrFun (s c).a2.symm i).trans e
    · exact (h3 i).imp fun _ e => (congrFun (s c).a3.symm i).trans e
    · exact (h5 i).imp fun _ e => (congrFun (s c).a5.symm i).trans e
  refine ⟨K10 m, K11 m, K12 m, K13 m, run_arrays m ρ, ?_⟩
  refine (θ_run _ _ _).mono (fun r hr c => ?_) (AttnRefIdeal.Value.run m' ρ')
  obtain ⟨I, h, hm⟩ := hI c
  obtain ⟨r0, r1, r2, r3, ha⟩ := hr c
  exact ⟨r0.trans (q_eq (s c) h hm _ fun H t l => at_v132 ..), r1.trans (k_eq (s c) h hm _ fun K H d => at_v134 ..),
    r2.trans (r_eq (s c) h hm _ fun H K d => at_v131 ..), r3.trans (v_eq (s c) h hm _ fun K H d => at_v136 ..), ha⟩

end Cert.AttnBwd

end
-- ==== Proof.Gup.Outs.lean ====
/-
  What the kernel of the up weights' gradient leaves: the first four points each form the product of a block of columns
  of the gate's gradient with the layer's input, the last four the same of the value's gradient.
-/
module

public import proofs.«01_k».proof.Proof.Gen.GupIdeal.Value
public import Idealize.ShloMosaic.Lib.Pointwise
public import Idealize.ShloMosaic.Lib.Claim
public import Idealize.ShloMosaic.Lib.Pipeline.ValueKit

@[expose] public section

noncomputable section

namespace Cert.GupIdeal.Up

open Cert.GupIdeal Cert.GupIdeal.Gen Idealize.ShloMosaic Idealize.ShloMosaic.TcCoe Idealize.SL.Sem

variable (m : (ℓ : Loc nD τ sig) → Buf (Elt Ideal) ℓ) (c : Dev nD)

/-- The gradient of the gate. -/
abbrev Dg : Vec Ideal S2048x2816 .bf16 := m ((c : Thread nD τ).loc main_arg0)
/-- The gradient of the value. -/
abbrev Dv : Vec Ideal S2048x2816 .bf16 := m ((c : Thread nD τ).loc main_arg1)
/-- The layer's normalised input. -/
abbrev Hf : Vec Ideal S2048x1024 .bf16 := m ((c : Thread nD τ).loc main_arg2)

/-- Column `l` of block `q % 4` of the four blocks of columns. -/
def col (q : ℕ) (l : Fin 704) : Fin 2816 := ⟨q % 4 * 704 + l.val, by have := l.isLt; omega⟩

/-- The gradient of the up weights, `[dg dv]ᵀ · hf`, its rows cut into eight blocks. -/
def R3 : Vec Ideal S8x704x1024 .bf16 := fun i =>
  ∑ s : Fin 2048, (if (i 0).val < 4 then Dg m c (ix2 s (col (i 0).val (i 1))) else Dv m c (ix2 s (col (i 0).val (i 1)))) * Hf m c (ix2 s (i 2))

/-- The grid has eight points. -/
theorem lt8 (t : Fin cfg0.N) : t.val < 8 := Nat.lt_of_lt_of_eq t.isLt N_0

/-- The gate's gradient, its columns cut into four blocks. -/
theorem V_main_v1 : V m c main_v1 = transpose S4x2048x704 [1, 0, 2] (shapeCast S2048x4x704 (m ((c : Thread nD τ).loc main_arg0)) shapeCasts_S2048x2816_S2048x4x704) transposes_S2048x4x704_S4x2048x704_1_0_2 := by
  show StableHlo.after hostOps0 _ (Proc.devRef .tc main_v1) = _
  after_results
  rfl

/-- The value's gradient, its columns cut into four blocks. -/
theorem V_main_v3 : V m c main_v3 = transpose S4x2048x704 [1, 0, 2] (shapeCast S2048x4x704 (m ((c : Thread nD τ).loc main_arg1)) shapeCasts_S2048x2816_S2048x4x704) transposes_S2048x4x704_S4x2048x704_1_0_2 := by
  show StableHlo.after hostOps0 _ (Proc.devRef .tc main_v3) = _
  after_results
  rfl

theorem index0 : ∀ t : Fin cfg0.N, win0_0.index t 0 = min t.val 3 ∧ win0_0.index t 1 = 0 ∧ win0_0.index t 2 = 0 := by decide +kernel
theorem index1 : ∀ t : Fin cfg0.N, win0_1.index t 0 = t.val - 4 ∧ win0_1.index t 1 = 0 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 ∧ win0_3.index t 2 = 0 := by decide +kernel

/-- At the first four points window 0 stages the point's block of columns of the gate's gradient. -/
theorem iblk0 (t : Fin cfg0.N) (h : t.val < 4) (s : Fin 2048) (l : Fin 704) :
    (iblk m c 0 t : Vec Ideal S1x2048x704 .bf16) (ix3 0 s l) = Dg m c (ix2 s (col t.val l)) := by
  unfold iblk
  rw [View.read_apply]
  have e : ((win0_0.blk t).view.emb (ix3 0 s l)) = (ix3 ⟨t.val % 4, Nat.mod_lt _ (by decide)⟩ s l) := funext fun a => Fin.ext (match a with
    | ⟨0,_⟩ => by show win0_0.index t 0 * 1 + 1 * (ix3 0 s l 0).val = _; simp [index0 t]; omega
    | ⟨1,_⟩ => by show win0_0.index t 1 * 2048 + 1 * (ix3 0 s l 1).val = _; simp [index0 t]
    | ⟨2,_⟩ => by show win0_0.index t 2 * 704 + 1 * (ix3 0 s l 2).val = _; simp [index0 t])
  show V m c main_v1 ((win0_0.blk t).view.emb (ix3 0 s l)) = _
  rw [e, V_main_v1]
  pointwise
  rfl

/-- At the last four points window 1 stages the point's block of columns of the value's gradient. -/
theorem iblk1 (t : Fin cfg0.N) (h : 4 ≤ t.val) (s : Fin 2048) (l : Fin 704) :
    (iblk m c 1 t : Vec Ideal S1x2048x704 .bf16) (ix3 0 s l) = Dv m c (ix2 s (col t.val l)) := by
  have h8 := lt8 t
  unfold iblk
  rw [View.read_apply]
  have e : ((win0_1.blk t).view.emb (ix3 0 s l)) = (ix3 ⟨t.val % 4, Nat.mod_lt _ (by decide)⟩ s l) := funext fun a => Fin.ext (match a with
    | ⟨0,_⟩ => by show win0_1.index t 0 * 1 + 1 * (ix3 0 s l 0).val = _; simp [index1 t]; omega
    | ⟨1,_⟩ => by show win0_1.index t 1 * 2048 + 1 * (ix3 0 s l 1).val = _; simp [index1 t]
    | ⟨2,_⟩ => by show win0_1.index t 2 * 704 + 1 * (ix3 0 s l 2).val = _; simp [index1 t])
  show V m c main_v3 ((win0_1.blk t).view.emb (ix3 0 s l)) = _
  rw [e, V_main_v3]
  pointwise
  rfl

/-- Window 2 stages the whole input. -/
theorem iblk2 (t : Fin cfg0.N) (s : Fin 2048) (d : Fin 1024) : (iblk m c 2 t : Vec Ideal S2048x1024 .bf16) (ix2 s d) = Hf m c (ix2 s d) := by
  unfold iblk
  rw [View.read_apply]
  have e : ((win0_2.blk t).view.emb (ix2 s d)) = (ix2 s d) := funext fun a => Fin.ext (match a with
    | ⟨0,_⟩ => by show win0_2.index t 0 * 2048 + 1 * (ix2 s d 0).val = _; simp [index2 t]
    | ⟨1,_⟩ => by show win0_2.index t 1 * 1024 + 1 * (ix2 s d 1).val = _; simp [index2 t])
  show V m c main_arg2 ((win0_2.blk t).view.emb (ix2 s d)) = _
  rw [e, V_main_arg2]

theorem zero3 : (![0, 0, 0] : Fin 3 → Nat) = fun _ => 0 := funext fun a => by fin_cases a <;> rfl
theorem zero2 : (![0, 0] : Fin 2 → Nat) = fun _ => 0 := funext fun a => by fin_cases a <;> rfl

/-- The first four points store the product of their gate block and the input. -/
theorem outs_gate (t : Fin cfg0.N) (h : t.val < 4) : outsAt0 m c t.val t.isLt = k0_pay1 (iblk m c 0 t) (iblk m c 2 t) := by
  rw [outsAt0_A m c t h (by omega)]
  unfold out0_A_3
  rw [View.read_writes_eq_canon _ _ _ (fun y => cover0_A_3 (y := y) ..)]
  unfold kernelRun0_A
  dsimp only
  sl_unfold_words
  rw [View.canon_unit_zero zero3]
  simp only [View.readAt_eq_ld, (hs0_0 t).read_unread, (hs0_1 t).read_unread, (hs0_2 t).read_unread,
    View.ld_unit_zero (S := S1x2048x704) zero3, View.ld_unit_zero (S := S2048x1024) zero2]

/-- The last four points store the product of their value block and the input. -/
theorem outs_value (t : Fin cfg0.N) (h : 4 ≤ t.val) : outsAt0 m c t.val t.isLt = k0_pay2 (iblk m c 1 t) (iblk m c 2 t) := by
  rw [outsAt0_B m c t (by omega) h]
  unfold out0_B_3
  rw [View.read_writes_eq_canon _ _ _ (fun y => cover0_B_3 (y := y) ..)]
  unfold kernelRun0_B
  dsimp only
  sl_unfold_words
  rw [View.canon_unit_zero zero3]
  simp only [View.readAt_eq_ld, (hs0_0 t).read_unread, (hs0_1 t).read_unread, (hs0_2 t).read_unread,
    View.ld_unit_zero (S := S1x2048x704) zero3, View.ld_unit_zero (S := S2048x1024) zero2]

/-- The product a gate point stores, entry by entry. -/
theorem pay1_apply (x : Vec Ideal S1x2048x704 .bf16) (y : Vec Ideal S2048x1024 .bf16) (l : Fin 704) (d : Fin 1024) :
    k0_pay1 x y (ix3 0 l d) = ∑ s : Fin 2048, x (ix3 0 s l) * y (ix2 s d) := by
  pointwise [k0_pay1]

/-- The product a value point stores, entry by entry. -/
theorem pay2_apply (x : Vec Ideal S1x2048x704 .bf16) (y : Vec Ideal S2048x1024 .bf16) (l : Fin 704) (d : Fin 1024) :
    k0_pay2 x y (ix3 0 l d) = ∑ s : Fin 2048, x (ix3 0 s l) * y (ix2 s d) := by
  pointwise [k0_pay2]

/-- What a point leaves in its block. -/
theorem out_apply (t : Fin cfg0.N) (l : Fin 704) (d : Fin 1024) :
    outsAt0 m c t.val t.isLt (ix3 0 l d)
      = ∑ s : Fin 2048, (if t.val < 4 then Dg m c (ix2 s (col t.val l)) else Dv m c (ix2 s (col t.val l))) * Hf m c (ix2 s d) := by
  by_cases h : t.val < 4
  · rw [outs_gate m c t h, pay1_apply]
    exact Finset.sum_congr rfl fun s _ => congrArg₂ (· * ·) ((iblk0 m c t h s l).trans (if_pos h).symm) (iblk2 m c t s d)
  · rw [outs_value m c t (by omega), pay2_apply]
    exact Finset.sum_congr rfl fun s _ => congrArg₂ (· * ·) ((iblk1 m c t (by omega) s l).trans (if_neg h).symm) (iblk2 m c t s d)

/-- Where the result's block lies. -/
theorem emb3 (t : Fin cfg0.N) (l : Fin 704) (d : Fin 1024) : (win0_3.blk t).view.emb (ix3 0 l d) = ix3 (⟨t.val, lt8 t⟩ : Fin 8) l d :=
  funext fun a => Fin.ext (match a with
    | ⟨0,_⟩ => by show win0_3.index t 0 * 1 + 1 * 0 = _; simp [index3 t]
    | ⟨1,_⟩ => by show win0_3.index t 1 * 704 + 1 * l.val = _; simp [index3 t]
    | ⟨2,_⟩ => by show win0_3.index t 2 * 1024 + 1 * d.val = _; simp [index3 t])

/-- The result after the run. -/
theorem final3 : (dats m 0 c).arrAt 3 cfg0.N = R3 m c := by
  refine (dats m 0 c).arrAt_eq_of_covers 3 _ (by decide +kernel) fun t hf y => ?_
  blk_simp
  rw [after0_3]
  obtain ⟨a, l, d, rfl⟩ : ∃ (a : Fin 1) (l : Fin 704) (d : Fin 1024), y = ix3 a l d := ⟨y 0, y 1, y 2, eq_ix3 y⟩
  obtain rfl : a = 0 := Subsingleton.elim _ _
  rw [emb3]
  exact out_apply m c t l d

end Cert.GupIdeal.Up

end
-- ==== Proof.Gup.Claims.lean ====
/-
  The claims about the kernel of the up weights' gradient and its reference: each runs, leaves its arguments as they were and every
  counter at zero, and the two leave the same array.
-/
module

public import proofs.«01_k».proof.Defs
public import proofs.«01_k».proof.Proof.Gen.Gup.Frame
public import proofs.«01_k».proof.Proof.Gen.GupRefIdeal.Run
public import proofs.«01_k».proof.Proof.Gup.Outs
public import Idealize.ShloMosaic.Lib.Quiescent

@[expose] public section

noncomputable section

namespace Cert.UpGrad

open Cert.GupRefIdeal Cert.GupRefIdeal.Gen Idealize.ShloMosaic Idealize.ShloMosaic.TcCoe Idealize.SL.Sem

/-- The reference keeps its frame. -/
theorem frame_reference : Cert.quiescent_GupRefIdeal (hGupRefIdeal := Cert.GupRefIdeal.Gen.facts) := fun m ρ _ =>
  (θ_run _ _ _).mono (fun r h => ⟨fun c => (h c).2, sem_eq_zero_of_no_sems (by decide) r.2⟩) (GupRefIdeal.Value.run m ρ)

/-- The reference's array, entry by entry: row `l` of block `q` belongs to the gate below the fourth block, to the value from it on. -/
theorem reference_apply (x y : FVec Ideal S2048x2816 .bf16) (z : FVec Ideal S2048x1024 .bf16) (q : Fin 8) (l : Fin 704) (d : Fin 1024) :
    (truncf .bf16 (shapeCast S8x704x1024 (transpose S5632x1024 [1, 0] (transpose S1024x5632 [1, 0] (Host.dotGeneral dot_S2048x5632_S2048x1024_S5632x1024_0_0_1_1_n_n none
      (concatenate S2048x5632 1 [⟨S2048x2816, (extf .f32 x bitsLt_bf16_f32)⟩, ⟨S2048x2816, (extf .f32 y bitsLt_bf16_f32)⟩] concatenates_S2048x2816_S2048x2816_S2048x5632_d1)
      (extf .f32 z bitsLt_bf16_f32)) transposes_S5632x1024_S1024x5632_1_0) transposes_S1024x5632_S5632x1024_1_0) shapeCasts_S5632x1024_S8x704x1024) bitsLt_bf16_f32
        : FVec Ideal S8x704x1024 .bf16) (ix3 q l d)
      = ∑ s : Fin 2048, (if q.val < 4 then x (ix2 s (GupIdeal.Up.col q.val l)) else y (ix2 s (GupIdeal.Up.col q.val l))) * z (ix2 s d) := by
  pointwise
  have hl := l.isLt
  refine Finset.sum_congr rfl fun s _ => congrArg₂ (· * ·) ?_ rfl
  by_cases h : q.val < 4
  · rw [dif_pos (by omega), if_pos h]
    exact congrArg x (congrArg (ix2 s) (Fin.ext (by show q.val * 704 + l.val = q.val % 4 * 704 + l.val; omega)))
  · rw [dif_neg (by omega), if_neg h]
    exact congrArg y (congrArg (ix2 s) (Fin.ext (by show q.val * 704 + l.val - 2816 = q.val % 4 * 704 + l.val; omega)))

/-- The kernel and the reference leave the same array. -/
theorem algebraic : Cert.algebraic_GupIdeal_GupRefIdeal (hGupIdeal := Cert.GupIdeal.Gen.facts) (hGupRefIdeal := Cert.GupRefIdeal.Gen.facts) := by
  intro m ρ m' ρ' _ hargs
  refine ⟨GupIdeal.Up.R3 m, ?_, ?_⟩
  · exact (θ_run _ _ _).mono (fun r hr c => ⟨(hr c).1.trans (GupIdeal.Up.final3 m c), (hr c).2⟩) (GupIdeal.Value.run_blocks m ρ)
  · refine (θ_run _ _ _).mono (fun r hr c => ⟨(hr c).1.trans ?_, (hr c).2⟩) (GupRefIdeal.Value.run m' ρ')
    rw [(hargs c).1, (hargs c).2.1, (hargs c).2.2]
    funext i
    obtain ⟨q, l, d, rfl⟩ : ∃ (q : Fin 8) (l : Fin 704) (d : Fin 1024), i = ix3 q l d := ⟨i 0, i 1, i 2, eq_ix3 i⟩
    exact reference_apply _ _ _ q l d

end Cert.UpGrad

end
-- ==== Proof.Gdown.Outs.lean ====
/-
  What the kernel of the down weights' gradient leaves: at each point the product of a block of columns of the activation
  with the output's gradient, and after the run the whole product.
-/
module

public import proofs.«01_k».proof.Proof.Gen.GdownIdeal.Value
public import Idealize.ShloMosaic.Lib.Pointwise
public import Idealize.ShloMosaic.Lib.Claim
public import Idealize.ShloMosaic.Lib.Pipeline.ValueKit

@[expose] public section

noncomputable section

namespace Cert.GdownIdeal.Down

open Cert.GdownIdeal Cert.GdownIdeal.Gen Idealize.ShloMosaic Idealize.ShloMosaic.TcCoe Idealize.SL.Sem

variable (m : (ℓ : Loc nD τ sig) → Buf (Elt Ideal) ℓ) (c : Dev nD)

/-- The activation. -/
abbrev Act : Vec Ideal S2048x2816 .bf16 := m ((c : Thread nD τ).loc main_arg0)
/-- The gradient of the layer's output. -/
abbrev Dh : Vec Ideal S2048x1024 .bf16 := m ((c : Thread nD τ).loc main_arg1)

/-- The gradient of the down weights: `actᵀ · dh`. -/
def R2 : Vec Ideal S2816x1024 .bf16 := fun i => ∑ s : Fin 2048, Act m c (ix2 s (i 0)) * Dh m c (ix2 s (i 1))

/-- The grid has four points. -/
theorem lt4 (t : Fin cfg0.N) : t.val < 4 := Nat.lt_of_lt_of_eq t.isLt N_0

/-- Column `l` of the point's block of columns. -/
def col (t : Fin cfg0.N) (l : Fin 704) : Fin 2816 := ⟨t.val * 704 + l.val, by have := lt4 t; have := l.isLt; omega⟩

/-- The activation, its columns cut into four blocks. -/
theorem V_main_v1 : V m c main_v1 = transpose S4x2048x704 [1, 0, 2] (shapeCast S2048x4x704 (m ((c : Thread nD τ).loc main_arg0)) shapeCasts_S2048x2816_S2048x4x704) transposes_S2048x4x704_S4x2048x704_1_0_2 := by
  show StableHlo.after hostOps0 _ (Proc.devRef .tc main_v1) = _
  after_results
  rfl

theorem index0 : ∀ t : Fin cfg0.N, win0_0.index t 0 = t.val ∧ win0_0.index t 1 = 0 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- Window 0 stages the point's block of columns of the activation. -/
theorem iblk0 (t : Fin cfg0.N) (s : Fin 2048) (l : Fin 704) : (iblk m c 0 t : Vec Ideal S1x2048x704 .bf16) (ix3 0 s l) = Act m c (ix2 s (col t l)) := by
  unfold iblk
  rw [View.read_apply]
  have e : ((win0_0.blk t).view.emb (ix3 0 s l)) = (ix3 ⟨t.val, lt4 t⟩ s l) := funext fun a => Fin.ext (match a with
    | ⟨0,_⟩ => by show win0_0.index t 0 * 1 + 1 * (ix3 0 s l 0).val = _; simp [index0 t]
    | ⟨1,_⟩ => by show win0_0.index t 1 * 2048 + 1 * (ix3 0 s l 1).val = _; simp [index0 t]
    | ⟨2,_⟩ => by show win0_0.index t 2 * 704 + 1 * (ix3 0 s l 2).val = _; simp [index0 t])
  show V m c main_v1 ((win0_0.blk t).view.emb (ix3 0 s l)) = _
  rw [e, V_main_v1]
  pointwise
  rfl

/-- Window 1 stages the whole gradient of the output. -/
theorem iblk1 (t : Fin cfg0.N) (s : Fin 2048) (d : Fin 1024) : (iblk m c 1 t : Vec Ideal S2048x1024 .bf16) (ix2 s d) = Dh m c (ix2 s d) := by
  unfold iblk
  rw [View.read_apply]
  have e : ((win0_1.blk t).view.emb (ix2 s d)) = (ix2 s d) := funext fun a => Fin.ext (match a with
    | ⟨0,_⟩ => by show win0_1.index t 0 * 2048 + 1 * (ix2 s d 0).val = _; simp [index1 t]
    | ⟨1,_⟩ => by show win0_1.index t 1 * 1024 + 1 * (ix2 s d 1).val = _; simp [index1 t])
  show V m c main_arg1 ((win0_1.blk t).view.emb (ix2 s d)) = _
  rw [e, V_main_arg1]

theorem zero3 : (![0, 0, 0] : Fin 3 → Nat) = fun _ => 0 := funext fun a => by fin_cases a <;> rfl
theorem zero2 : (![0, 0] : Fin 2 → Nat) = fun _ => 0 := funext fun a => by fin_cases a <;> rfl

/-- The product a point stores, entry by entry. -/
theorem pay_apply (x : Vec Ideal S1x2048x704 .bf16) (y : Vec Ideal S2048x1024 .bf16) (l : Fin 704) (d : Fin 1024) :
    k0_pay1 x y (ix2 l d) = ∑ s : Fin 2048, x (ix3 0 s l) * y (ix2 s d) := by
  pointwise [k0_pay1]

/-- What a point leaves in its block. -/
theorem out_apply (t : Fin cfg0.N) (l : Fin 704) (d : Fin 1024) :
    out0_2 (iblk m c 0 t) (iblk m c 1 t) (ix2 l d) = ∑ s : Fin 2048, Act m c (ix2 s (col t l)) * Dh m c (ix2 s d) := by
  unfold out0_2
  rw [View.canon_unit_zero zero2]
  rw [View.ld_unit_zero (S := S1x2048x704) zero3, View.ld_unit_zero (S := S2048x1024) zero2]
  rw [pay_apply]
  exact Finset.sum_congr rfl fun s _ => congrArg₂ (· * ·) (iblk0 m c t s l) (iblk1 m c t s d)

/-- Where the result's block lies. -/
theorem emb2 (t : Fin cfg0.N) (l : Fin 704) (d : Fin 1024) : (win0_2.blk t).view.emb (ix2 l d) = ix2 (col t l) d :=
  funext fun a => Fin.ext (match a with
    | ⟨0,_⟩ => by show win0_2.index t 0 * 704 + 1 * l.val = _; simp [index2 t, col]
    | ⟨1,_⟩ => by show win0_2.index t 1 * 1024 + 1 * d.val = _; simp [index2 t])

/-- The result after the run. -/
theorem final2 : (dats m 0 c).arrAt 2 cfg0.N = R2 m c := by
  refine (dats m 0 c).arrAt_eq_of_covers 2 _ (by decide +kernel) fun t hf y => ?_
  blk_simp
  rw [after0_2]
  obtain ⟨l, d, rfl⟩ : ∃ (l : Fin 704) (d : Fin 1024), y = ix2 l d := ⟨y 0, y 1, eq_ix2 y⟩
  rw [emb2]
  exact out_apply m c t l d

end Cert.GdownIdeal.Down

end
-- ==== Proof.Gdown.Claims.lean ====
/-
  The claims about the kernel of the down weights' gradient and its reference: each runs, leaves its arguments as they were and every
  counter at zero, and the two leave the same array.
-/
module

public import proofs.«01_k».proof.Defs
public import proofs.«01_k».proof.Proof.Gen.Gdown.Frame
public import proofs.«01_k».proof.Proof.Gen.GdownRefIdeal.Run
public import proofs.«01_k».proof.Proof.Gdown.Outs
public import Idealize.ShloMosaic.Lib.Quiescent

@[expose] public section

noncomputable section

namespace Cert.DownGrad

open Cert.GdownRefIdeal Cert.GdownRefIdeal.Gen Idealize.ShloMosaic Idealize.ShloMosaic.TcCoe Idealize.SL.Sem

/-- The reference keeps its frame. -/
theorem frame_reference : Cert.quiescent_GdownRefIdeal (hGdownRefIdeal := Cert.GdownRefIdeal.Gen.facts) := fun m ρ _ =>
  (θ_run _ _ _).mono (fun r h => ⟨fun c => (h c).2, sem_eq_zero_of_no_sems (by decide) r.2⟩) (GdownRefIdeal.Value.run m ρ)

/-- The reference's array, from the kernel's arguments, entry by entry: its product has the factors the other way round. -/
theorem reference_apply (x : FVec Ideal S2048x2816 .bf16) (y : FVec Ideal S2048x1024 .bf16) (k : Fin 2816) (d : Fin 1024) :
    (truncf .bf16 (transpose S2816x1024 [1, 0] (Host.dotGeneral dot_S2048x1024_S2048x2816_S1024x2816_0_0_1_1_n_n none (extf .f32 y bitsLt_bf16_f32) (extf .f32 x bitsLt_bf16_f32))
      transposes_S1024x2816_S2816x1024_1_0) bitsLt_bf16_f32 : FVec Ideal S2816x1024 .bf16) (ix2 k d) = ∑ s : Fin 2048, x (ix2 s k) * y (ix2 s d) := by
  pointwise
  exact Finset.sum_congr rfl fun s _ => mul_comm _ _

/-- The kernel and the reference leave the same array. -/
theorem algebraic : Cert.algebraic_GdownIdeal_GdownRefIdeal (hGdownIdeal := Cert.GdownIdeal.Gen.facts) (hGdownRefIdeal := Cert.GdownRefIdeal.Gen.facts) := by
  intro m ρ m' ρ' _ hargs
  refine ⟨GdownIdeal.Down.R2 m, ?_, ?_⟩
  · exact (θ_run _ _ _).mono (fun r hr c => ⟨(hr c).1.trans (GdownIdeal.Down.final2 m c), (hr c).2⟩) (GdownIdeal.Value.run_blocks m ρ)
  · refine (θ_run _ _ _).mono (fun r hr c => ⟨(hr c).1.trans ?_, (hr c).2⟩) (GdownRefIdeal.Value.run m' ρ')
    rw [(hargs c).1, (hargs c).2]
    funext i
    obtain ⟨k, d, rfl⟩ : ∃ (k : Fin 2816) (d : Fin 1024), i = ix2 k d := ⟨i 0, i 1, eq_ix2 i⟩
    exact reference_apply _ _ k d

end Cert.DownGrad

end
-- ==== Proof.Norm.Row.lean ====
/-
  One row of the backward pass of the root-mean-square norm: as the kernel writes it, and as differentiation writes it.
  The two agree for all extended reals: where the mean of the squares is infinite both scale with zero, elsewhere both
  scale with the same positive real.
-/
module

public import Idealize.ShloMosaic.PureOps.Ideal

@[expose] public section

noncomputable section

namespace Cert.Norm

open Idealize.ShloMosaic

/-- The number of lanes in a row. -/
abbrev lanes : EReal := Ideal.ofBits .f32 0x44800000#32
/-- The small constant under the root. -/
abbrev small : EReal := Ideal.ofBits .f32 0x358637BD#32

theorem lanes_eq : lanes = ((1024 : ℝ) : EReal) := by
  simp [Ideal.ofBits, Ideal.ieee, -EReal.coe_mul]; norm_num
theorem small_pos : ∃ e : ℝ, 0 < e ∧ small = (e : EReal) := by
  refine ⟨(Ideal.ofBits .f32 0x358637BD#32).toReal, ?_, ?_⟩ <;> simp [Ideal.ofBits, Ideal.ieee, -EReal.coe_mul]
theorem half_neg : Ideal.ofBits .f32 0xBF000000#32 = ((-(1 / 2) : ℝ) : EReal) := by
  simp [Ideal.ofBits, Ideal.ieee, -EReal.coe_mul]; norm_num

/-- The mean of a row's squares and the small constant. -/
def mean2 (x : Fin 1024 → EReal) : EReal := Ideal.div (∑ k, x k * x k) lanes + small

/-- The row's scale. -/
def scale (x : Fin 1024 → EReal) : EReal := Ideal.rsqrt (mean2 x)

/-- The gradient of the norm's input in a row, the kernel's way. -/
def dxKer (p x g : Fin 1024 → EReal) (d : EReal) (l : Fin 1024) : EReal :=
  d + scale x * (p l * g l - x l * scale x * Ideal.div (∑ k, p k * g k * (x k * scale x)) lanes)

/-- The gradient of a square, as differentiation writes it. -/
def square (a x : Fin 1024 → EReal) : EReal :=
  Ideal.div ((∑ k, x k * a k) * (Ideal.ofBits .f32 0xBF000000#32 * Ideal.div (scale x) (mean2 x))) lanes

/-- The gradient of the norm's input in a row, as differentiation writes it. -/
def dxRef (p x g : Fin 1024 → EReal) (d : EReal) (l : Fin 1024) : EReal :=
  d + p l * g l * scale x + x l * square (fun k => p k * g k) x + square (fun k => p k * g k) x * x l

/-- Division by the number of lanes is a product with a real. -/
theorem div_lanes (y : EReal) : Ideal.div y lanes = y * ((1024⁻¹ : ℝ) : EReal) := by
  rw [lanes_eq, Ideal.div, if_neg (by norm_num), ← EReal.coe_inv]

/-- A nonnegative real comes out of a sum. -/
theorem sum_mul_real {n : ℕ} (f : Fin n → EReal) (r : ℝ) (h : 0 ≤ r) : ∑ k, f k * (r : EReal) = (∑ k, f k) * (r : EReal) := by
  have aux (s : Finset (Fin n)) : ∑ k ∈ s, f k * (r : EReal) = (∑ k ∈ s, f k) * (r : EReal) := by
    induction s using Finset.induction_on with
    | empty => simp
    | insert a s ha ih =>
      rw [Finset.sum_insert ha, Finset.sum_insert ha, ih, EReal.right_distrib_of_nonneg_of_ne_top (by exact_mod_cast h) (EReal.coe_ne_top r)]
  exact aux Finset.univ

/-- A sum over tiles of rows is the sum over the rows. -/
theorem sum_tiles (a b : ℕ) (f : ℕ → EReal) : (∑ i ∈ Finset.range a, ∑ r : Fin b, f (b * i + r.val)) = ∑ t : Fin (a * b), f t.val := by
  rw [Finset.sum_range, ← Fintype.sum_prod_type' (f := fun (i : Fin a) (r : Fin b) => f (b * i.val + r.val))]
  exact Fintype.sum_equiv finProdFinEquiv _ _ fun p => congrArg f (add_comm _ _)

/-- The gradient of a gain in one row, and nothing past the last row. -/
def gainAt (p x : Fin 2048 → Fin 1024 → EReal) (l : Fin 1024) (t : ℕ) : EReal :=
  if h : t < 2048 then p ⟨t, h⟩ l * (x ⟨t, h⟩ l * scale (x ⟨t, h⟩)) else 0

/-- The gradient of a gain: the sum over the rows. -/
def gain (p x : Fin 2048 → Fin 1024 → EReal) (l : Fin 1024) : EReal := ∑ t : Fin 2048, p t l * (x t l * scale (x t))

theorem gainAt_row (p x : Fin 2048 → Fin 1024 → EReal) (l : Fin 1024) (t : Fin 2048) : gainAt p x l t.val = p t l * (x t l * scale (x t)) :=
  dif_pos t.isLt

theorem gain_eq (p x : Fin 2048 → Fin 1024 → EReal) (l : Fin 1024) : ∑ t : Fin 2048, gainAt p x l t.val = gain p x l :=
  Finset.sum_congr rfl fun t _ => gainAt_row p x l t

/-- The mean of squares is a positive real or infinite. -/
theorem mean2_cases (x : Fin 1024 → EReal) : mean2 x = ⊤ ∨ ∃ u : ℝ, 0 < u ∧ mean2 x = u := by
  obtain ⟨e, he, hs⟩ := small_pos
  have h0 : 0 ≤ ∑ k, x k * x k := Finset.sum_nonneg fun k _ => by
    induction x k with
    | bot => simp
    | top => simp
    | coe r => exact_mod_cast mul_self_nonneg r
  unfold mean2
  rw [div_lanes, hs]
  generalize (∑ k, x k * x k) = s at h0
  induction s with
  | bot => simp at h0
  | top => left; rw [EReal.top_mul_coe_of_pos (by norm_num)]; rfl
  | coe s =>
    right
    have h1 : (0 : ℝ) ≤ s := by exact_mod_cast h0
    exact ⟨s * 1024⁻¹ + e, by positivity, by norm_cast⟩

/-- A number twice half. -/
theorem halves (y : EReal) : y * ((1 / 2 : ℝ) : EReal) + y * ((1 / 2 : ℝ) : EReal) = y := by
  have h : (0 : EReal) ≤ ((1 / 2 : ℝ) : EReal) := by exact_mod_cast (by norm_num : (0 : ℝ) ≤ 1 / 2)
  rw [← EReal.left_distrib_of_nonneg h h, ← EReal.coe_add]
  norm_num

/-- The kernel's row is the row of differentiation. -/
theorem dx_eq (p x g : Fin 1024 → EReal) (d : EReal) (l : Fin 1024) : dxKer p x g d l = dxRef p x g d l := by
  unfold dxKer dxRef square
  rcases mean2_cases x with h | ⟨u, hu, h⟩
  · have hr : scale x = 0 := by unfold scale; rw [h]; rfl
    rw [hr, h]
    simp [Ideal.div, lanes_eq]
  · have hr : scale x = (((Real.sqrt u)⁻¹ : ℝ) : EReal) := by
      unfold scale
      rw [h]
      show (if u < 0 then ⊥ else if u = 0 then ⊤ else (((Real.sqrt u)⁻¹ : ℝ) : EReal)) = _
      rw [if_neg (by linarith), if_neg (by linarith)]
    have hpos : 0 < (Real.sqrt u)⁻¹ := inv_pos.mpr (Real.sqrt_pos.mpr hu)
    have hsq : (Real.sqrt u)⁻¹ * (Real.sqrt u)⁻¹ = u⁻¹ := by rw [← mul_inv, Real.mul_self_sqrt hu.le]
    have hdiv : Ideal.div (scale x) (mean2 x) = (((Real.sqrt u)⁻¹ * u⁻¹ : ℝ) : EReal) := by
      rw [hr, h, Ideal.div, if_neg (by exact_mod_cast hu.ne'), ← EReal.coe_inv, ← EReal.coe_mul]
    rw [hdiv, hr, half_neg, div_lanes, div_lanes]
    generalize (Real.sqrt u)⁻¹ = r at hpos hsq
    have hsum : ∑ k, p k * g k * (x k * (r : EReal)) = (∑ k, x k * (p k * g k)) * (r : EReal) := by
      rw [← sum_mul_real _ _ hpos.le]
      exact Finset.sum_congr rfl fun k _ => by ac_rfl
    rw [hsum, ← EReal.coe_mul]
    generalize (∑ k, x k * (p k * g k)) = S
    have hl : (r : EReal) * (p l * g l - x l * r * (S * r * ((1024⁻¹ : ℝ) : EReal)))
        = p l * g l * r + x l * S * ((-(r * r * r * 1024⁻¹) : ℝ) : EReal) := by
      rw [sub_eq_add_neg, EReal.left_distrib_of_nonneg_of_ne_top (by exact_mod_cast hpos.le) (EReal.coe_ne_top r), mul_comm (r : EReal) (p l * g l),
        mul_neg, EReal.coe_neg, mul_neg, EReal.coe_mul, EReal.coe_mul, EReal.coe_mul]
      congr 2
      ac_rfl
    have hq : x l * (S * ((-(1 / 2) * (r * u⁻¹) : ℝ) : EReal) * ((1024⁻¹ : ℝ) : EReal))
        = x l * S * ((-(r * r * r * 1024⁻¹) : ℝ) : EReal) * ((1 / 2 : ℝ) : EReal) := by
      rw [mul_assoc, ← EReal.coe_mul, mul_assoc (x l * S), ← EReal.coe_mul, ← mul_assoc]
      congr 2
      rw [← hsq]
      ring
    rw [hl, mul_comm _ (x l), hq, add_assoc, halves, add_assoc]

end Cert.Norm

end
-- ==== Proof.Din.Reference.lean ====
/-
  What the reference of a layer's input gradient computes from the product with the weights, entry by entry: the
  derivative of the root-mean-square norm, as differentiation writes it.
-/
module

public import proofs.«01_k».proof.Proof.Gen.DinRefIdeal.Run
public import proofs.«01_k».proof.Proof.Norm.Row
public import Idealize.ShloMosaic.Lib.Pointwise

@[expose] public section

noncomputable section

namespace Cert.DinRefIdeal.Norm

open Cert.Norm Cert.DinRefIdeal Cert.DinRefIdeal.Gen Idealize.ShloMosaic Idealize.ShloMosaic.TcCoe

/-- The mean of a row's squares and the small constant. -/
def U (x : FVec Ideal S2048x1024 .f32) : FVec Ideal S2048x1 .f32 :=
  addf (Host.divf (broadcastInDim S2048x1 ![0] bcast_S2048_S2048x1_0 (Host.reduceAdd (mulf x x) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))

/-- The gradient of each square. -/
def Q (x a : FVec Ideal S2048x1024 .f32) : FVec Ideal S2048x1024 .f32 :=
  broadcastInDim S2048x1024 ![0] bcast_S2048_S2048x1024_0 (Host.reduceAdd (Host.divf (mulf (shapeCast S2048x1 (Host.reduceAdd (mulf x a) (constant S_ .f32 0x00000000#32)
    reducesTo_S2048x1024_S2048_d1 h_S_) shapeCasts_S2048_S2048x1) (mulf (broadcastInDim S2048x1 ![] bcast_S_S2048x1 (constant S_ .f32 0xBF000000#32))
      (Host.divf (Host.rsqrt (U x)) (U x)))) (broadcastInDim S2048x1 ![] bcast_S_S2048x1 (constant S_ .f32 0x44800000#32))) (constant S_ .f32 0x00000000#32) reducesTo_S2048x1_S2048_d1 h_S_)

/-- The gradient scaled by the gains. -/
def A (p : FVec Ideal S2048x1024 .f32) (g : FVec Ideal S1x1024 .f32) : FVec Ideal S2048x1024 .f32 :=
  mulf p (broadcastInDim S2048x1024 ![0, 1] bcast_S1x1024_S2048x1024_0_1 g)

/-- The gradient of the norm's input, with what comes by the residual. -/
def DX (p x d : FVec Ideal S2048x1024 .f32) (g : FVec Ideal S1x1024 .f32) : FVec Ideal S2048x1024 .f32 :=
  addf (addf (addf d (mulf (A p g) (broadcastInDim S2048x1024 ![0, 1] bcast_S2048x1_S2048x1024_0_1 (Host.rsqrt (U x))))) (mulf x (Q x (A p g)))) (mulf (Q x (A p g)) x)

theorem U_apply (x : FVec Ideal S2048x1024 .f32) (t : Fin 2048) : U x (ix2 t 0) = mean2 fun k => x (ix2 t k) := by
  pointwise [U]
  rfl

theorem Q_apply (x a : FVec Ideal S2048x1024 .f32) (t : Fin 2048) (l : Fin 1024) : Q x a (ix2 t l) = square (fun k => a (ix2 t k)) fun k => x (ix2 t k) := by
  pointwise [Q]
  rw [Fin.sum_univ_one, U_apply]
  rfl

/-- The gradient of the norm's input, entry by entry. -/
theorem DX_apply (p x d : FVec Ideal S2048x1024 .f32) (g : FVec Ideal S1x1024 .f32) (t : Fin 2048) (l : Fin 1024) :
    DX p x d g (ix2 t l) = dxRef (fun k => p (ix2 t k)) (fun k => x (ix2 t k)) (fun k => g (ix2 0 k)) (d (ix2 t l)) l := by
  have e (k : Fin 1024) : A p g (ix2 t k) = p (ix2 t k) * g (ix2 0 k) := by pointwise [A]
  unfold DX
  pointwise
  rw [Q_apply, U_apply, e]
  simp only [e]
  rfl

/-- The gradient of the gains. -/
def DG (p x : FVec Ideal S2048x1024 .f32) : FVec Ideal S1x1024 .f32 :=
  shapeCast S1x1024 (Host.reduceAdd (mulf (mulf x (broadcastInDim S2048x1024 ![0, 1] bcast_S2048x1_S2048x1024_0_1 (Host.rsqrt (U x)))) p) (constant S_ .f32 0x00000000#32)
    reducesTo_S2048x1024_S1024_d0 h_S_) shapeCasts_S1024_S1x1024

/-- The gradient of the gains, entry by entry. -/
theorem DG_apply (p x : FVec Ideal S2048x1024 .f32) (l : Fin 1024) :
    DG p x (ix2 0 l) = ∑ t : Fin 2048, p (ix2 t l) * (x (ix2 t l) * scale fun k => x (ix2 t k)) := by
  pointwise [DG]
  refine Finset.sum_congr rfl fun t _ => ?_
  rw [U_apply, mul_comm]
  rfl

/-- The gradient of the normed input: the product with the mixer's weights. -/
def P (z : FVec Ideal S2048x3072 .bf16) (w : FVec Ideal S1024x3072 .bf16) : FVec Ideal S2048x1024 .f32 :=
  Host.dotGeneral dot_S2048x3072_S1024x3072_S2048x1024_1_1_0_0_n_n none (extf .f32 z bitsLt_bf16_f32) (extf .f32 w bitsLt_bf16_f32)

theorem P_apply (z : FVec Ideal S2048x3072 .bf16) (w : FVec Ideal S1024x3072 .bf16) (t : Fin 2048) (l : Fin 1024) :
    P z w (ix2 t l) = ∑ j : Fin 3072, z (ix2 t j) * w (ix2 l j) := by
  pointwise [P]

end Cert.DinRefIdeal.Norm

end
-- ==== Proof.Din.Outs.lean ====
/-
  What a grid point of the kernel of the step's input gradient leaves, in terms of what its windows stage.
-/
module

public import proofs.«01_k».proof.Proof.Gen.DinIdeal.Value
public import proofs.«01_k».proof.Proof.Norm.Row
public import Idealize.ShloMosaic.Lib.Pointwise

@[expose] public section

noncomputable section

namespace Cert.DinIdeal.In

open Cert.Norm Cert.DinIdeal Cert.DinIdeal.Gen Idealize.ShloMosaic Idealize.ShloMosaic.TcCoe Idealize.SL.Sem

theorem zero3 : (![0, 0, 0] : Fin 3 → Nat) = fun _ => 0 := funext fun a => by fin_cases a <;> rfl
theorem zero2 : (![0, 0] : Fin 2 → Nat) = fun _ => 0 := funext fun a => by fin_cases a <;> rfl

section
variable {F : FTy → Type} [FloatOps F]
variable (m : (ℓ : Loc nD τ sig) → Buf (Elt F) ℓ) (c : Dev nD) (t : Fin cfg0.N)

/-- The rows of the input's gradient a point leaves. -/
theorem outs_dx : (outsAt0 m c t.val t.isLt).1 = k0_pay5 (iblk m c 0 t) (iblk m c 1 t) (iblk m c 2 t) (iblk m c 4 t) (iblk m c 3 t) := by
  by_cases h : t.val % 4 = 0
  · rw [outsAt0_A m c t h (by have := Nat.lt_of_lt_of_eq t.isLt N_0; omega)]
    dsimp only
    unfold out0_A_5
    rw [View.read_writes_eq_canon _ _ _ (fun y => cover0_A_5 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      View.ld_unit_zero (S := S1x512x3072) zero3, View.ld_unit_zero (S := S1x1024x3072) zero3, View.ld_unit_zero (S := S512x1024) zero2, View.ld_unit_zero (S := S1x1024) zero2]
  · rw [outsAt0_B m c t h (by omega)]
    dsimp only
    unfold out0_B_5
    rw [View.read_writes_eq_canon _ _ _ (fun y => cover0_B_5 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      View.ld_unit_zero (S := S1x512x3072) zero3, View.ld_unit_zero (S := S1x1024x3072) zero3, View.ld_unit_zero (S := S512x1024) zero2, View.ld_unit_zero (S := S1x1024) zero2]

/-- The first point leaves its part of the gains' gradient. -/
theorem outs_dg_first (h : t.val % 4 = 0) : (outsAt0 m c t.val t.isLt).2.2 = k0_pay6 (iblk m c 0 t) (iblk m c 1 t) (iblk m c 2 t) := by
  rw [outsAt0_A m c t h (by have := Nat.lt_of_lt_of_eq t.isLt N_0; omega)]
  dsimp only
  unfold out0_A_7
  rw [View.read_writes_eq_canon _ _ _ (fun y => cover0_A_7 (y := y) ..)]
  unfold kernelRun0_A
  dsimp only
  sl_unfold_words
  rw [View.canon_unit_zero zero2]
  simp only [View.readAt_eq_ld, (hs0_0 t).read_unread, (hs0_1 t).read_unread, (hs0_2 t).read_unread,
    View.ld_unit_zero (S := S1x512x3072) zero3, View.ld_unit_zero (S := S1x1024x3072) zero3, View.ld_unit_zero (S := S512x1024) zero2]

/-- A later point leaves what the point before left, and its part. -/
theorem outs_dg_next (h : ¬t.val % 4 = 0) : (outsAt0 m c t.val t.isLt).2.2
    = k0_pay1 (k0_pay6 (iblk m c 0 t) (iblk m c 1 t) (iblk m c 2 t)) (outsAt0 m c (t.val - 1) (Nat.lt_of_le_of_lt (Nat.sub_le _ _) t.isLt)).2.2 := by
  rw [outsAt0_B m c t h (by omega)]
  dsimp only
  unfold out0_B_7
  rw [View.read_writes_eq_canon _ _ _ (fun y => cover0_B_7 (y := y) ..)]
  unfold kernelRun0_B
  dsimp only
  sl_unfold_words
  rw [View.canon_unit_zero zero2]
  simp only [View.readAt_eq_ld, (hs0_0 t).read_unread, (hs0_1 t).read_unread, (hs0_2 t).read_unread, (hs0_7 t).read_unread,
    View.ld_unit_zero (S := S1x512x3072) zero3, View.ld_unit_zero (S := S1x1024x3072) zero3, View.ld_unit_zero (S := S512x1024) zero2, View.ld_unit_zero (S := S1x1024) zero2]
end

variable (z : Vec Ideal S1x512x3072 .bf16) (w : Vec Ideal S1x1024x3072 .bf16) (x d : Vec Ideal S512x1024 .f32) (g : Vec Ideal S1x1024 .f32)

/-- The product of a tile's rows with the weights. -/
theorem prod_apply (r : Fin 512) (l : Fin 1024) : k0_pay2 z w (ix2 r l) = ∑ j : Fin 3072, z (ix3 0 r j) * w (ix3 0 l j) := by
  pointwise [k0_pay2]

/-- A row's scale. -/
theorem scale_apply (r : Fin 512) : k0_pay3 x (ix2 r 0) = scale fun k => x (ix2 r k) := by
  pointwise [k0_pay3]
  rfl

/-- The rows of the input's gradient, entry by entry. -/
theorem dx_apply (r : Fin 512) (l : Fin 1024) : k0_pay5 z w x d g (ix2 r l)
    = dxKer (fun k => k0_pay2 z w (ix2 r k)) (fun k => x (ix2 r k)) (fun k => g (ix2 0 k)) (d (ix2 r l)) l := by
  pointwise [k0_pay5, k0_pay4]
  rw [scale_apply]
  rfl

/-- A point's part of the gains' gradient, entry by entry. -/
theorem dg_apply (l : Fin 1024) : k0_pay6 z w x (ix2 0 l)
    = ∑ r : Fin 512, k0_pay2 z w (ix2 r l) * (x (ix2 r l) * scale fun k => x (ix2 r k)) := by
  pointwise [k0_pay6, k0_pay4]
  exact Finset.sum_congr rfl fun r _ => by rw [scale_apply]

/-- Adding a part. -/
theorem add_apply (y y' : Vec Ideal S1x1024 .f32) (l : Fin 1024) : k0_pay1 y y' (ix2 0 l) = y' (ix2 0 l) + y (ix2 0 l) := by
  pointwise [k0_pay1]

end Cert.DinIdeal.In

end
-- ==== Proof.Din.Result.lean ====
/-
  What the kernel of the step's input gradient leaves after the run: the gradient of the norm's input in every row, and
  the gradient of the gains summed over the rows.
-/
module

public import proofs.«01_k».proof.Proof.Din.Outs
public import Idealize.ShloMosaic.Lib.Claim
public import Idealize.ShloMosaic.Lib.Pipeline.ValueKit

@[expose] public section

noncomputable section

namespace Cert.DinIdeal.In

open Cert.Norm Cert.DinIdeal Cert.DinIdeal.Gen Idealize.ShloMosaic Idealize.ShloMosaic.TcCoe Idealize.SL.Sem

variable (m : (ℓ : Loc nD τ sig) → Buf (Elt Ideal) ℓ) (c : Dev nD)

/-- The gradient of the mixer's three projections. -/
abbrev Z : Vec Ideal S2048x3072 .bf16 := m ((c : Thread nD τ).loc main_arg0)
/-- The weights of the projections. -/
abbrev W : Vec Ideal S1024x3072 .bf16 := m ((c : Thread nD τ).loc main_arg1)
/-- The step's input. -/
abbrev X : Vec Ideal S2048x1024 .f32 := m ((c : Thread nD τ).loc main_arg2)
/-- The norm's gains. -/
abbrev G : Vec Ideal S1x1024 .f32 := m ((c : Thread nD τ).loc main_arg3)
/-- What comes by the residual. -/
abbrev D : Vec Ideal S2048x1024 .f32 := m ((c : Thread nD τ).loc main_arg4)

/-- The gradient of the normed input. -/
def P (t : Fin 2048) (l : Fin 1024) : EReal := ∑ j : Fin 3072, Z m c (ix2 t j) * W m c (ix2 l j)
/-- A row of the input. -/
def XR (t : Fin 2048) (l : Fin 1024) : EReal := X m c (ix2 t l)

/-- The input's gradient. -/
def R5 : Vec Ideal S2048x1024 .f32 := fun i => dxKer (P m c (i 0)) (XR m c (i 0)) (fun k => G m c (ix2 0 k)) (D m c (ix2 (i 0) (i 1))) (i 1)
/-- The gains' gradient. -/
def R7 : Vec Ideal S1x1024 .f32 := fun i => gain (P m c) (XR m c) (i 1)

theorem lt4 (t : Fin cfg0.N) : t.val < 4 := Nat.lt_of_lt_of_eq t.isLt N_0

/-- Row `r` of the point's tile. -/
def row (t : Fin cfg0.N) (r : Fin 512) : Fin 2048 := ⟨512 * t.val + r.val, by have := lt4 t; have := r.isLt; omega⟩

theorem V_main_v0 : V m c main_v0 = broadcastInDim S1x2048x3072 ![1, 2] bcast_S2048x3072_S1x2048x3072_1_2 (m ((c : Thread nD τ).loc main_arg0)) := by
  show StableHlo.after hostOps0 _ (Proc.devRef .tc main_v0) = _
  after_results

theorem V_main_v1 : V m c main_v1 = broadcastInDim S1x1024x3072 ![1, 2] bcast_S1024x3072_S1x1024x3072_1_2 (m ((c : Thread nD τ).loc main_arg1)) := by
  show StableHlo.after hostOps0 _ (Proc.devRef .tc main_v1) = _
  after_results

theorem index0 : ∀ t : Fin cfg0.N, win0_0.index t 0 = 0 ∧ win0_0.index t 1 = t.val ∧ win0_0.index t 2 = 0 := by decide +kernel
theorem index1 : ∀ t : Fin cfg0.N, win0_1.index t 0 = 0 ∧ win0_1.index t 1 = 0 ∧ win0_1.index t 2 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel
theorem index7 : ∀ t : Fin cfg0.N, win0_7.index t 0 = 0 ∧ win0_7.index t 1 = 0 := by decide +kernel

theorem iblk0 (t : Fin cfg0.N) (r : Fin 512) (j : Fin 3072) : (iblk m c 0 t : Vec Ideal S1x512x3072 .bf16) (ix3 0 r j) = Z m c (ix2 (row t r) j) := by
  unfold iblk
  rw [View.read_apply]
  have e : ((win0_0.blk t).view.emb (ix3 0 r j)) = (ix3 0 (row t r) j) := funext fun a => Fin.ext (match a with
    | ⟨0,_⟩ => by show win0_0.index t 0 * 1 + 1 * (ix3 0 r j 0).val = _; simp [index0 t]
    | ⟨1,_⟩ => by show win0_0.index t 1 * 512 + 1 * (ix3 0 r j 1).val = _; simp [index0 t, row]; omega
    | ⟨2,_⟩ => by show win0_0.index t 2 * 3072 + 1 * (ix3 0 r j 2).val = _; simp [index0 t])
  show V m c main_v0 ((win0_0.blk t).view.emb (ix3 0 r j)) = _
  rw [e, V_main_v0]
  pointwise

theorem iblk1 (t : Fin cfg0.N) (l : Fin 1024) (j : Fin 3072) : (iblk m c 1 t : Vec Ideal S1x1024x3072 .bf16) (ix3 0 l j) = W m c (ix2 l j) := by
  unfold iblk
  rw [View.read_apply]
  have e : ((win0_1.blk t).view.emb (ix3 0 l j)) = (ix3 0 l j) := funext fun a => Fin.ext (match a with
    | ⟨0,_⟩ => by show win0_1.index t 0 * 1 + 1 * (ix3 0 l j 0).val = _; simp [index1 t]
    | ⟨1,_⟩ => by show win0_1.index t 1 * 1024 + 1 * (ix3 0 l j 1).val = _; simp [index1 t]
    | ⟨2,_⟩ => by show win0_1.index t 2 * 3072 + 1 * (ix3 0 l j 2).val = _; simp [index1 t])
  show V m c main_v1 ((win0_1.blk t).view.emb (ix3 0 l j)) = _
  rw [e, V_main_v1]
  pointwise

theorem iblk2 (t : Fin cfg0.N) (r : Fin 512) (l : Fin 1024) : (iblk m c 2 t : Vec Ideal S512x1024 .f32) (ix2 r l) = X m c (ix2 (row t r) l) := by
  unfold iblk
  rw [View.read_apply]
  have e : ((win0_2.blk t).view.emb (ix2 r l)) = (ix2 (row t r) l) := funext fun a => Fin.ext (match a with
    | ⟨0,_⟩ => by show win0_2.index t 0 * 512 + 1 * (ix2 r l 0).val = _; simp [index2 t, row]; omega
    | ⟨1,_⟩ => by show win0_2.index t 1 * 1024 + 1 * (ix2 r l 1).val = _; simp [index2 t])
  show V m c main_arg2 ((win0_2.blk t).view.emb (ix2 r l)) = _
  rw [e, V_main_arg2]

theorem iblk3 (t : Fin cfg0.N) (l : Fin 1024) : (iblk m c 3 t : Vec Ideal S1x1024 .f32) (ix2 0 l) = G m c (ix2 0 l) := by
  unfold iblk
  rw [View.read_apply]
  have e : ((win0_3.blk t).view.emb (ix2 0 l)) = (ix2 0 l) := funext fun a => Fin.ext (match a with
    | ⟨0,_⟩ => by show win0_3.index t 0 * 1 + 1 * (ix2 0 l 0).val = _; simp [index3 t]
    | ⟨1,_⟩ => by show win0_3.index t 1 * 1024 + 1 * (ix2 0 l 1).val = _; simp [index3 t])
  show V m c main_arg3 ((win0_3.blk t).view.emb (ix2 0 l)) = _
  rw [e, V_main_arg3]

theorem iblk4 (t : Fin cfg0.N) (r : Fin 512) (l : Fin 1024) : (iblk m c 4 t : Vec Ideal S512x1024 .f32) (ix2 r l) = D m c (ix2 (row t r) l) := by
  unfold iblk
  rw [View.read_apply]
  have e : ((win0_4.blk t).view.emb (ix2 r l)) = (ix2 (row t r) l) := funext fun a => Fin.ext (match a with
    | ⟨0,_⟩ => by show win0_4.index t 0 * 512 + 1 * (ix2 r l 0).val = _; simp [index4 t, row]; omega
    | ⟨1,_⟩ => by show win0_4.index t 1 * 1024 + 1 * (ix2 r l 1).val = _; simp [index4 t])
  show V m c main_arg4 ((win0_4.blk t).view.emb (ix2 r l)) = _
  rw [e, V_main_arg4]

/-- A point's rows of the product. -/
theorem prod_row (t : Fin cfg0.N) (r : Fin 512) (l : Fin 1024) : k0_pay2 (iblk m c 0 t) (iblk m c 1 t) (ix2 r l) = P m c (row t r) l := by
  rw [prod_apply]
  exact Finset.sum_congr rfl fun j _ => congrArg₂ (· * ·) (iblk0 m c t r j) (iblk1 m c t l j)

/-- A point's rows of the input's gradient. -/
theorem dx_row (t : Fin cfg0.N) (r : Fin 512) (l : Fin 1024) : (outsAt0 m c t.val t.isLt).1 (ix2 r l) = R5 m c (ix2 (row t r) l) := by
  have e1 (k : Fin 1024) := prod_row m c t r k
  have e2 (k : Fin 1024) := iblk2 m c t r k
  have e3 (k : Fin 1024) := iblk3 m c t k
  rw [outs_dx, dx_apply, iblk4 m c t r l]
  simp only [e1, e2, e3]
  rfl

/-- A point's part of the gains' gradient. -/
theorem dg_part (t : Fin cfg0.N) (l : Fin 1024) : k0_pay6 (iblk m c 0 t) (iblk m c 1 t) (iblk m c 2 t) (ix2 0 l)
    = ∑ r : Fin 512, gainAt (P m c) (XR m c) l (512 * t.val + r.val) := by
  rw [dg_apply]
  refine Finset.sum_congr rfl fun r _ => ?_
  have e2 (k : Fin 1024) := iblk2 m c t r k
  rw [prod_row]
  simp only [e2]
  exact (gainAt_row (P m c) (XR m c) l (row t r)).symm

/-- The gains' gradient after a point: the parts of the tiles so far. -/
theorem dg_sum (l : Fin 1024) : ∀ n (t : Fin cfg0.N), t.val = n →
    (outsAt0 m c t.val t.isLt).2.2 (ix2 0 l) = ∑ i ∈ Finset.range (n + 1), ∑ r : Fin 512, gainAt (P m c) (XR m c) l (512 * i + r.val)
  | 0, t, h => by
    rw [outs_dg_first m c t (by omega), dg_part, h, Finset.sum_range_one]
  | n + 1, t, h => by
    have h4 := lt4 t
    have ih := dg_sum l n ⟨t.val - 1, by have := t.isLt; omega⟩ (by show t.val - 1 = n; omega)
    rw [outs_dg_next m c t (by omega), add_apply, dg_part, Finset.sum_range_succ]
    exact congrArg₂ (· + ·) ih (by rw [h])

theorem emb5 (t : Fin cfg0.N) (r : Fin 512) (l : Fin 1024) : (win0_5.blk t).view.emb (ix2 r l) = ix2 (row t r) l :=
  funext fun a => Fin.ext (match a with
    | ⟨0,_⟩ => by show win0_5.index t 0 * 512 + 1 * r.val = _; simp [index5 t, row]; omega
    | ⟨1,_⟩ => by show win0_5.index t 1 * 1024 + 1 * l.val = _; simp [index5 t])

/-- The input's gradient after the run. -/
theorem final5 : (dats m 0 c).arrAt 5 cfg0.N = R5 m c := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, eq_ix2 y⟩
  rw [emb5]
  exact dx_row m c t r l

theorem emb7 (t : Fin cfg0.N) (l : Fin 1024) : (win0_7.blk t).view.emb (ix2 0 l) = ix2 (0 : Fin 1) l :=
  funext fun a => Fin.ext (match a with
    | ⟨0,_⟩ => by show win0_7.index t 0 * 1 + 1 * 0 = _; simp [index7 t]
    | ⟨1,_⟩ => by show win0_7.index t 1 * 1024 + 1 * l.val = _; simp [index7 t])

/-- The gains' gradient after the run. -/
theorem final7 : (dats m 0 c).arrAt 7 cfg0.N = R7 m c := by
  refine (dats m 0 c).arrAt_eq_of_covers 7 _ (by decide +kernel) fun t hf y => ?_
  blk_simp
  rw [after0_7]
  obtain ⟨r, l, rfl⟩ : ∃ (r : Fin 1) (l : Fin 1024), y = ix2 r l := ⟨y 0, y 1, eq_ix2 y⟩
  obtain rfl : r = 0 := Subsingleton.elim _ _
  rw [emb7]
  have h3 := (flush0_7 t).mp hf
  have h4 := lt4 t
  exact (dg_sum m c l 3 t (by omega)).trans ((sum_tiles 4 512 _).trans (gain_eq _ _ _))

end Cert.DinIdeal.In

end
-- ==== Proof.Din.Claims.lean ====
/-
  The claims about the kernel of the step's input gradient and its reference: each runs, leaves its arguments as they
  were and every counter at zero, and the two leave the same two arrays.
-/
module

public import proofs.«01_k».proof.Defs
public import proofs.«01_k».proof.Proof.Gen.Din.Frame
public import proofs.«01_k».proof.Proof.Din.Reference
public import proofs.«01_k».proof.Proof.Din.Result
public import Idealize.ShloMosaic.Lib.Quiescent

@[expose] public section

noncomputable section

namespace Cert.InGrad

open Cert.Norm Idealize.ShloMosaic Idealize.ShloMosaic.TcCoe Idealize.SL.Sem

/-- The reference keeps its frame. -/
theorem frame_reference : Cert.quiescent_DinRefIdeal (hDinRefIdeal := Cert.DinRefIdeal.Gen.facts) := fun m ρ _ =>
  (θ_run _ _ _).mono (fun r h => ⟨fun c => (h c).2.2, sem_eq_zero_of_no_sems (by decide) r.2⟩) (DinRefIdeal.Value.run m ρ)

/-- The reference's gradient of the input, from the kernel's arguments. -/
theorem dx_eq (m : (ℓ : Loc DinIdeal.nD DinIdeal.τ DinIdeal.sig) → Buf (Elt Ideal) ℓ) (c : Dev DinIdeal.nD) :
    DinRefIdeal.Norm.DX (DinRefIdeal.Norm.P (DinIdeal.In.Z m c) (DinIdeal.In.W m c)) (DinIdeal.In.X m c) (DinIdeal.In.D m c) (DinIdeal.In.G m c) = DinIdeal.In.R5 m c := by
  funext i
  obtain ⟨t, l, rfl⟩ : ∃ (t : Fin 2048) (l : Fin 1024), i = ix2 t l := ⟨i 0, i 1, eq_ix2 i⟩
  refine (DinRefIdeal.Norm.DX_apply _ _ _ _ t l).trans ?_
  simp only [DinRefIdeal.Norm.P_apply]
  exact (Norm.dx_eq _ _ _ _ _).symm

/-- The reference's gradient of the gains, from the kernel's arguments. -/
theorem dg_eq (m : (ℓ : Loc DinIdeal.nD DinIdeal.τ DinIdeal.sig) → Buf (Elt Ideal) ℓ) (c : Dev DinIdeal.nD) :
    DinRefIdeal.Norm.DG (DinRefIdeal.Norm.P (DinIdeal.In.Z m c) (DinIdeal.In.W m c)) (DinIdeal.In.X m c) = DinIdeal.In.R7 m c := by
  funext i
  obtain ⟨a, l, rfl⟩ : ∃ (a : Fin 1) (l : Fin 1024), i = ix2 a l := ⟨i 0, i 1, eq_ix2 i⟩
  obtain rfl : a = 0 := Subsingleton.elim _ _
  refine (DinRefIdeal.Norm.DG_apply _ _ l).trans ?_
  simp only [DinRefIdeal.Norm.P_apply]
  rfl

/-- The reference's result is the norm's gradient of the product. -/
theorem res_eq (m : (ℓ : Loc DinRefIdeal.nD DinRefIdeal.τ DinRefIdeal.sig) → Buf (Elt Ideal) ℓ) (c : Dev DinRefIdeal.nD) :
    DinRefIdeal.Value.res_main_v38 m c = DinRefIdeal.Norm.DX
      (DinRefIdeal.Norm.P (m ((c.tc : Thread DinRefIdeal.nD DinRefIdeal.τ).loc DinRefIdeal.main_arg0)) (m ((c.tc : Thread DinRefIdeal.nD DinRefIdeal.τ).loc DinRefIdeal.main_arg1)))
      (m ((c.tc : Thread DinRefIdeal.nD DinRefIdeal.τ).loc DinRefIdeal.main_arg2)) (m ((c.tc : Thread DinRefIdeal.nD DinRefIdeal.τ).loc DinRefIdeal.main_arg4))
      (m ((c.tc : Thread DinRefIdeal.nD DinRefIdeal.τ).loc DinRefIdeal.main_arg3)) := rfl

/-- The kernel and the reference leave the same two arrays. -/
theorem algebraic : Cert.algebraic_DinIdeal_DinRefIdeal (hDinIdeal := Cert.DinIdeal.Gen.facts) (hDinRefIdeal := Cert.DinRefIdeal.Gen.facts) := by
  intro m ρ m' ρ' _ hargs
  refine ⟨DinIdeal.In.R5 m, DinIdeal.In.R7 m, ?_, ?_⟩
  · refine (θ_run _ _ _).mono (fun r hr c => ?_) (DinIdeal.Value.run_blocks m ρ)
    obtain ⟨r0, _, r2, ha⟩ := hr c
    exact ⟨r0.trans (DinIdeal.In.final5 m c), r2.trans (DinIdeal.In.final7 m c), ha⟩
  · refine (θ_run _ _ _).mono (fun r hr c => ?_) (DinRefIdeal.Value.run m' ρ')
    obtain ⟨r0, r1, ha⟩ := hr c
    obtain ⟨h0, h1, h2, h3, h4⟩ := hargs c
    rw [res_eq, h0, h1, h2, h3, h4] at r0
    rw [h0, h1, h2] at r1
    exact ⟨r0.trans (dx_eq m c), r1.trans (dg_eq m c), ha⟩

end Cert.InGrad

end
-- ==== Proof.Dhf.Outs.lean ====
/-
  What a grid point of the kernel of the hidden state's gradient leaves, in terms of what its windows stage.
-/
module

public import proofs.«01_k».proof.Proof.Gen.DhfIdeal.Value
public import proofs.«01_k».proof.Proof.Norm.Row
public import Idealize.ShloMosaic.Lib.Pointwise

@[expose] public section

noncomputable section

namespace Cert.DhfIdeal.Hid

open Cert.Norm Cert.DhfIdeal Cert.DhfIdeal.Gen Idealize.ShloMosaic Idealize.ShloMosaic.TcCoe Idealize.SL.Sem

theorem zero2 : (![0, 0] : Fin 2 → Nat) = fun _ => 0 := funext fun a => by fin_cases a <;> rfl

section
variable {F : FTy → Type} [FloatOps F]

/-- Block `k` of a tile's rows of one half of the inner gradient. -/
def rows (x : Vec F S4x256x704 .bf16) (k : Fin 4) : Vec F S1x256x704 .bf16 := fun i => x (ix3 k (i 1) (i 2))
/-- Block `k` of one half of the transposed weights. -/
def cols (w : Vec F S1x4x704x1024 .bf16) (k : Fin 4) : Vec F S1x1x704x1024 .bf16 := fun i => w (ix4 0 k (i 2) (i 3))

/-- The eight products added up, block by block. -/
def prod (x0 : Vec F S4x256x704 .bf16) (x1 : Vec F S1x4x704x1024 .bf16) (x2 : Vec F S4x256x704 .bf16) (x3 : Vec F S1x4x704x1024 .bf16) : FVec F S256x1024 .f32 :=
  k0_pay3 (k0_pay2 (rows x0 0) (cols x1 0) (rows x0 1) (cols x1 1) (rows x0 2) (cols x1 2) (rows x0 3) (cols x1 3)) (rows x2 0) (cols x3 0) (rows x2 1) (cols x3 1) (rows x2 2) (cols x3 2) (rows x2 3) (cols x3 3)

theorem ld_rows0 (x : Vec F S4x256x704 .bf16) : View.ld x (Rect.unit ![0, 0, 0] ![1, 256, 704] inb_S4x256x704_S1x256x704_0_0_0) = rows x 0 := by
  funext i
  exact congrArg x (funext fun a => Fin.ext (match a with
    | ⟨0,_⟩ => by have : (i 0).val < 1 := (i 0).isLt; show 0 + 1 * (i 0).val = 0; omega
    | ⟨1,_⟩ => by show 0 + 1 * (i 1).val = (i 1).val; omega
    | ⟨2,_⟩ => by show 0 + 1 * (i 2).val = (i 2).val; omega))

theorem ld_cols0 (w : Vec F S1x4x704x1024 .bf16) : View.ld w (Rect.unit ![0, 0, 0, 0] ![1, 1, 704, 1024] inb_S1x4x704x1024_S1x1x704x1024_0_0_0_0) = cols w 0 := by
  funext i
  exact congrArg w (funext fun a => Fin.ext (match a with
    | ⟨0,_⟩ => by have : (i 0).val < 1 := (i 0).isLt; show 0 + 1 * (i 0).val = 0; omega
    | ⟨1,_⟩ => by have : (i 1).val < 1 := (i 1).isLt; show 0 + 1 * (i 1).val = 0; omega
    | ⟨2,_⟩ => by show 0 + 1 * (i 2).val = (i 2).val; omega
    | ⟨3,_⟩ => by show 0 + 1 * (i 3).val = (i 3).val; omega))

theorem ld_rows1 (x : Vec F S4x256x704 .bf16) : View.ld x (Rect.unit ![1, 0, 0] ![1, 256, 704] inb_S4x256x704_S1x256x704_1_0_0) = rows x 1 := by
  funext i
  exact congrArg x (funext fun a => Fin.ext (match a with
    | ⟨0,_⟩ => by have : (i 0).val < 1 := (i 0).isLt; show 1 + 1 * (i 0).val = 1; omega
    | ⟨1,_⟩ => by show 0 + 1 * (i 1).val = (i 1).val; omega
    | ⟨2,_⟩ => by show 0 + 1 * (i 2).val = (i 2).val; omega))

theorem ld_cols1 (w : Vec F S1x4x704x1024 .bf16) : View.ld w (Rect.unit ![0, 1, 0, 0] ![1, 1, 704, 1024] inb_S1x4x704x1024_S1x1x704x1024_0_1_0_0) = cols w 1 := by
  funext i
  exact congrArg w (funext fun a => Fin.ext (match a with
    | ⟨0,_⟩ => by have : (i 0).val < 1 := (i 0).isLt; show 0 + 1 * (i 0).val = 0; omega
    | ⟨1,_⟩ => by have : (i 1).val < 1 := (i 1).isLt; show 1 + 1 * (i 1).val = 1; omega
    | ⟨2,_⟩ => by show 0 + 1 * (i 2).val = (i 2).val; omega
    | ⟨3,_⟩ => by show 0 + 1 * (i 3).val = (i 3).val; omega))

theorem ld_rows2 (x : Vec F S4x256x704 .bf16) : View.ld x (Rect.unit ![2, 0, 0] ![1, 256, 704] inb_S4x256x704_S1x256x704_2_0_0) = rows x 2 := by
  funext i
  exact congrArg x (funext fun a => Fin.ext (match a with
    | ⟨0,_⟩ => by have : (i 0).val < 1 := (i 0).isLt; show 2 + 1 * (i 0).val = 2; omega
    | ⟨1,_⟩ => by show 0 + 1 * (i 1).val = (i 1).val; omega
    | ⟨2,_⟩ => by show 0 + 1 * (i 2).val = (i 2).val; omega))

theorem ld_cols2 (w : Vec F S1x4x704x1024 .bf16) : View.ld w (Rect.unit ![0, 2, 0, 0] ![1, 1, 704, 1024] inb_S1x4x704x1024_S1x1x704x1024_0_2_0_0) = cols w 2 := by
  funext i
  exact congrArg w (funext fun a => Fin.ext (match a with
    | ⟨0,_⟩ => by have : (i 0).val < 1 := (i 0).isLt; show 0 + 1 * (i 0).val = 0; omega
    | ⟨1,_⟩ => by have : (i 1).val < 1 := (i 1).isLt; show 2 + 1 * (i 1).val = 2; omega
    | ⟨2,_⟩ => by show 0 + 1 * (i 2).val = (i 2).val; omega
    | ⟨3,_⟩ => by show 0 + 1 * (i 3).val = (i 3).val; omega))

theorem ld_rows3 (x : Vec F S4x256x704 .bf16) : View.ld x (Rect.unit ![3, 0, 0] ![1, 256, 704] inb_S4x256x704_S1x256x704_3_0_0) = rows x 3 := by
  funext i
  exact congrArg x (funext fun a => Fin.ext (match a with
    | ⟨0,_⟩ => by have : (i 0).val < 1 := (i 0).isLt; show 3 + 1 * (i 0).val = 3; omega
    | ⟨1,_⟩ => by show 0 + 1 * (i 1).val = (i 1).val; omega
    | ⟨2,_⟩ => by show 0 + 1 * (i 2).val = (i 2).val; omega))

theorem ld_cols3 (w : Vec F S1x4x704x1024 .bf16) : View.ld w (Rect.unit ![0, 3, 0, 0] ![1, 1, 704, 1024] inb_S1x4x704x1024_S1x1x704x1024_0_3_0_0) = cols w 3 := by
  funext i
  exact congrArg w (funext fun a => Fin.ext (match a with
    | ⟨0,_⟩ => by have : (i 0).val < 1 := (i 0).isLt; show 0 + 1 * (i 0).val = 0; omega
    | ⟨1,_⟩ => by have : (i 1).val < 1 := (i 1).isLt; show 3 + 1 * (i 1).val = 3; omega
    | ⟨2,_⟩ => by show 0 + 1 * (i 2).val = (i 2).val; omega
    | ⟨3,_⟩ => by show 0 + 1 * (i 3).val = (i 3).val; omega))

/-- The bits of the number of lanes. -/
abbrev word : F .f32 := FloatOps.ofBits FTy.f32 1149239296#32

variable (m : (ℓ : Loc nD τ sig) → Buf (Elt F) ℓ) (c : Dev nD) (t : Fin cfg0.N)

/-- The product of the point's tile. -/
abbrev pr : FVec F S256x1024 .f32 := prod (iblk m c 0 t) (iblk m c 1 t) (iblk m c 2 t) (iblk m c 3 t)

/-- The rows of the gradient a point leaves. -/
theorem outs_dx : (outsAt0 m c t.val t.isLt).1 = k0_pay7 (pr m c t) (iblk m c 4 t) (k0_pay4 (iblk m c 4 t)) word (iblk m c 6 t) (iblk m c 5 t) := by
  by_cases h : t.val % 8 = 0
  · rw [outsAt0_A m c t h (by have := Nat.lt_of_lt_of_eq t.isLt N_0; omega)]
    dsimp only
    unfold out0_A_8
    rw [View.read_writes_eq_canon _ _ _ (fun y => cover0_A_8 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) zero2, View.ld_unit_zero (S := S1x1024) zero2, View.ld_unit_zero (S := S1024x1024) zero2]
    simp only [ld_rows0, ld_rows1, ld_rows2, ld_rows3, ld_cols0, ld_cols1, ld_cols2, ld_cols3]
    rfl
  · rw [outsAt0_B m c t h (by omega)]
    dsimp only
    unfold out0_B_8
    rw [View.read_writes_eq_canon _ _ _ (fun y => cover0_B_8 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) zero2, View.ld_unit_zero (S := S1x1024) zero2, View.ld_unit_zero (S := S1024x1024) zero2]
    simp only [ld_rows0, ld_rows1, ld_rows2, ld_rows3, ld_cols0, ld_cols1, ld_cols2, ld_cols3]
    rfl

/-- Its rows in the shorter format. -/
theorem outs_dxb : (outsAt0 m c t.val t.isLt).2.1 = k0_pay9 (pr m c t) (iblk m c 4 t) (k0_pay4 (iblk m c 4 t)) word (iblk m c 6 t) (iblk m c 5 t) := by
  by_cases h : t.val % 8 = 0
  · rw [outsAt0_A m c t h (by have := Nat.lt_of_lt_of_eq t.isLt N_0; omega)]
    dsimp only
    unfold out0_A_9
    rw [View.read_writes_eq_canon _ _ _ (fun y => cover0_A_9 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) zero2, View.ld_unit_zero (S := S1x1024) zero2, View.ld_unit_zero (S := S1024x1024) zero2]
    simp only [ld_rows0, ld_rows1, ld_rows2, ld_rows3, ld_cols0, ld_cols1, ld_cols2, ld_cols3]
    rfl
  · rw [outsAt0_B m c t h (by omega)]
    dsimp only
    unfold out0_B_9
    rw [View.read_writes_eq_canon _ _ _ (fun y => cover0_B_9 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) zero2, View.ld_unit_zero (S := S1x1024) zero2, View.ld_unit_zero (S := S1024x1024) zero2]
    simp only [ld_rows0, ld_rows1, ld_rows2, ld_rows3, ld_cols0, ld_cols1, ld_cols2, ld_cols3]
    rfl

/-- Its rows carried through the output projection. -/
theorem outs_do : (outsAt0 m c t.val t.isLt).2.2.2 = k0_pay10 (pr m c t) (iblk m c 4 t) (k0_pay4 (iblk m c 4 t)) word (iblk m c 6 t) (iblk m c 5 t) (iblk m c 7 t) := by
  by_cases h : t.val % 8 = 0
  · rw [outsAt0_A m c t h (by have := Nat.lt_of_lt_of_eq t.isLt N_0; omega)]
    dsimp only
    unfold out0_A_11
    rw [View.read_writes_eq_canon _ _ _ (fun y => cover0_A_11 (y := y) ..)]
    unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) zero2, View.ld_unit_zero (S := S1x1024) zero2, View.ld_unit_zero (S := S1024x1024) zero2]
    simp only [ld_rows0, ld_rows1, ld_rows2, ld_rows3, ld_cols0, ld_cols1, ld_cols2, ld_cols3]
    rfl
  · rw [outsAt0_B m c t h (by omega)]
    dsimp only
    unfold out0_B_11
    rw [View.read_writes_eq_canon _ _ _ (fun y => cover0_B_11 (y := y) ..)]
    unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread,
      View.ld_unit_zero (S := S256x1024) zero2, View.ld_unit_zero (S := S1x1024) zero2, View.ld_unit_zero (S := S1024x1024) zero2]
    simp only [ld_rows0, ld_rows1, ld_rows2, ld_rows3, ld_cols0, ld_cols1, ld_cols2, ld_cols3]
    rfl

/-- The first point leaves its part of the gains' gradient. -/
theorem outs_dg_first (h : t.val % 8 = 0) : (outsAt0 m c t.val t.isLt).2.2.1 = k0_pay8 (pr m c t) (iblk m c 4 t) (k0_pay4 (iblk m c 4 t)) word := by
  rw [outsAt0_A m c t h (by have := Nat.lt_of_lt_of_eq t.isLt N_0; omega)]
  dsimp only
  unfold out0_A_10
  rw [View.read_writes_eq_canon _ _ _ (fun y => cover0_A_10 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, (hs0_4 t).read_unread,
    View.ld_unit_zero (S := S256x1024) zero2, View.ld_unit_zero (S := S1x1024) zero2, View.ld_unit_zero (S := S1024x1024) zero2]
  simp only [ld_rows0, ld_rows1, ld_rows2, ld_rows3, ld_cols0, ld_cols1, ld_cols2, ld_cols3]
  rfl

/-- A later point leaves what the point before left, and its part. -/
theorem outs_dg_next (h : ¬t.val % 8 = 0) : (outsAt0 m c t.val t.isLt).2.2.1 = k0_pay1 (k0_pay8 (pr m c t) (iblk m c 4 t) (k0_pay4 (iblk m c 4 t)) word)
    (outsAt0 m c (t.val - 1) (Nat.lt_of_le_of_lt (Nat.sub_le _ _) t.isLt)).2.2.1 := by
  rw [outsAt0_B m c t h (by omega)]
  dsimp only
  unfold out0_B_10
  rw [View.read_writes_eq_canon _ _ _ (fun y => cover0_B_10 (y := y) ..)]
  unfold kernelRun0_B
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_10 t).read_unread,
    View.ld_unit_zero (S := S256x1024) zero2, View.ld_unit_zero (S := S1x1024) zero2, View.ld_unit_zero (S := S1024x1024) zero2]
  simp only [ld_rows0, ld_rows1, ld_rows2, ld_rows3, ld_cols0, ld_cols1, ld_cols2, ld_cols3]
  rfl
end

variable (p x d : Vec Ideal S256x1024 .f32) (g : Vec Ideal S1x1024 .f32) (o : Vec Ideal S1024x1024 .bf16)
variable (x0 x2 : Vec Ideal S4x256x704 .bf16) (x1 x3 : Vec Ideal S1x4x704x1024 .bf16)

/-- One block's product. -/
def dots (y : Vec Ideal S4x256x704 .bf16) (w : Vec Ideal S1x4x704x1024 .bf16) (r : Fin 256) (l : Fin 1024) (k : Fin 4) : EReal :=
  ∑ j : Fin 704, y (ix3 k r j) * w (ix4 0 k j l)

/-- The product of a tile's rows with the weights. -/
theorem prod_apply (r : Fin 256) (l : Fin 1024) : prod x0 x1 x2 x3 (ix2 r l) = ∑ k : Fin 4, dots x0 x1 r l k + ∑ k : Fin 4, dots x2 x3 r l k := by
  have e : prod x0 x1 x2 x3 (ix2 r l) = dots x0 x1 r l 0 + dots x0 x1 r l 1 + dots x0 x1 r l 2 + dots x0 x1 r l 3
      + dots x2 x3 r l 0 + dots x2 x3 r l 1 + dots x2 x3 r l 2 + dots x2 x3 r l 3 := by
    pointwise [prod, k0_pay3, k0_pay2, rows, cols]
    rfl
  rw [e, Fin.sum_univ_four, Fin.sum_univ_four]
  ac_rfl

/-- A row's scale. -/
theorem scale_apply (r : Fin 256) : k0_pay5 (k0_pay4 x) (Ideal.ofBits FTy.f32 1149239296#32) (ix2 r 0) = scale fun k => x (ix2 r k) := by
  pointwise [k0_pay5, k0_pay4]
  rfl

/-- The rows of the gradient, entry by entry. -/
theorem dx_apply (r : Fin 256) (l : Fin 1024) : k0_pay7 p x (k0_pay4 x) word d g (ix2 r l)
    = dxKer (fun k => p (ix2 r k)) (fun k => x (ix2 r k)) (fun k => g (ix2 0 k)) (d (ix2 r l)) l := by
  pointwise [k0_pay7, k0_pay6]
  rw [scale_apply]
  rfl

/-- A point's part of the gains' gradient, entry by entry. -/
theorem dg_apply (l : Fin 1024) : k0_pay8 p x (k0_pay4 x) word (ix2 0 l)
    = ∑ r : Fin 256, p (ix2 r l) * (x (ix2 r l) * scale fun k => x (ix2 r k)) := by
  pointwise [k0_pay8, k0_pay6]
  exact Finset.sum_congr rfl fun r _ => by rw [scale_apply]

/-- The rows in the shorter format are the same numbers. -/
theorem dxb_apply (r : Fin 256) (l : Fin 1024) : k0_pay9 p x (k0_pay4 x) word d g (ix2 r l) = k0_pay7 p x (k0_pay4 x) word d g (ix2 r l) := rfl

/-- The rows carried through the output projection. -/
theorem do_apply (r : Fin 256) (l : Fin 1024) : k0_pay10 p x (k0_pay4 x) word d g o (ix2 r l)
    = ∑ k : Fin 1024, k0_pay7 p x (k0_pay4 x) word d g (ix2 r k) * o (ix2 l k) := by
  pointwise [k0_pay10, k0_pay9]

/-- Adding a part. -/
theorem add_apply (y y' : Vec Ideal S1x1024 .f32) (l : Fin 1024) : k0_pay1 y y' (ix2 0 l) = y' (ix2 0 l) + y (ix2 0 l) := by
  pointwise [k0_pay1]

end Cert.DhfIdeal.Hid

end
-- ==== Proof.Dhf.Reference.lean ====
/-
  The product in the reference of the hidden state's gradient, and its rows carried through the output projection.
-/
module

public import proofs.«01_k».proof.Proof.Gen.DhfRefIdeal.Run
public import proofs.«01_k».proof.Proof.Norm.Row
public import Idealize.ShloMosaic.Lib.Pointwise

@[expose] public section

noncomputable section

namespace Cert.DhfRefIdeal.Hid

open Cert.DhfRefIdeal Cert.DhfRefIdeal.Gen Idealize.ShloMosaic Idealize.ShloMosaic.TcCoe

/-- Column `q` of the weights' gate half. -/
def lo (q : Fin 2816) : Fin 5632 := ⟨q.val, by have := q.isLt; omega⟩
/-- Column `q` of the weights' value half. -/
def hi (q : Fin 2816) : Fin 5632 := ⟨2816 + q.val, by have := q.isLt; omega⟩

/-- The gradient of the normed hidden state: the two halves of the inner gradient, side by side, times the weights. -/
def P (a b : FVec Ideal S2048x2816 .bf16) (w : FVec Ideal S1024x5632 .bf16) : FVec Ideal S2048x1024 .f32 :=
  Host.dotGeneral dot_S2048x5632_S1024x5632_S2048x1024_1_1_0_0_n_n none (concatenate S2048x5632 1 [⟨S2048x2816, (extf .f32 a bitsLt_bf16_f32)⟩,
    ⟨S2048x2816, (extf .f32 b bitsLt_bf16_f32)⟩] concatenates_S2048x2816_S2048x2816_S2048x5632_d1) (extf .f32 w bitsLt_bf16_f32)

theorem P_apply (a b : FVec Ideal S2048x2816 .bf16) (w : FVec Ideal S1024x5632 .bf16) (t : Fin 2048) (l : Fin 1024) :
    P a b w (ix2 t l) = ∑ q : Fin 2816, a (ix2 t q) * w (ix2 l (lo q)) + ∑ q : Fin 2816, b (ix2 t q) * w (ix2 l (hi q)) := by
  pointwise [P]
  rfl

/-- Rows carried back through the output projection. -/
def DO (x : FVec Ideal S2048x1024 .f32) (o : FVec Ideal S1024x1024 .bf16) : FVec Ideal S2048x1024 .bf16 :=
  truncf .bf16 (Host.dotGeneral dot_S2048x1024_S1024x1024_S2048x1024_1_1_0_0_n_n none x (extf .f32 o bitsLt_bf16_f32)) bitsLt_bf16_f32

theorem DO_apply (x : FVec Ideal S2048x1024 .f32) (o : FVec Ideal S1024x1024 .bf16) (t : Fin 2048) (l : Fin 1024) :
    DO x o (ix2 t l) = ∑ k : Fin 1024, x (ix2 t k) * o (ix2 l k) := by
  pointwise [DO]

end Cert.DhfRefIdeal.Hid

end
-- ==== Proof.Dhf.Result.lean ====
/-
  What the kernel of the hidden state's gradient leaves after the run: the gradient of the norm's input in every row, in two
  formats, the gradient of the gains summed over the rows, and the rows carried through the output projection.
-/
module

public import proofs.«01_k».proof.Proof.Dhf.Outs
public import proofs.«01_k».proof.Proof.Dhf.Reference
public import Idealize.ShloMosaic.Lib.Claim
public import Idealize.ShloMosaic.Lib.Pipeline.ValueKit

@[expose] public section

noncomputable section

namespace Cert.DhfIdeal.Hid

open Cert.Norm Cert.DhfIdeal Cert.DhfIdeal.Gen Idealize.ShloMosaic Idealize.ShloMosaic.TcCoe Idealize.SL.Sem
open Cert.DhfRefIdeal.Hid (lo hi)

variable (m : (ℓ : Loc nD τ sig) → Buf (Elt Ideal) ℓ) (c : Dev nD)

/-- The gradient of the gate half. -/
abbrev Y : Vec Ideal S2048x2816 .bf16 := m ((c : Thread nD τ).loc main_arg0)
/-- The gradient of the value half. -/
abbrev Z : Vec Ideal S2048x2816 .bf16 := m ((c : Thread nD τ).loc main_arg1)
/-- The weights. -/
abbrev W : Vec Ideal S1024x5632 .bf16 := m ((c : Thread nD τ).loc main_arg2)
/-- The hidden state. -/
abbrev X : Vec Ideal S2048x1024 .f32 := m ((c : Thread nD τ).loc main_arg3)
/-- The norm's gains. -/
abbrev G : Vec Ideal S1x1024 .f32 := m ((c : Thread nD τ).loc main_arg4)
/-- What comes by the residual. -/
abbrev D : Vec Ideal S2048x1024 .f32 := m ((c : Thread nD τ).loc main_arg5)
/-- The output projection. -/
abbrev O : Vec Ideal S1024x1024 .bf16 := m ((c : Thread nD τ).loc main_arg6)

/-- The gradient of the normed hidden state. -/
def P (t : Fin 2048) (l : Fin 1024) : EReal :=
  ∑ q : Fin 2816, Y m c (ix2 t q) * W m c (ix2 l (lo q)) + ∑ q : Fin 2816, Z m c (ix2 t q) * W m c (ix2 l (hi q))
/-- A row of the hidden state. -/
def XR (t : Fin 2048) (l : Fin 1024) : EReal := X m c (ix2 t l)

/-- The hidden state's gradient. -/
def R8 : Vec Ideal S2048x1024 .f32 := fun i => dxKer (P m c (i 0)) (XR m c (i 0)) (fun k => G m c (ix2 0 k)) (D m c (ix2 (i 0) (i 1))) (i 1)
/-- The same in the shorter format. -/
def R9 : Vec Ideal S2048x1024 .bf16 := R8 m c
/-- The gains' gradient. -/
def R10 : Vec Ideal S1x1024 .f32 := fun i => gain (P m c) (XR m c) (i 1)
/-- The gradient of the output projection's operand. -/
def R11 : Vec Ideal S2048x1024 .bf16 := fun i => ∑ k : Fin 1024, R8 m c (ix2 (i 0) k) * O m c (ix2 (i 1) k)

theorem lt8 (t : Fin cfg0.N) : t.val < 8 := Nat.lt_of_lt_of_eq t.isLt N_0

/-- Row `r` of the point's tile. -/
def row (t : Fin cfg0.N) (r : Fin 256) : Fin 2048 := ⟨256 * t.val + r.val, by have := lt8 t; have := r.isLt; omega⟩
/-- Column `j` of block `k`. -/
def col (k : Fin 4) (j : Fin 704) : Fin 2816 := ⟨j.val + 704 * k.val, by have := k.isLt; have := j.isLt; omega⟩

/-- A sum over the columns, block by block. -/
theorem sum_cols (f : Fin 2816 → EReal) : ∑ k : Fin 4, ∑ j : Fin 704, f (col k j) = ∑ q : Fin 2816, f q := by
  rw [← Fintype.sum_prod_type' (f := fun (k : Fin 4) (j : Fin 704) => f (col k j))]
  exact Fintype.sum_equiv finProdFinEquiv _ _ fun p => rfl

theorem V_main_v1 : V m c main_v1 = shapeCast S1x8x704x1024 (transpose S5632x1024 [1, 0] (W m c) transposes_S1024x5632_S5632x1024_1_0) shapeCasts_S5632x1024_S1x8x704x1024 := by
  show StableHlo.after hostOps0 _ (Proc.devRef .tc main_v1) = _
  after_results
  rfl

theorem V_main_v3 : V m c main_v3 = transpose S4x2048x704 [1, 0, 2] (shapeCast S2048x4x704 (Y m c) shapeCasts_S2048x2816_S2048x4x704) transposes_S2048x4x704_S4x2048x704_1_0_2 := by
  show StableHlo.after hostOps0 _ (Proc.devRef .tc main_v3) = _
  after_results
  rfl

theorem V_main_v5 : V m c main_v5 = transpose S4x2048x704 [1, 0, 2] (shapeCast S2048x4x704 (Z m c) shapeCasts_S2048x2816_S2048x4x704) transposes_S2048x4x704_S4x2048x704_1_0_2 := by
  show StableHlo.after hostOps0 _ (Proc.devRef .tc main_v5) = _
  after_results
  rfl

/-- The transposed weights, cut into blocks, at an entry. -/
theorem cut_w (w : Vec Ideal S1024x5632 .bf16) (b : Fin 8) (j : Fin 704) (l : Fin 1024) (q : Fin 5632) (h : q.val = 704 * b.val + j.val) :
    shapeCast S1x8x704x1024 (transpose S5632x1024 [1, 0] w transposes_S1024x5632_S5632x1024_1_0) shapeCasts_S5632x1024_S1x8x704x1024 (ix4 0 b j l) = w (ix2 l q) := by
  pointwise
  exact congrArg (fun q => w (ix2 l q)) (Fin.ext (by show b.val * 704 + j.val = q.val; omega))

/-- One half of the inner gradient, cut into blocks, at an entry. -/
theorem cut_y (y : Vec Ideal S2048x2816 .bf16) (k : Fin 4) (t : Fin 2048) (j : Fin 704) :
    transpose S4x2048x704 [1, 0, 2] (shapeCast S2048x4x704 y shapeCasts_S2048x2816_S2048x4x704) transposes_S2048x4x704_S4x2048x704_1_0_2 (ix3 k t j) = y (ix2 t (col k j)) := by
  pointwise
  exact congrArg (fun q => y (ix2 t q)) (Fin.ext (by show k.val * 704 + j.val = j.val + 704 * k.val; omega))

theorem index0 : ∀ t : Fin cfg0.N, win0_0.index t 0 = 0 ∧ win0_0.index t 1 = t.val ∧ win0_0.index t 2 = 0 := by decide +kernel
theorem index1 : ∀ t : Fin cfg0.N, win0_1.index t 0 = 0 ∧ win0_1.index t 1 = 0 ∧ win0_1.index t 2 = 0 ∧ win0_1.index t 3 = 0 := by decide +kernel
theorem index2 : ∀ t : Fin cfg0.N, win0_2.index t 0 = 0 ∧ win0_2.index t 1 = t.val ∧ win0_2.index t 2 = 0 := by decide +kernel
theorem index3 : ∀ t : Fin cfg0.N, win0_3.index t 0 = 0 ∧ win0_3.index t 1 = 1 ∧ win0_3.index t 2 = 0 ∧ win0_3.index t 3 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = t.val ∧ win0_9.index t 1 = 0 := by decide +kernel
theorem index10 : ∀ t : Fin cfg0.N, win0_10.index t 0 = 0 ∧ win0_10.index t 1 = 0 := by decide +kernel
theorem index11 : ∀ t : Fin cfg0.N, win0_11.index t 0 = t.val ∧ win0_11.index t 1 = 0 := by decide +kernel

theorem iblk0 (t : Fin cfg0.N) (k : Fin 4) (r : Fin 256) (j : Fin 704) : (iblk m c 0 t : Vec Ideal S4x256x704 .bf16) (ix3 k r j) = Y m c (ix2 (row t r) (col k j)) := by
  unfold iblk
  rw [View.read_apply]
  have e : ((win0_0.blk t).view.emb (ix3 k r j)) = (ix3 k (row t r) j) := funext fun a => Fin.ext (match a with
    | ⟨0,_⟩ => by show win0_0.index t 0 * 4 + 1 * (ix3 k r j 0).val = _; simp [index0 t]
    | ⟨1,_⟩ => by show win0_0.index t 1 * 256 + 1 * (ix3 k r j 1).val = _; simp [index0 t, row]; omega
    | ⟨2,_⟩ => by show win0_0.index t 2 * 704 + 1 * (ix3 k r j 2).val = _; simp [index0 t])
  show V m c main_v3 ((win0_0.blk t).view.emb (ix3 k r j)) = _
  rw [e]
  exact (congrFun (V_main_v3 m c) _).trans (cut_y _ k (row t r) j)

theorem iblk1 (t : Fin cfg0.N) (k : Fin 4) (j : Fin 704) (l : Fin 1024) : (iblk m c 1 t : Vec Ideal S1x4x704x1024 .bf16) (ix4 0 k j l) = W m c (ix2 l (lo (col k j))) := by
  unfold iblk
  rw [View.read_apply]
  have e : ((win0_1.blk t).view.emb (ix4 0 k j l)) = (ix4 0 (⟨k.val, by omega⟩ : Fin 8) j l) := funext fun a => Fin.ext (match a with
    | ⟨0,_⟩ => by show win0_1.index t 0 * 1 + 1 * (ix4 0 k j l 0).val = _; simp [index1 t]
    | ⟨1,_⟩ => by show win0_1.index t 1 * 4 + 1 * (ix4 0 k j l 1).val = _; simp [index1 t]
    | ⟨2,_⟩ => by show win0_1.index t 2 * 704 + 1 * (ix4 0 k j l 2).val = _; simp [index1 t]
    | ⟨3,_⟩ => by show win0_1.index t 3 * 1024 + 1 * (ix4 0 k j l 3).val = _; simp [index1 t])
  show V m c main_v1 ((win0_1.blk t).view.emb (ix4 0 k j l)) = _
  rw [e]
  exact (congrFun (V_main_v1 m c) _).trans (cut_w _ _ j l _ (add_comm _ _))

theorem iblk2 (t : Fin cfg0.N) (k : Fin 4) (r : Fin 256) (j : Fin 704) : (iblk m c 2 t : Vec Ideal S4x256x704 .bf16) (ix3 k r j) = Z m c (ix2 (row t r) (col k j)) := by
  unfold iblk
  rw [View.read_apply]
  have e : ((win0_2.blk t).view.emb (ix3 k r j)) = (ix3 k (row t r) j) := funext fun a => Fin.ext (match a with
    | ⟨0,_⟩ => by show win0_2.index t 0 * 4 + 1 * (ix3 k r j 0).val = _; simp [index2 t]
    | ⟨1,_⟩ => by show win0_2.index t 1 * 256 + 1 * (ix3 k r j 1).val = _; simp [index2 t, row]; omega
    | ⟨2,_⟩ => by show win0_2.index t 2 * 704 + 1 * (ix3 k r j 2).val = _; simp [index2 t])
  show V m c main_v5 ((win0_2.blk t).view.emb (ix3 k r j)) = _
  rw [e]
  exact (congrFun (V_main_v5 m c) _).trans (cut_y _ k (row t r) j)

theorem iblk3 (t : Fin cfg0.N) (k : Fin 4) (j : Fin 704) (l : Fin 1024) : (iblk m c 3 t : Vec Ideal S1x4x704x1024 .bf16) (ix4 0 k j l) = W m c (ix2 l (hi (col k j))) := by
  unfold iblk
  rw [View.read_apply]
  have e : ((win0_3.blk t).view.emb (ix4 0 k j l)) = (ix4 0 (⟨4 + k.val, by omega⟩ : Fin 8) j l) := funext fun a => Fin.ext (match a with
    | ⟨0,_⟩ => by show win0_3.index t 0 * 1 + 1 * (ix4 0 k j l 0).val = _; simp [index3 t]
    | ⟨1,_⟩ => by show win0_3.index t 1 * 4 + 1 * (ix4 0 k j l 1).val = _; simp [index3 t]
    | ⟨2,_⟩ => by show win0_3.index t 2 * 704 + 1 * (ix4 0 k j l 2).val = _; simp [index3 t]
    | ⟨3,_⟩ => by show win0_3.index t 3 * 1024 + 1 * (ix4 0 k j l 3).val = _; simp [index3 t])
  show V m c main_v1 ((win0_3.blk t).view.emb (ix4 0 k j l)) = _
  rw [e]
  exact (congrFun (V_main_v1 m c) _).trans (cut_w _ _ j l _ (by show 2816 + (j.val + 704 * k.val) = 704 * (4 + k.val) + j.val; omega))

theorem iblk4 (t : Fin cfg0.N) (r : Fin 256) (l : Fin 1024) : (iblk m c 4 t : Vec Ideal S256x1024 .f32) (ix2 r l) = X m c (ix2 (row t r) l) := by
  unfold iblk
  rw [View.read_apply]
  have e : ((win0_4.blk t).view.emb (ix2 r l)) = (ix2 (row t r) l) := funext fun a => Fin.ext (match a with
    | ⟨0,_⟩ => by show win0_4.index t 0 * 256 + 1 * (ix2 r l 0).val = _; simp [index4 t, row]; omega
    | ⟨1,_⟩ => by show win0_4.index t 1 * 1024 + 1 * (ix2 r l 1).val = _; simp [index4 t])
  show V m c main_arg3 ((win0_4.blk t).view.emb (ix2 r l)) = _
  rw [e]
  exact congrFun (V_main_arg3 m c) _

theorem iblk5 (t : Fin cfg0.N) (l : Fin 1024) : (iblk m c 5 t : Vec Ideal S1x1024 .f32) (ix2 0 l) = G m c (ix2 0 l) := by
  unfold iblk
  rw [View.read_apply]
  have e : ((win0_5.blk t).view.emb (ix2 0 l)) = (ix2 0 l) := funext fun a => Fin.ext (match a with
    | ⟨0,_⟩ => by show win0_5.index t 0 * 1 + 1 * (ix2 0 l 0).val = _; simp [index5 t]
    | ⟨1,_⟩ => by show win0_5.index t 1 * 1024 + 1 * (ix2 0 l 1).val = _; simp [index5 t])
  show V m c main_arg4 ((win0_5.blk t).view.emb (ix2 0 l)) = _
  rw [e]
  exact congrFun (V_main_arg4 m c) _

theorem iblk6 (t : Fin cfg0.N) (r : Fin 256) (l : Fin 1024) : (iblk m c 6 t : Vec Ideal S256x1024 .f32) (ix2 r l) = D m c (ix2 (row t r) l) := by
  unfold iblk
  rw [View.read_apply]
  have e : ((win0_6.blk t).view.emb (ix2 r l)) = (ix2 (row t r) l) := funext fun a => Fin.ext (match a with
    | ⟨0,_⟩ => by show win0_6.index t 0 * 256 + 1 * (ix2 r l 0).val = _; simp [index6 t, row]; omega
    | ⟨1,_⟩ => by show win0_6.index t 1 * 1024 + 1 * (ix2 r l 1).val = _; simp [index6 t])
  show V m c main_arg5 ((win0_6.blk t).view.emb (ix2 r l)) = _
  rw [e]
  exact congrFun (V_main_arg5 m c) _

theorem iblk7 (t : Fin cfg0.N) (l k : Fin 1024) : (iblk m c 7 t : Vec Ideal S1024x1024 .bf16) (ix2 l k) = O m c (ix2 l k) := by
  unfold iblk
  rw [View.read_apply]
  have e : ((win0_7.blk t).view.emb (ix2 l k)) = (ix2 l k) := funext fun a => Fin.ext (match a with
    | ⟨0,_⟩ => by show win0_7.index t 0 * 1024 + 1 * (ix2 l k 0).val = _; simp [index7 t]
    | ⟨1,_⟩ => by show win0_7.index t 1 * 1024 + 1 * (ix2 l k 1).val = _; simp [index7 t])
  show V m c main_arg6 ((win0_7.blk t).view.emb (ix2 l k)) = _
  rw [e]
  exact congrFun (V_main_arg6 m c) _

/-- A point's rows of the product. -/
theorem prod_row (t : Fin cfg0.N) (r : Fin 256) (l : Fin 1024) : pr m c t (ix2 r l) = P m c (row t r) l := by
  unfold pr P
  rw [prod_apply]
  rw [← sum_cols, ← sum_cols]
  refine congrArg₂ (· + ·) (Finset.sum_congr rfl fun k _ => Finset.sum_congr rfl fun j _ => ?_) (Finset.sum_congr rfl fun k _ => Finset.sum_congr rfl fun j _ => ?_)
  · exact congrArg₂ (· * ·) (iblk0 m c t k r j) (iblk1 m c t k j l)
  · exact congrArg₂ (· * ·) (iblk2 m c t k r j) (iblk3 m c t k j l)

/-- A point's rows of the hidden state's gradient. -/
theorem dx_row (t : Fin cfg0.N) (r : Fin 256) (l : Fin 1024) :
    k0_pay7 (pr m c t) (iblk m c 4 t) (k0_pay4 (iblk m c 4 t)) word (iblk m c 6 t) (iblk m c 5 t) (ix2 r l) = R8 m c (ix2 (row t r) l) := by
  have e1 (k : Fin 1024) := prod_row m c t r k
  have e2 (k : Fin 1024) := iblk4 m c t r k
  have e3 (k : Fin 1024) := iblk5 m c t k
  rw [dx_apply, iblk6 m c t r l]
  simp only [e1, e2, e3]
  rfl

/-- A point's rows carried through the output projection. -/
theorem do_row (t : Fin cfg0.N) (r : Fin 256) (l : Fin 1024) : (outsAt0 m c t.val t.isLt).2.2.2 (ix2 r l) = R11 m c (ix2 (row t r) l) := by
  rw [outs_do, do_apply]
  exact Finset.sum_congr rfl fun k _ => congrArg₂ (· * ·) (dx_row m c t r k) (iblk7 m c t l k)

/-- A point's part of the gains' gradient. -/
theorem dg_part (t : Fin cfg0.N) (l : Fin 1024) : k0_pay8 (pr m c t) (iblk m c 4 t) (k0_pay4 (iblk m c 4 t)) word (ix2 0 l)
    = ∑ r : Fin 256, gainAt (P m c) (XR m c) l (256 * t.val + r.val) := by
  rw [dg_apply]
  refine Finset.sum_congr rfl fun r _ => ?_
  have e2 (k : Fin 1024) := iblk4 m c t r k
  rw [prod_row]
  simp only [e2]
  exact (gainAt_row (P m c) (XR m c) l (row t r)).symm

/-- The gains' gradient after a point: the parts of the tiles so far. -/
theorem dg_sum (l : Fin 1024) : ∀ n (t : Fin cfg0.N), t.val = n →
    (outsAt0 m c t.val t.isLt).2.2.1 (ix2 0 l) = ∑ i ∈ Finset.range (n + 1), ∑ r : Fin 256, gainAt (P m c) (XR m c) l (256 * i + r.val)
  | 0, t, h => by
    rw [outs_dg_first m c t (by omega), dg_part, h, Finset.sum_range_one]
  | n + 1, t, h => by
    have h8 := lt8 t
    have ih := dg_sum l n ⟨t.val - 1, by have := t.isLt; omega⟩ (by show t.val - 1 = n; omega)
    rw [outs_dg_next m c t (by omega), add_apply, dg_part, Finset.sum_range_succ]
    exact congrArg₂ (· + ·) ih (by rw [h])

theorem emb8 (t : Fin cfg0.N) (r : Fin 256) (l : Fin 1024) : (win0_8.blk t).view.emb (ix2 r l) = ix2 (row t r) l :=
  funext fun a => Fin.ext (match a with
    | ⟨0,_⟩ => by show win0_8.index t 0 * 256 + 1 * r.val = _; simp [index8 t, row]; omega
    | ⟨1,_⟩ => by show win0_8.index t 1 * 1024 + 1 * l.val = _; simp [index8 t])

/-- The hidden state's gradient after the run. -/
theorem final8 : (dats m 0 c).arrAt 8 cfg0.N = R8 m c := by
  refine (dats m 0 c).arrAt_eq_of_covers 8 _ (by decide +kernel) fun t hf y => ?_
  blk_simp
  rw [after0_8]
  obtain ⟨r, l, rfl⟩ : ∃ (r : Fin 256) (l : Fin 1024), y = ix2 r l := ⟨y 0, y 1, eq_ix2 y⟩
  rw [emb8]
  rw [outs_dx]; exact dx_row m c t r l

theorem emb9 (t : Fin cfg0.N) (r : Fin 256) (l : Fin 1024) : (win0_9.blk t).view.emb (ix2 r l) = ix2 (row t r) l :=
  funext fun a => Fin.ext (match a with
    | ⟨0,_⟩ => by show win0_9.index t 0 * 256 + 1 * r.val = _; simp [index9 t, row]; omega
    | ⟨1,_⟩ => by show win0_9.index t 1 * 1024 + 1 * l.val = _; simp [index9 t])

/-- The same in the shorter format after the run. -/
theorem final9 : (dats m 0 c).arrAt 9 cfg0.N = R9 m c := by
  refine (dats m 0 c).arrAt_eq_of_covers 9 _ (by decide +kernel) fun t hf y => ?_
  blk_simp
  rw [after0_9]
  obtain ⟨r, l, rfl⟩ : ∃ (r : Fin 256) (l : Fin 1024), y = ix2 r l := ⟨y 0, y 1, eq_ix2 y⟩
  rw [emb9]
  rw [outs_dxb, dxb_apply]; exact dx_row m c t r l

theorem emb11 (t : Fin cfg0.N) (r : Fin 256) (l : Fin 1024) : (win0_11.blk t).view.emb (ix2 r l) = ix2 (row t r) l :=
  funext fun a => Fin.ext (match a with
    | ⟨0,_⟩ => by show win0_11.index t 0 * 256 + 1 * r.val = _; simp [index11 t, row]; omega
    | ⟨1,_⟩ => by show win0_11.index t 1 * 1024 + 1 * l.val = _; simp [index11 t])

/-- The gradient of the output projection's operand after the run. -/
theorem final11 : (dats m 0 c).arrAt 11 cfg0.N = R11 m c := by
  refine (dats m 0 c).arrAt_eq_of_covers 11 _ (by decide +kernel) fun t hf y => ?_
  blk_simp
  rw [after0_11]
  obtain ⟨r, l, rfl⟩ : ∃ (r : Fin 256) (l : Fin 1024), y = ix2 r l := ⟨y 0, y 1, eq_ix2 y⟩
  rw [emb11]
  exact do_row m c t r l

theorem emb10 (t : Fin cfg0.N) (l : Fin 1024) : (win0_10.blk t).view.emb (ix2 0 l) = ix2 (0 : Fin 1) l :=
  funext fun a => Fin.ext (match a with
    | ⟨0,_⟩ => by show win0_10.index t 0 * 1 + 1 * 0 = _; simp [index10 t]
    | ⟨1,_⟩ => by show win0_10.index t 1 * 1024 + 1 * l.val = _; simp [index10 t])

/-- The gains' gradient after the run. -/
theorem final10 : (dats m 0 c).arrAt 10 cfg0.N = R10 m c := by
  refine (dats m 0 c).arrAt_eq_of_covers 10 _ (by decide +kernel) fun t hf y => ?_
  blk_simp
  rw [after0_10]
  obtain ⟨r, l, rfl⟩ : ∃ (r : Fin 1) (l : Fin 1024), y = ix2 r l := ⟨y 0, y 1, eq_ix2 y⟩
  obtain rfl : r = 0 := Subsingleton.elim _ _
  rw [emb10]
  have h7 := (flush0_10 t).mp hf
  have h8 := lt8 t
  exact (dg_sum m c l 7 t (by omega)).trans ((sum_tiles 8 256 _).trans (gain_eq _ _ _))

end Cert.DhfIdeal.Hid

end
-- ==== Proof.Dhf.Claims.lean ====
/-
  The claims about the kernel of the hidden state's gradient and its reference: each runs, leaves its arguments as they
  were and every counter at zero, and the two leave the same four arrays.
-/
module

public import proofs.«01_k».proof.Defs
public import proofs.«01_k».proof.Proof.Gen.Dhf.Frame
public import proofs.«01_k».proof.Proof.Din.Reference
public import proofs.«01_k».proof.Proof.Dhf.Result
public import Idealize.ShloMosaic.Lib.Quiescent

@[expose] public section

noncomputable section

namespace Cert.HidGrad

open Cert.Norm Idealize.ShloMosaic Idealize.ShloMosaic.TcCoe Idealize.SL.Sem

/-- The reference keeps its frame. -/
theorem frame_reference : Cert.quiescent_DhfRefIdeal (hDhfRefIdeal := Cert.DhfRefIdeal.Gen.facts) := fun m ρ _ =>
  (θ_run _ _ _).mono (fun r h => ⟨fun c => (h c).2.2.2.2, sem_eq_zero_of_no_sems (by decide) r.2⟩) (DhfRefIdeal.Value.run m ρ)

section
variable (m : (ℓ : Loc DhfIdeal.nD DhfIdeal.τ DhfIdeal.sig) → Buf (Elt Ideal) ℓ) (c : Dev DhfIdeal.nD)

/-- The reference's product, from the kernel's arguments. -/
abbrev prodR : FVec Ideal DhfRefIdeal.S2048x1024 .f32 := DhfRefIdeal.Hid.P (DhfIdeal.Hid.Y m c) (DhfIdeal.Hid.Z m c) (DhfIdeal.Hid.W m c)

/-- The reference's gradient of the hidden state. -/
theorem dx_eq : DinRefIdeal.Norm.DX (prodR m c) (DhfIdeal.Hid.X m c) (DhfIdeal.Hid.D m c) (DhfIdeal.Hid.G m c) = DhfIdeal.Hid.R8 m c := by
  funext i
  obtain ⟨t, l, rfl⟩ : ∃ (t : Fin 2048) (l : Fin 1024), i = ix2 t l := ⟨i 0, i 1, eq_ix2 i⟩
  refine (DinRefIdeal.Norm.DX_apply _ _ _ _ t l).trans ?_
  simp only [DhfRefIdeal.Hid.P_apply]
  exact (Norm.dx_eq _ _ _ _ _).symm

/-- The reference's gradient of the gains. -/
theorem dg_eq : DinRefIdeal.Norm.DG (prodR m c) (DhfIdeal.Hid.X m c) = DhfIdeal.Hid.R10 m c := by
  funext i
  obtain ⟨a, l, rfl⟩ : ∃ (a : Fin 1) (l : Fin 1024), i = ix2 a l := ⟨i 0, i 1, eq_ix2 i⟩
  obtain rfl : a = 0 := Subsingleton.elim _ _
  refine (DinRefIdeal.Norm.DG_apply _ _ l).trans ?_
  simp only [DhfRefIdeal.Hid.P_apply]
  rfl

/-- The reference's gradient of the output projection's operand. -/
theorem do_eq : DhfRefIdeal.Hid.DO (DhfIdeal.Hid.R8 m c) (DhfIdeal.Hid.O m c) = DhfIdeal.Hid.R11 m c := by
  funext i
  obtain ⟨t, l, rfl⟩ : ∃ (t : Fin 2048) (l : Fin 1024), i = ix2 t l := ⟨i 0, i 1, eq_ix2 i⟩
  exact DhfRefIdeal.Hid.DO_apply _ _ t l
end

section
variable (m : (ℓ : Loc DhfRefIdeal.nD DhfRefIdeal.τ DhfRefIdeal.sig) → Buf (Elt Ideal) ℓ) (c : Dev DhfRefIdeal.nD)

/-- The reference's first result, as the norm's gradient of the product. -/
abbrev dxR : FVec Ideal DhfRefIdeal.S2048x1024 .f32 := DinRefIdeal.Norm.DX
  (DhfRefIdeal.Hid.P (m ((c.tc : Thread DhfRefIdeal.nD DhfRefIdeal.τ).loc DhfRefIdeal.main_arg0)) (m ((c.tc : Thread DhfRefIdeal.nD DhfRefIdeal.τ).loc DhfRefIdeal.main_arg1))
    (m ((c.tc : Thread DhfRefIdeal.nD DhfRefIdeal.τ).loc DhfRefIdeal.main_arg2)))
  (m ((c.tc : Thread DhfRefIdeal.nD DhfRefIdeal.τ).loc DhfRefIdeal.main_arg3)) (m ((c.tc : Thread DhfRefIdeal.nD DhfRefIdeal.τ).loc DhfRefIdeal.main_arg5))
  (m ((c.tc : Thread DhfRefIdeal.nD DhfRefIdeal.τ).loc DhfRefIdeal.main_arg4))

theorem res0 : DhfRefIdeal.Value.res_main_v42 m c = dxR m c := rfl
theorem res1 : DhfRefIdeal.Value.res_main_v47 m c = dxR m c := rfl
theorem res3 : DhfRefIdeal.Value.res_main_v48 m c = DhfRefIdeal.Hid.DO (dxR m c) (m ((c.tc : Thread DhfRefIdeal.nD DhfRefIdeal.τ).loc DhfRefIdeal.main_arg6)) := rfl
end

/-- The kernel and the reference leave the same four arrays. -/
theorem algebraic : Cert.algebraic_DhfIdeal_DhfRefIdeal (hDhfIdeal := Cert.DhfIdeal.Gen.facts) (hDhfRefIdeal := Cert.DhfRefIdeal.Gen.facts) := by
  intro m ρ m' ρ' _ hargs
  refine ⟨DhfIdeal.Hid.R8 m, DhfIdeal.Hid.R9 m, DhfIdeal.Hid.R10 m, DhfIdeal.Hid.R11 m, ?_, ?_⟩
  · refine (θ_run _ _ _).mono (fun r hr c => ?_) (DhfIdeal.Value.run_blocks m ρ)
    obtain ⟨r0, r1, r2, r3, ha⟩ := hr c
    exact ⟨r0.trans (DhfIdeal.Hid.final8 m c), r1.trans (DhfIdeal.Hid.final9 m c), r2.trans (DhfIdeal.Hid.final10 m c), r3.trans (DhfIdeal.Hid.final11 m c), ha⟩
  · refine (θ_run _ _ _).mono (fun r hr c => ?_) (DhfRefIdeal.Value.run m' ρ')
    obtain ⟨r0, r1, r2, r3, ha⟩ := hr c
    obtain ⟨h0, h1, h2, h3, h4, h5, h6⟩ := hargs c
    have e : dxR m' c = DhfIdeal.Hid.R8 m c := by
      unfold dxR
      rw [h0, h1, h2, h3, h4, h5]
      exact dx_eq m c
    rw [h0, h1, h2, h3] at r2
    rw [res0, e] at r0
    rw [res1, e] at r1
    rw [res3, e, h6] at r3
    exact ⟨r0, r1, r2.trans (dg_eq m c), r3.trans (do_eq m c), ha⟩

end Cert.HidGrad

end
-- ==== Proof.Gin.Outs.lean ====
/-
  What the kernel of the gradient of the mixer's first weight leaves: at each point the product of the normed input with a
  block of columns of the output's gradient, and after the run the whole product.
-/
module

public import proofs.«01_k».proof.Proof.Gen.GinIdeal.Value
public import Idealize.ShloMosaic.Lib.Pointwise
public import Idealize.ShloMosaic.Lib.Claim
public import Idealize.ShloMosaic.Lib.Pipeline.ValueKit

@[expose] public section

noncomputable section

namespace Cert.GinIdeal.Mix

open Cert.GinIdeal Cert.GinIdeal.Gen Idealize.ShloMosaic Idealize.ShloMosaic.TcCoe Idealize.SL.Sem

variable (m : (ℓ : Loc nD τ sig) → Buf (Elt Ideal) ℓ) (c : Dev nD)

/-- The normed input. -/
abbrev Hn : Vec Ideal S2048x1024 .bf16 := m ((c : Thread nD τ).loc main_arg0)
/-- The gradient of the product's output. -/
abbrev Dz : Vec Ideal S2048x3072 .bf16 := m ((c : Thread nD τ).loc main_arg1)

/-- The gradient of the weight: `hnᵀ · dz`. -/
def R2 : Vec Ideal S1024x3072 .bf16 := fun i => ∑ s : Fin 2048, Hn m c (ix2 s (i 0)) * Dz m c (ix2 s (i 1))

/-- The grid has six points. -/
theorem lt6 (t : Fin cfg0.N) : t.val < 6 := Nat.lt_of_lt_of_eq t.isLt N_0

/-- Column `l` of the point's block of columns. -/
def col (t : Fin cfg0.N) (l : Fin 512) : Fin 3072 := ⟨t.val * 512 + l.val, by have := lt6 t; have := l.isLt; omega⟩

theorem index0 : ∀ t : Fin cfg0.N, win0_0.index t 0 = 0 ∧ win0_0.index t 1 = 0 := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = t.val := by decide +kernel

/-- Window 0 stages the whole normed input. -/
theorem iblk0 (t : Fin cfg0.N) (s : Fin 2048) (d : Fin 1024) : (iblk m c 0 t : Vec Ideal S2048x1024 .bf16) (ix2 s d) = Hn m c (ix2 s d) := by
  unfold iblk
  rw [View.read_apply]
  have e : ((win0_0.blk t).view.emb (ix2 s d)) = (ix2 s d) := funext fun a => Fin.ext (match a with
    | ⟨0,_⟩ => by show win0_0.index t 0 * 2048 + 1 * (ix2 s d 0).val = _; simp [index0 t]
    | ⟨1,_⟩ => by show win0_0.index t 1 * 1024 + 1 * (ix2 s d 1).val = _; simp [index0 t])
  show V m c main_arg0 ((win0_0.blk t).view.emb (ix2 s d)) = _
  rw [e, V_main_arg0]

/-- Window 1 stages the point's block of columns of the gradient. -/
theorem iblk1 (t : Fin cfg0.N) (s : Fin 2048) (l : Fin 512) : (iblk m c 1 t : Vec Ideal S2048x512 .bf16) (ix2 s l) = Dz m c (ix2 s (col t l)) := by
  unfold iblk
  rw [View.read_apply]
  have e : ((win0_1.blk t).view.emb (ix2 s l)) = (ix2 s (col t l)) := funext fun a => Fin.ext (match a with
    | ⟨0,_⟩ => by show win0_1.index t 0 * 2048 + 1 * (ix2 s l 0).val = _; simp [index1 t]
    | ⟨1,_⟩ => by show win0_1.index t 1 * 512 + 1 * l.val = _; simp [index1 t, col])
  show V m c main_arg1 ((win0_1.blk t).view.emb (ix2 s l)) = _
  rw [e, V_main_arg1]

theorem zero2 : (![0, 0] : Fin 2 → Nat) = fun _ => 0 := funext fun a => by fin_cases a <;> rfl

/-- The product a point stores, entry by entry. -/
theorem pay_apply (x : Vec Ideal S2048x1024 .bf16) (y : Vec Ideal S2048x512 .bf16) (d : Fin 1024) (l : Fin 512) :
    k0_pay1 x y (ix2 d l) = ∑ s : Fin 2048, x (ix2 s d) * y (ix2 s l) := by
  pointwise [k0_pay1]

/-- What a point leaves in its block. -/
theorem out_apply (t : Fin cfg0.N) (d : Fin 1024) (l : Fin 512) :
    out0_2 (iblk m c 0 t) (iblk m c 1 t) (ix2 d l) = ∑ s : Fin 2048, Hn m c (ix2 s d) * Dz m c (ix2 s (col t l)) := by
  unfold out0_2
  rw [View.canon_unit_zero zero2, View.ld_unit_zero (S := S2048x1024) zero2, View.ld_unit_zero (S := S2048x512) zero2, pay_apply]
  exact Finset.sum_congr rfl fun s _ => congrArg₂ (· * ·) (iblk0 m c t s d) (iblk1 m c t s l)

/-- The result after the run. -/
theorem final2 : (dats m 0 c).arrAt 2 cfg0.N = R2 m c := by
  refine (dats m 0 c).arrAt_eq_of_covers 2 _ (by decide +kernel) fun t hf y => ?_
  blk_simp
  rw [after0_2]
  obtain ⟨d, l, rfl⟩ : ∃ (d : Fin 1024) (l : Fin 512), y = ix2 d l := ⟨y 0, y 1, eq_ix2 y⟩
  have e : (win0_2.blk t).view.emb (ix2 d l) = ix2 d (col t l) := funext fun a => Fin.ext (match a with
    | ⟨0,_⟩ => by show win0_2.index t 0 * 1024 + 1 * d.val = _; simp [index2 t]
    | ⟨1,_⟩ => by show win0_2.index t 1 * 512 + 1 * l.val = _; simp [index2 t, col])
  rw [e]
  exact out_apply m c t d l

end Cert.GinIdeal.Mix

end
-- ==== Proof.Gin.Claims.lean ====
/-
  The claims about the kernel of the gradient of the mixer's first weight and its reference: each runs, leaves its arguments as they were and every
  counter at zero, and the two leave the same array.
-/
module

public import proofs.«01_k».proof.Defs
public import proofs.«01_k».proof.Proof.Gen.Gin.Frame
public import proofs.«01_k».proof.Proof.Gen.GinRefIdeal.Run
public import proofs.«01_k».proof.Proof.Gin.Outs
public import Idealize.ShloMosaic.Lib.Quiescent

@[expose] public section

noncomputable section

namespace Cert.MixGrad

open Cert.GinRefIdeal Cert.GinRefIdeal.Gen Idealize.ShloMosaic Idealize.ShloMosaic.TcCoe Idealize.SL.Sem

/-- The reference keeps its frame. -/
theorem frame_reference : Cert.quiescent_GinRefIdeal (hGinRefIdeal := Cert.GinRefIdeal.Gen.facts) := fun m ρ _ =>
  (θ_run _ _ _).mono (fun r h => ⟨fun c => (h c).2, sem_eq_zero_of_no_sems (by decide) r.2⟩) (GinRefIdeal.Value.run m ρ)

/-- The reference's array, from the kernel's arguments, entry by entry: its product has the factors the other way round. -/
theorem reference_apply (x : FVec Ideal S2048x1024 .bf16) (y : FVec Ideal S2048x3072 .bf16) (k : Fin 1024) (d : Fin 3072) :
    (truncf .bf16 (transpose S1024x3072 [1, 0] (Host.dotGeneral dot_S2048x3072_S2048x1024_S3072x1024_0_0_1_1_n_n none (extf .f32 y bitsLt_bf16_f32) (extf .f32 x bitsLt_bf16_f32))
      transposes_S3072x1024_S1024x3072_1_0) bitsLt_bf16_f32 : FVec Ideal S1024x3072 .bf16) (ix2 k d) = ∑ s : Fin 2048, x (ix2 s k) * y (ix2 s d) := by
  pointwise
  exact Finset.sum_congr rfl fun s _ => mul_comm _ _

/-- The kernel and the reference leave the same array. -/
theorem algebraic : Cert.algebraic_GinIdeal_GinRefIdeal (hGinIdeal := Cert.GinIdeal.Gen.facts) (hGinRefIdeal := Cert.GinRefIdeal.Gen.facts) := by
  intro m ρ m' ρ' _ hargs
  refine ⟨GinIdeal.Mix.R2 m, ?_, ?_⟩
  · exact (θ_run _ _ _).mono (fun r hr c => ⟨(hr c).1.trans (GinIdeal.Mix.final2 m c), (hr c).2⟩) (GinIdeal.Value.run_blocks m ρ)
  · refine (θ_run _ _ _).mono (fun r hr c => ⟨(hr c).1.trans ?_, (hr c).2⟩) (GinRefIdeal.Value.run m' ρ')
    rw [(hargs c).1, (hargs c).2]
    funext i
    obtain ⟨k, d, rfl⟩ : ∃ (k : Fin 1024) (d : Fin 3072), i = ix2 k d := ⟨i 0, i 1, eq_ix2 i⟩
    exact reference_apply _ _ k d

end Cert.MixGrad

end
-- ==== Proof.lean ====
/-
  The claims of the certificate, assembled from the modules that prove each.
-/
module

public import proofs.«01_k».proof.Defs
public import proofs.«01_k».proof.Proof.Dact.Claims
public import proofs.«01_k».proof.Proof.Attn.Claims
public import proofs.«01_k».proof.Proof.Gup.Claims
public import proofs.«01_k».proof.Proof.Gdown.Claims
public import proofs.«01_k».proof.Proof.Din.Claims
public import proofs.«01_k».proof.Proof.Dhf.Claims
public import proofs.«01_k».proof.Proof.Gin.Claims

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Attn.Gen.facts, Cert.AttnIdeal.Gen.facts, Cert.AttnRefIdeal.Gen.facts,
    Cert.Gup.Gen.facts, Cert.GupIdeal.Gen.facts, Cert.GupRefIdeal.Gen.facts,
    Cert.Gdown.Gen.facts, Cert.GdownIdeal.Gen.facts, Cert.GdownRefIdeal.Gen.facts,
    Cert.Din.Gen.facts, Cert.DinIdeal.Gen.facts, Cert.DinRefIdeal.Gen.facts,
    Cert.Dhf.Gen.facts, Cert.DhfIdeal.Gen.facts, Cert.DhfRefIdeal.Gen.facts,
    Cert.Gin.Gen.facts, Cert.GinIdeal.Gen.facts, Cert.GinRefIdeal.Gen.facts, Cert.Pre_finite.shapes, Cert.Pre_finite_attn.shapes,
    Cert.Dact.frame_bits, Cert.Dact.frame_ideal, fun m ρ _ => Cert.KernelIdeal.Gen.frame m ρ,
    Cert.Dact.frame_reference, fun m ρ _ => Cert.Dact.reference_frame m ρ,
    Cert.AttnBwd.frame_bits, Cert.AttnBwd.frame_ideal, fun m ρ _ => Cert.AttnBwd.frame_any m ρ,
    Cert.AttnBwd.frame_reference, fun m ρ _ => Cert.AttnBwd.reference_frame m ρ,
    fun m ρ _ => Cert.Gup.Gen.frame m ρ, fun m ρ _ => Cert.GupIdeal.Gen.frame m ρ, Cert.UpGrad.frame_reference,
    fun m ρ _ => Cert.Gdown.Gen.frame m ρ, fun m ρ _ => Cert.GdownIdeal.Gen.frame m ρ, Cert.DownGrad.frame_reference,
    fun m ρ _ => Cert.Din.Gen.frame m ρ, fun m ρ _ => Cert.DinIdeal.Gen.frame m ρ, Cert.InGrad.frame_reference,
    fun m ρ _ => Cert.Dhf.Gen.frame m ρ, fun m ρ _ => Cert.DhfIdeal.Gen.frame m ρ, Cert.HidGrad.frame_reference,
    fun m ρ _ => Cert.Gin.Gen.frame m ρ, fun m ρ _ => Cert.GinIdeal.Gen.frame m ρ, Cert.MixGrad.frame_reference,
    trivial, Cert.Dact.algebraic, Cert.AttnBwd.preserves, Cert.AttnBwd.algebraic,
    trivial, Cert.UpGrad.algebraic, trivial, Cert.DownGrad.algebraic,
    trivial, Cert.InGrad.algebraic, trivial, Cert.HidGrad.algebraic, trivial, Cert.MixGrad.algebraic⟩

end Cert.Proof

end
